-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_scores [hPre_finite_scores : Cert.Pre_finite_scores.Facts] (m : (ℓ : Loc Cert.AttnIdeal.nD Cert.AttnIdeal.τ Cert.AttnIdeal.sig) → Buf (Elt Ideal) ℓ) : Prop :=
  ∀ c : Dev Cert.AttnIdeal.nD,
    (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_scores [hPre_finite_scores : Cert.Pre_finite_scores.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpRefIdeal (m : (ℓ : Loc Cert.InpRefIdeal.nD Cert.InpRefIdeal.τ Cert.InpRefIdeal.sig) → Buf (Elt Ideal) ℓ) : Prop :=
  True

def Pre_Ins (m : (ℓ : Loc Cert.Ins.nD Cert.Ins.τ Cert.Ins.sig) → Buf (Elt Bits) ℓ) : Prop :=
  True

def Pre_InsIdeal (m : (ℓ : Loc Cert.InsIdeal.nD Cert.InsIdeal.τ Cert.InsIdeal.sig) → Buf (Elt Ideal) ℓ) : Prop :=
  True

def Pre_InsRefIdeal (m : (ℓ : Loc Cert.InsRefIdeal.nD Cert.InsRefIdeal.τ Cert.InsRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidRefIdeal (m : (ℓ : Loc Cert.MidRefIdeal.nD Cert.MidRefIdeal.τ Cert.MidRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_finite_route [hPre_finite_route : Cert.Pre_finite_route.Facts] (m : (ℓ : Loc Cert.PrepIdeal.nD Cert.PrepIdeal.τ Cert.PrepIdeal.sig) → Buf (Elt Ideal) ℓ) : Prop :=
  ∀ c : Dev Cert.PrepIdeal.nD,
    (Cert.Pre_finite_route.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2))) = (fun _ => 1#1)

def Pre_PrepRefIdeal (m : (ℓ : Loc Cert.PrepRefIdeal.nD Cert.PrepRefIdeal.τ Cert.PrepRefIdeal.sig) → Buf (Elt Ideal) ℓ) : Prop :=
  True

def Pre_PrepRefIdeal_finite_route [hPre_finite_route : Cert.Pre_finite_route.Facts] (m : (ℓ : Loc Cert.PrepRefIdeal.nD Cert.PrepRefIdeal.τ Cert.PrepRefIdeal.sig) → Buf (Elt Ideal) ℓ) : Prop :=
  ∀ c : Dev Cert.PrepRefIdeal.nD,
    (Cert.Pre_finite_route.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2))) = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Mis (m : (ℓ : Loc Cert.Mis.nD Cert.Mis.τ Cert.Mis.sig) → Buf (Elt Bits) ℓ) : Prop :=
  True

def Pre_MisIdeal (m : (ℓ : Loc Cert.MisIdeal.nD Cert.MisIdeal.τ Cert.MisIdeal.sig) → Buf (Elt Ideal) ℓ) : Prop :=
  True

def Pre_MisRefIdeal (m : (ℓ : Loc Cert.MisRefIdeal.nD Cert.MisRefIdeal.τ Cert.MisRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_scores [hAttnIdeal : Cert.AttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_scores m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_scores [hAttnRefIdeal : Cert.AttnRefIdeal.Facts] [hPre_finite_scores : Cert.Pre_finite_scores.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_scores m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1)
      ∧ r.2.mem ((c.tc : Thread Cert.Inp.nD Cert.Inp.τ).loc Cert.Inp.main_arg2) = m ((c.tc : Thread Cert.Inp.nD Cert.Inp.τ).loc Cert.Inp.main_arg2)
      ∧ r.2.mem ((c.tc : Thread Cert.Inp.nD Cert.Inp.τ).loc Cert.Inp.main_arg3) = m ((c.tc : Thread Cert.Inp.nD Cert.Inp.τ).loc Cert.Inp.main_arg3)
      ∧ r.2.mem ((c.tc : Thread Cert.Inp.nD Cert.Inp.τ).loc Cert.Inp.main_arg4) = m ((c.tc : Thread Cert.Inp.nD Cert.Inp.τ).loc Cert.Inp.main_arg4))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
      ∧ r.2.mem ((c.tc : Thread Cert.InpIdeal.nD Cert.InpIdeal.τ).loc Cert.InpIdeal.main_arg4) = m ((c.tc : Thread Cert.InpIdeal.nD Cert.InpIdeal.τ).loc Cert.InpIdeal.main_arg4))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2)
      ∧ r.2.mem ((c.tc : Thread Cert.InpRefIdeal.nD Cert.InpRefIdeal.τ).loc Cert.InpRefIdeal.main_arg3) = m ((c.tc : Thread Cert.InpRefIdeal.nD Cert.InpRefIdeal.τ).loc Cert.InpRefIdeal.main_arg3)
      ∧ r.2.mem ((c.tc : Thread Cert.InpRefIdeal.nD Cert.InpRefIdeal.τ).loc Cert.InpRefIdeal.main_arg4) = m ((c.tc : Thread Cert.InpRefIdeal.nD Cert.InpRefIdeal.τ).loc Cert.InpRefIdeal.main_arg4))
      ∧ r.2.sem = fun _ => 0)

def quiescent_Ins [hIns : Cert.Ins.Facts] : Prop :=
  ∀ (m : (ℓ : Loc Cert.Ins.nD Cert.Ins.τ Cert.Ins.sig) → Buf (Elt Bits) ℓ) (g : Dev Cert.Ins.nD → PrngReg), Pre_Ins m →
    θ_run (Cert.Ins.defs (F := Bits)) (onTc (τ := Cert.Ins.τ) (Cert.Ins.main (F := Bits))) ⟨m, fun _ => 0, g⟩ (fun r => (∀ c : Dev Cert.Ins.nD,
      r.2.mem ((c.tc : Thread Cert.Ins.nD Cert.Ins.τ).loc Cert.Ins.main_arg0) = m ((c.tc : Thread Cert.Ins.nD Cert.Ins.τ).loc Cert.Ins.main_arg0)
      ∧ r.2.mem ((c.tc : Thread Cert.Ins.nD Cert.Ins.τ).loc Cert.Ins.main_arg1) = m ((c.tc : Thread Cert.Ins.nD Cert.Ins.τ).loc Cert.Ins.main_arg1)
      ∧ r.2.mem ((c.tc : Thread Cert.Ins.nD Cert.Ins.τ).loc Cert.Ins.main_arg2) = m ((c.tc : Thread Cert.Ins.nD Cert.Ins.τ).loc Cert.Ins.main_arg2)
      ∧ r.2.mem ((c.tc : Thread Cert.Ins.nD Cert.Ins.τ).loc Cert.Ins.main_arg3) = m ((c.tc : Thread Cert.Ins.nD Cert.Ins.τ).loc Cert.Ins.main_arg3)
      ∧ r.2.mem ((c.tc : Thread Cert.Ins.nD Cert.Ins.τ).loc Cert.Ins.main_arg4) = m ((c.tc : Thread Cert.Ins.nD Cert.Ins.τ).loc Cert.Ins.main_arg4)
      ∧ r.2.mem ((c.tc : Thread Cert.Ins.nD Cert.Ins.τ).loc Cert.Ins.main_arg5) = m ((c.tc : Thread Cert.Ins.nD Cert.Ins.τ).loc Cert.Ins.main_arg5))
      ∧ r.2.sem = fun _ => 0)

def quiescent_InsIdeal [hInsIdeal : Cert.InsIdeal.Facts] : Prop :=
  ∀ (m : (ℓ : Loc Cert.InsIdeal.nD Cert.InsIdeal.τ Cert.InsIdeal.sig) → Buf (Elt Ideal) ℓ) (g : Dev Cert.InsIdeal.nD → PrngReg), Pre_InsIdeal m →
    θ_run (Cert.InsIdeal.defs (F := Ideal)) (onTc (τ := Cert.InsIdeal.τ) (Cert.InsIdeal.main (F := Ideal))) ⟨m, fun _ => 0, g⟩ (fun r => (∀ c : Dev Cert.InsIdeal.nD,
      r.2.mem ((c.tc : Thread Cert.InsIdeal.nD Cert.InsIdeal.τ).loc Cert.InsIdeal.main_arg0) = m ((c.tc : Thread Cert.InsIdeal.nD Cert.InsIdeal.τ).loc Cert.InsIdeal.main_arg0)
      ∧ r.2.mem ((c.tc : Thread Cert.InsIdeal.nD Cert.InsIdeal.τ).loc Cert.InsIdeal.main_arg1) = m ((c.tc : Thread Cert.InsIdeal.nD Cert.InsIdeal.τ).loc Cert.InsIdeal.main_arg1)
      ∧ r.2.mem ((c.tc : Thread Cert.InsIdeal.nD Cert.InsIdeal.τ).loc Cert.InsIdeal.main_arg2) = m ((c.tc : Thread Cert.InsIdeal.nD Cert.InsIdeal.τ).loc Cert.InsIdeal.main_arg2)
      ∧ r.2.mem ((c.tc : Thread Cert.InsIdeal.nD Cert.InsIdeal.τ).loc Cert.InsIdeal.main_arg3) = m ((c.tc : Thread Cert.InsIdeal.nD Cert.InsIdeal.τ).loc Cert.InsIdeal.main_arg3)
      ∧ r.2.mem ((c.tc : Thread Cert.InsIdeal.nD Cert.InsIdeal.τ).loc Cert.InsIdeal.main_arg4) = m ((c.tc : Thread Cert.InsIdeal.nD Cert.InsIdeal.τ).loc Cert.InsIdeal.main_arg4)
      ∧ r.2.mem ((c.tc : Thread Cert.InsIdeal.nD Cert.InsIdeal.τ).loc Cert.InsIdeal.main_arg5) = m ((c.tc : Thread Cert.InsIdeal.nD Cert.InsIdeal.τ).loc Cert.InsIdeal.main_arg5))
      ∧ r.2.sem = fun _ => 0)

def quiescent_InsRefIdeal [hInsRefIdeal : Cert.InsRefIdeal.Facts] : Prop :=
  ∀ (m : (ℓ : Loc Cert.InsRefIdeal.nD Cert.InsRefIdeal.τ Cert.InsRefIdeal.sig) → Buf (Elt Ideal) ℓ) (g : Dev Cert.InsRefIdeal.nD → PrngReg), Pre_InsRefIdeal m →
    θ_run (Cert.InsRefIdeal.defs (F := Ideal)) (onTc (τ := Cert.InsRefIdeal.τ) (Cert.InsRefIdeal.main (F := Ideal))) ⟨m, fun _ => 0, g⟩ (fun r => (∀ c : Dev Cert.InsRefIdeal.nD,
      r.2.mem ((c.tc : Thread Cert.InsRefIdeal.nD Cert.InsRefIdeal.τ).loc Cert.InsRefIdeal.main_arg0) = m ((c.tc : Thread Cert.InsRefIdeal.nD Cert.InsRefIdeal.τ).loc Cert.InsRefIdeal.main_arg0)
      ∧ r.2.mem ((c.tc : Thread Cert.InsRefIdeal.nD Cert.InsRefIdeal.τ).loc Cert.InsRefIdeal.main_arg1) = m ((c.tc : Thread Cert.InsRefIdeal.nD Cert.InsRefIdeal.τ).loc Cert.InsRefIdeal.main_arg1)
      ∧ r.2.mem ((c.tc : Thread Cert.InsRefIdeal.nD Cert.InsRefIdeal.τ).loc Cert.InsRefIdeal.main_arg2) = m ((c.tc : Thread Cert.InsRefIdeal.nD Cert.InsRefIdeal.τ).loc Cert.InsRefIdeal.main_arg2)
      ∧ r.2.mem ((c.tc : Thread Cert.InsRefIdeal.nD Cert.InsRefIdeal.τ).loc Cert.InsRefIdeal.main_arg3) = m ((c.tc : Thread Cert.InsRefIdeal.nD Cert.InsRefIdeal.τ).loc Cert.InsRefIdeal.main_arg3)
      ∧ r.2.mem ((c.tc : Thread Cert.InsRefIdeal.nD Cert.InsRefIdeal.τ).loc Cert.InsRefIdeal.main_arg4) = m ((c.tc : Thread Cert.InsRefIdeal.nD Cert.InsRefIdeal.τ).loc Cert.InsRefIdeal.main_arg4)
      ∧ r.2.mem ((c.tc : Thread Cert.InsRefIdeal.nD Cert.InsRefIdeal.τ).loc Cert.InsRefIdeal.main_arg5) = m ((c.tc : Thread Cert.InsRefIdeal.nD Cert.InsRefIdeal.τ).loc Cert.InsRefIdeal.main_arg5))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6)
      ∧ r.2.mem ((c.tc : Thread Cert.Mid.nD Cert.Mid.τ).loc Cert.Mid.main_arg7) = m ((c.tc : Thread Cert.Mid.nD Cert.Mid.τ).loc Cert.Mid.main_arg7))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6)
      ∧ r.2.mem ((c.tc : Thread Cert.MidRefIdeal.nD Cert.MidRefIdeal.τ).loc Cert.MidRefIdeal.main_arg7) = m ((c.tc : Thread Cert.MidRefIdeal.nD Cert.MidRefIdeal.τ).loc Cert.MidRefIdeal.main_arg7))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2))
      ∧ r.2.sem = fun _ => 0)

def quiescent_PrepIdeal_pre_finite_route [hPrepIdeal : Cert.PrepIdeal.Facts] [hPre_finite_route : Cert.Pre_finite_route.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_finite_route m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2))
      ∧ r.2.sem = fun _ => 0)

def quiescent_PrepRefIdeal_pre_finite_route [hPrepRefIdeal : Cert.PrepRefIdeal.Facts] [hPre_finite_route : Cert.Pre_finite_route.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal_finite_route m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9))
      ∧ r.2.sem = fun _ => 0)

def quiescent_Mis [hMis : Cert.Mis.Facts] : Prop :=
  ∀ (m : (ℓ : Loc Cert.Mis.nD Cert.Mis.τ Cert.Mis.sig) → Buf (Elt Bits) ℓ) (g : Dev Cert.Mis.nD → PrngReg), Pre_Mis m →
    θ_run (Cert.Mis.defs (F := Bits)) (onTc (τ := Cert.Mis.τ) (Cert.Mis.main (F := Bits))) ⟨m, fun _ => 0, g⟩ (fun r => (∀ c : Dev Cert.Mis.nD,
      r.2.mem ((c.tc : Thread Cert.Mis.nD Cert.Mis.τ).loc Cert.Mis.main_arg0) = m ((c.tc : Thread Cert.Mis.nD Cert.Mis.τ).loc Cert.Mis.main_arg0)
      ∧ r.2.mem ((c.tc : Thread Cert.Mis.nD Cert.Mis.τ).loc Cert.Mis.main_arg1) = m ((c.tc : Thread Cert.Mis.nD Cert.Mis.τ).loc Cert.Mis.main_arg1)
      ∧ r.2.mem ((c.tc : Thread Cert.Mis.nD Cert.Mis.τ).loc Cert.Mis.main_arg2) = m ((c.tc : Thread Cert.Mis.nD Cert.Mis.τ).loc Cert.Mis.main_arg2)
      ∧ r.2.mem ((c.tc : Thread Cert.Mis.nD Cert.Mis.τ).loc Cert.Mis.main_arg3) = m ((c.tc : Thread Cert.Mis.nD Cert.Mis.τ).loc Cert.Mis.main_arg3)
      ∧ r.2.mem ((c.tc : Thread Cert.Mis.nD Cert.Mis.τ).loc Cert.Mis.main_arg4) = m ((c.tc : Thread Cert.Mis.nD Cert.Mis.τ).loc Cert.Mis.main_arg4)
      ∧ r.2.mem ((c.tc : Thread Cert.Mis.nD Cert.Mis.τ).loc Cert.Mis.main_arg5) = m ((c.tc : Thread Cert.Mis.nD Cert.Mis.τ).loc Cert.Mis.main_arg5)
      ∧ r.2.mem ((c.tc : Thread Cert.Mis.nD Cert.Mis.τ).loc Cert.Mis.main_arg6) = m ((c.tc : Thread Cert.Mis.nD Cert.Mis.τ).loc Cert.Mis.main_arg6)
      ∧ r.2.mem ((c.tc : Thread Cert.Mis.nD Cert.Mis.τ).loc Cert.Mis.main_arg7) = m ((c.tc : Thread Cert.Mis.nD Cert.Mis.τ).loc Cert.Mis.main_arg7)
      ∧ r.2.mem ((c.tc : Thread Cert.Mis.nD Cert.Mis.τ).loc Cert.Mis.main_arg8) = m ((c.tc : Thread Cert.Mis.nD Cert.Mis.τ).loc Cert.Mis.main_arg8)
      ∧ r.2.mem ((c.tc : Thread Cert.Mis.nD Cert.Mis.τ).loc Cert.Mis.main_arg9) = m ((c.tc : Thread Cert.Mis.nD Cert.Mis.τ).loc Cert.Mis.main_arg9))
      ∧ r.2.sem = fun _ => 0)

def quiescent_MisIdeal [hMisIdeal : Cert.MisIdeal.Facts] : Prop :=
  ∀ (m : (ℓ : Loc Cert.MisIdeal.nD Cert.MisIdeal.τ Cert.MisIdeal.sig) → Buf (Elt Ideal) ℓ) (g : Dev Cert.MisIdeal.nD → PrngReg), Pre_MisIdeal m →
    θ_run (Cert.MisIdeal.defs (F := Ideal)) (onTc (τ := Cert.MisIdeal.τ) (Cert.MisIdeal.main (F := Ideal))) ⟨m, fun _ => 0, g⟩ (fun r => (∀ c : Dev Cert.MisIdeal.nD,
      r.2.mem ((c.tc : Thread Cert.MisIdeal.nD Cert.MisIdeal.τ).loc Cert.MisIdeal.main_arg0) = m ((c.tc : Thread Cert.MisIdeal.nD Cert.MisIdeal.τ).loc Cert.MisIdeal.main_arg0)
      ∧ r.2.mem ((c.tc : Thread Cert.MisIdeal.nD Cert.MisIdeal.τ).loc Cert.MisIdeal.main_arg1) = m ((c.tc : Thread Cert.MisIdeal.nD Cert.MisIdeal.τ).loc Cert.MisIdeal.main_arg1)
      ∧ r.2.mem ((c.tc : Thread Cert.MisIdeal.nD Cert.MisIdeal.τ).loc Cert.MisIdeal.main_arg2) = m ((c.tc : Thread Cert.MisIdeal.nD Cert.MisIdeal.τ).loc Cert.MisIdeal.main_arg2)
      ∧ r.2.mem ((c.tc : Thread Cert.MisIdeal.nD Cert.MisIdeal.τ).loc Cert.MisIdeal.main_arg3) = m ((c.tc : Thread Cert.MisIdeal.nD Cert.MisIdeal.τ).loc Cert.MisIdeal.main_arg3)
      ∧ r.2.mem ((c.tc : Thread Cert.MisIdeal.nD Cert.MisIdeal.τ).loc Cert.MisIdeal.main_arg4) = m ((c.tc : Thread Cert.MisIdeal.nD Cert.MisIdeal.τ).loc Cert.MisIdeal.main_arg4)
      ∧ r.2.mem ((c.tc : Thread Cert.MisIdeal.nD Cert.MisIdeal.τ).loc Cert.MisIdeal.main_arg5) = m ((c.tc : Thread Cert.MisIdeal.nD Cert.MisIdeal.τ).loc Cert.MisIdeal.main_arg5)
      ∧ r.2.mem ((c.tc : Thread Cert.MisIdeal.nD Cert.MisIdeal.τ).loc Cert.MisIdeal.main_arg6) = m ((c.tc : Thread Cert.MisIdeal.nD Cert.MisIdeal.τ).loc Cert.MisIdeal.main_arg6)
      ∧ r.2.mem ((c.tc : Thread Cert.MisIdeal.nD Cert.MisIdeal.τ).loc Cert.MisIdeal.main_arg7) = m ((c.tc : Thread Cert.MisIdeal.nD Cert.MisIdeal.τ).loc Cert.MisIdeal.main_arg7)
      ∧ r.2.mem ((c.tc : Thread Cert.MisIdeal.nD Cert.MisIdeal.τ).loc Cert.MisIdeal.main_arg8) = m ((c.tc : Thread Cert.MisIdeal.nD Cert.MisIdeal.τ).loc Cert.MisIdeal.main_arg8)
      ∧ r.2.mem ((c.tc : Thread Cert.MisIdeal.nD Cert.MisIdeal.τ).loc Cert.MisIdeal.main_arg9) = m ((c.tc : Thread Cert.MisIdeal.nD Cert.MisIdeal.τ).loc Cert.MisIdeal.main_arg9))
      ∧ r.2.sem = fun _ => 0)

def quiescent_MisRefIdeal [hMisRefIdeal : Cert.MisRefIdeal.Facts] : Prop :=
  ∀ (m : (ℓ : Loc Cert.MisRefIdeal.nD Cert.MisRefIdeal.τ Cert.MisRefIdeal.sig) → Buf (Elt Ideal) ℓ) (g : Dev Cert.MisRefIdeal.nD → PrngReg), Pre_MisRefIdeal m →
    θ_run (Cert.MisRefIdeal.defs (F := Ideal)) (onTc (τ := Cert.MisRefIdeal.τ) (Cert.MisRefIdeal.main (F := Ideal))) ⟨m, fun _ => 0, g⟩ (fun r => (∀ c : Dev Cert.MisRefIdeal.nD,
      r.2.mem ((c.tc : Thread Cert.MisRefIdeal.nD Cert.MisRefIdeal.τ).loc Cert.MisRefIdeal.main_arg0) = m ((c.tc : Thread Cert.MisRefIdeal.nD Cert.MisRefIdeal.τ).loc Cert.MisRefIdeal.main_arg0)
      ∧ r.2.mem ((c.tc : Thread Cert.MisRefIdeal.nD Cert.MisRefIdeal.τ).loc Cert.MisRefIdeal.main_arg1) = m ((c.tc : Thread Cert.MisRefIdeal.nD Cert.MisRefIdeal.τ).loc Cert.MisRefIdeal.main_arg1)
      ∧ r.2.mem ((c.tc : Thread Cert.MisRefIdeal.nD Cert.MisRefIdeal.τ).loc Cert.MisRefIdeal.main_arg2) = m ((c.tc : Thread Cert.MisRefIdeal.nD Cert.MisRefIdeal.τ).loc Cert.MisRefIdeal.main_arg2)
      ∧ r.2.mem ((c.tc : Thread Cert.MisRefIdeal.nD Cert.MisRefIdeal.τ).loc Cert.MisRefIdeal.main_arg3) = m ((c.tc : Thread Cert.MisRefIdeal.nD Cert.MisRefIdeal.τ).loc Cert.MisRefIdeal.main_arg3)
      ∧ r.2.mem ((c.tc : Thread Cert.MisRefIdeal.nD Cert.MisRefIdeal.τ).loc Cert.MisRefIdeal.main_arg4) = m ((c.tc : Thread Cert.MisRefIdeal.nD Cert.MisRefIdeal.τ).loc Cert.MisRefIdeal.main_arg4)
      ∧ r.2.mem ((c.tc : Thread Cert.MisRefIdeal.nD Cert.MisRefIdeal.τ).loc Cert.MisRefIdeal.main_arg5) = m ((c.tc : Thread Cert.MisRefIdeal.nD Cert.MisRefIdeal.τ).loc Cert.MisRefIdeal.main_arg5)
      ∧ r.2.mem ((c.tc : Thread Cert.MisRefIdeal.nD Cert.MisRefIdeal.τ).loc Cert.MisRefIdeal.main_arg6) = m ((c.tc : Thread Cert.MisRefIdeal.nD Cert.MisRefIdeal.τ).loc Cert.MisRefIdeal.main_arg6)
      ∧ r.2.mem ((c.tc : Thread Cert.MisRefIdeal.nD Cert.MisRefIdeal.τ).loc Cert.MisRefIdeal.main_arg7) = m ((c.tc : Thread Cert.MisRefIdeal.nD Cert.MisRefIdeal.τ).loc Cert.MisRefIdeal.main_arg7)
      ∧ r.2.mem ((c.tc : Thread Cert.MisRefIdeal.nD Cert.MisRefIdeal.τ).loc Cert.MisRefIdeal.main_arg8) = m ((c.tc : Thread Cert.MisRefIdeal.nD Cert.MisRefIdeal.τ).loc Cert.MisRefIdeal.main_arg8)
      ∧ r.2.mem ((c.tc : Thread Cert.MisRefIdeal.nD Cert.MisRefIdeal.τ).loc Cert.MisRefIdeal.main_arg9) = m ((c.tc : Thread Cert.MisRefIdeal.nD Cert.MisRefIdeal.τ).loc Cert.MisRefIdeal.main_arg9))
      ∧ r.2.sem = fun _ => 0)

def preserves_Attn_AttnIdeal : Prop :=
  IdealRules.named_const.Statement Cert.AttnIdeal.κ "mask" .f32 0xF149F2CA#32 ⊥

def algebraic_AttnIdeal_AttnRefIdeal_pre_finite_scores [hAttnIdeal : Cert.AttnIdeal.Facts] [hAttnRefIdeal : Cert.AttnRefIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_scores m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v24)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v24) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v60) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Inp_InpIdeal : Prop :=
  True

def algebraic_InpIdeal_InpRefIdeal [hInpIdeal : Cert.InpIdeal.Facts] [hInpRefIdeal : Cert.InpRefIdeal.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)
      ∧ m' ((c.tc : Thread Cert.InpRefIdeal.nD Cert.InpRefIdeal.τ).loc Cert.InpRefIdeal.main_arg2) = m ((c.tc : Thread Cert.InpIdeal.nD Cert.InpIdeal.τ).loc Cert.InpIdeal.main_arg2)
      ∧ m' ((c.tc : Thread Cert.InpRefIdeal.nD Cert.InpRefIdeal.τ).loc Cert.InpRefIdeal.main_arg3) = m ((c.tc : Thread Cert.InpIdeal.nD Cert.InpIdeal.τ).loc Cert.InpIdeal.main_arg3)
      ∧ m' ((c.tc : Thread Cert.InpRefIdeal.nD Cert.InpRefIdeal.τ).loc Cert.InpRefIdeal.main_arg4) = m ((c.tc : Thread Cert.InpIdeal.nD Cert.InpIdeal.τ).loc Cert.InpIdeal.main_arg4)) →
    ∃ (v0 : (c : Dev Cert.InpIdeal.nD) → Buf (Elt Ideal) ((c.tc : Thread Cert.InpIdeal.nD Cert.InpIdeal.τ).loc Cert.InpIdeal.main_v8)) (v1 : (c : Dev Cert.InpIdeal.nD) → Buf (Elt Ideal) ((c.tc : Thread Cert.InpIdeal.nD Cert.InpIdeal.τ).loc Cert.InpIdeal.main_v11)) (v2 : (c : Dev Cert.InpIdeal.nD) → Buf (Elt Ideal) ((c.tc : Thread Cert.InpIdeal.nD Cert.InpIdeal.τ).loc Cert.InpIdeal.main_v9)) (v3 : (c : Dev Cert.InpIdeal.nD) → Buf (Elt Ideal) ((c.tc : Thread Cert.InpIdeal.nD Cert.InpIdeal.τ).loc Cert.InpIdeal.main_v10)) (v4 : (c : Dev Cert.InpIdeal.nD) → Buf (Elt Ideal) ((c.tc : Thread Cert.InpIdeal.nD Cert.InpIdeal.τ).loc Cert.InpIdeal.main_v13)) (v5 : (c : Dev Cert.InpIdeal.nD) → Buf (Elt Ideal) ((c.tc : Thread Cert.InpIdeal.nD Cert.InpIdeal.τ).loc Cert.InpIdeal.main_v16)) (v6 : (c : Dev Cert.InpIdeal.nD) → Buf (Elt Ideal) ((c.tc : Thread Cert.InpIdeal.nD Cert.InpIdeal.τ).loc Cert.InpIdeal.main_v19)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v8) = v0 c
          ∧ r.2.mem ((c.tc : Thread Cert.InpIdeal.nD Cert.InpIdeal.τ).loc Cert.InpIdeal.main_v11) = v1 c
          ∧ r.2.mem ((c.tc : Thread Cert.InpIdeal.nD Cert.InpIdeal.τ).loc Cert.InpIdeal.main_v9) = v2 c
          ∧ r.2.mem ((c.tc : Thread Cert.InpIdeal.nD Cert.InpIdeal.τ).loc Cert.InpIdeal.main_v10) = v3 c
          ∧ r.2.mem ((c.tc : Thread Cert.InpIdeal.nD Cert.InpIdeal.τ).loc Cert.InpIdeal.main_v13) = v4 c
          ∧ r.2.mem ((c.tc : Thread Cert.InpIdeal.nD Cert.InpIdeal.τ).loc Cert.InpIdeal.main_v16) = v5 c
          ∧ r.2.mem ((c.tc : Thread Cert.InpIdeal.nD Cert.InpIdeal.τ).loc Cert.InpIdeal.main_v19) = v6 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
          ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
          ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
          ∧ r.2.mem ((c.tc : Thread Cert.InpIdeal.nD Cert.InpIdeal.τ).loc Cert.InpIdeal.main_arg4) = m ((c.tc : Thread Cert.InpIdeal.nD Cert.InpIdeal.τ).loc Cert.InpIdeal.main_arg4))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v35) = v0 c
          ∧ r.2.mem ((c.tc : Thread Cert.InpRefIdeal.nD Cert.InpRefIdeal.τ).loc Cert.InpRefIdeal.main_v38) = v1 c
          ∧ r.2.mem ((c.tc : Thread Cert.InpRefIdeal.nD Cert.InpRefIdeal.τ).loc Cert.InpRefIdeal.main_v27) = v2 c
          ∧ r.2.mem ((c.tc : Thread Cert.InpRefIdeal.nD Cert.InpRefIdeal.τ).loc Cert.InpRefIdeal.main_v28) = v3 c
          ∧ r.2.mem ((c.tc : Thread Cert.InpRefIdeal.nD Cert.InpRefIdeal.τ).loc Cert.InpRefIdeal.main_v40) = v4 c
          ∧ r.2.mem ((c.tc : Thread Cert.InpRefIdeal.nD Cert.InpRefIdeal.τ).loc Cert.InpRefIdeal.main_v42) = v5 c
          ∧ r.2.mem ((c.tc : Thread Cert.InpRefIdeal.nD Cert.InpRefIdeal.τ).loc Cert.InpRefIdeal.main_v44) = v6 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1)
          ∧ r.2.mem ((c.tc : Thread Cert.InpRefIdeal.nD Cert.InpRefIdeal.τ).loc Cert.InpRefIdeal.main_arg2) = m' ((c.tc : Thread Cert.InpRefIdeal.nD Cert.InpRefIdeal.τ).loc Cert.InpRefIdeal.main_arg2)
          ∧ r.2.mem ((c.tc : Thread Cert.InpRefIdeal.nD Cert.InpRefIdeal.τ).loc Cert.InpRefIdeal.main_arg3) = m' ((c.tc : Thread Cert.InpRefIdeal.nD Cert.InpRefIdeal.τ).loc Cert.InpRefIdeal.main_arg3)
          ∧ r.2.mem ((c.tc : Thread Cert.InpRefIdeal.nD Cert.InpRefIdeal.τ).loc Cert.InpRefIdeal.main_arg4) = m' ((c.tc : Thread Cert.InpRefIdeal.nD Cert.InpRefIdeal.τ).loc Cert.InpRefIdeal.main_arg4))

def preserves_Ins_InsIdeal : Prop :=
  True

def algebraic_InsIdeal_InsRefIdeal [hInsIdeal : Cert.InsIdeal.Facts] [hInsRefIdeal : Cert.InsRefIdeal.Facts] : Prop :=
  ∀ (m : (ℓ : Loc Cert.InsIdeal.nD Cert.InsIdeal.τ Cert.InsIdeal.sig) → Buf (Elt Ideal) ℓ) (g : Dev Cert.InsIdeal.nD → PrngReg)
    (m' : (ℓ : Loc Cert.InsRefIdeal.nD Cert.InsRefIdeal.τ Cert.InsRefIdeal.sig) → Buf (Elt Ideal) ℓ) (g' : Dev Cert.InsRefIdeal.nD → PrngReg), Pre_InsIdeal m →
    (∀ c : Dev Cert.InsIdeal.nD,
      m' ((c.tc : Thread Cert.InsRefIdeal.nD Cert.InsRefIdeal.τ).loc Cert.InsRefIdeal.main_arg0) = m ((c.tc : Thread Cert.InsIdeal.nD Cert.InsIdeal.τ).loc Cert.InsIdeal.main_arg0)
      ∧ m' ((c.tc : Thread Cert.InsRefIdeal.nD Cert.InsRefIdeal.τ).loc Cert.InsRefIdeal.main_arg1) = m ((c.tc : Thread Cert.InsIdeal.nD Cert.InsIdeal.τ).loc Cert.InsIdeal.main_arg1)
      ∧ m' ((c.tc : Thread Cert.InsRefIdeal.nD Cert.InsRefIdeal.τ).loc Cert.InsRefIdeal.main_arg2) = m ((c.tc : Thread Cert.InsIdeal.nD Cert.InsIdeal.τ).loc Cert.InsIdeal.main_arg2)
      ∧ m' ((c.tc : Thread Cert.InsRefIdeal.nD Cert.InsRefIdeal.τ).loc Cert.InsRefIdeal.main_arg3) = m ((c.tc : Thread Cert.InsIdeal.nD Cert.InsIdeal.τ).loc Cert.InsIdeal.main_arg3)
      ∧ m' ((c.tc : Thread Cert.InsRefIdeal.nD Cert.InsRefIdeal.τ).loc Cert.InsRefIdeal.main_arg4) = m ((c.tc : Thread Cert.InsIdeal.nD Cert.InsIdeal.τ).loc Cert.InsIdeal.main_arg4)
      ∧ m' ((c.tc : Thread Cert.InsRefIdeal.nD Cert.InsRefIdeal.τ).loc Cert.InsRefIdeal.main_arg5) = m ((c.tc : Thread Cert.InsIdeal.nD Cert.InsIdeal.τ).loc Cert.InsIdeal.main_arg5)) →
    ∃ (v0 : (c : Dev Cert.InsIdeal.nD) → Buf (Elt Ideal) ((c.tc : Thread Cert.InsIdeal.nD Cert.InsIdeal.τ).loc Cert.InsIdeal.main_v12)) (v1 : (c : Dev Cert.InsIdeal.nD) → Buf (Elt Ideal) ((c.tc : Thread Cert.InsIdeal.nD Cert.InsIdeal.τ).loc Cert.InsIdeal.main_v13)) (v2 : (c : Dev Cert.InsIdeal.nD) → Buf (Elt Ideal) ((c.tc : Thread Cert.InsIdeal.nD Cert.InsIdeal.τ).loc Cert.InsIdeal.main_v17)) (v3 : (c : Dev Cert.InsIdeal.nD) → Buf (Elt Ideal) ((c.tc : Thread Cert.InsIdeal.nD Cert.InsIdeal.τ).loc Cert.InsIdeal.main_v19)) (v4 : (c : Dev Cert.InsIdeal.nD) → Buf (Elt Ideal) ((c.tc : Thread Cert.InsIdeal.nD Cert.InsIdeal.τ).loc Cert.InsIdeal.main_v21)),
      θ_run (Cert.InsIdeal.defs (F := Ideal)) (onTc (τ := Cert.InsIdeal.τ) (Cert.InsIdeal.main (F := Ideal))) ⟨m, fun _ => 0, g⟩ (fun r => ∀ c : Dev Cert.InsIdeal.nD,
          r.2.mem ((c.tc : Thread Cert.InsIdeal.nD Cert.InsIdeal.τ).loc Cert.InsIdeal.main_v12) = v0 c
          ∧ r.2.mem ((c.tc : Thread Cert.InsIdeal.nD Cert.InsIdeal.τ).loc Cert.InsIdeal.main_v13) = v1 c
          ∧ r.2.mem ((c.tc : Thread Cert.InsIdeal.nD Cert.InsIdeal.τ).loc Cert.InsIdeal.main_v17) = v2 c
          ∧ r.2.mem ((c.tc : Thread Cert.InsIdeal.nD Cert.InsIdeal.τ).loc Cert.InsIdeal.main_v19) = v3 c
          ∧ r.2.mem ((c.tc : Thread Cert.InsIdeal.nD Cert.InsIdeal.τ).loc Cert.InsIdeal.main_v21) = v4 c
          ∧ r.2.mem ((c.tc : Thread Cert.InsIdeal.nD Cert.InsIdeal.τ).loc Cert.InsIdeal.main_arg0) = m ((c.tc : Thread Cert.InsIdeal.nD Cert.InsIdeal.τ).loc Cert.InsIdeal.main_arg0)
          ∧ r.2.mem ((c.tc : Thread Cert.InsIdeal.nD Cert.InsIdeal.τ).loc Cert.InsIdeal.main_arg1) = m ((c.tc : Thread Cert.InsIdeal.nD Cert.InsIdeal.τ).loc Cert.InsIdeal.main_arg1)
          ∧ r.2.mem ((c.tc : Thread Cert.InsIdeal.nD Cert.InsIdeal.τ).loc Cert.InsIdeal.main_arg2) = m ((c.tc : Thread Cert.InsIdeal.nD Cert.InsIdeal.τ).loc Cert.InsIdeal.main_arg2)
          ∧ r.2.mem ((c.tc : Thread Cert.InsIdeal.nD Cert.InsIdeal.τ).loc Cert.InsIdeal.main_arg3) = m ((c.tc : Thread Cert.InsIdeal.nD Cert.InsIdeal.τ).loc Cert.InsIdeal.main_arg3)
          ∧ r.2.mem ((c.tc : Thread Cert.InsIdeal.nD Cert.InsIdeal.τ).loc Cert.InsIdeal.main_arg4) = m ((c.tc : Thread Cert.InsIdeal.nD Cert.InsIdeal.τ).loc Cert.InsIdeal.main_arg4)
          ∧ r.2.mem ((c.tc : Thread Cert.InsIdeal.nD Cert.InsIdeal.τ).loc Cert.InsIdeal.main_arg5) = m ((c.tc : Thread Cert.InsIdeal.nD Cert.InsIdeal.τ).loc Cert.InsIdeal.main_arg5))
      ∧ θ_run (Cert.InsRefIdeal.defs (F := Ideal)) (onTc (τ := Cert.InsRefIdeal.τ) (Cert.InsRefIdeal.main (F := Ideal))) ⟨m', fun _ => 0, g'⟩ (fun r => ∀ c : Dev Cert.InsRefIdeal.nD,
          r.2.mem ((c.tc : Thread Cert.InsRefIdeal.nD Cert.InsRefIdeal.τ).loc Cert.InsRefIdeal.main_v35) = v0 c
          ∧ r.2.mem ((c.tc : Thread Cert.InsRefIdeal.nD Cert.InsRefIdeal.τ).loc Cert.InsRefIdeal.main_v36) = v1 c
          ∧ r.2.mem ((c.tc : Thread Cert.InsRefIdeal.nD Cert.InsRefIdeal.τ).loc Cert.InsRefIdeal.main_v40) = v2 c
          ∧ r.2.mem ((c.tc : Thread Cert.InsRefIdeal.nD Cert.InsRefIdeal.τ).loc Cert.InsRefIdeal.main_v42) = v3 c
          ∧ r.2.mem ((c.tc : Thread Cert.InsRefIdeal.nD Cert.InsRefIdeal.τ).loc Cert.InsRefIdeal.main_v44) = v4 c
          ∧ r.2.mem ((c.tc : Thread Cert.InsRefIdeal.nD Cert.InsRefIdeal.τ).loc Cert.InsRefIdeal.main_arg0) = m' ((c.tc : Thread Cert.InsRefIdeal.nD Cert.InsRefIdeal.τ).loc Cert.InsRefIdeal.main_arg0)
          ∧ r.2.mem ((c.tc : Thread Cert.InsRefIdeal.nD Cert.InsRefIdeal.τ).loc Cert.InsRefIdeal.main_arg1) = m' ((c.tc : Thread Cert.InsRefIdeal.nD Cert.InsRefIdeal.τ).loc Cert.InsRefIdeal.main_arg1)
          ∧ r.2.mem ((c.tc : Thread Cert.InsRefIdeal.nD Cert.InsRefIdeal.τ).loc Cert.InsRefIdeal.main_arg2) = m' ((c.tc : Thread Cert.InsRefIdeal.nD Cert.InsRefIdeal.τ).loc Cert.InsRefIdeal.main_arg2)
          ∧ r.2.mem ((c.tc : Thread Cert.InsRefIdeal.nD Cert.InsRefIdeal.τ).loc Cert.InsRefIdeal.main_arg3) = m' ((c.tc : Thread Cert.InsRefIdeal.nD Cert.InsRefIdeal.τ).loc Cert.InsRefIdeal.main_arg3)
          ∧ r.2.mem ((c.tc : Thread Cert.InsRefIdeal.nD Cert.InsRefIdeal.τ).loc Cert.InsRefIdeal.main_arg4) = m' ((c.tc : Thread Cert.InsRefIdeal.nD Cert.InsRefIdeal.τ).loc Cert.InsRefIdeal.main_arg4)
          ∧ r.2.mem ((c.tc : Thread Cert.InsRefIdeal.nD Cert.InsRefIdeal.τ).loc Cert.InsRefIdeal.main_arg5) = m' ((c.tc : Thread Cert.InsRefIdeal.nD Cert.InsRefIdeal.τ).loc Cert.InsRefIdeal.main_arg5))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)
      ∧ m' ((c.tc : Thread Cert.ModRefIdeal.nD Cert.ModRefIdeal.τ).loc Cert.ModRefIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v5)) (v1 : (c : Dev Cert.ModIdeal.nD) → Buf (Elt Ideal) ((c.tc : Thread Cert.ModIdeal.nD Cert.ModIdeal.τ).loc Cert.ModIdeal.main_v6)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v5) = v0 c
          ∧ r.2.mem ((c.tc : Thread Cert.ModIdeal.nD Cert.ModIdeal.τ).loc Cert.ModIdeal.main_v6) = v1 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v6) = v0 c
          ∧ r.2.mem ((c.tc : Thread Cert.ModRefIdeal.nD Cert.ModRefIdeal.τ).loc Cert.ModRefIdeal.main_v13) = v1 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3))

def preserves_Mid_MidIdeal : Prop :=
  True

def algebraic_MidIdeal_MidRefIdeal [hMidIdeal : Cert.MidIdeal.Facts] [hMidRefIdeal : Cert.MidRefIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)
      ∧ m' ((c.tc : Thread Cert.MidRefIdeal.nD Cert.MidRefIdeal.τ).loc Cert.MidRefIdeal.main_arg6) = m ((c.tc : Thread Cert.MidIdeal.nD Cert.MidIdeal.τ).loc Cert.MidIdeal.main_arg6)
      ∧ m' ((c.tc : Thread Cert.MidRefIdeal.nD Cert.MidRefIdeal.τ).loc Cert.MidRefIdeal.main_arg7) = m ((c.tc : Thread Cert.MidIdeal.nD Cert.MidIdeal.τ).loc Cert.MidIdeal.main_arg7)) →
    ∃ (v0 : (c : Dev Cert.MidIdeal.nD) → Buf (Elt Ideal) ((c.tc : Thread Cert.MidIdeal.nD Cert.MidIdeal.τ).loc Cert.MidIdeal.main_v10_0)) (v1 : (c : Dev Cert.MidIdeal.nD) → Buf (Elt Ideal) ((c.tc : Thread Cert.MidIdeal.nD Cert.MidIdeal.τ).loc Cert.MidIdeal.main_v10_1)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v10_0) = v0 c
          ∧ r.2.mem ((c.tc : Thread Cert.MidIdeal.nD Cert.MidIdeal.τ).loc Cert.MidIdeal.main_v10_1) = v1 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
          ∧ r.2.mem ((c.tc : Thread Cert.MidIdeal.nD Cert.MidIdeal.τ).loc Cert.MidIdeal.main_arg7) = m ((c.tc : Thread Cert.MidIdeal.nD Cert.MidIdeal.τ).loc Cert.MidIdeal.main_arg7))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v30) = v0 c
          ∧ r.2.mem ((c.tc : Thread Cert.MidRefIdeal.nD Cert.MidRefIdeal.τ).loc Cert.MidRefIdeal.main_v33) = v1 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5)
          ∧ r.2.mem ((c.tc : Thread Cert.MidRefIdeal.nD Cert.MidRefIdeal.τ).loc Cert.MidRefIdeal.main_arg6) = m' ((c.tc : Thread Cert.MidRefIdeal.nD Cert.MidRefIdeal.τ).loc Cert.MidRefIdeal.main_arg6)
          ∧ r.2.mem ((c.tc : Thread Cert.MidRefIdeal.nD Cert.MidRefIdeal.τ).loc Cert.MidRefIdeal.main_arg7) = m' ((c.tc : Thread Cert.MidRefIdeal.nD Cert.MidRefIdeal.τ).loc Cert.MidRefIdeal.main_arg7))

def preserves_Prep_PrepIdeal : Prop :=
  True

def algebraic_PrepIdeal_PrepRefIdeal_pre_finite_route [hPrepIdeal : Cert.PrepIdeal.Facts] [hPrepRefIdeal : Cert.PrepRefIdeal.Facts] [hPre_finite_route : Cert.Pre_finite_route.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal_finite_route m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)) →
    ∃ (v0 : (c : Dev Cert.PrepIdeal.nD) → Buf (Elt Ideal) ((c.tc : Thread Cert.PrepIdeal.nD Cert.PrepIdeal.τ).loc Cert.PrepIdeal.main_v5_0)) (v1 : (c : Dev Cert.PrepIdeal.nD) → Buf (Elt Ideal) ((c.tc : Thread Cert.PrepIdeal.nD Cert.PrepIdeal.τ).loc Cert.PrepIdeal.main_v5_3)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v5_0) = v0 c
          ∧ r.2.mem ((c.tc : Thread Cert.PrepIdeal.nD Cert.PrepIdeal.τ).loc Cert.PrepIdeal.main_v5_3) = v1 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v40) = v0 c
          ∧ r.2.mem ((c.tc : Thread Cert.PrepRefIdeal.nD Cert.PrepRefIdeal.τ).loc Cert.PrepRefIdeal.main_v41) = v1 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)) →
    ∃ (v0 : (c : Dev Cert.MixIdeal.nD) → Buf (Elt Ideal) ((c.tc : Thread Cert.MixIdeal.nD Cert.MixIdeal.τ).loc Cert.MixIdeal.main_v7)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v7) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v53) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9))

def preserves_Mis_MisIdeal : Prop :=
  True

def algebraic_MisIdeal_MisRefIdeal [hMisIdeal : Cert.MisIdeal.Facts] [hMisRefIdeal : Cert.MisRefIdeal.Facts] : Prop :=
  ∀ (m : (ℓ : Loc Cert.MisIdeal.nD Cert.MisIdeal.τ Cert.MisIdeal.sig) → Buf (Elt Ideal) ℓ) (g : Dev Cert.MisIdeal.nD → PrngReg)
    (m' : (ℓ : Loc Cert.MisRefIdeal.nD Cert.MisRefIdeal.τ Cert.MisRefIdeal.sig) → Buf (Elt Ideal) ℓ) (g' : Dev Cert.MisRefIdeal.nD → PrngReg), Pre_MisIdeal m →
    (∀ c : Dev Cert.MisIdeal.nD,
      m' ((c.tc : Thread Cert.MisRefIdeal.nD Cert.MisRefIdeal.τ).loc Cert.MisRefIdeal.main_arg0) = m ((c.tc : Thread Cert.MisIdeal.nD Cert.MisIdeal.τ).loc Cert.MisIdeal.main_arg0)
      ∧ m' ((c.tc : Thread Cert.MisRefIdeal.nD Cert.MisRefIdeal.τ).loc Cert.MisRefIdeal.main_arg1) = m ((c.tc : Thread Cert.MisIdeal.nD Cert.MisIdeal.τ).loc Cert.MisIdeal.main_arg1)
      ∧ m' ((c.tc : Thread Cert.MisRefIdeal.nD Cert.MisRefIdeal.τ).loc Cert.MisRefIdeal.main_arg2) = m ((c.tc : Thread Cert.MisIdeal.nD Cert.MisIdeal.τ).loc Cert.MisIdeal.main_arg2)
      ∧ m' ((c.tc : Thread Cert.MisRefIdeal.nD Cert.MisRefIdeal.τ).loc Cert.MisRefIdeal.main_arg3) = m ((c.tc : Thread Cert.MisIdeal.nD Cert.MisIdeal.τ).loc Cert.MisIdeal.main_arg3)
      ∧ m' ((c.tc : Thread Cert.MisRefIdeal.nD Cert.MisRefIdeal.τ).loc Cert.MisRefIdeal.main_arg4) = m ((c.tc : Thread Cert.MisIdeal.nD Cert.MisIdeal.τ).loc Cert.MisIdeal.main_arg4)
      ∧ m' ((c.tc : Thread Cert.MisRefIdeal.nD Cert.MisRefIdeal.τ).loc Cert.MisRefIdeal.main_arg5) = m ((c.tc : Thread Cert.MisIdeal.nD Cert.MisIdeal.τ).loc Cert.MisIdeal.main_arg5)
      ∧ m' ((c.tc : Thread Cert.MisRefIdeal.nD Cert.MisRefIdeal.τ).loc Cert.MisRefIdeal.main_arg6) = m ((c.tc : Thread Cert.MisIdeal.nD Cert.MisIdeal.τ).loc Cert.MisIdeal.main_arg6)
      ∧ m' ((c.tc : Thread Cert.MisRefIdeal.nD Cert.MisRefIdeal.τ).loc Cert.MisRefIdeal.main_arg7) = m ((c.tc : Thread Cert.MisIdeal.nD Cert.MisIdeal.τ).loc Cert.MisIdeal.main_arg7)
      ∧ m' ((c.tc : Thread Cert.MisRefIdeal.nD Cert.MisRefIdeal.τ).loc Cert.MisRefIdeal.main_arg8) = m ((c.tc : Thread Cert.MisIdeal.nD Cert.MisIdeal.τ).loc Cert.MisIdeal.main_arg8)
      ∧ m' ((c.tc : Thread Cert.MisRefIdeal.nD Cert.MisRefIdeal.τ).loc Cert.MisRefIdeal.main_arg9) = m ((c.tc : Thread Cert.MisIdeal.nD Cert.MisIdeal.τ).loc Cert.MisIdeal.main_arg9)) →
    ∃ (v0 : (c : Dev Cert.MisIdeal.nD) → Buf (Elt Ideal) ((c.tc : Thread Cert.MisIdeal.nD Cert.MisIdeal.τ).loc Cert.MisIdeal.main_v9)),
      θ_run (Cert.MisIdeal.defs (F := Ideal)) (onTc (τ := Cert.MisIdeal.τ) (Cert.MisIdeal.main (F := Ideal))) ⟨m, fun _ => 0, g⟩ (fun r => ∀ c : Dev Cert.MisIdeal.nD,
          r.2.mem ((c.tc : Thread Cert.MisIdeal.nD Cert.MisIdeal.τ).loc Cert.MisIdeal.main_v9) = v0 c
          ∧ r.2.mem ((c.tc : Thread Cert.MisIdeal.nD Cert.MisIdeal.τ).loc Cert.MisIdeal.main_arg0) = m ((c.tc : Thread Cert.MisIdeal.nD Cert.MisIdeal.τ).loc Cert.MisIdeal.main_arg0)
          ∧ r.2.mem ((c.tc : Thread Cert.MisIdeal.nD Cert.MisIdeal.τ).loc Cert.MisIdeal.main_arg1) = m ((c.tc : Thread Cert.MisIdeal.nD Cert.MisIdeal.τ).loc Cert.MisIdeal.main_arg1)
          ∧ r.2.mem ((c.tc : Thread Cert.MisIdeal.nD Cert.MisIdeal.τ).loc Cert.MisIdeal.main_arg2) = m ((c.tc : Thread Cert.MisIdeal.nD Cert.MisIdeal.τ).loc Cert.MisIdeal.main_arg2)
          ∧ r.2.mem ((c.tc : Thread Cert.MisIdeal.nD Cert.MisIdeal.τ).loc Cert.MisIdeal.main_arg3) = m ((c.tc : Thread Cert.MisIdeal.nD Cert.MisIdeal.τ).loc Cert.MisIdeal.main_arg3)
          ∧ r.2.mem ((c.tc : Thread Cert.MisIdeal.nD Cert.MisIdeal.τ).loc Cert.MisIdeal.main_arg4) = m ((c.tc : Thread Cert.MisIdeal.nD Cert.MisIdeal.τ).loc Cert.MisIdeal.main_arg4)
          ∧ r.2.mem ((c.tc : Thread Cert.MisIdeal.nD Cert.MisIdeal.τ).loc Cert.MisIdeal.main_arg5) = m ((c.tc : Thread Cert.MisIdeal.nD Cert.MisIdeal.τ).loc Cert.MisIdeal.main_arg5)
          ∧ r.2.mem ((c.tc : Thread Cert.MisIdeal.nD Cert.MisIdeal.τ).loc Cert.MisIdeal.main_arg6) = m ((c.tc : Thread Cert.MisIdeal.nD Cert.MisIdeal.τ).loc Cert.MisIdeal.main_arg6)
          ∧ r.2.mem ((c.tc : Thread Cert.MisIdeal.nD Cert.MisIdeal.τ).loc Cert.MisIdeal.main_arg7) = m ((c.tc : Thread Cert.MisIdeal.nD Cert.MisIdeal.τ).loc Cert.MisIdeal.main_arg7)
          ∧ r.2.mem ((c.tc : Thread Cert.MisIdeal.nD Cert.MisIdeal.τ).loc Cert.MisIdeal.main_arg8) = m ((c.tc : Thread Cert.MisIdeal.nD Cert.MisIdeal.τ).loc Cert.MisIdeal.main_arg8)
          ∧ r.2.mem ((c.tc : Thread Cert.MisIdeal.nD Cert.MisIdeal.τ).loc Cert.MisIdeal.main_arg9) = m ((c.tc : Thread Cert.MisIdeal.nD Cert.MisIdeal.τ).loc Cert.MisIdeal.main_arg9))
      ∧ θ_run (Cert.MisRefIdeal.defs (F := Ideal)) (onTc (τ := Cert.MisRefIdeal.τ) (Cert.MisRefIdeal.main (F := Ideal))) ⟨m', fun _ => 0, g'⟩ (fun r => ∀ c : Dev Cert.MisRefIdeal.nD,
          r.2.mem ((c.tc : Thread Cert.MisRefIdeal.nD Cert.MisRefIdeal.τ).loc Cert.MisRefIdeal.main_v53) = v0 c
          ∧ r.2.mem ((c.tc : Thread Cert.MisRefIdeal.nD Cert.MisRefIdeal.τ).loc Cert.MisRefIdeal.main_arg0) = m' ((c.tc : Thread Cert.MisRefIdeal.nD Cert.MisRefIdeal.τ).loc Cert.MisRefIdeal.main_arg0)
          ∧ r.2.mem ((c.tc : Thread Cert.MisRefIdeal.nD Cert.MisRefIdeal.τ).loc Cert.MisRefIdeal.main_arg1) = m' ((c.tc : Thread Cert.MisRefIdeal.nD Cert.MisRefIdeal.τ).loc Cert.MisRefIdeal.main_arg1)
          ∧ r.2.mem ((c.tc : Thread Cert.MisRefIdeal.nD Cert.MisRefIdeal.τ).loc Cert.MisRefIdeal.main_arg2) = m' ((c.tc : Thread Cert.MisRefIdeal.nD Cert.MisRefIdeal.τ).loc Cert.MisRefIdeal.main_arg2)
          ∧ r.2.mem ((c.tc : Thread Cert.MisRefIdeal.nD Cert.MisRefIdeal.τ).loc Cert.MisRefIdeal.main_arg3) = m' ((c.tc : Thread Cert.MisRefIdeal.nD Cert.MisRefIdeal.τ).loc Cert.MisRefIdeal.main_arg3)
          ∧ r.2.mem ((c.tc : Thread Cert.MisRefIdeal.nD Cert.MisRefIdeal.τ).loc Cert.MisRefIdeal.main_arg4) = m' ((c.tc : Thread Cert.MisRefIdeal.nD Cert.MisRefIdeal.τ).loc Cert.MisRefIdeal.main_arg4)
          ∧ r.2.mem ((c.tc : Thread Cert.MisRefIdeal.nD Cert.MisRefIdeal.τ).loc Cert.MisRefIdeal.main_arg5) = m' ((c.tc : Thread Cert.MisRefIdeal.nD Cert.MisRefIdeal.τ).loc Cert.MisRefIdeal.main_arg5)
          ∧ r.2.mem ((c.tc : Thread Cert.MisRefIdeal.nD Cert.MisRefIdeal.τ).loc Cert.MisRefIdeal.main_arg6) = m' ((c.tc : Thread Cert.MisRefIdeal.nD Cert.MisRefIdeal.τ).loc Cert.MisRefIdeal.main_arg6)
          ∧ r.2.mem ((c.tc : Thread Cert.MisRefIdeal.nD Cert.MisRefIdeal.τ).loc Cert.MisRefIdeal.main_arg7) = m' ((c.tc : Thread Cert.MisRefIdeal.nD Cert.MisRefIdeal.τ).loc Cert.MisRefIdeal.main_arg7)
          ∧ r.2.mem ((c.tc : Thread Cert.MisRefIdeal.nD Cert.MisRefIdeal.τ).loc Cert.MisRefIdeal.main_arg8) = m' ((c.tc : Thread Cert.MisRefIdeal.nD Cert.MisRefIdeal.τ).loc Cert.MisRefIdeal.main_arg8)
          ∧ r.2.mem ((c.tc : Thread Cert.MisRefIdeal.nD Cert.MisRefIdeal.τ).loc Cert.MisRefIdeal.main_arg9) = m' ((c.tc : Thread Cert.MisRefIdeal.nD Cert.MisRefIdeal.τ).loc Cert.MisRefIdeal.main_arg9))

def Claim : Prop :=
  ∃ (hAttn : Cert.Attn.Facts) (hAttnIdeal : Cert.AttnIdeal.Facts) (hAttnRefIdeal : Cert.AttnRefIdeal.Facts) (hInp : Cert.Inp.Facts) (hInpIdeal : Cert.InpIdeal.Facts) (hInpRefIdeal : Cert.InpRefIdeal.Facts) (hIns : Cert.Ins.Facts) (hInsIdeal : Cert.InsIdeal.Facts) (hInsRefIdeal : Cert.InsRefIdeal.Facts) (hMod : Cert.Mod.Facts) (hModIdeal : Cert.ModIdeal.Facts) (hModRefIdeal : Cert.ModRefIdeal.Facts) (hMid : Cert.Mid.Facts) (hMidIdeal : Cert.MidIdeal.Facts) (hMidRefIdeal : Cert.MidRefIdeal.Facts) (hPrep : Cert.Prep.Facts) (hPrepIdeal : Cert.PrepIdeal.Facts) (hPrepRefIdeal : Cert.PrepRefIdeal.Facts) (hMix : Cert.Mix.Facts) (hMixIdeal : Cert.MixIdeal.Facts) (hMixRefIdeal : Cert.MixRefIdeal.Facts) (hMis : Cert.Mis.Facts) (hMisIdeal : Cert.MisIdeal.Facts) (hMisRefIdeal : Cert.MisRefIdeal.Facts) (hPre_finite_scores : Cert.Pre_finite_scores.Facts) (hPre_finite_route : Cert.Pre_finite_route.Facts),
    quiescent_Attn (hAttn := hAttn)
    ∧ quiescent_AttnIdeal (hAttnIdeal := hAttnIdeal)
    ∧ quiescent_AttnIdeal_pre_finite_scores (hAttnIdeal := hAttnIdeal) (hPre_finite_scores := hPre_finite_scores)
    ∧ quiescent_AttnRefIdeal (hAttnRefIdeal := hAttnRefIdeal)
    ∧ quiescent_AttnRefIdeal_pre_finite_scores (hAttnRefIdeal := hAttnRefIdeal) (hPre_finite_scores := hPre_finite_scores)
    ∧ quiescent_Inp (hInp := hInp)
    ∧ quiescent_InpIdeal (hInpIdeal := hInpIdeal)
    ∧ quiescent_InpRefIdeal (hInpRefIdeal := hInpRefIdeal)
    ∧ quiescent_Ins (hIns := hIns)
    ∧ quiescent_InsIdeal (hInsIdeal := hInsIdeal)
    ∧ quiescent_InsRefIdeal (hInsRefIdeal := hInsRefIdeal)
    ∧ quiescent_Mod (hMod := hMod)
    ∧ quiescent_ModIdeal (hModIdeal := hModIdeal)
    ∧ quiescent_ModRefIdeal (hModRefIdeal := hModRefIdeal)
    ∧ quiescent_Mid (hMid := hMid)
    ∧ quiescent_MidIdeal (hMidIdeal := hMidIdeal)
    ∧ quiescent_MidRefIdeal (hMidRefIdeal := hMidRefIdeal)
    ∧ quiescent_Prep (hPrep := hPrep)
    ∧ quiescent_PrepIdeal (hPrepIdeal := hPrepIdeal)
    ∧ quiescent_PrepIdeal_pre_finite_route (hPrepIdeal := hPrepIdeal) (hPre_finite_route := hPre_finite_route)
    ∧ quiescent_PrepRefIdeal (hPrepRefIdeal := hPrepRefIdeal)
    ∧ quiescent_PrepRefIdeal_pre_finite_route (hPrepRefIdeal := hPrepRefIdeal) (hPre_finite_route := hPre_finite_route)
    ∧ quiescent_Mix (hMix := hMix)
    ∧ quiescent_MixIdeal (hMixIdeal := hMixIdeal)
    ∧ quiescent_MixRefIdeal (hMixRefIdeal := hMixRefIdeal)
    ∧ quiescent_Mis (hMis := hMis)
    ∧ quiescent_MisIdeal (hMisIdeal := hMisIdeal)
    ∧ quiescent_MisRefIdeal (hMisRefIdeal := hMisRefIdeal)
    ∧ preserves_Attn_AttnIdeal
    ∧ algebraic_AttnIdeal_AttnRefIdeal_pre_finite_scores (hAttnIdeal := hAttnIdeal) (hAttnRefIdeal := hAttnRefIdeal) (hPre_finite_scores := hPre_finite_scores)
    ∧ preserves_Inp_InpIdeal
    ∧ algebraic_InpIdeal_InpRefIdeal (hInpIdeal := hInpIdeal) (hInpRefIdeal := hInpRefIdeal)
    ∧ preserves_Ins_InsIdeal
    ∧ algebraic_InsIdeal_InsRefIdeal (hInsIdeal := hInsIdeal) (hInsRefIdeal := hInsRefIdeal)
    ∧ preserves_Mod_ModIdeal
    ∧ algebraic_ModIdeal_ModRefIdeal (hModIdeal := hModIdeal) (hModRefIdeal := hModRefIdeal)
    ∧ preserves_Mid_MidIdeal
    ∧ algebraic_MidIdeal_MidRefIdeal (hMidIdeal := hMidIdeal) (hMidRefIdeal := hMidRefIdeal)
    ∧ preserves_Prep_PrepIdeal
    ∧ algebraic_PrepIdeal_PrepRefIdeal_pre_finite_route (hPrepIdeal := hPrepIdeal) (hPrepRefIdeal := hPrepRefIdeal) (hPre_finite_route := hPre_finite_route)
    ∧ preserves_Mix_MixIdeal
    ∧ algebraic_MixIdeal_MixRefIdeal (hMixIdeal := hMixIdeal) (hMixRefIdeal := hMixRefIdeal)
    ∧ preserves_Mis_MisIdeal
    ∧ algebraic_MisIdeal_MisRefIdeal (hMisIdeal := hMisIdeal) (hMisRefIdeal := hMisRefIdeal)
-- ==== Pre_finite_route.lean ====
abbrev S2048x32768 : Shape := ⟨2, ![2048, 32768]⟩
abbrev S1x2048x2048 : Shape := ⟨3, ![1, 2048, 2048]⟩
abbrev S1x2x128x128 : Shape := ⟨4, ![1, 2, 128, 128]⟩
abbrev S_ : Shape := ⟨0, ![]⟩

class Facts : Prop where
  bitsLt_bf16_f32 : FTy.bits .bf16 < FTy.bits .f32
  bcast_S_S2048x32768 : S_.BroadcastsInDim S2048x32768 (![] : Fin 0 → Fin S2048x32768.rank)
  reducesTo_S2048x32768_S_d0_1 : S2048x32768.ReducesTo [0, 1] S_
  h_S_ : 0 < S_.numel
  bcast_S_S1x2048x2048 : S_.BroadcastsInDim S1x2048x2048 (![] : Fin 0 → Fin S1x2048x2048.rank)
  reducesTo_S1x2048x2048_S_d0_1_2 : S1x2048x2048.ReducesTo [0, 1, 2] S_
  bcast_S_S1x2x128x128 : S_.BroadcastsInDim S1x2x128x128 (![] : Fin 0 → Fin S1x2x128x128.rank)
  reducesTo_S1x2x128x128_S_d0_1_2_3 : S1x2x128x128.ReducesTo [0, 1, 2, 3] S_

variable [Facts]

def fn {F : FTy → Type} [FloatOps F] (main_arg0 : FVec F S2048x32768 .bf16) (main_arg1 : FVec F S1x2048x2048 .f32) (main_arg2 : FVec F S1x2x128x128 .f32) : IVec S_ 1 :=
  let main_v0 : FVec F S2048x32768 .f32 := (extf .f32 · bitsLt_bf16_f32) main_arg0
  let main_v1 : FVec F S2048x32768 .f32 := Host.absf main_v0
  let main_cst : FVec F S_ .f32 := constant S_ .f32 0x7F800000#32
  let main_v2 : FVec F S2048x32768 .f32 := broadcastInDim S2048x32768 ![] bcast_S_S2048x32768 main_cst
  let main_v3 : IVec S2048x32768 1 := cmpf .olt main_v1 main_v2
  let main_c : IVec S_ 1 := constantI S_ 1 1#1
  let main_v4 : IVec S_ 1 := (fun x v => Host.reduce IntOp.andi x v reducesTo_S2048x32768_S_d0_1 h_S_) main_v3 main_c
  let main_v5 : FVec F S1x2048x2048 .f32 := Host.absf main_arg1
  let main_cst_0 : FVec F S_ .f32 := constant S_ .f32 0x7F800000#32
  let main_v6 : FVec F S1x2048x2048 .f32 := broadcastInDim S1x2048x2048 ![] bcast_S_S1x2048x2048 main_cst_0
  let main_v7 : IVec S1x2048x2048 1 := cmpf .olt main_v5 main_v6
  let main_c_1 : IVec S_ 1 := constantI S_ 1 1#1
  let main_v8 : IVec S_ 1 := (fun x v => Host.reduce IntOp.andi x v reducesTo_S1x2048x2048_S_d0_1_2 h_S_) main_v7 main_c_1
  let main_v9 : IVec S_ 1 := andi main_v4 main_v8
  let main_v10 : FVec F S1x2x128x128 .f32 := Host.absf main_arg2
  let main_cst_2 : FVec F S_ .f32 := constant S_ .f32 0x7F800000#32
  let main_v11 : FVec F S1x2x128x128 .f32 := broadcastInDim S1x2x128x128 ![] bcast_S_S1x2x128x128 main_cst_2
  let main_v12 : IVec S1x2x128x128 1 := cmpf .olt main_v10 main_v11
  let main_c_3 : IVec S_ 1 := constantI S_ 1 1#1
  let main_v13 : IVec S_ 1 := (fun x v => Host.reduce IntOp.andi x v reducesTo_S1x2x128x128_S_d0_1_2_3 h_S_) main_v12 main_c_3
  let main_v14 : IVec S_ 1 := andi main_v9 main_v13
  main_v14
-- ==== Pre_finite_scores.lean ====
abbrev S8x4096x1024 : Shape := ⟨3, ![8, 4096, 1024]⟩
abbrev S16x513 : Shape := ⟨2, ![16, 513]⟩
abbrev S_ : Shape := ⟨0, ![]⟩

class Facts : Prop where
  bitsLt_bf16_f32 : FTy.bits .bf16 < FTy.bits .f32
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S16x513 : S_.BroadcastsInDim S16x513 (![] : Fin 0 → Fin S16x513.rank)
  reducesTo_S16x513_S_d0_1 : S16x513.ReducesTo [0, 1] S_

variable [Facts]

def fn {F : FTy → Type} [FloatOps F] (main_arg0 : FVec F S8x4096x1024 .bf16) (main_arg1 : FVec F S8x4096x1024 .f32) (main_arg2 : FVec F S8x4096x1024 .f32) (main_arg3 : FVec F S16x513 .f32) : IVec S_ 1 :=
  let main_v0 : FVec F S8x4096x1024 .f32 := (extf .f32 · bitsLt_bf16_f32) main_arg0
  let main_v1 : FVec F S8x4096x1024 .f32 := Host.absf main_v0
  let main_cst : FVec F S_ .f32 := constant S_ .f32 0x7F800000#32
  let main_v2 : FVec F S8x4096x1024 .f32 := broadcastInDim S8x4096x1024 ![] bcast_S_S8x4096x1024 main_cst
  let main_v3 : IVec S8x4096x1024 1 := cmpf .olt main_v1 main_v2
  let main_c : IVec S_ 1 := constantI S_ 1 1#1
  let main_v4 : IVec S_ 1 := (fun x v => Host.reduce IntOp.andi x v reducesTo_S8x4096x1024_S_d0_1_2 h_S_) main_v3 main_c
  let main_v5 : FVec F S8x4096x1024 .f32 := Host.absf main_arg1
  let main_cst_0 : FVec F S_ .f32 := constant S_ .f32 0x7F800000#32
  let main_v6 : FVec F S8x4096x1024 .f32 := broadcastInDim S8x4096x1024 ![] bcast_S_S8x4096x1024 main_cst_0
  let main_v7 : IVec S8x4096x1024 1 := cmpf .olt main_v5 main_v6
  let main_c_1 : IVec S_ 1 := constantI S_ 1 1#1
  let main_v8 : IVec S_ 1 := (fun x v => Host.reduce IntOp.andi x v reducesTo_S8x4096x1024_S_d0_1_2 h_S_) main_v7 main_c_1
  let main_v9 : IVec S_ 1 := andi main_v4 main_v8
  let main_v10 : FVec F S16x513 .f32 := Host.absf main_arg3
  let main_cst_2 : FVec F S_ .f32 := constant S_ .f32 0x7F800000#32
  let main_v11 : FVec F S16x513 .f32 := broadcastInDim S16x513 ![] bcast_S_S16x513 main_cst_2
  let main_v12 : IVec S16x513 1 := cmpf .olt main_v10 main_v11
  let main_c_3 : IVec S_ 1 := constantI S_ 1 1#1
  let main_v13 : IVec S_ 1 := (fun x v => Host.reduce IntOp.andi x v reducesTo_S16x513_S_d0_1 h_S_) main_v12 main_c_3
  let main_v14 : IVec S_ 1 := andi main_v9 main_v13
  main_v14
-- ==== Attn.lean ====
abbrev S8x4096x1024 : Shape := ⟨3, ![8, 4096, 1024]⟩
abbrev S16x513 : Shape := ⟨2, ![16, 513]⟩
abbrev S1024 : Shape := ⟨1, ![1024]⟩
abbrev S_ : Shape := ⟨0, ![]⟩
abbrev S1024x1 : Shape := ⟨2, ![1024, 1]⟩
abbrev S16x1024 : Shape := ⟨2, ![16, 1024]⟩
abbrev S16x1x1024 : Shape := ⟨3, ![16, 1, 1024]⟩
abbrev S16x256x1024 : Shape := ⟨3, ![16, 256, 1024]⟩
abbrev S1x1x1024 : Shape := ⟨3, ![1, 1, 1024]⟩
abbrev S1x256x1024 : Shape := ⟨3, ![1, 256, 1024]⟩
abbrev S1x1024 : Shape := ⟨2, ![1, 1024]⟩
abbrev S256x1024 : Shape := ⟨2, ![256, 1024]⟩
abbrev S8x4608x1024 : Shape := ⟨3, ![8, 4608, 1024]⟩
abbrev S1x256x128 : Shape := ⟨3, ![1, 256, 128]⟩
abbrev S1x4608x128 : Shape := ⟨3, ![1, 4608, 128]⟩
abbrev S2x256x1024 : Shape := ⟨3, ![2, 256, 1024]⟩
abbrev S256x128 : Shape := ⟨2, ![256, 128]⟩
abbrev S1x768x128 : Shape := ⟨3, ![1, 768, 128]⟩
abbrev S768x128 : Shape := ⟨2, ![768, 128]⟩
abbrev S256x768 : Shape := ⟨2, ![256, 768]⟩
abbrev S256x64 : Shape := ⟨2, ![256, 64]⟩
abbrev S768x64 : Shape := ⟨2, ![768, 64]⟩
abbrev S256 : Shape := ⟨1, ![256]⟩
abbrev S256x1 : Shape := ⟨2, ![256, 1]⟩

abbrev nBuf : Space → Nat
  | .hbm => 46
  | .vmem => 14
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .f32⟩
  | .hbm, ⟨2, _⟩ => ⟨S8x4096x1024, .f32⟩
  | .hbm, ⟨3, _⟩ => ⟨S16x513, .f32⟩
  | .hbm, ⟨4, _⟩ => ⟨S1024, .i32⟩
  | .hbm, ⟨5, _⟩ => ⟨S_, .i32⟩
  | .hbm, ⟨6, _⟩ => ⟨S1024, .i32⟩
  | .hbm, ⟨7, _⟩ => ⟨S1024, .i1⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S1024, .i32⟩
  | .hbm, ⟨12, _⟩ => ⟨S_, .i32⟩
  | .hbm, ⟨13, _⟩ => ⟨S1024, .i32⟩
  | .hbm, ⟨14, _⟩ => ⟨S1024, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S1024, .i32⟩
  | .hbm, ⟨19, _⟩ => ⟨S1024, .i32⟩
  | .hbm, ⟨20, _⟩ => ⟨S_, .i32⟩
  | .hbm, ⟨21, _⟩ => ⟨S1024, .i32⟩
  | .hbm, ⟨22, _⟩ => ⟨S1024, .i32⟩
  | .hbm, ⟨23, _⟩ => ⟨S_, .i32⟩
  | .hbm, ⟨24, _⟩ => ⟨S1024, .i32⟩
  | .hbm, ⟨25, _⟩ => ⟨S1024, .i32⟩
  | .hbm, ⟨26, _⟩ => ⟨S_, .i32⟩
  | .hbm, ⟨27, _⟩ => ⟨S1024, .i32⟩
  | .hbm, ⟨28, _⟩ => ⟨S1024, .i1⟩
  | .hbm, ⟨29, _⟩ => ⟨S_, .i32⟩
  | .hbm, ⟨30, _⟩ => ⟨S1024, .i32⟩
  | .hbm, ⟨31, _⟩ => ⟨S1024, .i32⟩
  | .hbm, ⟨32, _⟩ => ⟨S1024, .i32⟩
  | .hbm, ⟨33, _⟩ => ⟨S1024x1, .i32⟩
  | .hbm, ⟨34, _⟩ => ⟨S16x1024, .f32⟩
  | .hbm, ⟨35, _⟩ => ⟨S16x1x1024, .f32⟩
  | .hbm, ⟨36, _⟩ => ⟨S16x256x1024, .f32⟩
  | .hbm, ⟨37, _⟩ => ⟨S8x4096x1024, .bf16⟩
  | .hbm, ⟨38, _⟩ => ⟨S_, .i32⟩
  | .hbm, ⟨39, _⟩ => ⟨S_, .bf16⟩
  | .hbm, ⟨40, _⟩ => ⟨S8x4608x1024, .bf16⟩
  | .hbm, ⟨41, _⟩ => ⟨S8x4096x1024, .bf16⟩
  | .hbm, ⟨42, _⟩ => ⟨S_, .i32⟩
  | .hbm, ⟨43, _⟩ => ⟨S_, .bf16⟩
  | .hbm, ⟨44, _⟩ => ⟨S8x4608x1024, .bf16⟩
  | .hbm, ⟨45, _⟩ => ⟨S8x4096x1024, .bf16⟩
  | .local _ .vmem, ⟨0, _⟩ => ⟨S1x1x1024, .f32⟩
  | .local _ .vmem, ⟨1, _⟩ => ⟨S1x1x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x128, .bf16⟩
  | .local _ .vmem, ⟨5, _⟩ => ⟨S1x256x128, .bf16⟩
  | .local _ .vmem, ⟨6, _⟩ => ⟨S1x4608x128, .bf16⟩
  | .local _ .vmem, ⟨7, _⟩ => ⟨S1x4608x128, .bf16⟩
  | .local _ .vmem, ⟨8, _⟩ => ⟨S1x4608x128, .bf16⟩
  | .local _ .vmem, ⟨9, _⟩ => ⟨S1x4608x128, .bf16⟩
  | .local _ .vmem, ⟨10, _⟩ => ⟨S2x256x1024, .f32⟩
  | .local _ .vmem, ⟨11, _⟩ => ⟨S2x256x1024, .f32⟩
  | .local _ .vmem, ⟨12, _⟩ => ⟨S1x256x128, .bf16⟩
  | .local _ .vmem, ⟨13, _⟩ => ⟨S1x256x128, .bf16⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_c_2 : Ref sig .tc := ⟨.hbm, 15, rfl⟩
abbrev main_c_3 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v8 : Ref sig .tc := ⟨.hbm, 22, rfl⟩
abbrev main_c_4 : Ref sig .tc := ⟨.hbm, 23, rfl⟩
abbrev main_v9 : Ref sig .tc := ⟨.hbm, 24, rfl⟩
abbrev main_v10 : Ref sig .tc := ⟨.hbm, 25, rfl⟩
abbrev main_c_5 : Ref sig .tc := ⟨.hbm, 26, rfl⟩
abbrev main_v11 : Ref sig .tc := ⟨.hbm, 27, rfl⟩
abbrev main_v12 : Ref sig .tc := ⟨.hbm, 28, rfl⟩
abbrev main_c_6 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_7 : Ref sig .tc := ⟨.hbm, 38, rfl⟩
abbrev main_call2_v0 : Ref sig .tc := ⟨.hbm, 39, rfl⟩
abbrev main_v21 : Ref sig .tc := ⟨.hbm, 40, rfl⟩
abbrev main_v22 : Ref sig .tc := ⟨.hbm, 41, rfl⟩
abbrev main_c_8 : Ref sig .tc := ⟨.hbm, 42, rfl⟩
abbrev main_call3_v0 : Ref sig .tc := ⟨.hbm, 43, rfl⟩
abbrev main_v23 : Ref sig .tc := ⟨.hbm, 44, rfl⟩
abbrev main_v24 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨3, ![8, 8, 16], ![false, false, false]⟩

def k1_mult1 (i : grid1.Coords) : BitVec 32 :=
  let arg2 : BitVec 32 := BitVec.ofNat 32 (i 2).val
  let c256_i32 : BitVec 32 := 256#32
  let v0 : BitVec 32 := Scalar.muli arg2 c256_i32
  v0
def k1_off1 (i : grid1.Coords) : Fin 3 → Nat :=
  let c0_2 : Index := 0#32
  let arg2 : BitVec 32 := BitVec.ofNat 32 (i 2).val
  let c256_i32 : BitVec 32 := 256#32
  let v0 : BitVec 32 := Scalar.muli arg2 c256_i32
  let v1 : BitVec 32 := v0
  let v4 : Index := Scalar.indexCast v1
  let c0_3 : Index := 0#32
  ![0, v4.toNat, 0]
def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x256x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x4608x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x4608x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S2x256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S1x256x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]
-- ==== AttnIdeal.lean ====
variable {F : FTy → Type} [FloatOps F] [Named F]
def κ : String → Option EReal := fun
  | "mask" => some ⊥
  | _ => none
-- ==== AttnRefIdeal.lean ====
abbrev S8x4096x1024 : Shape := ⟨3, ![8, 4096, 1024]⟩
abbrev S16x513 : Shape := ⟨2, ![16, 513]⟩
abbrev S8x4096x16x64 : Shape := ⟨4, ![8, 4096, 16, 64]⟩
abbrev S8x64x64x16x64 : Shape := ⟨5, ![8, 64, 64, 16, 64]⟩
abbrev S_ : Shape := ⟨0, ![]⟩
abbrev S8x4608x16x64 : Shape := ⟨4, ![8, 4608, 16, 64]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S16x64x576 : Shape := ⟨3, ![16, 64, 576]⟩
abbrev S8x64x576x16x64 : Shape := ⟨5, ![8, 64, 576, 16, 64]⟩
abbrev S8x64x16x64x576 : Shape := ⟨5, ![8, 64, 16, 64, 576]⟩
abbrev S1x1x16x64x576 : Shape := ⟨5, ![1, 1, 16, 64, 576]⟩
abbrev S1x64x1x1x576 : Shape := ⟨5, ![1, 64, 1, 1, 576]⟩
abbrev S8x64x16x64 : Shape := ⟨4, ![8, 64, 16, 64]⟩
abbrev S8x64x16x64x1 : Shape := ⟨5, ![8, 64, 16, 64, 1]⟩
abbrev S8x64x16x64x64 : Shape := ⟨5, ![8, 64, 16, 64, 64]⟩

abbrev nBuf : Space → Nat
  | .hbm => 92
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .f32⟩
  | .hbm, ⟨2, _⟩ => ⟨S8x4096x1024, .f32⟩
  | .hbm, ⟨3, _⟩ => ⟨S16x513, .f32⟩
  | .hbm, ⟨4, _⟩ => ⟨S8x4096x1024, .f32⟩
  | .hbm, ⟨5, _⟩ => ⟨S8x4096x16x64, .f32⟩
  | .hbm, ⟨6, _⟩ => ⟨S8x4096x16x64, .f32⟩
  | .hbm, ⟨7, _⟩ => ⟨S8x4096x16x64, .f32⟩
  | .hbm, ⟨8, _⟩ => ⟨S8x64x64x16x64, .f32⟩
  | .hbm, ⟨9, _⟩ => ⟨S_, .i32⟩
  | .hbm, ⟨10, _⟩ => ⟨S_, .f32⟩
  | .hbm, ⟨11, _⟩ => ⟨S8x4608x16x64, .f32⟩
  | .hbm, ⟨12, _⟩ => ⟨S_, .i32⟩
  | .hbm, ⟨13, _⟩ => ⟨S_, .f32⟩
  | .hbm, ⟨14, _⟩ => ⟨S8x4608x16x64, .f32⟩
  | .hbm, ⟨15, _⟩ => ⟨S64, .i32⟩
  | .hbm, ⟨16, _⟩ => ⟨S64x1, .i32⟩
  | .hbm, ⟨17, _⟩ => ⟨S576, .i32⟩
  | .hbm, ⟨18, _⟩ => ⟨S1x576, .i32⟩
  | .hbm, ⟨19, _⟩ => ⟨S_, .i32⟩
  | .hbm, ⟨20, _⟩ => ⟨S1x576, .i32⟩
  | .hbm, ⟨21, _⟩ => ⟨S1x576, .i32⟩
  | .hbm, ⟨22, _⟩ => ⟨S64x576, .i32⟩
  | .hbm, ⟨23, _⟩ => ⟨S64x576, .i32⟩
  | .hbm, ⟨24, _⟩ => ⟨S64x576, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S64x576, .i32⟩
  | .hbm, ⟨29, _⟩ => ⟨S64x576, .i32⟩
  | .hbm, ⟨30, _⟩ => ⟨S_, .i32⟩
  | .hbm, ⟨31, _⟩ => ⟨S64x576, .i32⟩
  | .hbm, ⟨32, _⟩ => ⟨S64x576, .i32⟩
  | .hbm, ⟨33, _⟩ => ⟨S_, .i32⟩
  | .hbm, ⟨34, _⟩ => ⟨S64x576, .i32⟩
  | .hbm, ⟨35, _⟩ => ⟨S64x576, .i32⟩
  | .hbm, ⟨36, _⟩ => ⟨S64x576x1, .i32⟩
  | .hbm, ⟨37, _⟩ => ⟨S16x64x576, .f32⟩
  | .hbm, ⟨38, _⟩ => ⟨S64, .i32⟩
  | .hbm, ⟨39, _⟩ => ⟨S64x1, .i32⟩
  | .hbm, ⟨40, _⟩ => ⟨S_, .i32⟩
  | .hbm, ⟨41, _⟩ => ⟨S64x1, .i32⟩
  | .hbm, ⟨42, _⟩ => ⟨S64x1, .i32⟩
  | .hbm, ⟨43, _⟩ => ⟨S64x576, .i32⟩
  | .hbm, ⟨44, _⟩ => ⟨S64x576, .i32⟩
  | .hbm, ⟨45, _⟩ => ⟨S64x576, .i32⟩
  | .hbm, ⟨46, _⟩ => ⟨S64x576x1, .i32⟩
  | .hbm, ⟨47, _⟩ => ⟨S8x64x576x16x64, .f32⟩
  | .hbm, ⟨48, _⟩ => ⟨S64x576x1, .i32⟩
  | .hbm, ⟨49, _⟩ => ⟨S8x64x576x16x64, .f32⟩
  | .hbm, ⟨50, _⟩ => ⟨S8x64x16x64x576, .f32⟩
  | .hbm, ⟨51, _⟩ => ⟨S_, .f32⟩
  | .hbm, ⟨52, _⟩ => ⟨S8x64x16x64x576, .f32⟩
  | .hbm, ⟨53, _⟩ => ⟨S8x64x16x64x576, .f32⟩
  | .hbm, ⟨54, _⟩ => ⟨S1x1x16x64x576, .f32⟩
  | .hbm, ⟨55, _⟩ => ⟨S8x64x16x64x576, .f32⟩
  | .hbm, ⟨56, _⟩ => ⟨S8x64x16x64x576, .f32⟩
  | .hbm, ⟨57, _⟩ => ⟨S64, .i32⟩
  | .hbm, ⟨58, _⟩ => ⟨S64x1, .i32⟩
  | .hbm, ⟨59, _⟩ => ⟨S_, .i32⟩
  | .hbm, ⟨60, _⟩ => ⟨S64x1, .i32⟩
  | .hbm, ⟨61, _⟩ => ⟨S64x1, .i32⟩
  | .hbm, ⟨62, _⟩ => ⟨S_, .i32⟩
  | .hbm, ⟨63, _⟩ => ⟨S64x1, .i32⟩
  | .hbm, ⟨64, _⟩ => ⟨S64x1, .i32⟩
  | .hbm, ⟨65, _⟩ => ⟨S64x576, .i32⟩
  | .hbm, ⟨66, _⟩ => ⟨S64x576, .i32⟩
  | .hbm, ⟨67, _⟩ => ⟨S64x576, .i1⟩
  | .hbm, ⟨68, _⟩ => ⟨S1x64x1x1x576, .i1⟩
  | .hbm, ⟨69, _⟩ => ⟨S_, .f32⟩
  | .hbm, ⟨70, _⟩ => ⟨S_, .f32⟩
  | .hbm, ⟨71, _⟩ => ⟨S8x64x16x64x576, .i1⟩
  | .hbm, ⟨72, _⟩ => ⟨S8x64x16x64x576, .f32⟩
  | .hbm, ⟨73, _⟩ => ⟨S8x64x16x64x576, .f32⟩
  | .hbm, ⟨74, _⟩ => ⟨S_, .f32⟩
  | .hbm, ⟨75, _⟩ => ⟨S8x64x16x64, .f32⟩
  | .hbm, ⟨76, _⟩ => ⟨S_, .f32⟩
  | .hbm, ⟨77, _⟩ => ⟨S8x64x16x64, .f32⟩
  | .hbm, ⟨78, _⟩ => ⟨S8x64x16x64, .f32⟩
  | .hbm, ⟨79, _⟩ => ⟨S8x64x16x64x1, .f32⟩
  | .hbm, ⟨80, _⟩ => ⟨S8x64x16x64x576, .f32⟩
  | .hbm, ⟨81, _⟩ => ⟨S8x64x16x64x576, .f32⟩
  | .hbm, ⟨82, _⟩ => ⟨S8x64x16x64x576, .f32⟩
  | .hbm, ⟨83, _⟩ => ⟨S_, .f32⟩
  | .hbm, ⟨84, _⟩ => ⟨S8x64x16x64, .f32⟩
  | .hbm, ⟨85, _⟩ => ⟨S8x64x16x64x1, .f32⟩
  | .hbm, ⟨86, _⟩ => ⟨S8x64x16x64x576, .f32⟩
  | .hbm, ⟨87, _⟩ => ⟨S8x64x16x64x576, .f32⟩
  | .hbm, ⟨88, _⟩ => ⟨S8x64x16x64x64, .f32⟩
  | .hbm, ⟨89, _⟩ => ⟨S8x64x64x16x64, .f32⟩
  | .hbm, ⟨90, _⟩ => ⟨S8x4096x1024, .f32⟩
  | .hbm, ⟨91, _⟩ => ⟨S8x4096x1024, .bf16⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_c_3 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_v16 : Ref sig .tc := ⟨.hbm, 32, rfl⟩
abbrev main_c_4 : Ref sig .tc := ⟨.hbm, 33, rfl⟩
abbrev main_v17 : Ref sig .tc := ⟨.hbm, 34, rfl⟩
abbrev main_v18 : Ref sig .tc := ⟨.hbm, 35, rfl⟩
abbrev main_call3_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call4_v0 : Ref sig .tc := ⟨.hbm, 46, rfl⟩
abbrev main_v27 : Ref sig .tc := ⟨.hbm, 47, rfl⟩
abbrev main_call5_v0 : Ref sig .tc := ⟨.hbm, 48, rfl⟩
abbrev main_v28 : Ref sig .tc := ⟨.hbm, 49, rfl⟩
abbrev main_v29 : Ref sig .tc := ⟨.hbm, 50, rfl⟩
abbrev main_cst : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_6 : Ref sig .tc := ⟨.hbm, 59, rfl⟩
abbrev main_v37 : Ref sig .tc := ⟨.hbm, 60, rfl⟩
abbrev main_v38 : Ref sig .tc := ⟨.hbm, 61, rfl⟩
abbrev main_c_7 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_8 : Ref sig .tc := ⟨.hbm, 69, rfl⟩
abbrev main_call6_v0 : Ref sig .tc := ⟨.hbm, 70, rfl⟩
abbrev main_call6_v1 : Ref sig .tc := ⟨.hbm, 71, rfl⟩
abbrev main_call6_v2 : Ref sig .tc := ⟨.hbm, 72, rfl⟩
abbrev main_v45 : Ref sig .tc := ⟨.hbm, 73, rfl⟩
abbrev main_cst_9 : Ref sig .tc := ⟨.hbm, 74, rfl⟩
abbrev main_v46 : Ref sig .tc := ⟨.hbm, 75, rfl⟩
abbrev main_cst_10 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_11 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩

abbrev nD : Nat := 1
abbrev τ : Topo := Topo.v7x

variable {F : FTy → Type} [FloatOps F]

def κ : String → Option EReal := fun
  | "mask" => some ⊥
  | _ => none
-- ==== Inp.lean ====
abbrev S8x4096x2048 : Shape := ⟨3, ![8, 4096, 2048]⟩
abbrev S8x2048 : Shape := ⟨2, ![8, 2048]⟩
abbrev S1x2048 : Shape := ⟨2, ![1, 2048]⟩
abbrev S1x2048x5120 : Shape := ⟨3, ![1, 2048, 5120]⟩
abbrev S32768x2048 : Shape := ⟨2, ![32768, 2048]⟩
abbrev S2048 : Shape := ⟨1, ![2048]⟩
abbrev S8x1x2048 : Shape := ⟨3, ![8, 1, 2048]⟩
abbrev S2048x5120 : Shape := ⟨2, ![2048, 5120]⟩
abbrev S32768x1024 : Shape := ⟨2, ![32768, 1024]⟩
abbrev S512x2048 : Shape := ⟨2, ![512, 2048]⟩
abbrev S1x1x2048 : Shape := ⟨3, ![1, 1, 2048]⟩
abbrev S2048x256 : Shape := ⟨2, ![2048, 256]⟩
abbrev S512x256 : Shape := ⟨2, ![512, 256]⟩
abbrev S512 : Shape := ⟨1, ![512]⟩
abbrev S512x1 : Shape := ⟨2, ![512, 1]⟩
abbrev S8x4096x1024 : Shape := ⟨3, ![8, 4096, 1024]⟩
abbrev S8x30x1024 : Shape := ⟨3, ![8, 30, 1024]⟩
abbrev S1x8x30x1024 : Shape := ⟨4, ![1, 8, 30, 1024]⟩
abbrev S8x512x1024 : Shape := ⟨3, ![8, 512, 1024]⟩
abbrev S8x512x16x64 : Shape := ⟨4, ![8, 512, 16, 64]⟩
abbrev S1x8x512x16x64 : Shape := ⟨5, ![1, 8, 512, 16, 64]⟩

abbrev nBuf : Space → Nat
  | .hbm => 28
  | .vmem => 26
  | .smem => 0
  | _ => 0

abbrev bufTy : (tb : Table) → Fin (tcTables nBuf tb) → BufTy
  | .hbm, ⟨0, _⟩ => ⟨S8x4096x2048, .f32⟩
  | .hbm, ⟨1, _⟩ => ⟨S8x2048, .f32⟩
  | .hbm, ⟨2, _⟩ => ⟨S8x2048, .f32⟩
  | .hbm, ⟨3, _⟩ => ⟨S1x2048, .f32⟩
  | .hbm, ⟨4, _⟩ => ⟨S1x2048x5120, .f32⟩
  | .hbm, ⟨5, _⟩ => ⟨S32768x2048, .f32⟩
  | .hbm, ⟨6, _⟩ => ⟨S2048, .f32⟩
  | .hbm, ⟨7, _⟩ => ⟨S8x1x2048, .f32⟩
  | .hbm, ⟨8, _⟩ => ⟨S8x1x2048, .f32⟩
  | .hbm, ⟨9, _⟩ => ⟨S2048x5120, .f32⟩
  | .hbm, ⟨10, _⟩ => ⟨S2048x5120, .bf16⟩
  | .hbm, ⟨11, _⟩ => ⟨S1x2048, .f32⟩
  | .hbm, ⟨12, _⟩ => ⟨S32768x1024, .f32⟩
  | .hbm, ⟨13, _⟩ => ⟨S32768x1024, .bf16⟩
  | .hbm, ⟨14, _⟩ => ⟨S32768x1024, .f32⟩
  | .hbm, ⟨15, _⟩ => ⟨S32768x1024, .f32⟩
  | .hbm, ⟨16, _⟩ => ⟨S8x4096x1024, .f32⟩
  | .hbm, ⟨17, _⟩ => ⟨S8x4096x1024, .f32⟩
  | .hbm, ⟨18, _⟩ => ⟨S8x4096x1024, .f32⟩
  | .hbm, ⟨19, _⟩ => ⟨S8x4096x1024, .bf16⟩
  | .hbm, ⟨20, _⟩ => ⟨S8x30x1024, .f32⟩
  | .hbm, ⟨21, _⟩ => ⟨S1x8x30x1024, .f32⟩
  | .hbm, ⟨22, _⟩ => ⟨S8x512x1024, .f32⟩
  | .hbm, ⟨23, _⟩ => ⟨S8x512x16x64, .f32⟩
  | .hbm, ⟨24, _⟩ => ⟨S1x8x512x16x64, .f32⟩
  | .hbm, ⟨25, _⟩ => ⟨S8x512x1024, .f32⟩
  | .hbm, ⟨26, _⟩ => ⟨S8x512x16x64, .f32⟩
  | .hbm, ⟨27, _⟩ => ⟨S1x8x512x16x64, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S512x256, .f32⟩
  | .local _ .vmem, ⟨18, _⟩ => ⟨S512x256, .f32⟩
  | .local _ .vmem, ⟨19, _⟩ => ⟨S512x256, .bf16⟩
  | .local _ .vmem, ⟨20, _⟩ => ⟨S512x256, .bf16⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .vmem, ⟨24, _⟩ => ⟨S512x256, .f32⟩
  | .local _ .vmem, ⟨25, _⟩ => ⟨S512x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![64, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== InpRefIdeal.lean ====
abbrev S8x4096x2048 : Shape := ⟨3, ![8, 4096, 2048]⟩
abbrev S8x2048 : Shape := ⟨2, ![8, 2048]⟩
abbrev S1x2048 : Shape := ⟨2, ![1, 2048]⟩
abbrev S1x2048x5120 : Shape := ⟨3, ![1, 2048, 5120]⟩
abbrev S_ : Shape := ⟨0, ![]⟩
abbrev S8x4096 : Shape := ⟨2, ![8, 4096]⟩
abbrev S8x4096x1 : Shape := ⟨3, ![8, 4096, 1]⟩
abbrev S2048 : Shape := ⟨1, ![2048]⟩
abbrev S1x1x2048 : Shape := ⟨3, ![1, 1, 2048]⟩
abbrev S8x1x2048 : Shape := ⟨3, ![8, 1, 2048]⟩
abbrev S2048x5120 : Shape := ⟨2, ![2048, 5120]⟩
abbrev S8x4096x5120 : Shape := ⟨3, ![8, 4096, 5120]⟩
abbrev S8x4096x1024 : Shape := ⟨3, ![8, 4096, 1024]⟩
abbrev S8x4096x16x64 : Shape := ⟨4, ![8, 4096, 16, 64]⟩
abbrev S8x30x1024 : Shape := ⟨3, ![8, 30, 1024]⟩
abbrev S1x8x30x1024 : Shape := ⟨4, ![1, 8, 30, 1024]⟩
abbrev S8x512x16x64 : Shape := ⟨4, ![8, 512, 16, 64]⟩
abbrev S1x8x512x16x64 : Shape := ⟨5, ![1, 8, 512, 16, 64]⟩

abbrev nBuf : Space → Nat
  | .hbm => 56
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S8x2048, .f32⟩
  | .hbm, ⟨2, _⟩ => ⟨S8x2048, .f32⟩
  | .hbm, ⟨3, _⟩ => ⟨S1x2048, .f32⟩
  | .hbm, ⟨4, _⟩ => ⟨S1x2048x5120, .f32⟩
  | .hbm, ⟨5, _⟩ => ⟨S8x4096x2048, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x2048, .f32⟩
  | .hbm, ⟨17, _⟩ => ⟨S8x4096x2048, .f32⟩
  | .hbm, ⟨18, _⟩ => ⟨S2048, .f32⟩
  | .hbm, ⟨19, _⟩ => ⟨S1x1x2048, .f32⟩
  | .hbm, ⟨20, _⟩ => ⟨S8x4096x2048, .f32⟩
  | .hbm, ⟨21, _⟩ => ⟨S8x4096x2048, .f32⟩
  | .hbm, ⟨22, _⟩ => ⟨S8x1x2048, .f32⟩
  | .hbm, ⟨23, _⟩ => ⟨S_, .f32⟩
  | .hbm, ⟨24, _⟩ => ⟨S8x1x2048, .f32⟩
  | .hbm, ⟨25, _⟩ => ⟨S8x1x2048, .f32⟩
  | .hbm, ⟨26, _⟩ => ⟨S8x4096x2048, .f32⟩
  | .hbm, ⟨27, _⟩ => ⟨S8x4096x2048, .f32⟩
  | .hbm, ⟨28, _⟩ => ⟨S8x1x2048, .f32⟩
  | .hbm, ⟨29, _⟩ => ⟨S8x4096x2048, .f32⟩
  | .hbm, ⟨30, _⟩ => ⟨S8x4096x2048, .f32⟩
  | .hbm, ⟨31, _⟩ => ⟨S2048x5120, .f32⟩
  | .hbm, ⟨32, _⟩ => ⟨S8x4096x5120, .f32⟩
  | .hbm, ⟨33, _⟩ => ⟨S8x4096x1024, .f32⟩
  | .hbm, ⟨34, _⟩ => ⟨S8x4096x1024, .f32⟩
  | .hbm, ⟨35, _⟩ => ⟨S8x4096x1024, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S8x4096x1024, .f32⟩
  | .hbm, ⟨40, _⟩ => ⟨S_, .f32⟩
  | .hbm, ⟨41, _⟩ => ⟨S8x4096x1024, .f32⟩
  | .hbm, ⟨42, _⟩ => ⟨S8x4096x1024, .f32⟩
  | .hbm, ⟨43, _⟩ => ⟨S_, .f32⟩
  | .hbm, ⟨44, _⟩ => ⟨S8x4096x1024, .f32⟩
  | .hbm, ⟨45, _⟩ => ⟨S8x4096x1024, .f32⟩
  | .hbm, ⟨46, _⟩ => ⟨S8x4096x1024, .f32⟩
  | .hbm, ⟨47, _⟩ => ⟨S8x4096x16x64, .f32⟩
  | .hbm, ⟨48, _⟩ => ⟨S8x4096x16x64, .f32⟩
  | .hbm, ⟨49, _⟩ => ⟨S8x4096x1024, .bf16⟩
  | .hbm, ⟨50, _⟩ => ⟨S8x30x1024, .f32⟩
  | .hbm, ⟨51, _⟩ => ⟨S1x8x30x1024, .f32⟩
  | .hbm, ⟨52, _⟩ => ⟨S8x512x16x64, .f32⟩
  | .hbm, ⟨53, _⟩ => ⟨S1x8x512x16x64, .f32⟩
  | .hbm, ⟨54, _⟩ => ⟨S8x512x16x64, .f32⟩
  | .hbm, ⟨55, _⟩ => ⟨S1x8x512x16x64, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩

abbrev nD : Nat := 1
abbrev τ : Topo := Topo.v7x

variable {F : FTy → Type} [FloatOps F]
-- ==== Ins.lean ====
abbrev S16x16x2048 : Shape := ⟨3, ![16, 16, 2048]⟩
abbrev S16x2048 : Shape := ⟨2, ![16, 2048]⟩
abbrev S1x16x30x1024 : Shape := ⟨4, ![1, 16, 30, 1024]⟩
abbrev S1x2048 : Shape := ⟨2, ![1, 2048]⟩
abbrev S1x2048x5120 : Shape := ⟨3, ![1, 2048, 5120]⟩
abbrev S256x2048 : Shape := ⟨2, ![256, 2048]⟩
abbrev S1x256x2048 : Shape := ⟨3, ![1, 256, 2048]⟩
abbrev S2048 : Shape := ⟨1, ![2048]⟩
abbrev S2048x5120 : Shape := ⟨2, ![2048, 5120]⟩
abbrev S256x1024 : Shape := ⟨2, ![256, 1024]⟩
abbrev S2048x256 : Shape := ⟨2, ![2048, 256]⟩
abbrev S256x256 : Shape := ⟨2, ![256, 256]⟩
abbrev S256 : Shape := ⟨1, ![256]⟩
abbrev S256x1 : Shape := ⟨2, ![256, 1]⟩
abbrev S16x16x1024 : Shape := ⟨3, ![16, 16, 1024]⟩
abbrev S16x30x1024 : Shape := ⟨3, ![16, 30, 1024]⟩
abbrev S16x46x1024 : Shape := ⟨3, ![16, 46, 1024]⟩
abbrev S16x16x16x64 : Shape := ⟨4, ![16, 16, 16, 64]⟩
abbrev S1x16x16x16x64 : Shape := ⟨5, ![1, 16, 16, 16, 64]⟩

abbrev nBuf : Space → Nat
  | .hbm => 31
  | .vmem => 23
  | .smem => 0
  | _ => 0

abbrev bufTy : (tb : Table) → Fin (tcTables nBuf tb) → BufTy
  | .hbm, ⟨0, _⟩ => ⟨S16x16x2048, .f32⟩
  | .hbm, ⟨1, _⟩ => ⟨S16x2048, .f32⟩
  | .hbm, ⟨2, _⟩ => ⟨S16x2048, .f32⟩
  | .hbm, ⟨3, _⟩ => ⟨S1x16x30x1024, .f32⟩
  | .hbm, ⟨4, _⟩ => ⟨S1x2048, .f32⟩
  | .hbm, ⟨5, _⟩ => ⟨S1x2048x5120, .f32⟩
  | .hbm, ⟨6, _⟩ => ⟨S16x16x2048, .f32⟩
  | .hbm, ⟨7, _⟩ => ⟨S256x2048, .f32⟩
  | .hbm, ⟨8, _⟩ => ⟨S1x256x2048, .f32⟩
  | .hbm, ⟨9, _⟩ => ⟨S16x16x2048, .f32⟩
  | .hbm, ⟨10, _⟩ => ⟨S256x2048, .f32⟩
  | .hbm, ⟨11, _⟩ => ⟨S1x256x2048, .f32⟩
  | .hbm, ⟨12, _⟩ => ⟨S256x2048, .f32⟩
  | .hbm, ⟨13, _⟩ => ⟨S2048, .f32⟩
  | .hbm, ⟨14, _⟩ => ⟨S2048x5120, .f32⟩
  | .hbm, ⟨15, _⟩ => ⟨S2048x5120, .bf16⟩
  | .hbm, ⟨16, _⟩ => ⟨S1x2048, .f32⟩
  | .hbm, ⟨17, _⟩ => ⟨S256x1024, .f32⟩
  | .hbm, ⟨18, _⟩ => ⟨S256x1024, .bf16⟩
  | .hbm, ⟨19, _⟩ => ⟨S256x1024, .f32⟩
  | .hbm, ⟨20, _⟩ => ⟨S256x1024, .f32⟩
  | .hbm, ⟨21, _⟩ => ⟨S16x16x1024, .f32⟩
  | .hbm, ⟨22, _⟩ => ⟨S16x16x1024, .bf16⟩
  | .hbm, ⟨23, _⟩ => ⟨S16x30x1024, .f32⟩
  | .hbm, ⟨24, _⟩ => ⟨S16x46x1024, .f32⟩
  | .hbm, ⟨25, _⟩ => ⟨S16x30x1024, .f32⟩
  | .hbm, ⟨26, _⟩ => ⟨S1x16x30x1024, .f32⟩
  | .hbm, ⟨27, _⟩ => ⟨S16x16x16x64, .f32⟩
  | .hbm, ⟨28, _⟩ => ⟨S1x16x16x16x64, .f32⟩
  | .hbm, ⟨29, _⟩ => ⟨S16x16x16x64, .f32⟩
  | .hbm, ⟨30, _⟩ => ⟨S1x16x16x16x64, .f32⟩
  | .local _ .vmem, ⟨0, _⟩ => ⟨S256x2048, .f32⟩
  | .local _ .vmem, ⟨1, _⟩ => ⟨S1x2048, .f32⟩
  | .local _ .vmem, ⟨2, _⟩ => ⟨S1x256x2048, .f32⟩
  | .local _ .vmem, ⟨3, _⟩ => ⟨S1x256x2048, .f32⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S256x256, .f32⟩
  | .local _ .vmem, ⟨15, _⟩ => ⟨S256x256, .f32⟩
  | .local _ .vmem, ⟨16, _⟩ => ⟨S256x256, .bf16⟩
  | .local _ .vmem, ⟨17, _⟩ => ⟨S256x256, .bf16⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | .local _ .vmem, ⟨22, _⟩ => ⟨S256x2048, .bf16⟩
  | _, _ => ⟨S16x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v11_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== InsRefIdeal.lean ====
abbrev S16x16x2048 : Shape := ⟨3, ![16, 16, 2048]⟩
abbrev S16x2048 : Shape := ⟨2, ![16, 2048]⟩
abbrev S1x16x30x1024 : Shape := ⟨4, ![1, 16, 30, 1024]⟩
abbrev S1x2048 : Shape := ⟨2, ![1, 2048]⟩
abbrev S1x2048x5120 : Shape := ⟨3, ![1, 2048, 5120]⟩
abbrev S_ : Shape := ⟨0, ![]⟩
abbrev S16x16 : Shape := ⟨2, ![16, 16]⟩
abbrev S16x16x1 : Shape := ⟨3, ![16, 16, 1]⟩
abbrev S2048 : Shape := ⟨1, ![2048]⟩
abbrev S1x1x2048 : Shape := ⟨3, ![1, 1, 2048]⟩
abbrev S16x1x2048 : Shape := ⟨3, ![16, 1, 2048]⟩
abbrev S2048x5120 : Shape := ⟨2, ![2048, 5120]⟩
abbrev S16x16x5120 : Shape := ⟨3, ![16, 16, 5120]⟩
abbrev S16x16x1024 : Shape := ⟨3, ![16, 16, 1024]⟩
abbrev S16x30x1024 : Shape := ⟨3, ![16, 30, 1024]⟩
abbrev S16x46x1024 : Shape := ⟨3, ![16, 46, 1024]⟩
abbrev S16x16x16x64 : Shape := ⟨4, ![16, 16, 16, 64]⟩
abbrev S1x16x16x16x64 : Shape := ⟨5, ![1, 16, 16, 16, 64]⟩

abbrev nBuf : Space → Nat
  | .hbm => 57
  | .vmem => 0
  | .smem => 0
  | _ => 0

abbrev bufTy : (tb : Table) → Fin (tcTables nBuf tb) → BufTy
  | .hbm, ⟨0, _⟩ => ⟨S16x16x2048, .f32⟩
  | .hbm, ⟨1, _⟩ => ⟨S16x2048, .f32⟩
  | .hbm, ⟨2, _⟩ => ⟨S16x2048, .f32⟩
  | .hbm, ⟨3, _⟩ => ⟨S1x16x30x1024, .f32⟩
  | .hbm, ⟨4, _⟩ => ⟨S1x2048, .f32⟩
  | .hbm, ⟨5, _⟩ => ⟨S1x2048x5120, .f32⟩
  | .hbm, ⟨6, _⟩ => ⟨S16x16x2048, .f32⟩
  | .hbm, ⟨7, _⟩ => ⟨S_, .f32⟩
  | .hbm, ⟨8, _⟩ => ⟨S16x16, .f32⟩
  | .hbm, ⟨9, _⟩ => ⟨S16x16x1, .f32⟩
  | .hbm, ⟨10, _⟩ => ⟨S_, .f32⟩
  | .hbm, ⟨11, _⟩ => ⟨S16x16x1, .f32⟩
  | .hbm, ⟨12, _⟩ => ⟨S16x16x1, .f32⟩
  | .hbm, ⟨13, _⟩ => ⟨S_, .f32⟩
  | .hbm, ⟨14, _⟩ => ⟨S16x16x1, .f32⟩
  | .hbm, ⟨15, _⟩ => ⟨S16x16x1, .f32⟩
  | .hbm, ⟨16, _⟩ => ⟨S16x16x1, .f32⟩
  | .hbm, ⟨17, _⟩ => ⟨S16x16x2048, .f32⟩
  | .hbm, ⟨18, _⟩ => ⟨S16x16x2048, .f32⟩
  | .hbm, ⟨19, _⟩ => ⟨S2048, .f32⟩
  | .hbm, ⟨20, _⟩ => ⟨S1x1x2048, .f32⟩
  | .hbm, ⟨21, _⟩ => ⟨S16x16x2048, .f32⟩
  | .hbm, ⟨22, _⟩ => ⟨S16x16x2048, .f32⟩
  | .hbm, ⟨23, _⟩ => ⟨S16x1x2048, .f32⟩
  | .hbm, ⟨24, _⟩ => ⟨S_, .f32⟩
  | .hbm, ⟨25, _⟩ => ⟨S16x1x2048, .f32⟩
  | .hbm, ⟨26, _⟩ => ⟨S16x1x2048, .f32⟩
  | .hbm, ⟨27, _⟩ => ⟨S16x16x2048, .f32⟩
  | .hbm, ⟨28, _⟩ => ⟨S16x16x2048, .f32⟩
  | .hbm, ⟨29, _⟩ => ⟨S16x1x2048, .f32⟩
  | .hbm, ⟨30, _⟩ => ⟨S16x16x2048, .f32⟩
  | .hbm, ⟨31, _⟩ => ⟨S16x16x2048, .f32⟩
  | .hbm, ⟨32, _⟩ => ⟨S2048x5120, .f32⟩
  | .hbm, ⟨33, _⟩ => ⟨S16x16x5120, .f32⟩
  | .hbm, ⟨34, _⟩ => ⟨S16x16x1024, .f32⟩
  | .hbm, ⟨35, _⟩ => ⟨S16x16x1024, .f32⟩
  | .hbm, ⟨36, _⟩ => ⟨S16x16x1024, .f32⟩
  | .hbm, ⟨37, _⟩ => ⟨S16x16x1024, .f32⟩
  | .hbm, ⟨38, _⟩ => ⟨S16x16x1024, .f32⟩
  | .hbm, ⟨39, _⟩ => ⟨S16x16x1024, .f32⟩
  | .hbm, ⟨40, _⟩ => ⟨S16x16x1024, .f32⟩
  | .hbm, ⟨41, _⟩ => ⟨S_, .f32⟩
  | .hbm, ⟨42, _⟩ => ⟨S16x16x1024, .f32⟩
  | .hbm, ⟨43, _⟩ => ⟨S16x16x1024, .f32⟩
  | .hbm, ⟨44, _⟩ => ⟨S_, .f32⟩
  | .hbm, ⟨45, _⟩ => ⟨S16x16x1024, .f32⟩
  | .hbm, ⟨46, _⟩ => ⟨S16x16x1024, .f32⟩
  | .hbm, ⟨47, _⟩ => ⟨S16x16x1024, .f32⟩
  | .hbm, ⟨48, _⟩ => ⟨S16x16x1024, .bf16⟩
  | .hbm, ⟨49, _⟩ => ⟨S16x30x1024, .f32⟩
  | .hbm, ⟨50, _⟩ => ⟨S16x46x1024, .f32⟩
  | .hbm, ⟨51, _⟩ => ⟨S16x30x1024, .f32⟩
  | .hbm, ⟨52, _⟩ => ⟨S1x16x30x1024, .f32⟩
  | .hbm, ⟨53, _⟩ => ⟨S16x16x16x64, .f32⟩
  | .hbm, ⟨54, _⟩ => ⟨S1x16x16x16x64, .f32⟩
  | .hbm, ⟨55, _⟩ => ⟨S16x16x16x64, .f32⟩
  | .hbm, ⟨56, _⟩ => ⟨S1x16x16x16x64, .f32⟩
  | _, _ => ⟨S16x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩

abbrev nD : Nat := 1
abbrev τ : Topo := Topo.v7x

variable {F : FTy → Type} [FloatOps F]
-- ==== Mod.lean ====
abbrev S8x2048 : Shape := ⟨2, ![8, 2048]⟩
abbrev S16x2048 : Shape := ⟨2, ![16, 2048]⟩
abbrev S1x2048x12288 : Shape := ⟨3, ![1, 2048, 12288]⟩
abbrev S1x12288 : Shape := ⟨2, ![1, 12288]⟩
abbrev S24x2048 : Shape := ⟨2, ![24, 2048]⟩
abbrev S2048x12288 : Shape := ⟨2, ![2048, 12288]⟩
abbrev S12288 : Shape := ⟨1, ![12288]⟩
abbrev S24x12288 : Shape := ⟨2, ![24, 12288]⟩
abbrev S2048x1536 : Shape := ⟨2, ![2048, 1536]⟩
abbrev S1x1536 : Shape := ⟨2, ![1, 1536]⟩
abbrev S24x1536 : Shape := ⟨2, ![24, 1536]⟩
abbrev S8x12288 : Shape := ⟨2, ![8, 12288]⟩
abbrev S16x12288 : Shape := ⟨2, ![16, 12288]⟩

abbrev nBuf : Space → Nat
  | .hbm => 11
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S16x2048, .f32⟩
  | .hbm, ⟨2, _⟩ => ⟨S1x2048x12288, .f32⟩
  | .hbm, ⟨3, _⟩ => ⟨S1x12288, .f32⟩
  | .hbm, ⟨4, _⟩ => ⟨S24x2048, .f32⟩
  | .hbm, ⟨5, _⟩ => ⟨S2048x12288, .f32⟩
  | .hbm, ⟨6, _⟩ => ⟨S12288, .f32⟩
  | .hbm, ⟨7, _⟩ => ⟨S1x12288, .f32⟩
  | .hbm, ⟨8, _⟩ => ⟨S24x12288, .f32⟩
  | .hbm, ⟨9, _⟩ => ⟨S8x12288, .f32⟩
  | .hbm, ⟨10, _⟩ => ⟨S16x12288, .f32⟩
  | .local _ .vmem, ⟨0, _⟩ => ⟨S24x2048, .f32⟩
  | .local _ .vmem, ⟨1, _⟩ => ⟨S2048x1536, .f32⟩
  | .local _ .vmem, ⟨2, _⟩ => ⟨S2048x1536, .f32⟩
  | .local _ .vmem, ⟨3, _⟩ => ⟨S1x1536, .f32⟩
  | .local _ .vmem, ⟨4, _⟩ => ⟨S1x1536, .f32⟩
  | .local _ .vmem, ⟨5, _⟩ => ⟨S24x1536, .f32⟩
  | .local _ .vmem, ⟨6, _⟩ => ⟨S24x1536, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S24x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S24x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModRefIdeal.lean ====
abbrev S8x2048 : Shape := ⟨2, ![8, 2048]⟩
abbrev S16x2048 : Shape := ⟨2, ![16, 2048]⟩
abbrev S1x2048x12288 : Shape := ⟨3, ![1, 2048, 12288]⟩
abbrev S1x12288 : Shape := ⟨2, ![1, 12288]⟩
abbrev S_ : Shape := ⟨0, ![]⟩
abbrev S2048x12288 : Shape := ⟨2, ![2048, 12288]⟩
abbrev S8x12288 : Shape := ⟨2, ![8, 12288]⟩
abbrev S12288 : Shape := ⟨1, ![12288]⟩
abbrev S16x12288 : Shape := ⟨2, ![16, 12288]⟩

abbrev nBuf : Space → Nat
  | .hbm => 34
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S16x2048, .f32⟩
  | .hbm, ⟨2, _⟩ => ⟨S1x2048x12288, .f32⟩
  | .hbm, ⟨3, _⟩ => ⟨S1x12288, .f32⟩
  | .hbm, ⟨4, _⟩ => ⟨S8x2048, .f32⟩
  | .hbm, ⟨5, _⟩ => ⟨S8x2048, .f32⟩
  | .hbm, ⟨6, _⟩ => ⟨S_, .f32⟩
  | .hbm, ⟨7, _⟩ => ⟨S8x2048, .f32⟩
  | .hbm, ⟨8, _⟩ => ⟨S8x2048, .f32⟩
  | .hbm, ⟨9, _⟩ => ⟨S_, .f32⟩
  | .hbm, ⟨10, _⟩ => ⟨S8x2048, .f32⟩
  | .hbm, ⟨11, _⟩ => ⟨S8x2048, .f32⟩
  | .hbm, ⟨12, _⟩ => ⟨S8x2048, .f32⟩
  | .hbm, ⟨13, _⟩ => ⟨S2048x12288, .f32⟩
  | .hbm, ⟨14, _⟩ => ⟨S8x12288, .f32⟩
  | .hbm, ⟨15, _⟩ => ⟨S12288, .f32⟩
  | .hbm, ⟨16, _⟩ => ⟨S1x12288, .f32⟩
  | .hbm, ⟨17, _⟩ => ⟨S8x12288, .f32⟩
  | .hbm, ⟨18, _⟩ => ⟨S8x12288, .f32⟩
  | .hbm, ⟨19, _⟩ => ⟨S16x2048, .f32⟩
  | .hbm, ⟨20, _⟩ => ⟨S16x2048, .f32⟩
  | .hbm, ⟨21, _⟩ => ⟨S_, .f32⟩
  | .hbm, ⟨22, _⟩ => ⟨S16x2048, .f32⟩
  | .hbm, ⟨23, _⟩ => ⟨S16x2048, .f32⟩
  | .hbm, ⟨24, _⟩ => ⟨S_, .f32⟩
  | .hbm, ⟨25, _⟩ => ⟨S16x2048, .f32⟩
  | .hbm, ⟨26, _⟩ => ⟨S16x2048, .f32⟩
  | .hbm, ⟨27, _⟩ => ⟨S16x2048, .f32⟩
  | .hbm, ⟨28, _⟩ => ⟨S2048x12288, .f32⟩
  | .hbm, ⟨29, _⟩ => ⟨S16x12288, .f32⟩
  | .hbm, ⟨30, _⟩ => ⟨S12288, .f32⟩
  | .hbm, ⟨31, _⟩ => ⟨S1x12288, .f32⟩
  | .hbm, ⟨32, _⟩ => ⟨S16x12288, .f32⟩
  | .hbm, ⟨33, _⟩ => ⟨S16x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_call1_v0 : Ref sig .tc := ⟨.hbm, 19, rfl⟩
abbrev main_call1_v1 : Ref sig .tc := ⟨.hbm, 20, rfl⟩
abbrev main_call1_cst : Ref sig .tc := ⟨.hbm, 21, rfl⟩
abbrev main_call1_v2 : Ref sig .tc := ⟨.hbm, 22, rfl⟩
abbrev main_call1_v3 : Ref sig .tc := ⟨.hbm, 23, rfl⟩
abbrev main_call1_cst_0 : Ref sig .tc := ⟨.hbm, 24, rfl⟩
abbrev main_call1_v4 : Ref sig .tc := ⟨.hbm, 25, rfl⟩
abbrev main_call1_v5 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩

abbrev nD : Nat := 1
abbrev τ : Topo := Topo.v7x

variable {F : FTy → Type} [FloatOps F]
-- ==== Mid.lean ====
abbrev S8x4096x1024 : Shape := ⟨3, ![8, 4096, 1024]⟩
abbrev S8x4096x2048 : Shape := ⟨3, ![8, 4096, 2048]⟩
abbrev S8x2048 : Shape := ⟨2, ![8, 2048]⟩
abbrev S1x2048 : Shape := ⟨2, ![1, 2048]⟩
abbrev S1x2048x2048 : Shape := ⟨3, ![1, 2048, 2048]⟩
abbrev S32768x1024 : Shape := ⟨2, ![32768, 1024]⟩
abbrev S32768x2048 : Shape := ⟨2, ![32768, 2048]⟩
abbrev S2048x2048 : Shape := ⟨2, ![2048, 2048]⟩
abbrev S8x1x2048 : Shape := ⟨3, ![8, 1, 2048]⟩
abbrev S2048 : Shape := ⟨1, ![2048]⟩
abbrev S2048x32768 : Shape := ⟨2, ![2048, 32768]⟩
abbrev S512x1024 : Shape := ⟨2, ![512, 1024]⟩
abbrev S512x2048 : Shape := ⟨2, ![512, 2048]⟩
abbrev S1024x2048 : Shape := ⟨2, ![1024, 2048]⟩
abbrev S1x1x2048 : Shape := ⟨3, ![1, 1, 2048]⟩
abbrev S2048x512 : Shape := ⟨2, ![2048, 512]⟩
abbrev S512 : Shape := ⟨1, ![512]⟩
abbrev S512x1 : Shape := ⟨2, ![512, 1]⟩

abbrev nBuf : Space → Nat
  | .hbm => 20
  | .vmem => 19
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .bf16⟩
  | .hbm, ⟨2, _⟩ => ⟨S8x4096x2048, .f32⟩
  | .hbm, ⟨3, _⟩ => ⟨S8x2048, .f32⟩
  | .hbm, ⟨4, _⟩ => ⟨S8x2048, .f32⟩
  | .hbm, ⟨5, _⟩ => ⟨S8x2048, .f32⟩
  | .hbm, ⟨6, _⟩ => ⟨S1x2048, .f32⟩
  | .hbm, ⟨7, _⟩ => ⟨S1x2048x2048, .f32⟩
  | .hbm, ⟨8, _⟩ => ⟨S32768x1024, .bf16⟩
  | .hbm, ⟨9, _⟩ => ⟨S32768x1024, .bf16⟩
  | .hbm, ⟨10, _⟩ => ⟨S32768x2048, .f32⟩
  | .hbm, ⟨11, _⟩ => ⟨S2048x2048, .f32⟩
  | .hbm, ⟨12, _⟩ => ⟨S2048x2048, .bf16⟩
  | .hbm, ⟨13, _⟩ => ⟨S8x1x2048, .f32⟩
  | .hbm, ⟨14, _⟩ => ⟨S8x1x2048, .f32⟩
  | .hbm, ⟨15, _⟩ => ⟨S8x1x2048, .f32⟩
  | .hbm, ⟨16, _⟩ => ⟨S2048, .f32⟩
  | .hbm, ⟨17, _⟩ => ⟨S1x2048, .f32⟩
  | .hbm, ⟨18, _⟩ => ⟨S32768x2048, .f32⟩
  | .hbm, ⟨19, _⟩ => ⟨S2048x32768, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .f32⟩
  | .local _ .vmem, ⟨5, _⟩ => ⟨S512x2048, .f32⟩
  | .local _ .vmem, ⟨6, _⟩ => ⟨S1024x2048, .bf16⟩
  | .local _ .vmem, ⟨7, _⟩ => ⟨S1024x2048, .bf16⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S1x2048, .f32⟩
  | .local _ .vmem, ⟨15, _⟩ => ⟨S512x2048, .f32⟩
  | .local _ .vmem, ⟨16, _⟩ => ⟨S512x2048, .f32⟩
  | .local _ .vmem, ⟨17, _⟩ => ⟨S2048x512, .bf16⟩
  | .local _ .vmem, ⟨18, _⟩ => ⟨S2048x512, .bf16⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MidRefIdeal.lean ====
abbrev S8x4096x1024 : Shape := ⟨3, ![8, 4096, 1024]⟩
abbrev S8x4096x2048 : Shape := ⟨3, ![8, 4096, 2048]⟩
abbrev S8x2048 : Shape := ⟨2, ![8, 2048]⟩
abbrev S1x2048 : Shape := ⟨2, ![1, 2048]⟩
abbrev S1x2048x2048 : Shape := ⟨3, ![1, 2048, 2048]⟩
abbrev S8x1x2048 : Shape := ⟨3, ![8, 1, 2048]⟩
abbrev S2048x2048 : Shape := ⟨2, ![2048, 2048]⟩
abbrev S_ : Shape := ⟨0, ![]⟩
abbrev S8x4096 : Shape := ⟨2, ![8, 4096]⟩
abbrev S8x4096x1 : Shape := ⟨3, ![8, 4096, 1]⟩
abbrev S2048 : Shape := ⟨1, ![2048]⟩
abbrev S1x1x2048 : Shape := ⟨3, ![1, 1, 2048]⟩
abbrev S32768x2048 : Shape := ⟨2, ![32768, 2048]⟩
abbrev S2048x32768 : Shape := ⟨2, ![2048, 32768]⟩

abbrev nBuf : Space → Nat
  | .hbm => 46
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .bf16⟩
  | .hbm, ⟨2, _⟩ => ⟨S8x4096x2048, .f32⟩
  | .hbm, ⟨3, _⟩ => ⟨S8x2048, .f32⟩
  | .hbm, ⟨4, _⟩ => ⟨S8x2048, .f32⟩
  | .hbm, ⟨5, _⟩ => ⟨S8x2048, .f32⟩
  | .hbm, ⟨6, _⟩ => ⟨S1x2048, .f32⟩
  | .hbm, ⟨7, _⟩ => ⟨S1x2048x2048, .f32⟩
  | .hbm, ⟨8, _⟩ => ⟨S8x1x2048, .f32⟩
  | .hbm, ⟨9, _⟩ => ⟨S8x4096x2048, .bf16⟩
  | .hbm, ⟨10, _⟩ => ⟨S8x4096x2048, .f32⟩
  | .hbm, ⟨11, _⟩ => ⟨S2048x2048, .f32⟩
  | .hbm, ⟨12, _⟩ => ⟨S8x4096x2048, .f32⟩
  | .hbm, ⟨13, _⟩ => ⟨S8x4096x2048, .f32⟩
  | .hbm, ⟨14, _⟩ => ⟨S8x4096x2048, .f32⟩
  | .hbm, ⟨15, _⟩ => ⟨S8x4096x2048, .f32⟩
  | .hbm, ⟨16, _⟩ => ⟨S8x4096x2048, .f32⟩
  | .hbm, ⟨17, _⟩ => ⟨S_, .f32⟩
  | .hbm, ⟨18, _⟩ => ⟨S8x4096, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S_, .f32⟩
  | .hbm, ⟨24, _⟩ => ⟨S8x4096x1, .f32⟩
  | .hbm, ⟨25, _⟩ => ⟨S8x4096x1, .f32⟩
  | .hbm, ⟨26, _⟩ => ⟨S8x4096x1, .f32⟩
  | .hbm, ⟨27, _⟩ => ⟨S8x4096x2048, .f32⟩
  | .hbm, ⟨28, _⟩ => ⟨S8x4096x2048, .f32⟩
  | .hbm, ⟨29, _⟩ => ⟨S2048, .f32⟩
  | .hbm, ⟨30, _⟩ => ⟨S1x1x2048, .f32⟩
  | .hbm, ⟨31, _⟩ => ⟨S8x4096x2048, .f32⟩
  | .hbm, ⟨32, _⟩ => ⟨S8x4096x2048, .f32⟩
  | .hbm, ⟨33, _⟩ => ⟨S8x1x2048, .f32⟩
  | .hbm, ⟨34, _⟩ => ⟨S_, .f32⟩
  | .hbm, ⟨35, _⟩ => ⟨S8x1x2048, .f32⟩
  | .hbm, ⟨36, _⟩ => ⟨S8x1x2048, .f32⟩
  | .hbm, ⟨37, _⟩ => ⟨S8x4096x2048, .f32⟩
  | .hbm, ⟨38, _⟩ => ⟨S8x4096x2048, .f32⟩
  | .hbm, ⟨39, _⟩ => ⟨S8x1x2048, .f32⟩
  | .hbm, ⟨40, _⟩ => ⟨S8x4096x2048, .f32⟩
  | .hbm, ⟨41, _⟩ => ⟨S8x4096x2048, .f32⟩
  | .hbm, ⟨42, _⟩ => ⟨S32768x2048, .f32⟩
  | .hbm, ⟨43, _⟩ => ⟨S32768x2048, .f32⟩
  | .hbm, ⟨44, _⟩ => ⟨S2048x32768, .f32⟩
  | .hbm, ⟨45, _⟩ => ⟨S2048x32768, .bf16⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== Prep.lean ====
abbrev S2048x32768 : Shape := ⟨2, ![2048, 32768]⟩
abbrev S1x2048x2048 : Shape := ⟨3, ![1, 2048, 2048]⟩
abbrev S1x2x128x128 : Shape := ⟨4, ![1, 2, 128, 128]⟩
abbrev S2048x2048 : Shape := ⟨2, ![2048, 2048]⟩
abbrev S2x128x128 : Shape := ⟨3, ![2, 128, 128]⟩
abbrev S8x128x32768 : Shape := ⟨3, ![8, 128, 32768]⟩
abbrev S2048x512 : Shape := ⟨2, ![2048, 512]⟩
abbrev S8x128x512 : Shape := ⟨3, ![8, 128, 512]⟩
abbrev S128x512 : Shape := ⟨2, ![128, 512]⟩
abbrev S256x512 : Shape := ⟨2, ![256, 512]⟩
abbrev S1x128x128 : Shape := ⟨3, ![1, 128, 128]⟩
abbrev S128x128 : Shape := ⟨2, ![128, 128]⟩
abbrev S512 : Shape := ⟨1, ![512]⟩
abbrev S1x512 : Shape := ⟨2, ![1, 512]⟩
abbrev S16x512 : Shape := ⟨2, ![16, 512]⟩
abbrev S1x128x512 : Shape := ⟨3, ![1, 128, 512]⟩

abbrev nBuf : Space → Nat
  | .hbm => 12
  | .vmem => 13
  | .smem => 0
  | _ => 0

abbrev bufTy : (tb : Table) → Fin (tcTables nBuf tb) → BufTy
  | .hbm, ⟨0, _⟩ => ⟨S2048x32768, .bf16⟩
  | .hbm, ⟨1, _⟩ => ⟨S1x2048x2048, .f32⟩
  | .hbm, ⟨2, _⟩ => ⟨S1x2x128x128, .f32⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S2x128x128, .f32⟩
  | .hbm, ⟨7, _⟩ => ⟨S2x128x128, .bf16⟩
  | .hbm, ⟨8, _⟩ => ⟨S8x128x32768, .bf16⟩
  | .hbm, ⟨9, _⟩ => ⟨S8x128x32768, .bf16⟩
  | .hbm, ⟨10, _⟩ => ⟨S8x128x32768, .f32⟩
  | .hbm, ⟨11, _⟩ => ⟨S8x128x32768, .f32⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S2x128x128, .bf16⟩
  | .local _ .vmem, ⟨4, _⟩ => ⟨S8x128x512, .bf16⟩
  | .local _ .vmem, ⟨5, _⟩ => ⟨S8x128x512, .bf16⟩
  | .local _ .vmem, ⟨6, _⟩ => ⟨S8x128x512, .bf16⟩
  | .local _ .vmem, ⟨7, _⟩ => ⟨S8x128x512, .bf16⟩
  | .local _ .vmem, ⟨8, _⟩ => ⟨S8x128x512, .f32⟩
  | .local _ .vmem, ⟨9, _⟩ => ⟨S8x128x512, .f32⟩
  | .local _ .vmem, ⟨10, _⟩ => ⟨S8x128x512, .f32⟩
  | .local _ .vmem, ⟨11, _⟩ => ⟨S8x128x512, .f32⟩
  | .local _ .vmem, ⟨12, _⟩ => ⟨S2048x512, .f32⟩
  | _, _ => ⟨S2048x32768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v5_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c8_i32 : BitVec 32 := 8#32
  let v9 : BitVec 32 := Scalar.addi c0_i32 c8_i32
  let c1_i32 : BitVec 32 := 1#32
  ⟨c0_i32, v9, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c2_i32 : BitVec 32 := 2#32
  let v10 : BitVec 32 := Scalar.muli arg9 c2_i32
  let c128_i32 : BitVec 32 := 128#32
  let v11 : BitVec 32 := Scalar.muli v10 c128_i32
  v11
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c2_i32 : BitVec 32 := 2#32
  let v10 : BitVec 32 := Scalar.muli arg9 c2_i32
  let c128_i32 : BitVec 32 := 128#32
  let v11 : BitVec 32 := Scalar.muli v10 c128_i32
  let v12 : BitVec 32 := v11
  let v13 : Index := Scalar.indexCast v12
  let c0_6 : Index := 0#32
  ![v13.toNat, 0]
def k0_off2 (k0_t1 : Fin k0_t1_loop.trips) : Fin 2 → Nat :=
  let c0_i32 : BitVec 32 := 0#32
  let c1_i32 : BitVec 32 := 1#32
  let arg9 : BitVec 32 := Scf.iv c0_i32 c1_i32 k0_t1
  let c2_i32 : BitVec 32 := 2#32
  let v10 : BitVec 32 := Scalar.muli arg9 c2_i32
  let c128_i32 : BitVec 32 := 128#32
  let v11 : BitVec 32 := Scalar.muli v10 c128_i32
  let v12 : BitVec 32 := v11
  let c128_i32_7 : BitVec 32 := 128#32
  let v16 : BitVec 32 := Scalar.addi v12 c128_i32_7
  let v17 : Index := Scalar.indexCast v16
  let c0_8 : Index := 0#32
  ![v17.toNat, 0]
def k0_off3 (k0_t1 : Fin k0_t1_loop.trips) : Fin 3 → Nat :=
  let c0_i32 : BitVec 32 := 0#32
  let c1_i32 : BitVec 32 := 1#32
  let arg9 : BitVec 32 := Scf.iv c0_i32 c1_i32 k0_t1
  let v986 : Index := Scalar.indexCast arg9
  let c0_308 : Index := 0#32
  let c0_309 : Index := 0#32
  ![v986.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PrepRefIdeal.lean ====
abbrev S2048x32768 : Shape := ⟨2, ![2048, 32768]⟩
abbrev S1x2048x2048 : Shape := ⟨3, ![1, 2048, 2048]⟩
abbrev S1x2x128x128 : Shape := ⟨4, ![1, 2, 128, 128]⟩
abbrev S32768x2048 : Shape := ⟨2, ![32768, 2048]⟩
abbrev S2048x2048 : Shape := ⟨2, ![2048, 2048]⟩
abbrev S32768x8x2x128 : Shape := ⟨4, ![32768, 8, 2, 128]⟩
abbrev S2x128x128 : Shape := ⟨3, ![2, 128, 128]⟩
abbrev S2x128x32768x8 : Shape := ⟨4, ![2, 128, 32768, 8]⟩
abbrev S32768x8x1x128 : Shape := ⟨4, ![32768, 8, 1, 128]⟩
abbrev S32768x8x128 : Shape := ⟨3, ![32768, 8, 128]⟩
abbrev S128 : Shape := ⟨1, ![128]⟩
abbrev S32768x8x128x1 : Shape := ⟨4, ![32768, 8, 128, 1]⟩
abbrev S32768x8x128x128 : Shape := ⟨4, ![32768, 8, 128, 128]⟩
abbrev S1x128 : Shape := ⟨2, ![1, 128]⟩
abbrev S128x1 : Shape := ⟨2, ![128, 1]⟩
abbrev S128x128 : Shape := ⟨2, ![128, 128]⟩
abbrev S1x1x128x128 : Shape := ⟨4, ![1, 1, 128, 128]⟩
abbrev S_ : Shape := ⟨0, ![]⟩
abbrev S32768x8 : Shape := ⟨2, ![32768, 8]⟩
abbrev S32768x8x1 : Shape := ⟨3, ![32768, 8, 1]⟩
abbrev S8x128x32768 : Shape := ⟨3, ![8, 128, 32768]⟩

abbrev nBuf : Space → Nat
  | .hbm => 48
  | .vmem => 0
  | .smem => 0
  | _ => 0

abbrev bufTy : (tb : Table) → Fin (tcTables nBuf tb) → BufTy
  | .hbm, ⟨0, _⟩ => ⟨S2048x32768, .bf16⟩
  | .hbm, ⟨1, _⟩ => ⟨S1x2048x2048, .f32⟩
  | .hbm, ⟨2, _⟩ => ⟨S1x2x128x128, .f32⟩
  | .hbm, ⟨3, _⟩ => ⟨S2048x32768, .f32⟩
  | .hbm, ⟨4, _⟩ => ⟨S32768x2048, .f32⟩
  | .hbm, ⟨5, _⟩ => ⟨S2048x2048, .f32⟩
  | .hbm, ⟨6, _⟩ => ⟨S32768x2048, .f32⟩
  | .hbm, ⟨7, _⟩ => ⟨S32768x8x2x128, .f32⟩
  | .hbm, ⟨8, _⟩ => ⟨S2x128x128, .f32⟩
  | .hbm, ⟨9, _⟩ => ⟨S2x128x32768x8, .f32⟩
  | .hbm, ⟨10, _⟩ => ⟨S32768x8x2x128, .f32⟩
  | .hbm, ⟨11, _⟩ => ⟨S32768x8x1x128, .f32⟩
  | .hbm, ⟨12, _⟩ => ⟨S32768x8x128, .f32⟩
  | .hbm, ⟨13, _⟩ => ⟨S32768x8x1x128, .f32⟩
  | .hbm, ⟨14, _⟩ => ⟨S32768x8x128, .f32⟩
  | .hbm, ⟨15, _⟩ => ⟨S128, .i32⟩
  | .hbm, ⟨16, _⟩ => ⟨S32768x8x128x1, .f32⟩
  | .hbm, ⟨17, _⟩ => ⟨S32768x8x1x128, .f32⟩
  | .hbm, ⟨18, _⟩ => ⟨S32768x8x128x128, .f32⟩
  | .hbm, ⟨19, _⟩ => ⟨S32768x8x128x128, .f32⟩
  | .hbm, ⟨20, _⟩ => ⟨S32768x8x128x128, .i1⟩
  | .hbm, ⟨21, _⟩ => ⟨S32768x8x128x128, .f32⟩
  | .hbm, ⟨22, _⟩ => ⟨S32768x8x128x128, .f32⟩
  | .hbm, ⟨23, _⟩ => ⟨S32768x8x128x128, .i1⟩
  | .hbm, ⟨24, _⟩ => ⟨S1x128, .i32⟩
  | .hbm, ⟨25, _⟩ => ⟨S128x1, .i32⟩
  | .hbm, ⟨26, _⟩ => ⟨S128x128, .i32⟩
  | .hbm, ⟨27, _⟩ => ⟨S128x128, .i32⟩
  | .hbm, ⟨28, _⟩ => ⟨S128x128, .i1⟩
  | .hbm, ⟨29, _⟩ => ⟨S1x1x128x128, .i1⟩
  | .hbm, ⟨30, _⟩ => ⟨S32768x8x128x128, .i1⟩
  | .hbm, ⟨31, _⟩ => ⟨S32768x8x128x128, .i1⟩
  | .hbm, ⟨32, _⟩ => ⟨S32768x8x128x128, .i1⟩
  | .hbm, ⟨33, _⟩ => ⟨S32768x8x128x128, .f32⟩
  | .hbm, ⟨34, _⟩ => ⟨S_, .f32⟩
  | .hbm, ⟨35, _⟩ => ⟨S32768x8x128, .f32⟩
  | .hbm, ⟨36, _⟩ => ⟨S_, .f32⟩
  | .hbm, ⟨37, _⟩ => ⟨S32768x8x128, .f32⟩
  | .hbm, ⟨38, _⟩ => ⟨S32768x8x128, .f32⟩
  | .hbm, ⟨39, _⟩ => ⟨S_, .f32⟩
  | .hbm, ⟨40, _⟩ => ⟨S32768x8, .f32⟩
  | .hbm, ⟨41, _⟩ => ⟨S32768x8x1, .f32⟩
  | .hbm, ⟨42, _⟩ => ⟨S32768x8x128, .f32⟩
  | .hbm, ⟨43, _⟩ => ⟨S32768x8x128, .f32⟩
  | .hbm, ⟨44, _⟩ => ⟨S32768x8x128, .f32⟩
  | .hbm, ⟨45, _⟩ => ⟨S32768x8x128, .bf16⟩
  | .hbm, ⟨46, _⟩ => ⟨S8x128x32768, .bf16⟩
  | .hbm, ⟨47, _⟩ => ⟨S8x128x32768, .f32⟩
  | _, _ => ⟨S2048x32768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_cst : Ref sig .tc := ⟨.hbm, 34, rfl⟩
abbrev main_v31 : Ref sig .tc := ⟨.hbm, 35, rfl⟩
abbrev main_cst_0 : Ref sig .tc := ⟨.hbm, 36, rfl⟩
abbrev main_v32 : Ref sig .tc := ⟨.hbm, 37, rfl⟩
abbrev main_v33 : Ref sig .tc := ⟨.hbm, 38, rfl⟩
abbrev main_cst_1 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩

abbrev nD : Nat := 1
abbrev τ : Topo := Topo.v7x

variable {F : FTy → Type} [FloatOps F]
-- ==== Mix.lean ====
abbrev S2048x32768 : Shape := ⟨2, ![2048, 32768]⟩
abbrev S1x16384x2048 : Shape := ⟨3, ![1, 16384, 2048]⟩
abbrev S8x128x32768 : Shape := ⟨3, ![8, 128, 32768]⟩
abbrev S32768x2048 : Shape := ⟨2, ![32768, 2048]⟩
abbrev S8x2048 : Shape := ⟨2, ![8, 2048]⟩
abbrev S2048 : Shape := ⟨1, ![2048]⟩
abbrev S16384x2048 : Shape := ⟨2, ![16384, 2048]⟩
abbrev S2048x16384 : Shape := ⟨2, ![2048, 16384]⟩
abbrev S8x1x2048 : Shape := ⟨3, ![8, 1, 2048]⟩
abbrev S1x2048 : Shape := ⟨2, ![1, 2048]⟩
abbrev S2048x512 : Shape := ⟨2, ![2048, 512]⟩
abbrev S512x2048 : Shape := ⟨2, ![512, 2048]⟩
abbrev S8x128x512 : Shape := ⟨3, ![8, 128, 512]⟩
abbrev S1x1x2048 : Shape := ⟨3, ![1, 1, 2048]⟩
abbrev S512x512 : Shape := ⟨2, ![512, 512]⟩
abbrev S1x1x512 : Shape := ⟨3, ![1, 1, 512]⟩
abbrev S1x512 : Shape := ⟨2, ![1, 512]⟩
abbrev S1x128x512 : Shape := ⟨3, ![1, 128, 512]⟩
abbrev S128x512 : Shape := ⟨2, ![128, 512]⟩
abbrev S512 : Shape := ⟨1, ![512]⟩
abbrev S512x1 : Shape := ⟨2, ![512, 1]⟩

abbrev nBuf : Space → Nat
  | .hbm => 18
  | .vmem => 23
  | .smem => 0
  | _ => 0

abbrev bufTy : (tb : Table) → Fin (tcTables nBuf tb) → BufTy
  | .hbm, ⟨0, _⟩ => ⟨S2048x32768, .bf16⟩
  | .hbm, ⟨1, _⟩ => ⟨S1x16384x2048, .f32⟩
  | .hbm, ⟨2, _⟩ => ⟨S1x16384x2048, .f32⟩
  | .hbm, ⟨3, _⟩ => ⟨S8x128x32768, .bf16⟩
  | .hbm, ⟨4, _⟩ => ⟨S8x128x32768, .bf16⟩
  | .hbm, ⟨5, _⟩ => ⟨S8x128x32768, .f32⟩
  | .hbm, ⟨6, _⟩ => ⟨S8x128x32768, .f32⟩
  | .hbm, ⟨7, _⟩ => ⟨S32768x2048, .f32⟩
  | .hbm, ⟨8, _⟩ => ⟨S8x2048, .f32⟩
  | .hbm, ⟨9, _⟩ => ⟨S2048, .f32⟩
  | .hbm, ⟨10, _⟩ => ⟨S16384x2048, .f32⟩
  | .hbm, ⟨11, _⟩ => ⟨S16384x2048, .bf16⟩
  | .hbm, ⟨12, _⟩ => ⟨S16384x2048, .f32⟩
  | .hbm, ⟨13, _⟩ => ⟨S2048x16384, .f32⟩
  | .hbm, ⟨14, _⟩ => ⟨S2048x16384, .bf16⟩
  | .hbm, ⟨15, _⟩ => ⟨S8x1x2048, .f32⟩
  | .hbm, ⟨16, _⟩ => ⟨S1x2048, .f32⟩
  | .hbm, ⟨17, _⟩ => ⟨S32768x2048, .f32⟩
  | .local _ .vmem, ⟨0, _⟩ => ⟨S2048x512, .bf16⟩
  | .local _ .vmem, ⟨1, _⟩ => ⟨S2048x512, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .bf16⟩
  | .local _ .vmem, ⟨5, _⟩ => ⟨S2048x512, .bf16⟩
  | .local _ .vmem, ⟨6, _⟩ => ⟨S8x128x512, .bf16⟩
  | .local _ .vmem, ⟨7, _⟩ => ⟨S8x128x512, .bf16⟩
  | .local _ .vmem, ⟨8, _⟩ => ⟨S8x128x512, .bf16⟩
  | .local _ .vmem, ⟨9, _⟩ => ⟨S8x128x512, .bf16⟩
  | .local _ .vmem, ⟨10, _⟩ => ⟨S8x128x512, .f32⟩
  | .local _ .vmem, ⟨11, _⟩ => ⟨S8x128x512, .f32⟩
  | .local _ .vmem, ⟨12, _⟩ => ⟨S8x128x512, .f32⟩
  | .local _ .vmem, ⟨13, _⟩ => ⟨S8x128x512, .f32⟩
  | .local _ .vmem, ⟨14, _⟩ => ⟨S512x2048, .f32⟩
  | .local _ .vmem, ⟨15, _⟩ => ⟨S512x2048, .f32⟩
  | .local _ .vmem, ⟨16, _⟩ => ⟨S1x1x2048, .f32⟩
  | .local _ .vmem, ⟨17, _⟩ => ⟨S1x1x2048, .f32⟩
  | .local _ .vmem, ⟨18, _⟩ => ⟨S1x2048, .f32⟩
  | .local _ .vmem, ⟨19, _⟩ => ⟨S512x2048, .f32⟩
  | .local _ .vmem, ⟨20, _⟩ => ⟨S512x2048, .f32⟩
  | .local _ .vmem, ⟨21, _⟩ => ⟨S2048x512, .f32⟩
  | .local _ .vmem, ⟨22, _⟩ => ⟨S512x512, .bf16⟩
  | _, _ => ⟨S2048x32768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![64, 32], ![false, false]⟩

def k0_off1 (i : grid0.Coords) (c0_i32_8 : BitVec 32) : Fin 3 → Nat :=
  let c0_9 : Index := 0#32
  let arg1 : BitVec 32 := BitVec.ofNat 32 (i 1).val
  let c4_i32 : BitVec 32 := 4#32
  let v20 : BitVec 32 := Scalar.muli arg1 c4_i32
  let v21 : BitVec 32 := Scalar.addi v20 c0_i32_8
  let v22 : Index := Scalar.indexCast v21
  let c0_10 : Index := 0#32
  ![0, v22.toNat, 0]
def k0_off2 (i : grid0.Coords) (c0_i32_8 : BitVec 32) : Fin 3 → Nat :=
  let c1 : Index := 1#32
  let arg1 : BitVec 32 := BitVec.ofNat 32 (i 1).val
  let c4_i32 : BitVec 32 := 4#32
  let v20 : BitVec 32 := Scalar.muli arg1 c4_i32
  let v21 : BitVec 32 := Scalar.addi v20 c0_i32_8
  let v40 : Index := Scalar.indexCast v21
  let c0_20 : Index := 0#32
  ![1, v40.toNat, 0]
def k0_off3 (i : grid0.Coords) (c0_i32_8 : BitVec 32) : Fin 3 → Nat :=
  let c2 : Index := 2#32
  let arg1 : BitVec 32 := BitVec.ofNat 32 (i 1).val
  let c4_i32 : BitVec 32 := 4#32
  let v20 : BitVec 32 := Scalar.muli arg1 c4_i32
  let v21 : BitVec 32 := Scalar.addi v20 c0_i32_8
  let v59 : Index := Scalar.indexCast v21
  let c0_30 : Index := 0#32
  ![2, v59.toNat, 0]
def k0_off4 (i : grid0.Coords) (c0_i32_8 : BitVec 32) : Fin 3 → Nat :=
  let c3 : Index := 3#32
  let arg1 : BitVec 32 := BitVec.ofNat 32 (i 1).val
  let c4_i32 : BitVec 32 := 4#32
  let v20 : BitVec 32 := Scalar.muli arg1 c4_i32
  let v21 : BitVec 32 := Scalar.addi v20 c0_i32_8
  let v78 : Index := Scalar.indexCast v21
  let c0_40 : Index := 0#32
  ![3, v78.toNat, 0]
def k0_off5 (i : grid0.Coords) (c0_i32_8 : BitVec 32) : Fin 3 → Nat :=
  let c4 : Index := 4#32
  let arg1 : BitVec 32 := BitVec.ofNat 32 (i 1).val
  let c4_i32 : BitVec 32 := 4#32
  let v20 : BitVec 32 := Scalar.muli arg1 c4_i32
  let v21 : BitVec 32 := Scalar.addi v20 c0_i32_8
  let v97 : Index := Scalar.indexCast v21
  let c0_50 : Index := 0#32
  ![4, v97.toNat, 0]
def k0_off6 (i : grid0.Coords) (c0_i32_8 : BitVec 32) : Fin 3 → Nat :=
  let c5 : Index := 5#32
  let arg1 : BitVec 32 := BitVec.ofNat 32 (i 1).val
  let c4_i32 : BitVec 32 := 4#32
  let v20 : BitVec 32 := Scalar.muli arg1 c4_i32
  let v21 : BitVec 32 := Scalar.addi v20 c0_i32_8
  let v116 : Index := Scalar.indexCast v21
  let c0_60 : Index := 0#32
  ![5, v116.toNat, 0]
def k0_off7 (i : grid0.Coords) (c0_i32_8 : BitVec 32) : Fin 3 → Nat :=
  let c6 : Index := 6#32
  let arg1 : BitVec 32 := BitVec.ofNat 32 (i 1).val
  let c4_i32 : BitVec 32 := 4#32
  let v20 : BitVec 32 := Scalar.muli arg1 c4_i32
  let v21 : BitVec 32 := Scalar.addi v20 c0_i32_8
  let v135 : Index := Scalar.indexCast v21
  let c0_70 : Index := 0#32
  ![6, v135.toNat, 0]
def k0_off8 (i : grid0.Coords) (c0_i32_8 : BitVec 32) : Fin 3 → Nat :=
  let c7 : Index := 7#32
  let arg1 : BitVec 32 := BitVec.ofNat 32 (i 1).val
  let c4_i32 : BitVec 32 := 4#32
  let v20 : BitVec 32 := Scalar.muli arg1 c4_i32
  let v21 : BitVec 32 := Scalar.addi v20 c0_i32_8
  let v154 : Index := Scalar.indexCast v21
  let c0_80 : Index := 0#32
  ![7, v154.toNat, 0]
def k0_cond2 (i : grid0.Coords) : BitVec 1 :=
  let arg1 : BitVec 32 := BitVec.ofNat 32 (i 1).val
  let c31_i32 : BitVec 32 := 31#32
  let v669 : BitVec 1 := Scalar.cmpi .eq arg1 c31_i32
  let v670 : BitVec 32 := Scalar.extui v669
  let c0_i32_371 : BitVec 32 := 0#32
  let v671 : BitVec 1 := Scalar.cmpi .ne v670 c0_i32_371
  v671

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== MixRefIdeal.lean ====
abbrev S2048x32768 : Shape := ⟨2, ![2048, 32768]⟩
abbrev S1x16384x2048 : Shape := ⟨3, ![1, 16384, 2048]⟩
abbrev S8x128x32768 : Shape := ⟨3, ![8, 128, 32768]⟩
abbrev S32768x2048 : Shape := ⟨2, ![32768, 2048]⟩
abbrev S8x2048 : Shape := ⟨2, ![8, 2048]⟩
abbrev S2048 : Shape := ⟨1, ![2048]⟩
abbrev S8x1x128x32768 : Shape := ⟨4, ![8, 1, 128, 32768]⟩
abbrev S8x128x1x32768 : Shape := ⟨4, ![8, 128, 1, 32768]⟩
abbrev S8x128x128x32768 : Shape := ⟨4, ![8, 128, 128, 32768]⟩
abbrev S_ : Shape := ⟨0, ![]⟩
abbrev S128x128x32768 : Shape := ⟨3, ![128, 128, 32768]⟩
abbrev S16384x32768 : Shape := ⟨2, ![16384, 32768]⟩
abbrev S16384x2048 : Shape := ⟨2, ![16384, 2048]⟩
abbrev S32768x16384 : Shape := ⟨2, ![32768, 16384]⟩
abbrev S8x4096x2048 : Shape := ⟨3, ![8, 4096, 2048]⟩
abbrev S8x1x2048 : Shape := ⟨3, ![8, 1, 2048]⟩
abbrev S8x4096 : Shape := ⟨2, ![8, 4096]⟩
abbrev S8x4096x1 : Shape := ⟨3, ![8, 4096, 1]⟩
abbrev S1x1x2048 : Shape := ⟨3, ![1, 1, 2048]⟩

abbrev nBuf : Space → Nat
  | .hbm => 76
  | .vmem => 0
  | .smem => 0
  | _ => 0

abbrev bufTy : (tb : Table) → Fin (tcTables nBuf tb) → BufTy
  | .hbm, ⟨0, _⟩ => ⟨S2048x32768, .bf16⟩
  | .hbm, ⟨1, _⟩ => ⟨S1x16384x2048, .f32⟩
  | .hbm, ⟨2, _⟩ => ⟨S1x16384x2048, .f32⟩
  | .hbm, ⟨3, _⟩ => ⟨S8x128x32768, .bf16⟩
  | .hbm, ⟨4, _⟩ => ⟨S8x128x32768, .bf16⟩
  | .hbm, ⟨5, _⟩ => ⟨S8x128x32768, .f32⟩
  | .hbm, ⟨6, _⟩ => ⟨S8x128x32768, .f32⟩
  | .hbm, ⟨7, _⟩ => ⟨S32768x2048, .f32⟩
  | .hbm, ⟨8, _⟩ => ⟨S8x2048, .f32⟩
  | .hbm, ⟨9, _⟩ => ⟨S2048, .f32⟩
  | .hbm, ⟨10, _⟩ => ⟨S8x128x32768, .f32⟩
  | .hbm, ⟨11, _⟩ => ⟨S8x1x128x32768, .f32⟩
  | .hbm, ⟨12, _⟩ => ⟨S8x128x1x32768, .f32⟩
  | .hbm, ⟨13, _⟩ => ⟨S8x128x128x32768, .f32⟩
  | .hbm, ⟨14, _⟩ => ⟨S8x128x128x32768, .f32⟩
  | .hbm, ⟨15, _⟩ => ⟨S8x128x128x32768, .i1⟩
  | .hbm, ⟨16, _⟩ => ⟨S8x128x32768, .f32⟩
  | .hbm, ⟨17, _⟩ => ⟨S8x1x128x32768, .f32⟩
  | .hbm, ⟨18, _⟩ => ⟨S_, .f32⟩
  | .hbm, ⟨19, _⟩ => ⟨S_, .f32⟩
  | .hbm, ⟨20, _⟩ => ⟨S8x128x128x32768, .f32⟩
  | .hbm, ⟨21, _⟩ => ⟨S8x128x128x32768, .f32⟩
  | .hbm, ⟨22, _⟩ => ⟨S8x128x128x32768, .f32⟩
  | .hbm, ⟨23, _⟩ => ⟨S8x128x1x32768, .f32⟩
  | .hbm, ⟨24, _⟩ => ⟨S8x128x128x32768, .f32⟩
  | .hbm, ⟨25, _⟩ => ⟨S8x128x128x32768, .f32⟩
  | .hbm, ⟨26, _⟩ => ⟨S_, .f32⟩
  | .hbm, ⟨27, _⟩ => ⟨S128x128x32768, .f32⟩
  | .hbm, ⟨28, _⟩ => ⟨S16384x32768, .f32⟩
  | .hbm, ⟨29, _⟩ => ⟨S16384x2048, .f32⟩
  | .hbm, ⟨30, _⟩ => ⟨S2048x32768, .f32⟩
  | .hbm, ⟨31, _⟩ => ⟨S16384x32768, .f32⟩
  | .hbm, ⟨32, _⟩ => ⟨S16384x32768, .f32⟩
  | .hbm, ⟨33, _⟩ => ⟨S16384x32768, .f32⟩
  | .hbm, ⟨34, _⟩ => ⟨S_, .f32⟩
  | .hbm, ⟨35, _⟩ => ⟨S16384x32768, .f32⟩
  | .hbm, ⟨36, _⟩ => ⟨S16384x32768, .f32⟩
  | .hbm, ⟨37, _⟩ => ⟨S16384x32768, .f32⟩
  | .hbm, ⟨38, _⟩ => ⟨S_, .f32⟩
  | .hbm, ⟨39, _⟩ => ⟨S16384x32768, .f32⟩
  | .hbm, ⟨40, _⟩ => ⟨S16384x32768, .f32⟩
  | .hbm, ⟨41, _⟩ => ⟨S16384x32768, .f32⟩
  | .hbm, ⟨42, _⟩ => ⟨S_, .f32⟩
  | .hbm, ⟨43, _⟩ => ⟨S16384x32768, .f32⟩
  | .hbm, ⟨44, _⟩ => ⟨S16384x32768, .f32⟩
  | .hbm, ⟨45, _⟩ => ⟨S_, .f32⟩
  | .hbm, ⟨46, _⟩ => ⟨S16384x32768, .f32⟩
  | .hbm, ⟨47, _⟩ => ⟨S16384x32768, .f32⟩
  | .hbm, ⟨48, _⟩ => ⟨S16384x32768, .f32⟩
  | .hbm, ⟨49, _⟩ => ⟨S16384x32768, .f32⟩
  | .hbm, ⟨50, _⟩ => ⟨S32768x16384, .f32⟩
  | .hbm, ⟨51, _⟩ => ⟨S16384x2048, .f32⟩
  | .hbm, ⟨52, _⟩ => ⟨S32768x2048, .f32⟩
  | .hbm, ⟨53, _⟩ => ⟨S8x4096x2048, .f32⟩
  | .hbm, ⟨54, _⟩ => ⟨S8x1x2048, .f32⟩
  | .hbm, ⟨55, _⟩ => ⟨S8x4096x2048, .f32⟩
  | .hbm, ⟨56, _⟩ => ⟨S8x4096x2048, .f32⟩
  | .hbm, ⟨57, _⟩ => ⟨S8x4096x2048, .f32⟩
  | .hbm, ⟨58, _⟩ => ⟨S8x4096x2048, .f32⟩
  | .hbm, ⟨59, _⟩ => ⟨S8x4096x2048, .f32⟩
  | .hbm, ⟨60, _⟩ => ⟨S_, .f32⟩
  | .hbm, ⟨61, _⟩ => ⟨S8x4096, .f32⟩
  | .hbm, ⟨62, _⟩ => ⟨S8x4096x1, .f32⟩
  | .hbm, ⟨63, _⟩ => ⟨S_, .f32⟩
  | .hbm, ⟨64, _⟩ => ⟨S8x4096x1, .f32⟩
  | .hbm, ⟨65, _⟩ => ⟨S8x4096x1, .f32⟩
  | .hbm, ⟨66, _⟩ => ⟨S_, .f32⟩
  | .hbm, ⟨67, _⟩ => ⟨S8x4096x1, .f32⟩
  | .hbm, ⟨68, _⟩ => ⟨S8x4096x1, .f32⟩
  | .hbm, ⟨69, _⟩ => ⟨S8x4096x1, .f32⟩
  | .hbm, ⟨70, _⟩ => ⟨S8x4096x2048, .f32⟩
  | .hbm, ⟨71, _⟩ => ⟨S8x4096x2048, .f32⟩
  | .hbm, ⟨72, _⟩ => ⟨S1x1x2048, .f32⟩
  | .hbm, ⟨73, _⟩ => ⟨S8x4096x2048, .f32⟩
  | .hbm, ⟨74, _⟩ => ⟨S8x4096x2048, .f32⟩
  | .hbm, ⟨75, _⟩ => ⟨S32768x2048, .f32⟩
  | _, _ => ⟨S2048x32768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_5 : Ref sig .tc := ⟨.hbm, 60, rfl⟩
abbrev main_v41 : Ref sig .tc := ⟨.hbm, 61, rfl⟩
abbrev main_v42 : Ref sig .tc := ⟨.hbm, 62, rfl⟩
abbrev main_cst_6 : Ref sig .tc := ⟨.hbm, 63, rfl⟩
abbrev main_v43 : Ref sig .tc := ⟨.hbm, 64, rfl⟩
abbrev main_v44 : Ref sig .tc := ⟨.hbm, 65, rfl⟩
abbrev main_cst_7 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩

abbrev nD : Nat := 1
abbrev τ : Topo := Topo.v7x

variable {F : FTy → Type} [FloatOps F]
-- ==== Mis.lean ====
abbrev S2048x256 : Shape := ⟨2, ![2048, 256]⟩
abbrev S1x16384x2048 : Shape := ⟨3, ![1, 16384, 2048]⟩
abbrev S8x128x256 : Shape := ⟨3, ![8, 128, 256]⟩
abbrev S256x2048 : Shape := ⟨2, ![256, 2048]⟩
abbrev S16x2048 : Shape := ⟨2, ![16, 2048]⟩
abbrev S2048 : Shape := ⟨1, ![2048]⟩
abbrev S16384x2048 : Shape := ⟨2, ![16384, 2048]⟩
abbrev S2048x16384 : Shape := ⟨2, ![2048, 16384]⟩
abbrev S16x16x2048 : Shape := ⟨3, ![16, 16, 2048]⟩
abbrev S1x256x2048 : Shape := ⟨3, ![1, 256, 2048]⟩
abbrev S1x2048 : Shape := ⟨2, ![1, 2048]⟩
abbrev S512x2048 : Shape := ⟨2, ![512, 2048]⟩
abbrev S2048x512 : Shape := ⟨2, ![2048, 512]⟩
abbrev S512x256 : Shape := ⟨2, ![512, 256]⟩
abbrev S1x1x256 : Shape := ⟨3, ![1, 1, 256]⟩
abbrev S1x256 : Shape := ⟨2, ![1, 256]⟩
abbrev S1x128x256 : Shape := ⟨3, ![1, 128, 256]⟩
abbrev S128x256 : Shape := ⟨2, ![128, 256]⟩
abbrev S256 : Shape := ⟨1, ![256]⟩
abbrev S256x1 : Shape := ⟨2, ![256, 1]⟩

abbrev nBuf : Space → Nat
  | .hbm => 20
  | .vmem => 15
  | .smem => 0
  | _ => 0

abbrev bufTy : (tb : Table) → Fin (tcTables nBuf tb) → BufTy
  | .hbm, ⟨0, _⟩ => ⟨S2048x256, .bf16⟩
  | .hbm, ⟨1, _⟩ => ⟨S1x16384x2048, .f32⟩
  | .hbm, ⟨2, _⟩ => ⟨S1x16384x2048, .f32⟩
  | .hbm, ⟨3, _⟩ => ⟨S8x128x256, .bf16⟩
  | .hbm, ⟨4, _⟩ => ⟨S8x128x256, .bf16⟩
  | .hbm, ⟨5, _⟩ => ⟨S8x128x256, .f32⟩
  | .hbm, ⟨6, _⟩ => ⟨S8x128x256, .f32⟩
  | .hbm, ⟨7, _⟩ => ⟨S256x2048, .f32⟩
  | .hbm, ⟨8, _⟩ => ⟨S16x2048, .f32⟩
  | .hbm, ⟨9, _⟩ => ⟨S2048, .f32⟩
  | .hbm, ⟨10, _⟩ => ⟨S16384x2048, .f32⟩
  | .hbm, ⟨11, _⟩ => ⟨S16384x2048, .bf16⟩
  | .hbm, ⟨12, _⟩ => ⟨S16384x2048, .f32⟩
  | .hbm, ⟨13, _⟩ => ⟨S2048x16384, .f32⟩
  | .hbm, ⟨14, _⟩ => ⟨S2048x16384, .bf16⟩
  | .hbm, ⟨15, _⟩ => ⟨S16x16x2048, .f32⟩
  | .hbm, ⟨16, _⟩ => ⟨S256x2048, .f32⟩
  | .hbm, ⟨17, _⟩ => ⟨S1x256x2048, .f32⟩
  | .hbm, ⟨18, _⟩ => ⟨S1x2048, .f32⟩
  | .hbm, ⟨19, _⟩ => ⟨S256x2048, .f32⟩
  | .local _ .vmem, ⟨0, _⟩ => ⟨S2048x256, .bf16⟩
  | .local _ .vmem, ⟨1, _⟩ => ⟨S512x2048, .bf16⟩
  | .local _ .vmem, ⟨2, _⟩ => ⟨S512x2048, .bf16⟩
  | .local _ .vmem, ⟨3, _⟩ => ⟨S2048x512, .bf16⟩
  | .local _ .vmem, ⟨4, _⟩ => ⟨S2048x512, .bf16⟩
  | .local _ .vmem, ⟨5, _⟩ => ⟨S8x128x256, .bf16⟩
  | .local _ .vmem, ⟨6, _⟩ => ⟨S8x128x256, .bf16⟩
  | .local _ .vmem, ⟨7, _⟩ => ⟨S8x128x256, .f32⟩
  | .local _ .vmem, ⟨8, _⟩ => ⟨S8x128x256, .f32⟩
  | .local _ .vmem, ⟨9, _⟩ => ⟨S256x2048, .f32⟩
  | .local _ .vmem, ⟨10, _⟩ => ⟨S1x256x2048, .f32⟩
  | .local _ .vmem, ⟨11, _⟩ => ⟨S1x2048, .f32⟩
  | .local _ .vmem, ⟨12, _⟩ => ⟨S256x2048, .f32⟩
  | .local _ .vmem, ⟨13, _⟩ => ⟨S2048x256, .f32⟩
  | .local _ .vmem, ⟨14, _⟩ => ⟨S512x256, .bf16⟩
  | _, _ => ⟨S2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12

abbrev nD : Nat := 1
abbrev τ : Topo := Topo.v7x

variable {F : FTy → Type} [FloatOps F]

abbrev grid0 : Pipeline.Grid := ⟨2, ![1, 32], ![false, false]⟩

def k0_off1 (i : grid0.Coords) (c0_i32_8 : BitVec 32) : Fin 3 → Nat :=
  let c0_9 : Index := 0#32
  let arg1 : BitVec 32 := BitVec.ofNat 32 (i 1).val
  let c4_i32 : BitVec 32 := 4#32
  let v20 : BitVec 32 := Scalar.muli arg1 c4_i32
  let v21 : BitVec 32 := Scalar.addi v20 c0_i32_8
  let v22 : Index := Scalar.indexCast v21
  let c0_10 : Index := 0#32
  ![0, v22.toNat, 0]
def k0_off2 (i : grid0.Coords) (c0_i32_8 : BitVec 32) : Fin 3 → Nat :=
  let c1 : Index := 1#32
  let arg1 : BitVec 32 := BitVec.ofNat 32 (i 1).val
  let c4_i32 : BitVec 32 := 4#32
  let v20 : BitVec 32 := Scalar.muli arg1 c4_i32
  let v21 : BitVec 32 := Scalar.addi v20 c0_i32_8
  let v40 : Index := Scalar.indexCast v21
  let c0_20 : Index := 0#32
  ![1, v40.toNat, 0]
def k0_off3 (i : grid0.Coords) (c0_i32_8 : BitVec 32) : Fin 3 → Nat :=
  let c2 : Index := 2#32
  let arg1 : BitVec 32 := BitVec.ofNat 32 (i 1).val
  let c4_i32 : BitVec 32 := 4#32
  let v20 : BitVec 32 := Scalar.muli arg1 c4_i32
  let v21 : BitVec 32 := Scalar.addi v20 c0_i32_8
  let v59 : Index := Scalar.indexCast v21
  let c0_30 : Index := 0#32
  ![2, v59.toNat, 0]
def k0_off4 (i : grid0.Coords) (c0_i32_8 : BitVec 32) : Fin 3 → Nat :=
  let c3 : Index := 3#32
  let arg1 : BitVec 32 := BitVec.ofNat 32 (i 1).val
  let c4_i32 : BitVec 32 := 4#32
  let v20 : BitVec 32 := Scalar.muli arg1 c4_i32
  let v21 : BitVec 32 := Scalar.addi v20 c0_i32_8
  let v78 : Index := Scalar.indexCast v21
  let c0_40 : Index := 0#32
  ![3, v78.toNat, 0]
def k0_off5 (i : grid0.Coords) (c0_i32_8 : BitVec 32) : Fin 3 → Nat :=
  let c4 : Index := 4#32
  let arg1 : BitVec 32 := BitVec.ofNat 32 (i 1).val
  let c4_i32 : BitVec 32 := 4#32
  let v20 : BitVec 32 := Scalar.muli arg1 c4_i32
  let v21 : BitVec 32 := Scalar.addi v20 c0_i32_8
  let v97 : Index := Scalar.indexCast v21
  let c0_50 : Index := 0#32
  ![4, v97.toNat, 0]
def k0_off6 (i : grid0.Coords) (c0_i32_8 : BitVec 32) : Fin 3 → Nat :=
  let c5 : Index := 5#32
  let arg1 : BitVec 32 := BitVec.ofNat 32 (i 1).val
  let c4_i32 : BitVec 32 := 4#32
  let v20 : BitVec 32 := Scalar.muli arg1 c4_i32
  let v21 : BitVec 32 := Scalar.addi v20 c0_i32_8
  let v116 : Index := Scalar.indexCast v21
  let c0_60 : Index := 0#32
  ![5, v116.toNat, 0]
def k0_off7 (i : grid0.Coords) (c0_i32_8 : BitVec 32) : Fin 3 → Nat :=
  let c6 : Index := 6#32
  let arg1 : BitVec 32 := BitVec.ofNat 32 (i 1).val
  let c4_i32 : BitVec 32 := 4#32
  let v20 : BitVec 32 := Scalar.muli arg1 c4_i32
  let v21 : BitVec 32 := Scalar.addi v20 c0_i32_8
  let v135 : Index := Scalar.indexCast v21
  let c0_70 : Index := 0#32
  ![6, v135.toNat, 0]
def k0_off8 (i : grid0.Coords) (c0_i32_8 : BitVec 32) : Fin 3 → Nat :=
  let c7 : Index := 7#32
  let arg1 : BitVec 32 := BitVec.ofNat 32 (i 1).val
  let c4_i32 : BitVec 32 := 4#32
  let v20 : BitVec 32 := Scalar.muli arg1 c4_i32
  let v21 : BitVec 32 := Scalar.addi v20 c0_i32_8
  let v154 : Index := Scalar.indexCast v21
  let c0_80 : Index := 0#32
  ![7, v154.toNat, 0]
def k0_cond2 (i : grid0.Coords) : BitVec 1 :=
  let arg1 : BitVec 32 := BitVec.ofNat 32 (i 1).val
  let c31_i32 : BitVec 32 := 31#32
  let v669 : BitVec 1 := Scalar.cmpi .eq arg1 c31_i32
  let v670 : BitVec 32 := Scalar.extui v669
  let c0_i32_371 : BitVec 32 := 0#32
  let v671 : BitVec 1 := Scalar.cmpi .ne v670 c0_i32_371
  v671

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S8x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S8x128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S8x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S8x128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S1x256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]
-- ==== MisRefIdeal.lean ====
abbrev S2048x256 : Shape := ⟨2, ![2048, 256]⟩
abbrev S1x16384x2048 : Shape := ⟨3, ![1, 16384, 2048]⟩
abbrev S8x128x256 : Shape := ⟨3, ![8, 128, 256]⟩
abbrev S256x2048 : Shape := ⟨2, ![256, 2048]⟩
abbrev S16x2048 : Shape := ⟨2, ![16, 2048]⟩
abbrev S2048 : Shape := ⟨1, ![2048]⟩
abbrev S8x1x128x256 : Shape := ⟨4, ![8, 1, 128, 256]⟩
abbrev S8x128x1x256 : Shape := ⟨4, ![8, 128, 1, 256]⟩
abbrev S8x128x128x256 : Shape := ⟨4, ![8, 128, 128, 256]⟩
abbrev S_ : Shape := ⟨0, ![]⟩
abbrev S128x128x256 : Shape := ⟨3, ![128, 128, 256]⟩
abbrev S16384x256 : Shape := ⟨2, ![16384, 256]⟩
abbrev S16384x2048 : Shape := ⟨2, ![16384, 2048]⟩
abbrev S256x16384 : Shape := ⟨2, ![256, 16384]⟩
abbrev S16x16x2048 : Shape := ⟨3, ![16, 16, 2048]⟩
abbrev S16x1x2048 : Shape := ⟨3, ![16, 1, 2048]⟩
abbrev S16x16 : Shape := ⟨2, ![16, 16]⟩
abbrev S16x16x1 : Shape := ⟨3, ![16, 16, 1]⟩
abbrev S1x1x2048 : Shape := ⟨3, ![1, 1, 2048]⟩

abbrev nBuf : Space → Nat
  | .hbm => 76
  | .vmem => 0
  | .smem => 0
  | _ => 0

abbrev bufTy : (tb : Table) → Fin (tcTables nBuf tb) → BufTy
  | .hbm, ⟨0, _⟩ => ⟨S2048x256, .bf16⟩
  | .hbm, ⟨1, _⟩ => ⟨S1x16384x2048, .f32⟩
  | .hbm, ⟨2, _⟩ => ⟨S1x16384x2048, .f32⟩
  | .hbm, ⟨3, _⟩ => ⟨S8x128x256, .bf16⟩
  | .hbm, ⟨4, _⟩ => ⟨S8x128x256, .bf16⟩
  | .hbm, ⟨5, _⟩ => ⟨S8x128x256, .f32⟩
  | .hbm, ⟨6, _⟩ => ⟨S8x128x256, .f32⟩
  | .hbm, ⟨7, _⟩ => ⟨S256x2048, .f32⟩
  | .hbm, ⟨8, _⟩ => ⟨S16x2048, .f32⟩
  | .hbm, ⟨9, _⟩ => ⟨S2048, .f32⟩
  | .hbm, ⟨10, _⟩ => ⟨S8x128x256, .f32⟩
  | .hbm, ⟨11, _⟩ => ⟨S8x1x128x256, .f32⟩
  | .hbm, ⟨12, _⟩ => ⟨S8x128x1x256, .f32⟩
  | .hbm, ⟨13, _⟩ => ⟨S8x128x128x256, .f32⟩
  | .hbm, ⟨14, _⟩ => ⟨S8x128x128x256, .f32⟩
  | .hbm, ⟨15, _⟩ => ⟨S8x128x128x256, .i1⟩
  | .hbm, ⟨16, _⟩ => ⟨S8x128x256, .f32⟩
  | .hbm, ⟨17, _⟩ => ⟨S8x1x128x256, .f32⟩
  | .hbm, ⟨18, _⟩ => ⟨S_, .f32⟩
  | .hbm, ⟨19, _⟩ => ⟨S_, .f32⟩
  | .hbm, ⟨20, _⟩ => ⟨S8x128x128x256, .f32⟩
  | .hbm, ⟨21, _⟩ => ⟨S8x128x128x256, .f32⟩
  | .hbm, ⟨22, _⟩ => ⟨S8x128x128x256, .f32⟩
  | .hbm, ⟨23, _⟩ => ⟨S8x128x1x256, .f32⟩
  | .hbm, ⟨24, _⟩ => ⟨S8x128x128x256, .f32⟩
  | .hbm, ⟨25, _⟩ => ⟨S8x128x128x256, .f32⟩
  | .hbm, ⟨26, _⟩ => ⟨S_, .f32⟩
  | .hbm, ⟨27, _⟩ => ⟨S128x128x256, .f32⟩
  | .hbm, ⟨28, _⟩ => ⟨S16384x256, .f32⟩
  | .hbm, ⟨29, _⟩ => ⟨S16384x2048, .f32⟩
  | .hbm, ⟨30, _⟩ => ⟨S2048x256, .f32⟩
  | .hbm, ⟨31, _⟩ => ⟨S16384x256, .f32⟩
  | .hbm, ⟨32, _⟩ => ⟨S16384x256, .f32⟩
  | .hbm, ⟨33, _⟩ => ⟨S16384x256, .f32⟩
  | .hbm, ⟨34, _⟩ => ⟨S_, .f32⟩
  | .hbm, ⟨35, _⟩ => ⟨S16384x256, .f32⟩
  | .hbm, ⟨36, _⟩ => ⟨S16384x256, .f32⟩
  | .hbm, ⟨37, _⟩ => ⟨S16384x256, .f32⟩
  | .hbm, ⟨38, _⟩ => ⟨S_, .f32⟩
  | .hbm, ⟨39, _⟩ => ⟨S16384x256, .f32⟩
  | .hbm, ⟨40, _⟩ => ⟨S16384x256, .f32⟩
  | .hbm, ⟨41, _⟩ => ⟨S16384x256, .f32⟩
  | .hbm, ⟨42, _⟩ => ⟨S_, .f32⟩
  | .hbm, ⟨43, _⟩ => ⟨S16384x256, .f32⟩
  | .hbm, ⟨44, _⟩ => ⟨S16384x256, .f32⟩
  | .hbm, ⟨45, _⟩ => ⟨S_, .f32⟩
  | .hbm, ⟨46, _⟩ => ⟨S16384x256, .f32⟩
  | .hbm, ⟨47, _⟩ => ⟨S16384x256, .f32⟩
  | .hbm, ⟨48, _⟩ => ⟨S16384x256, .f32⟩
  | .hbm, ⟨49, _⟩ => ⟨S16384x256, .f32⟩
  | .hbm, ⟨50, _⟩ => ⟨S256x16384, .f32⟩
  | .hbm, ⟨51, _⟩ => ⟨S16384x2048, .f32⟩
  | .hbm, ⟨52, _⟩ => ⟨S256x2048, .f32⟩
  | .hbm, ⟨53, _⟩ => ⟨S16x16x2048, .f32⟩
  | .hbm, ⟨54, _⟩ => ⟨S16x1x2048, .f32⟩
  | .hbm, ⟨55, _⟩ => ⟨S16x16x2048, .f32⟩
  | .hbm, ⟨56, _⟩ => ⟨S16x16x2048, .f32⟩
  | .hbm, ⟨57, _⟩ => ⟨S16x16x2048, .f32⟩
  | .hbm, ⟨58, _⟩ => ⟨S16x16x2048, .f32⟩
  | .hbm, ⟨59, _⟩ => ⟨S16x16x2048, .f32⟩
  | .hbm, ⟨60, _⟩ => ⟨S_, .f32⟩
  | .hbm, ⟨61, _⟩ => ⟨S16x16, .f32⟩
  | .hbm, ⟨62, _⟩ => ⟨S16x16x1, .f32⟩
  | .hbm, ⟨63, _⟩ => ⟨S_, .f32⟩
  | .hbm, ⟨64, _⟩ => ⟨S16x16x1, .f32⟩
  | .hbm, ⟨65, _⟩ => ⟨S16x16x1, .f32⟩
  | .hbm, ⟨66, _⟩ => ⟨S_, .f32⟩
  | .hbm, ⟨67, _⟩ => ⟨S16x16x1, .f32⟩
  | .hbm, ⟨68, _⟩ => ⟨S16x16x1, .f32⟩
  | .hbm, ⟨69, _⟩ => ⟨S16x16x1, .f32⟩
  | .hbm, ⟨70, _⟩ => ⟨S16x16x2048, .f32⟩
  | .hbm, ⟨71, _⟩ => ⟨S16x16x2048, .f32⟩
  | .hbm, ⟨72, _⟩ => ⟨S1x1x2048, .f32⟩
  | .hbm, ⟨73, _⟩ => ⟨S16x16x2048, .f32⟩
  | .hbm, ⟨74, _⟩ => ⟨S16x16x2048, .f32⟩
  | .hbm, ⟨75, _⟩ => ⟨S256x2048, .f32⟩
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_5 : Ref sig .tc := ⟨.hbm, 60, rfl⟩
abbrev main_v41 : Ref sig .tc := ⟨.hbm, 61, rfl⟩
abbrev main_v42 : Ref sig .tc := ⟨.hbm, 62, rfl⟩
abbrev main_cst_6 : Ref sig .tc := ⟨.hbm, 63, rfl⟩
abbrev main_v43 : Ref sig .tc := ⟨.hbm, 64, rfl⟩
abbrev main_v44 : Ref sig .tc := ⟨.hbm, 65, rfl⟩
abbrev main_cst_7 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩

abbrev nD : Nat := 1
abbrev τ : Topo := Topo.v7x

variable {F : FTy → Type} [FloatOps F]
-- ==== Proof.Attn.Run.lean ====
/- What every buffer of the attention program holds when the program ends: the contents at the last boundary between
   its host lines and its two kernel calls. -/
module

public import proofs.«01_k».proof.Proof.Gen.AttnIdeal.Frame

@[expose] public section

noncomputable section

namespace Cert.AttnIdeal.Val

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.AttnIdeal Cert.AttnIdeal.Gen

variable {F : FTy → Type} [FloatOps F] [Named F]
variable (m : (ℓ : Loc nD τ sig) → Buf (Elt F) ℓ) (ρ : Dev nD → PrngReg)

local notation "𝕄" => MT nD τ sig Unit (Elt F) ℕ (UR sig nD τ) ℕ

/-- The program runs, and every buffer that lives through it ends at the contents `W11`. -/
theorem run_mem : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = W11 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h _ => fun c b hb => h c _ (mem_uc b hb))

end Cert.AttnIdeal.Val

end
-- ==== Proof.Attn.Math.lean ====
/- The arithmetic of one query's attention over the extended reals: a sum weighted by the exponentials of the scores
   and divided once at the end, the same over a window that holds the band and masked keys around it, and the same with
   every weight divided before the sum. -/
module

public import Idealize.ShloMosaic.Lib.Pipeline.ValueKit

@[expose] public section

noncomputable section

namespace Cert.BandMath

open Idealize.ShloMosaic

/-- The greatest score. -/
def top {n : Nat} (S : Fin n → EReal) : EReal := Finset.univ.fold max ⊥ S

/-- The unscaled weight of key `l`. -/
def wt {n : Nat} (S : Fin n → EReal) (l : Fin n) : EReal := Ideal.exp (S l - top S)

/-- The attention of one query: values weighted, summed, and divided by the weights' sum. -/
def att {n : Nat} (S w : Fin n → EReal) : EReal := Ideal.div (∑ l, wt S l * w l) (∑ l, wt S l)

/-- A scaled query-key product plus its bias. -/
def score (x y : Fin 64 → EReal) (b : EReal) : EReal := (∑ d, x d * y d) * Ideal.ofBits .f32 0x3E000000#32 + b

theorem top_eq_sup {n : Nat} (S : Fin n → EReal) : top S = Finset.univ.sup S := rfl

theorem le_top' {n : Nat} (S : Fin n → EReal) (l : Fin n) : S l ≤ top S := by
  rw [top_eq_sup]; exact Finset.le_sup (f := S) (Finset.mem_univ l)

theorem wt_bot {n : Nat} (S : Fin n → EReal) (l : Fin n) (h : S l = ⊥) : wt S l = 0 := by
  unfold wt; rw [h, EReal.bot_sub]; rfl

/-- Keys outside the band have score `⊥`, and do not count. -/
theorem att_window {n N : Nat} (e : Fin n → Fin N) (he : Function.Injective e) (S w : Fin N → EReal)
    (hout : ∀ l, (∀ j, e j ≠ l) → S l = ⊥) : att S w = att (fun j => S (e j)) (fun j => w (e j)) := by
  have htop : top S = top (fun j => S (e j)) := by
    rw [top_eq_sup, top_eq_sup]
    apply le_antisymm
    · refine Finset.sup_le fun l _ => ?_
      by_cases h : ∃ j, e j = l
      · obtain ⟨j, rfl⟩ := h
        exact Finset.le_sup (f := fun j => S (e j)) (Finset.mem_univ j)
      · rw [hout l (fun j hj => h ⟨j, hj⟩)]; exact bot_le
    · exact Finset.sup_le fun j _ => Finset.le_sup (f := S) (Finset.mem_univ (e j))
  have hw : ∀ j, wt (fun j => S (e j)) j = wt S (e j) := fun j => by unfold wt; rw [htop]
  have hz : ∀ l, (∀ j, e j ≠ l) → wt S l = 0 := fun l h => wt_bot S l (hout l h)
  have hsum : ∀ f : Fin N → EReal, (∀ l, (∀ j, e j ≠ l) → f l = 0) → ∑ l, f l = ∑ j, f (e j) := fun f hf => by
    rw [← Finset.sum_image (s := Finset.univ) (g := e) (f := f) (fun a _ b _ h => he h)]
    refine (Finset.sum_subset (Finset.subset_univ _) fun l _ hl => hf l fun j hj => hl ?_).symm
    exact Finset.mem_image.2 ⟨j, Finset.mem_univ j, hj⟩
  unfold att
  rw [hsum (fun l => wt S l) hz, hsum (fun l => wt S l * w l) fun l h => by rw [hz l h, zero_mul]]
  simp only [hw]

theorem exp_nonneg (x : EReal) : 0 ≤ Ideal.exp x := by
  induction x with
  | bot => exact le_refl _
  | top => exact le_top
  | coe r => exact EReal.coe_nonneg.2 (Real.exp_pos r).le

theorem exp_ne_top (x : EReal) (h : x ≠ ⊤) : Ideal.exp x ≠ ⊤ := by
  induction x with
  | bot => exact EReal.zero_ne_top
  | top => exact absurd rfl h
  | coe r => exact EReal.coe_ne_top _

theorem exp_pos (x : EReal) (h : x ≠ ⊥) : 0 < Ideal.exp x := by
  induction x with
  | bot => exact absurd rfl h
  | top => exact EReal.zero_lt_top
  | coe r => exact EReal.coe_pos.2 (Real.exp_pos r)

theorem sum_ne_top {n : Nat} (f : Fin n → EReal) (h : ∀ j, f j ≠ ⊤) : ∑ j, f j ≠ ⊤ := by
  refine Finset.sum_induction f (· ≠ ⊤) (fun a b ha hb => ?_) EReal.zero_ne_top fun j _ => h j
  exact EReal.add_ne_top ha hb

theorem sum_mul' {n : Nat} (f : Fin n → EReal) (c : EReal) (h0 : 0 ≤ c) (h1 : c ≠ ⊤) : (∑ j, f j) * c = ∑ j, f j * c := by
  have : ∀ s : Finset (Fin n), (∑ j ∈ s, f j) * c = ∑ j ∈ s, f j * c := fun s => by
    induction s using Finset.cons_induction with
    | empty => simp
    | cons a s ha ih => rw [Finset.sum_cons, Finset.sum_cons, EReal.right_distrib_of_nonneg_of_ne_top h0 h1, ih]
  exact this _

/-- The greatest of scores below `⊤`, one of them above `⊥`, is a real. -/
theorem top_ne_top {n : Nat} (S : Fin n → EReal) (h : ∀ j, S j ≠ ⊤) : top S ≠ ⊤ := by
  rw [top_eq_sup]
  exact ((Finset.sup_lt_iff (f := S) (a := ⊤) bot_lt_top).2 fun j _ => lt_top_iff_ne_top.2 (h j)).ne

theorem top_ne_bot {n : Nat} (S : Fin n → EReal) (j : Fin n) (h : S j ≠ ⊥) : top S ≠ ⊥ := fun hb =>
  h (le_bot_iff.1 (hb ▸ le_top' S j))

/-- One division at the end is a division of every weight. -/
theorem att_div {n : Nat} (S w : Fin n → EReal) (h : ∀ j, S j ≠ ⊤) (j0 : Fin n) (h0 : S j0 ≠ ⊥) :
    att S w = ∑ j, w j * Ideal.div (wt S j) (∑ l, wt S l) := by
  have ht := top_ne_top S h
  have hb := top_ne_bot S j0 h0
  have hwt : ∀ j, wt S j ≠ ⊤ := fun j => exp_ne_top _ (by
    rw [sub_eq_add_neg]
    exact EReal.add_ne_top (h j) (by rw [Ne, EReal.neg_eq_top_iff]; exact hb))
  have hL : ∑ l, wt S l ≠ ⊤ := sum_ne_top _ hwt
  have hpos : 0 < ∑ l, wt S l := by
    refine lt_of_lt_of_le ?_ (Finset.single_le_sum (f := fun l => wt S l) (fun l _ => exp_nonneg _) (Finset.mem_univ j0))
    refine exp_pos _ ?_
    rw [sub_eq_add_neg, Ne, EReal.add_eq_bot_iff, not_or]
    exact ⟨h0, by rw [EReal.neg_eq_bot_iff]; exact ht⟩
  have hne : ∑ l, wt S l ≠ 0 := hpos.ne'
  have hinv0 : 0 ≤ (∑ l, wt S l)⁻¹ := EReal.inv_nonneg_of_nonneg hpos.le
  have hinvt : (∑ l, wt S l)⁻¹ ≠ ⊤ := (EReal.inv_lt_top _).ne
  unfold att Ideal.div
  rw [if_neg hne, sum_mul' _ _ hinv0 hinvt]
  refine Finset.sum_congr rfl fun j _ => ?_
  rw [if_neg hne, mul_comm (wt S j), mul_assoc]

/-- An extended real that is neither infinity. -/
def Fin' (x : EReal) : Prop := x ≠ ⊤ ∧ x ≠ ⊥

theorem fin_iff (x : EReal) : Fin' x ↔ ∃ r : ℝ, x = (r : EReal) := by
  constructor
  · rintro ⟨a, b⟩; exact ⟨x.toReal, (EReal.coe_toReal a b).symm⟩
  · rintro ⟨r, rfl⟩; exact ⟨EReal.coe_ne_top r, EReal.coe_ne_bot r⟩

theorem fin_mul {x y : EReal} (hx : Fin' x) (hy : Fin' y) : Fin' (x * y) := by
  obtain ⟨a, rfl⟩ := (fin_iff x).1 hx; obtain ⟨b, rfl⟩ := (fin_iff y).1 hy
  exact (fin_iff _).2 ⟨a * b, (EReal.coe_mul a b).symm⟩

theorem fin_add {x y : EReal} (hx : Fin' x) (hy : Fin' y) : Fin' (x + y) := by
  obtain ⟨a, rfl⟩ := (fin_iff x).1 hx; obtain ⟨b, rfl⟩ := (fin_iff y).1 hy
  exact (fin_iff _).2 ⟨a + b, (EReal.coe_add a b).symm⟩

theorem fin_zero : Fin' 0 := ⟨EReal.zero_ne_top, EReal.zero_ne_bot⟩

theorem fin_sum {n : Nat} (f : Fin n → EReal) (h : ∀ j, Fin' (f j)) : Fin' (∑ j, f j) :=
  Finset.sum_induction f Fin' (fun _ _ => fin_add) fin_zero fun j _ => h j

theorem fin_eighth : Fin' (Ideal.ofBits .f32 0x3E000000#32) := by
  unfold Ideal.ofBits Ideal.ieee
  simp only []
  rw [if_neg (by decide), if_neg (by decide)]
  exact (fin_iff _).2 ⟨_, rfl⟩

theorem fin_score (x y : Fin 64 → EReal) (b : EReal) (hx : ∀ d, Fin' (x d)) (hy : ∀ d, Fin' (y d)) (hb : Fin' b) :
    Fin' (score x y b) :=
  fin_add (fin_mul (fin_sum _ fun d => fin_mul (hx d) (hy d)) fin_eighth) hb

theorem score_bot (x y : Fin 64 → EReal) : score x y ⊥ = ⊥ := by unfold score; exact EReal.add_bot _

/-- The mask's word for minus infinity, the start of a maximum. -/
theorem negInf : Ideal.ofBits .f32 0xFF800000#32 = ⊥ := by simp [Ideal.ofBits, Ideal.ieee]

end Cert.BandMath

end
-- ==== Proof.Attn.Pay.lean ====
/- What the two kernels of the attention program store, entry by entry: the band bias of one head, and the attention of
   one block of queries over its window of keys. -/
module

public import proofs.«01_k».proof.Proof.Gen.AttnIdeal.Skeleton
public import proofs.«01_k».proof.Proof.Attn.Math
public import Idealize.ShloMosaic.Lib.Pipeline.ValueKit

@[expose] public section

set_option maxRecDepth 16384

noncomputable section

namespace Cert.AttnIdeal.Val

open Idealize.ShloMosaic Idealize.ShloMosaic.TcCoe Idealize.SL.Sem
open Cert.AttnIdeal Cert.AttnIdeal.Gen Cert.BandMath

theorem mask_eq : (Named.named (F := Ideal) κ "mask" (φ := .f32) 0xF149F2CA#32) = (⊥ : EReal) := rfl

theorem sel_if {α : Type} (p : Prop) [Decidable p] (a b : α) :
    Scalar.select (if p then 1#1 else 0#1) a b = if p then a else b := by
  split <;> rfl

/-- Word arithmetic: the row mask of key `x` in query block `i`. -/
theorem row_mask : ∀ (i : Fin 16) (x : Fin 768),
    IntOp.cmpi .sge (BitVec.ofNat 32 x.val) (Scalar.subi (512#32) (Scalar.muli (BitVec.ofNat 32 i.val) 256#32))
      = if 512 ≤ x.val + 256 * i.val then 1#1 else 0#1 := by decide +kernel

/-- Word arithmetic: the floored quotient by 64. -/
def fdiv64 (n : Nat) : BitVec 32 :=
  Scalar.select
    (IntOp.andi
      (IntOp.cmpi .ne
        (IntOp.subi (BitVec.setWidth 32 (IntOp.cmpi .sgt (BitVec.ofNat 32 n) 0#32))
          (BitVec.setWidth 32 (IntOp.cmpi .slt (BitVec.ofNat 32 n) 0#32)))
        (Scalar.subi (Scalar.extui (Scalar.cmpi .sgt 64#32 0#32)) (Scalar.extui (Scalar.cmpi .slt 64#32 0#32))))
      (IntOp.cmpi .ne (IntOp.remsi .vector (BitVec.ofNat 32 n) 64#32) 0#32))
    (IntOp.subi (IntOp.divsi .vector (BitVec.ofNat 32 n) 64#32) 1#32)
    (IntOp.divsi .vector (BitVec.ofNat 32 n) 64#32)

theorem fdiv64_eq : ∀ n : Fin 1024, fdiv64 n.val = BitVec.ofNat 32 (n.val / 64) := by decide +kernel

theorem band_mask' : ∀ (q : Fin 16) (p : Fin 4),
    IntOp.andi (IntOp.cmpi .sge (BitVec.ofNat 32 q.val) (BitVec.ofNat 32 p.val))
      (IntOp.cmpi .sle (BitVec.ofNat 32 q.val) (IntOp.addi (BitVec.ofNat 32 p.val) 8#32))
      = if p.val ≤ q.val ∧ q.val ≤ p.val + 8 then 1#1 else 0#1 := by decide +kernel

theorem band_mask (l : Fin 1024) (r : Fin 256) :
    IntOp.andi (IntOp.cmpi .sge (fdiv64 l.val) (fdiv64 r.val)) (IntOp.cmpi .sle (fdiv64 l.val) (IntOp.addi (fdiv64 r.val) 8#32))
      = if r.val / 64 ≤ l.val / 64 ∧ l.val / 64 ≤ r.val / 64 + 8 then 1#1 else 0#1 := by
  rw [fdiv64_eq l, fdiv64_eq ⟨r.val, by omega⟩]
  exact band_mask' ⟨l.val / 64, by omega⟩ ⟨r.val / 64, by omega⟩

/-- The bias block of one head: the rotated table row inside the band, the mask outside. -/
theorem bias_pay (v0 : Vec Ideal S1x1x1024 .f32) (r : Fin 256) (l : Fin 1024) :
    k0_pay1 (F := Ideal) (k0_pay2 v0) k0_pay3 (iota .tc S256x1024 32 [1] iota_S256x1024_d1_w32) 64#32 k0_pay4 k0_pay5
        (Scalar.extui (Scalar.cmpi .sgt 64#32 0#32)) (Scalar.cmpi .slt 64#32 0#32) (ix3 0 r l)
      = if r.val / 64 ≤ l.val / 64 ∧ l.val / 64 ≤ r.val / 64 + 8
        then v0 (ix3 0 0 ⟨(l.val + 1024 - r.val) % 1024, Nat.mod_lt _ (by decide)⟩) else (⊥ : EReal) := by
  pointwise [k0_pay1, k0_pay2, k0_pay3, k0_pay4, k0_pay5]
  have h := band_mask l r
  simp only [fdiv64] at h
  rw [h, sel_if, mask_eq]
  have e : r.val % 1024 = r.val := Nat.mod_eq_of_lt (by omega)
  simp only [e]

/-- The keys' scores in a window, the rows before the sequence masked. -/
def winS (i : Fin 16) (q : Fin 64 → EReal) (k : Fin 768 → Fin 64 → EReal) (b : Fin 768 → EReal) : Fin 768 → EReal :=
  fun l => if 512 ≤ l.val + 256 * i.val then score q (k l) (b l) else ⊥

theorem attn_pay_lo (i : grid1.Coords) (v2 : Vec Ideal S1x256x128 .bf16) (v5 v8 : Vec Ideal S1x768x128 .bf16)
    (v20 : Vec Ideal S1x256x1024 .f32) (r : Fin 256) (d : Fin 64) :
    k1_pay6 (F := Ideal) i v2 v5 v8 v20 (ix2 r d)
      = att (winS (i 2) (fun e => v2 (ix3 0 r ⟨e.val, by omega⟩)) (fun l e => v5 (ix3 0 l ⟨e.val, by omega⟩))
          (fun l => v20 (ix3 0 r ⟨l.val, by omega⟩))) (fun l => v8 (ix3 0 l ⟨d.val, by omega⟩)) := by
  pointwise [k1_pay6, k1_pay2, k1_pay3, k1_pay4, k1_pay5]
  have h : ∀ x : Fin 768, IntOp.cmpi .sge (BitVec.ofNat 32 x.val) (Scalar.subi (512#32) (Scalar.muli (BitVec.ofNat 32 (i 2).val) 256#32))
      = if 512 ≤ x.val + 256 * (i 2).val then 1#1 else 0#1 := fun x => row_mask (i 2) x
  simp only [h, sel_if, negInf, mask_eq]
  rfl

theorem attn_pay_hi (i : grid1.Coords) (v2 : Vec Ideal S1x256x128 .bf16) (v5 v8 : Vec Ideal S1x768x128 .bf16)
    (v37 : FVec Ideal S256x64 .f32) (v43 : Vec Ideal S1x256x1024 .f32) (r : Fin 256) (d : Fin 128) :
    k1_pay1 (F := Ideal) (k1_pay2 v2) (k1_pay3 v5) (k1_pay4 v8) (k1_pay5 i) v37 v43 (ix3 0 r d)
      = if h : d.val < 64 then v37 (ix2 r ⟨d.val, h⟩) else
        att (winS (i 2) (fun e => v2 (ix3 0 r ⟨64 + e.val, by omega⟩)) (fun l e => v5 (ix3 0 l ⟨64 + e.val, by omega⟩))
          (fun l => v43 (ix3 0 r ⟨l.val, by omega⟩))) (fun l => v8 (ix3 0 l ⟨64 + (d.val - 64), by omega⟩)) := by
  pointwise [k1_pay1, k1_pay2, k1_pay3, k1_pay4, k1_pay5]
  have h : ∀ x : Fin 768, IntOp.cmpi .sge (BitVec.ofNat 32 x.val) (Scalar.subi (512#32) (Scalar.muli (BitVec.ofNat 32 (i 2).val) 256#32))
      = if 512 ≤ x.val + 256 * (i 2).val then 1#1 else 0#1 := fun x => row_mask (i 2) x
  simp only [h, sel_if, negInf, mask_eq]
  rfl

/-- What the attention kernel stores at row `r`, column `d` of its block. -/
theorem attn_pay (i : grid1.Coords) (v2 : Vec Ideal S1x256x128 .bf16) (v5 v8 : Vec Ideal S1x768x128 .bf16)
    (v20 v43 : Vec Ideal S1x256x1024 .f32) (r : Fin 256) (d : Fin 128) :
    k1_pay1 (F := Ideal) (k1_pay2 v2) (k1_pay3 v5) (k1_pay4 v8) (k1_pay5 i) (k1_pay6 i v2 v5 v8 v20) v43 (ix3 0 r d)
      = att (winS (i 2) (fun e => v2 (ix3 0 r ⟨d.val / 64 * 64 + e.val, by omega⟩))
          (fun l e => v5 (ix3 0 l ⟨d.val / 64 * 64 + e.val, by omega⟩))
          (fun l => if d.val / 64 = 0 then v20 (ix3 0 r ⟨l.val, by omega⟩) else v43 (ix3 0 r ⟨l.val, by omega⟩)))
          (fun l => v8 (ix3 0 l d)) := by
  rw [attn_pay_hi]
  split
  · rename_i h
    have h0 : d.val / 64 = 0 := by omega
    rw [attn_pay_lo]
    simp only [h0, Nat.zero_mul, Nat.zero_add, if_true]
  · rename_i h
    have h0 : d.val / 64 = 1 := by omega
    have h1 : 64 + (d.val - 64) = d.val := by omega
    simp only [h0, h1, Nat.one_mul, Nat.one_ne_zero, if_false]

end Cert.AttnIdeal.Val

end
-- ==== Proof.Attn.Arr.lean ====
/- The arrays the two kernel calls of the attention program leave, entry by entry, from the arrays they find. -/
module

public import proofs.«01_k».proof.Proof.Gen.AttnIdeal.Frame
public import proofs.«01_k».proof.Proof.Attn.Pay

@[expose] public section

set_option maxRecDepth 16384

noncomputable section

namespace Cert.AttnIdeal.Val

open Idealize.ShloMosaic Idealize.ShloMosaic.TcCoe Idealize.SL.Sem
open Cert.AttnIdeal Cert.AttnIdeal.Gen Cert.BandMath

variable (V : (c : Dev nD) → (b : Ref sig .tc) → Buf (Elt Ideal) ((c : Thread nD τ).loc b))

theorem idx0 : ∀ t : Fin cfg0.N, win0_0.index t = ![t.val, 0, 0] ∧ win0_1.index t = ![t.val, 0, 0] ∧ t.val < 16 :=
  (by decide +kernel : ∀ t : Fin grid0.N, _)

/-- The bias of head `h` at row `r` of a query block and key `l` of its window, from the extended table's rows. -/
def biasOf (T : FVec Ideal S16x1x1024 .f32) (h : Fin 16) (r : Fin 256) (l : Fin 1024) : EReal :=
  if r.val / 64 ≤ l.val / 64 ∧ l.val / 64 ≤ r.val / 64 + 8
    then T (ix3 h 0 ⟨(l.val + 1024 - r.val) % 1024, Nat.mod_lt _ (by decide)⟩) else (⊥ : EReal)

/-- The bias array after the first call. -/
def biasArr (T : FVec Ideal S16x1x1024 .f32) : FVec Ideal S16x256x1024 .f32 := fun i => biasOf T (i 0) (i 1) (i 2)

theorem bias_final (c : Dev nD) : (dat0 V c).arrAt 1 cfg0.N = biasArr (V c main_v18) := by
  refine (dat0 V c).arrAt_eq_of_covers 1 _ (by decide +kernel) fun t _ y => ?_
  blk_simp
  rw [after0_1]
  frame_out
  idx_vars y
  obtain ⟨i0, i1, h16⟩ := idx0 t
  obtain rfl : y0 = 0 := Subsingleton.elim _ _
  have he : ((View.whole main_v19).slice (win0_1.rect t)).emb (ix3 0 y1 y2) = ix3 ⟨t.val, h16⟩ y1 y2 := by
    blk_ext [i1]
  rw [he]
  refine (bias_pay _ y1 y2).trans ?_
  have hr : ∀ l : Fin 1024, iblk0 V c 0 t (ix3 0 0 l) = V c main_v18 (ix3 ⟨t.val, h16⟩ 0 l) := fun l => by
    blk_ext [iblk0, i0]
  rw [hr]
  rfl

theorem att_win_congr {i i' : Fin 16} {q q' : Fin 64 → EReal} {k k' : Fin 768 → Fin 64 → EReal} {b b' w w' : Fin 768 → EReal}
    (hi : i = i') (hq : ∀ e, q e = q' e) (hk : ∀ l e, k l e = k' l e) (hb : ∀ l, b l = b' l) (hw : ∀ l, w l = w' l) :
    att (winS i q k b) w = att (winS i' q' k' b') w' := by
  obtain rfl := hi
  obtain rfl : q = q' := funext hq
  obtain rfl : k = k' := funext fun l => funext (hk l)
  obtain rfl : b = b' := funext hb
  obtain rfl : w = w' := funext hw
  rfl

theorem idx1 : ∀ t : Fin cfg1.N, win1_0.index t = ![t.val / 128, t.val % 16, t.val / 16 % 8]
    ∧ win1_1.index t = ![t.val / 128, 0, t.val / 16 % 8] ∧ win1_2.index t = ![t.val / 128, 0, t.val / 16 % 8]
    ∧ win1_3.index t = ![t.val / 16 % 8, 0, 0] ∧ win1_4.index t = ![t.val / 128, t.val % 16, t.val / 16 % 8]
    ∧ (grid1.coords t 2).val = t.val % 16 ∧ k1_off1 (grid1.coords t) = ![0, 256 * (t.val % 16), 0] ∧ t.val < 1024 :=
  (by decide +kernel : ∀ t : Fin grid1.N, _)

/-- What a block of each input reads of its array. -/
theorem iblk1_q (c : Dev nD) (t : Fin cfg1.N) (y1 : Fin 256) (y2 : Fin 128) (a : Fin 8) (b : Fin 4096) (d : Fin 1024)
    (ha : a.val = t.val / 128) (hb : b.val = 256 * (t.val % 16) + y1.val) (hd : d.val = 128 * (t.val / 16 % 8) + y2.val) :
    iblk1 V c 0 t (ix3 0 y1 y2) = V c main_arg0 (ix3 a b d) := by
  obtain ⟨i0, -⟩ := idx1 t
  blk_ext [iblk1, i0, ha, hb, hd]

theorem iblk1_k (c : Dev nD) (t : Fin cfg1.N) (y0 : Fin 1) (y1 : Fin 4608) (y2 : Fin 128) (a : Fin 8) (b : Fin 4608) (d : Fin 1024)
    (ha : a.val = t.val / 128) (hb : b.val = y1.val) (hd : d.val = 128 * (t.val / 16 % 8) + y2.val) :
    iblk1 V c 1 t (ix3 y0 y1 y2) = V c main_v21 (ix3 a b d) := by
  obtain ⟨-, i1, -⟩ := idx1 t
  obtain rfl : y0 = 0 := Subsingleton.elim _ _
  blk_ext [iblk1, i1, ha, hb, hd]

theorem iblk1_v (c : Dev nD) (t : Fin cfg1.N) (y0 : Fin 1) (y1 : Fin 4608) (y2 : Fin 128) (a : Fin 8) (b : Fin 4608) (d : Fin 1024)
    (ha : a.val = t.val / 128) (hb : b.val = y1.val) (hd : d.val = 128 * (t.val / 16 % 8) + y2.val) :
    iblk1 V c 2 t (ix3 y0 y1 y2) = V c main_v23 (ix3 a b d) := by
  obtain ⟨-, -, i2, -⟩ := idx1 t
  obtain rfl : y0 = 0 := Subsingleton.elim _ _
  blk_ext [iblk1, i2, ha, hb, hd]

theorem iblk1_b (c : Dev nD) (t : Fin cfg1.N) (y0 : Fin 2) (y1 : Fin 256) (y2 : Fin 1024) (a : Fin 16) (b : Fin 256) (d : Fin 1024)
    (ha : a.val = 2 * (t.val / 16 % 8) + y0.val) (hb : b.val = y1.val) (hd : d.val = y2.val) :
    iblk1 V c 3 t (ix3 y0 y1 y2) = V c main_v19 (ix3 a b d) := by
  obtain ⟨-, -, -, i3, -⟩ := idx1 t
  blk_ext [iblk1, i3, ha, hb, hd]

/-- The attention of head `C / 64` at query row `R`, column `C`, over the padded keys and values. -/
def attOf (q : FVec Ideal S8x4096x1024 .bf16) (k v : FVec Ideal S8x4608x1024 .bf16) (B : FVec Ideal S16x256x1024 .f32)
    (b : Fin 8) (R : Fin 4096) (C : Fin 1024) : EReal :=
  att (winS ⟨R.val / 256, by omega⟩ (fun e => q (ix3 b R ⟨C.val / 64 * 64 + e.val, by omega⟩))
      (fun l e => k (ix3 b ⟨256 * (R.val / 256) + l.val, by omega⟩ ⟨C.val / 64 * 64 + e.val, by omega⟩))
      (fun l => B (ix3 ⟨C.val / 64, by omega⟩ ⟨R.val % 256, by omega⟩ ⟨l.val, by omega⟩)))
    (fun l => v (ix3 b ⟨256 * (R.val / 256) + l.val, by omega⟩ C))

/-- The result array after the second call. -/
def attArr (q : FVec Ideal S8x4096x1024 .bf16) (k v : FVec Ideal S8x4608x1024 .bf16) (B : FVec Ideal S16x256x1024 .f32) :
    FVec Ideal S8x4096x1024 .bf16 := fun i => attOf q k v B (i 0) (i 1) (i 2)

theorem attn_final (c : Dev nD) : (dat1 V c).arrAt 4 cfg1.N
    = attArr (V c main_arg0) (V c main_v21) (V c main_v23) (V c main_v19) := by
  refine (dat1 V c).arrAt_eq_of_covers 4 _ (by decide +kernel) fun t _ y => ?_
  blk_simp
  rw [after1_4]
  unfold outsAt1
  frame_out
  idx_vars y
  obtain ⟨i0, i1, i2, i3, i4, hi, ho, hN⟩ := idx1 t
  obtain rfl : y0 = 0 := Subsingleton.elim _ _
  have he : ((View.whole main_v24).slice (win1_4.rect t)).emb (ix3 0 y1 y2)
      = ix3 ⟨t.val / 128, by omega⟩ ⟨256 * (t.val % 16) + y1.val, by omega⟩ ⟨128 * (t.val / 16 % 8) + y2.val, by omega⟩ := by
    blk_ext [i4]
  rw [he]
  refine (attn_pay _ _ _ _ _ _ y1 y2).trans ?_
  have o0 : k1_off1 (grid1.coords t) 0 = 0 := by rw [ho]; rfl
  have o1 : k1_off1 (grid1.coords t) 1 = 256 * (t.val % 16) := by rw [ho]; rfl
  have o2 : k1_off1 (grid1.coords t) 2 = 0 := by rw [ho]; rfl
  refine att_win_congr (Fin.ext ?_) (fun e => ?_) (fun l e => ?_) (fun l => ?_) (fun l => ?_)
  · exact hi.trans (by show _ = (256 * (t.val % 16) + y1.val) / 256; omega)
  · exact iblk1_q V c t _ _ _ _ _ rfl rfl (by show (128 * (t.val / 16 % 8) + y2.val) / 64 * 64 + e.val = 128 * (t.val / 16 % 8) + (y2.val / 64 * 64 + e.val); omega)
  · pointwise
    refine iblk1_k V c t _ _ _ _ _ _ ?_ ?_ ?_
    · rfl
    · show 256 * ((256 * (t.val % 16) + y1.val) / 256) + l.val = k1_off1 (grid1.coords t) 1 + l.val
      omega
    · show (128 * (t.val / 16 % 8) + y2.val) / 64 * 64 + e.val = 128 * (t.val / 16 % 8) + (k1_off1 (grid1.coords t) 2 + (y2.val / 64 * 64 + e.val))
      omega
  · pointwise
    split
    · refine iblk1_b V c t _ _ _ _ _ _ ?_ ?_ rfl
      · show (128 * (t.val / 16 % 8) + y2.val) / 64 = 2 * (t.val / 16 % 8) + 0
        omega
      · show (256 * (t.val % 16) + y1.val) % 256 = y1.val
        omega
    · refine iblk1_b V c t _ _ _ _ _ _ ?_ ?_ rfl
      · show (128 * (t.val / 16 % 8) + y2.val) / 64 = 2 * (t.val / 16 % 8) + 1
        omega
      · show (256 * (t.val % 16) + y1.val) % 256 = y1.val
        omega
  · pointwise
    refine iblk1_v V c t _ _ _ _ _ _ ?_ ?_ ?_
    · rfl
    · show 256 * ((256 * (t.val % 16) + y1.val) / 256) + l.val = k1_off1 (grid1.coords t) 1 + l.val
      omega
    · show 128 * (t.val / 16 % 8) + y2.val = 128 * (t.val / 16 % 8) + (k1_off1 (grid1.coords t) 2 + y2.val)
      omega

end Cert.AttnIdeal.Val

end
-- ==== Proof.Attn.Host.lean ====
/- What the host lines around the two kernel calls of the attention program compute, entry by entry: the bias table
   extended to the rotation's length, and the keys and values with the padding in front. -/
module

public import proofs.«01_k».proof.Proof.Gen.AttnIdeal.Frame
public import Idealize.ShloMosaic.Lib.Pipeline.ValueKit

@[expose] public section

set_option maxRecDepth 16384

noncomputable section

namespace Cert.AttnIdeal.Val

open Idealize.ShloMosaic Idealize.ShloMosaic.TcCoe Idealize.SL.Sem
open Idealize.ShloMosaic.StableHlo
open Cert.AttnIdeal Cert.AttnIdeal.Gen

variable (m : (ℓ : Loc nD τ sig) → Buf (Elt Ideal) ℓ) (ρ : Dev nD → PrngReg)

/-- The rows with 512 rows of zeros in front. -/
def padRows (x : FVec Ideal S8x4096x1024 .f32) : FVec Ideal S8x4608x1024 .bf16 := fun i =>
  if h : 512 ≤ (i 1).val then x (ix3 (i 0) ⟨(i 1).val - 512, by have : (i 1).val < 4608 := (i 1).isLt; omega⟩ (i 2)) else (0 : EReal)

/-- The entry of the table that position `l` of the extended table holds. -/
def tabIdx (l : Nat) : Nat := if l < 256 then 0 else if l < 768 then l - 256 else 0

theorem tabIdx_lt (l : Nat) : tabIdx l < 513 := by unfold tabIdx; split <;> (try split) <;> omega

/-- The extended table. -/
def tabRows (T : FVec Ideal S16x513 .f32) : FVec Ideal S16x1x1024 .f32 := fun i =>
  T (ix2 (i 0) ⟨tabIdx (i 2).val, tabIdx_lt _⟩)

theorem gather_tab (x : FVec Ideal S16x513 .f32) (idx : IVec S1024x1 32) (h : Fin 16) (l : Fin 1024) :
    Host.gather gather_S16x513_S1024x1_S16x1024_0_1_n_n_1_1_161 x idx (ix2 h l)
      = x (ix2 h ⟨min (idx (ix2 l 0)).toInt.toNat 512, by omega⟩) := by
  unfold Host.gather
  congr 1
  funext a
  refine Fin.ext ?_
  match a with
  | ⟨0, _⟩ =>
    show 0 + 0 + h.val = h.val
    omega
  | ⟨1, _⟩ =>
    show min (idx (GatherDims.siIdx gather_S16x513_S1024x1_S16x1024_0_1_n_n_1_1_161 (ix2 h l) ⟨0, by decide⟩)).toInt.toNat 512 + 0 + 0 = _
    have hs : GatherDims.siIdx gather_S16x513_S1024x1_S16x1024_0_1_n_n_1_1_161 (ix2 h l) ⟨0, by decide⟩ = ix2 l 0 := by
      funext b
      refine Fin.ext ?_
      match b with
      | ⟨0, _⟩ => rfl
      | ⟨1, _⟩ => rfl
    rw [hs]
    rfl

/-- The position of an entry of the extended table, as the host computes it. -/
def tabI0 : IVec S1024 32 :=
  select (cmpi .sge (iotaInDim S1024 32 0) (broadcastInDim S1024 ![] bcast_S_S1024 (constantI S_ 32 768#32)))
    (subi (iotaInDim S1024 32 0) (broadcastInDim S1024 ![] bcast_S_S1024 (constantI S_ 32 1024#32))) (iotaInDim S1024 32 0)

def tabI1 : IVec S1024 32 :=
  addi (minsi (broadcastInDim S1024 ![] bcast_S_S1024 (constantI S_ 32 256#32))
      (maxsi (broadcastInDim S1024 ![] bcast_S_S1024 (constantI S_ 32 4294967040#32))
        (subi tabI0 (broadcastInDim S1024 ![] bcast_S_S1024 (constantI S_ 32 512#32)))))
    (broadcastInDim S1024 ![] bcast_S_S1024 (constantI S_ 32 256#32))

def tabI : IVec S1024 32 :=
  select (cmpi .slt tabI1 (broadcastInDim S1024 ![] bcast_S_S1024 (constantI S_ 32 0#32)))
    (addi tabI1 (broadcastInDim S1024 ![] bcast_S_S1024 (constantI S_ 32 513#32))) tabI1

theorem tabI_apply : ∀ l : Fin 1024, min (tabI (ix1 l)).toInt.toNat 512 = tabIdx l.val := by
  decide +kernel

theorem pad_rows (x : FVec Ideal S8x4096x1024 .f32) :
    pad S8x4608x1024 ![0, 512, 0] ![0, 0, 0] ![0, 0, 0] (truncf .bf16 x bitsLt_bf16_f32) (sitofp .bf16 (constantI S_ 32 0#32))
      pads_S8x4096x1024_S8x4608x1024_000_51200_000 h_S_ = padRows x := by
  funext i
  idx_vars i
  pointwise [padRows]
  have h0 : (FloatOps.sitofp (F := Ideal) .bf16 (0#32) : EReal) = 0 := by
    show ((((0#32 : BitVec 32).toInt : ℤ) : ℝ) : EReal) = 0
    simp
  rw [h0]
  have := i1.isLt
  by_cases h : 512 ≤ i1.val
  · rw [dif_pos h, dif_pos ⟨h, by omega⟩]
  · rw [dif_neg h, dif_neg fun h' => h h'.1]

theorem V10_v21 (c : Dev nD) : V10 m ρ c main_v21 = padRows (m ((c.tc).loc main_arg1)) := by
  have h : V10 m ρ c main_v21 = W8 m ρ c (Proc.devRef .tc main_v21) := by
    show W10 m ρ c _ = _
    rw [W10_of m ρ c _ (by decide), W9_of m ρ c _ (by decide)]
  rw [h]
  have ha : W6 m ρ c (Proc.devRef .tc main_arg1) = m ((c.tc).loc main_arg1) := W6_args m ρ c _ (by decide)
  have h2 : W8 m ρ c (Proc.devRef .tc main_v21) = StableHlo.after hostOps1_1 (StableHlo.after hostOps1 (W6 m ρ c)) (Proc.devRef .tc main_v21) := rfl
  rw [h2]
  generalize W6 m ρ c = U at ha ⊢
  after_results
  rw [ha]
  exact pad_rows _

theorem V10_v23 (c : Dev nD) : V10 m ρ c main_v23 = padRows (m ((c.tc).loc main_arg2)) := by
  have ha : W8 m ρ c (Proc.devRef .tc main_arg2) = m ((c.tc).loc main_arg2) := W8_args m ρ c _ (by decide)
  have h2 : V10 m ρ c main_v23 = StableHlo.after hostOps1_3 (StableHlo.after hostOps1_2 (W8 m ρ c)) (Proc.devRef .tc main_v23) := rfl
  rw [h2]
  generalize W8 m ρ c = U at ha ⊢
  after_results
  rw [ha]
  exact pad_rows _

theorem V10_arg0 (c : Dev nD) : V10 m ρ c main_arg0 = m ((c.tc).loc main_arg0) := W10_args m ρ c _ (by decide)

theorem V10_v19 (c : Dev nD) : V10 m ρ c main_v19 = (dat0 (V5 m ρ) c).arrAt 1 cfg0.N := by
  show W10 m ρ c _ = _
  rw [W10_of m ρ c _ (by decide), W9_of m ρ c _ (by decide), W8_of m ρ c _ (by decide), W7_of m ρ c _ (by decide)]
  exact W6_arr m ρ c 1

theorem V5_v18 (c : Dev nD) : V5 m ρ c main_v18 = tabRows (m ((c.tc).loc main_arg3)) := by
  have h : V5 m ρ c main_v18 = shapeCast S16x1x1024 (Host.gather gather_S16x513_S1024x1_S16x1024_0_1_n_n_1_1_161
      (m ((c.tc).loc main_arg3) : FVec Ideal S16x513 .f32) (broadcastInDim S1024x1 ![0] bcast_S1024_S1024x1_0 tabI)) shapeCasts_S16x1024_S16x1x1024 := by
    show StableHlo.after hostOps0_4 (StableHlo.after hostOps0_3 (StableHlo.after hostOps0_2 (StableHlo.after hostOps0_1 (StableHlo.after hostOps0 (W0 m ρ c))))) (Proc.devRef .tc main_v18) = _
    after_results
    rfl
  rw [h]
  funext i
  idx_vars i
  obtain rfl : i1 = 0 := Subsingleton.elim _ _
  pointwise
  rw [gather_tab]
  refine congrArg (m ((c.tc).loc main_arg3)) ?_
  refine congrArg (ix2 i0) (Fin.ext ?_)
  exact tabI_apply i2

end Cert.AttnIdeal.Val

end
-- ==== Proof.Attn.RefWords.lean ====
/- The reference's index words as numbers: band rows, relative positions, and the mask. -/
module

public import Idealize.ShloMosaic.Lib.Pipeline.ValueKit

@[expose] public section

set_option maxRecDepth 16384

noncomputable section

namespace Cert.AttnRefIdeal.Val

open Idealize.ShloMosaic Idealize.ShloMosaic.TcCoe Idealize.SL.Sem

theorem rows_word (c : Fin 64) (j : Fin 576) :
    min (IntOp.addi (IntOp.muli (BitVec.ofNat 32 c.val) 64#32) (BitVec.ofNat 32 j.val)).toInt.toNat 4607 = c.val * 64 + j.val := by
  have h : IntOp.addi (IntOp.muli (BitVec.ofNat 32 c.val) 64#32) (BitVec.ofNat 32 j.val) = BitVec.ofNat 32 (c.val * 64 + j.val) := by
    show BitVec.ofNat 32 c.val * BitVec.ofNat 32 64 + BitVec.ofNat 32 j.val = _
    rw [← BitVec.ofNat_mul, ← BitVec.ofNat_add]
  rw [h, BitVec.toInt_eq_toNat_of_lt (by rw [BitVec.toNat_ofNat]; omega), BitVec.toNat_ofNat]
  omega

theorem sub_word : ∀ c : Fin 64, (IntOp.muli (IntOp.subi (8#32) (BitVec.ofNat 32 c.val)) 64#32).toInt = (8 - (c.val : Int)) * 64 := by
  decide +kernel

theorem mask_word (c : Fin 64) (j : Fin 576) : IntOp.cmpi CmpIPredicate.sge (BitVec.ofNat 32 j.val)
      (IntOp.muli (IntOp.subi (8#32) (BitVec.ofNat 32 c.val)) 64#32) = if (8 - c.val) * 64 ≤ j.val then 1#1 else 0#1 := by
  have h1 := sub_word c
  have h2 : (BitVec.ofNat 32 j.val).toInt = j.val := by
    rw [BitVec.toInt_eq_toNat_of_lt (by rw [BitVec.toNat_ofNat]; omega), BitVec.toNat_ofNat]; omega
  generalize IntOp.muli (IntOp.subi (8#32) (BitVec.ofNat 32 c.val)) 64#32 = w at h1 ⊢
  show BitVec.ofBool (w.sle (BitVec.ofNat 32 j.val)) = _
  rw [BitVec.sle_eq_decide, h1, h2]
  by_cases h : (8 - c.val) * 64 ≤ j.val
  · rw [if_pos h, decide_eq_true (by omega)]
    rfl
  · rw [if_neg h, decide_eq_false (by omega)]
    rfl

theorem rel_word0 : ∀ k : Fin 640, (IntOp.addi (IntOp.minsi 256#32 (IntOp.maxsi 4294967040#32
      (BitVec.ofNat 32 (2^32 - 575 + k.val)))) 256#32).toInt.toNat = k.val - 319 := by
  decide +kernel

theorem rel_word (a : Fin 64) (j : Fin 576) : min (IntOp.addi (IntOp.minsi 256#32 (IntOp.maxsi 4294967040#32
      (IntOp.subi (IntOp.subi (BitVec.ofNat 32 j.val) 512#32) (BitVec.ofNat 32 a.val)))) 256#32).toInt.toNat 512
    = j.val - (a.val + 256) := by
  have h : IntOp.subi (IntOp.subi (BitVec.ofNat 32 j.val) 512#32) (BitVec.ofNat 32 a.val) = BitVec.ofNat 32 (2^32 - 575 + (63 + j.val - a.val)) := by
    show BitVec.ofNat 32 j.val - BitVec.ofNat 32 512 - BitVec.ofNat 32 a.val = _
    apply BitVec.eq_of_toNat_eq
    simp only [BitVec.toNat_sub, BitVec.toNat_ofNat]
    omega
  rw [h, rel_word0 ⟨63 + j.val - a.val, by omega⟩]
  show min (63 + j.val - a.val - 319) 512 = _
  omega

end Cert.AttnRefIdeal.Val

end
-- ==== Proof.Attn.Scores.lean ====
/- The reference's attention, read at an entry: the scores of a query against the band of its chunk, their softmax, and
   the weighted sum of the band's values. -/
module

public import proofs.«01_k».proof.Proof.Gen.AttnRefIdeal.Read
public import proofs.«01_k».proof.Proof.Attn.Math
public import proofs.«01_k».proof.Proof.Attn.RefWords

@[expose] public section

set_option maxRecDepth 16384

noncomputable section

namespace Cert.AttnRefIdeal.Val

open Idealize.ShloMosaic Idealize.ShloMosaic.TcCoe Idealize.SL.Sem
open Cert.AttnRefIdeal Cert.AttnRefIdeal.Gen Cert.AttnRefIdeal.Value Cert.AttnRefIdeal.Read Cert.BandMath

theorem gather_tab (x : FVec Ideal S16x513 .f32) (idx : IVec S64x576x1 32) (h : Fin 16) (a : Fin 64) (j : Fin 576) :
    Host.gather gather_S16x513_S64x576x1_S16x64x576_0_1_n_n_1_2_161 x idx (ix3 h a j)
      = x (ix2 h ⟨min (idx (ix3 a j 0)).toInt.toNat 512, by omega⟩) := by
  unfold Host.gather
  congr 1
  funext b
  refine Fin.ext ?_
  match b with
  | ⟨0, _⟩ =>
    show 0 + 0 + h.val = h.val
    omega
  | ⟨1, _⟩ =>
    show min (idx (GatherDims.siIdx gather_S16x513_S64x576x1_S16x64x576_0_1_n_n_1_2_161 (ix3 h a j) ⟨0, by decide⟩)).toInt.toNat 512 + 0 + 0 = _
    have hs : GatherDims.siIdx gather_S16x513_S64x576x1_S16x64x576_0_1_n_n_1_2_161 (ix3 h a j) ⟨0, by decide⟩ = ix3 a j 0 := by
      funext b
      refine Fin.ext ?_
      match b with
      | ⟨0, _⟩ => rfl
      | ⟨1, _⟩ => rfl
      | ⟨2, _⟩ => rfl
    rw [hs]
    rfl

theorem gather_rows (x : FVec Ideal S8x4608x16x64 .f32) (idx : IVec S64x576x1 32) (b : Fin 8) (c : Fin 64) (j : Fin 576)
    (h : Fin 16) (d : Fin 64) :
    Host.gather gather_S8x4608x16x64_S64x576x1_S8x64x576x16x64_034_1_n_n_1_2_811664 x idx (ix5 b c j h d)
      = x (ix4 b ⟨min (idx (ix3 c j 0)).toInt.toNat 4607, by omega⟩ h d) := by
  unfold Host.gather
  congr 1
  funext e
  refine Fin.ext ?_
  match e with
  | ⟨0, _⟩ =>
    show 0 + 0 + b.val = b.val
    omega
  | ⟨1, _⟩ =>
    show min (idx (GatherDims.siIdx gather_S8x4608x16x64_S64x576x1_S8x64x576x16x64_034_1_n_n_1_2_811664 (ix5 b c j h d) ⟨0, by decide⟩)).toInt.toNat 4607 + 0 + 0 = _
    have hs : GatherDims.siIdx gather_S8x4608x16x64_S64x576x1_S8x64x576x16x64_034_1_n_n_1_2_811664 (ix5 b c j h d) ⟨0, by decide⟩ = ix3 c j 0 := by
      funext b
      refine Fin.ext ?_
      match b with
      | ⟨0, _⟩ => rfl
      | ⟨1, _⟩ => rfl
      | ⟨2, _⟩ => rfl
    rw [hs]
    rfl
  | ⟨2, _⟩ =>
    show 0 + 0 + h.val = h.val
    omega
  | ⟨3, _⟩ =>
    show 0 + 0 + d.val = d.val
    omega

/-- Row `n` of the padded rows, at a column. -/
def padAt (x : FVec Ideal S8x4096x1024 .f32) (b : Fin 8) (n : Nat) (hn : n < 4608) (C : Fin 1024) : EReal :=
  if h : 512 ≤ n then x (ix3 b ⟨n - 512, by omega⟩ C) else (0 : EReal)

theorem rows_at (c : Fin 64) (j : Fin 576) : min (val_main_call4_v0 (F := Ideal) (ix3 c j 0)).toInt.toNat 4607 = c.val * 64 + j.val := by
  pointwise [val_main_call4_v0, val_main_v26, val_main_v24, val_main_v25, val_main_v23, val_main_v10, val_main_v9, val_main_v22, val_main_v21, val_main_v20, val_main_c_5]
  exact rows_word c j

theorem tab_at (a : Fin 64) (j : Fin 576) : min (val_main_call3_v0 (F := Ideal) (ix3 a j 0)).toInt.toNat 512 = j.val - (a.val + 256) := by
  pointwise [val_main_call3_v0, val_main_v18, val_main_v17, val_main_c_4, val_main_v16, val_main_call2_v4, val_main_call2_v3, val_main_c_3, val_main_call2_v2, val_main_call2_v1, val_main_call2_v0, val_main_c_2, val_main_v15, val_main_v14, val_main_v8, val_main_v7, val_main_v13, val_main_v12, val_main_v11, val_main_c_1, val_main_v10, val_main_v9]
  exact rel_word a j

theorem mask_at (c : Fin 64) (j : Fin 576) : val_main_v43 (F := Ideal) (ix2 c j) = if (8 - c.val) * 64 ≤ j.val then 1#1 else 0#1 := by
  pointwise [val_main_v43, val_main_v41, val_main_v42, val_main_v40, val_main_v39, val_main_c_7, val_main_v38, val_main_v37, val_main_c_6, val_main_v36, val_main_v35, val_main_v10, val_main_v9]
  exact mask_word c j

theorem v5_at (x1 : FVec Ideal S8x4096x1024 .f32) (b : Fin 8) (n : Fin 4608) (h : Fin 16) (d : Fin 64) :
    val_main_v5 (F := Ideal) x1 (ix4 b n h d) = padAt x1 b n.val n.isLt ⟨h.val * 64 + d.val, by omega⟩ := by
  pointwise [val_main_v5, val_main_v2, val_main_call0_v0, val_main_c, padAt]
  have h0 : (FloatOps.sitofp (F := Ideal) .f32 (0#32) : EReal) = 0 := by
    show ((((0#32 : BitVec 32).toInt : ℤ) : ℝ) : EReal) = 0
    simp
  rw [h0]
  have := n.isLt
  by_cases h : 512 ≤ n.val
  · rw [dif_pos h, dif_pos ⟨h, by omega⟩]
  · rw [dif_neg h, dif_neg fun h' => h h'.1]

theorem v6_at (x2 : FVec Ideal S8x4096x1024 .f32) (b : Fin 8) (n : Fin 4608) (h : Fin 16) (d : Fin 64) :
    val_main_v6 (F := Ideal) x2 (ix4 b n h d) = padAt x2 b n.val n.isLt ⟨h.val * 64 + d.val, by omega⟩ := v5_at x2 b n h d

theorem padAt_congr (x : FVec Ideal S8x4096x1024 .f32) (b : Fin 8) (n n' : Nat) (hn : n < 4608) (hn' : n' < 4608) (C : Fin 1024)
    (h : n = n') : padAt x b n hn C = padAt x b n' hn' C := by
  subst h; rfl

theorem v27_at (x1 : FVec Ideal S8x4096x1024 .f32) (b : Fin 8) (c : Fin 64) (j : Fin 576) (h : Fin 16) (d : Fin 64) :
    val_main_v27 (F := Ideal) x1 (ix5 b c j h d) = padAt x1 b (c.val * 64 + j.val) (by omega) ⟨h.val * 64 + d.val, by omega⟩ :=
  (gather_rows _ _ b c j h d).trans ((v5_at x1 b _ h d).trans (padAt_congr x1 b _ _ _ _ _ (rows_at c j)))

theorem v28_at (x2 : FVec Ideal S8x4096x1024 .f32) (b : Fin 8) (c : Fin 64) (j : Fin 576) (h : Fin 16) (d : Fin 64) :
    val_main_v28 (F := Ideal) x2 (ix5 b c j h d) = padAt x2 b (c.val * 64 + j.val) (by omega) ⟨h.val * 64 + d.val, by omega⟩ :=
  v27_at x2 b c j h d

theorem v19_at (x3 : FVec Ideal S16x513 .f32) (h : Fin 16) (a : Fin 64) (j : Fin 576) :
    val_main_v19 (F := Ideal) x3 (ix3 h a j) = x3 (ix2 h ⟨j.val - (a.val + 256), by omega⟩) :=
  (gather_tab _ _ h a j).trans (congrArg x3 (congrArg (ix2 h) (Fin.ext (tab_at a j))))

theorem v4_at (x0 : FVec Ideal S8x4096x1024 .bf16) (b : Fin 8) (c a : Fin 64) (h : Fin 16) (d : Fin 64) :
    val_main_v4 (F := Ideal) x0 (ix5 b c a h d) = x0 (ix3 b ⟨c.val * 64 + a.val, by omega⟩ ⟨h.val * 64 + d.val, by omega⟩) := by
  pointwise [val_main_v4, val_main_v1, val_main_v0]

theorem red_max (y : FVec Ideal S8x64x16x64x576 .f32) (z : FVec Ideal S_ .f32) (b : Fin 8) (c : Fin 64) (h : Fin 16) (a : Fin 64) :
    Host.reduce (FloatOps.maximumf) y z reducesTo_S8x64x16x64x576_S8x64x16x64_d4 h_S_ (ix4 b c h a)
      = Finset.univ.fold max (z ix0) (fun k : Fin 576 => y (ix5 b c h a k)) := by
  pointwise
  rw [show Shape.Idx.first h_S_ = ix0 from funext fun e => e.elim0]

/-- The score of query row `c * 64 + a`, head `h`, against key `j` of its chunk's band. -/
def refS (x0 : FVec Ideal S8x4096x1024 .bf16) (x1 : FVec Ideal S8x4096x1024 .f32) (x3 : FVec Ideal S16x513 .f32)
    (b : Fin 8) (c : Fin 64) (h : Fin 16) (a : Fin 64) (j : Fin 576) : EReal :=
  if (8 - c.val) * 64 ≤ j.val then
    score (fun d => x0 (ix3 b ⟨c.val * 64 + a.val, by omega⟩ ⟨h.val * 64 + d.val, by omega⟩))
      (fun d => padAt x1 b (c.val * 64 + j.val) (by omega) ⟨h.val * 64 + d.val, by omega⟩)
      (x3 (ix2 h ⟨j.val - (a.val + 256), by omega⟩))
  else (⊥ : EReal)

section
variable (x0 : FVec Ideal S8x4096x1024 .bf16) (x1 x2 : FVec Ideal S8x4096x1024 .f32) (x3 : FVec Ideal S16x513 .f32)

theorem v29_at (b : Fin 8) (c : Fin 64) (h : Fin 16) (a : Fin 64) (j : Fin 576) :
    val_main_v29 (F := Ideal) x0 x1 (ix5 b c h a j) = ∑ d : Fin 64, x0 (ix3 b ⟨c.val * 64 + a.val, by omega⟩ ⟨h.val * 64 + d.val, by omega⟩)
      * padAt x1 b (c.val * 64 + j.val) (by omega) ⟨h.val * 64 + d.val, by omega⟩ := by
  rw [val_main_v29_apply]
  refine Finset.sum_congr rfl fun d _ => ?_
  rw [← v4_at x0, ← v27_at x1]
  congr 2
  all_goals (funext e; match e with | ⟨0, _⟩ => rfl | ⟨1, _⟩ => rfl | ⟨2, _⟩ => rfl | ⟨3, _⟩ => rfl | ⟨4, _⟩ => rfl)

theorem v45_at (b : Fin 8) (c : Fin 64) (h : Fin 16) (a : Fin 64) (j : Fin 576) :
    val_main_v45 (F := Ideal) x0 x1 x3 (ix5 b c h a j) = refS x0 x1 x3 b c h a j := by
  have hb : (val_main_call6_v2 (F := Ideal) (ix5 b c h a j) : EReal) = ⊥ := negInf
  pointwise [val_main_v45, val_main_call6_v1, val_main_v44, val_main_v34, val_main_v33, val_main_v32, val_main_v31, val_main_v30, val_main_cst, v29_at, v19_at, mask_at, hb]
  unfold refS score
  split <;> rfl

end

end Cert.AttnRefIdeal.Val

end
-- ==== Proof.Attn.Ref.lean ====
/- The reference's attention, read at an entry: the scores of a query against the band of its chunk, their softmax, and
   the weighted sum of the band's values. -/
module

public import proofs.«01_k».proof.Proof.Attn.Math
public import proofs.«01_k».proof.Proof.Attn.Scores

@[expose] public section

set_option maxRecDepth 16384

noncomputable section

namespace Cert.AttnRefIdeal.Val

open Idealize.ShloMosaic Idealize.ShloMosaic.TcCoe Idealize.SL.Sem
open Cert.AttnRefIdeal Cert.AttnRefIdeal.Gen Cert.AttnRefIdeal.Value Cert.AttnRefIdeal.Read Cert.BandMath

section
variable (x0 : FVec Ideal S8x4096x1024 .bf16) (x1 x2 : FVec Ideal S8x4096x1024 .f32) (x3 : FVec Ideal S16x513 .f32)

theorem v48_at (b : Fin 8) (c : Fin 64) (h : Fin 16) (a : Fin 64) :
    val_main_v48 (F := Ideal) x0 x1 x3 (ix4 b c h a) = top (refS x0 x1 x3 b c h a) := by
  have h46 : val_main_v46 (F := Ideal) x0 x1 x3 (ix4 b c h a) = top (refS x0 x1 x3 b c h a) := by
    unfold val_main_v46
    rw [red_max]
    simp only [v45_at]
    rw [show (val_main_cst_9 (F := Ideal) ix0 : EReal) = ⊥ from negInf]
    rfl
  rw [val_main_v48_apply, h46]
  have h47 : (val_main_v47 (F := Ideal) (ix4 b c h a) : EReal) = ⊥ := negInf
  rw [h47]
  generalize top (refS x0 x1 x3 b c h a) = y
  exact bot_sup_eq y

theorem v52_at (b : Fin 8) (c : Fin 64) (h : Fin 16) (a : Fin 64) (j : Fin 576) :
    val_main_v52 (F := Ideal) x0 x1 x3 (ix5 b c h a j) = wt (refS x0 x1 x3 b c h a) j := by
  pointwise [val_main_v52, val_main_v51, val_main_v50, val_main_v49, v48_at, v45_at]
  rfl

theorem v53_at (b : Fin 8) (c : Fin 64) (h : Fin 16) (a : Fin 64) :
    val_main_v53 (F := Ideal) x0 x1 x3 (ix4 b c h a) = ∑ l, wt (refS x0 x1 x3 b c h a) l := by
  pointwise [val_main_v53, val_main_cst_11, v52_at]

theorem v56_at (b : Fin 8) (c : Fin 64) (h : Fin 16) (a : Fin 64) (j : Fin 576) :
    val_main_v56 (F := Ideal) x0 x1 x3 (ix5 b c h a j)
      = Ideal.div (wt (refS x0 x1 x3 b c h a) j) (∑ l, wt (refS x0 x1 x3 b c h a) l) := by
  pointwise [val_main_v56, val_main_v55, val_main_v54, v53_at, v52_at]

theorem v57_at (b : Fin 8) (c : Fin 64) (h : Fin 16) (d a : Fin 64) :
    val_main_v57 (F := Ideal) x0 x1 x2 x3 (ix5 b c h d a) = ∑ j : Fin 576,
      padAt x2 b (c.val * 64 + j.val) (by omega) ⟨h.val * 64 + d.val, by omega⟩
        * Ideal.div (wt (refS x0 x1 x3 b c h a) j) (∑ l, wt (refS x0 x1 x3 b c h a) l) := by
  rw [val_main_v57_apply]
  refine Finset.sum_congr rfl fun j _ => ?_
  rw [← v28_at x2, ← v56_at x0 x1 x3]
  have hl : lidx_main_v57 (ix5 b c h d a) j = ix5 b c j h d := by
    funext e; match e with | ⟨0, _⟩ => rfl | ⟨1, _⟩ => rfl | ⟨2, _⟩ => rfl | ⟨3, _⟩ => rfl | ⟨4, _⟩ => rfl
  have hr : ridx_main_v57 (ix5 b c h d a) j = ix5 b c h a j := by
    funext e; match e with | ⟨0, _⟩ => rfl | ⟨1, _⟩ => rfl | ⟨2, _⟩ => rfl | ⟨3, _⟩ => rfl | ⟨4, _⟩ => rfl
  rw [hl, hr]

theorem v60_at (b : Fin 8) (R : Fin 4096) (C : Fin 1024) :
    val_main_v60 (F := Ideal) x0 x1 x2 x3 (ix3 b R C) = ∑ j : Fin 576,
      padAt x2 b (R.val / 64 * 64 + j.val) (by omega) C
        * Ideal.div (wt (refS x0 x1 x3 b ⟨R.val / 64, by omega⟩ ⟨C.val / 64, by omega⟩ ⟨R.val % 64, by omega⟩) j)
          (∑ l, wt (refS x0 x1 x3 b ⟨R.val / 64, by omega⟩ ⟨C.val / 64, by omega⟩ ⟨R.val % 64, by omega⟩) l) := by
  pointwise [val_main_v60, val_main_v59, val_main_v58, v57_at]
  refine Finset.sum_congr rfl fun j _ => ?_
  have hC : (⟨C.val / 64 * 64 + C.val % 64, by omega⟩ : Fin 1024) = C := Fin.ext (by show C.val / 64 * 64 + C.val % 64 = C.val; omega)
  rw [hC]

end

end Cert.AttnRefIdeal.Val

end
-- ==== Proof.Attn.Eq.lean ====
/- The attention program and its reference compute one array, for finite queries, keys and bias table: the kernel's
   window of 768 keys holds the band of 576 that the reference takes for each chunk, and nothing else in it counts. -/
module

public import proofs.«01_k».proof.Proof.Attn.Arr
public import proofs.«01_k».proof.Proof.Attn.Host
public import proofs.«01_k».proof.Proof.Attn.Ref
public import proofs.«01_k».proof.Proof.Gen.Pre_finite_scores
public import Idealize.ShloMosaic.Lib.ReduceAll

@[expose] public section

set_option maxRecDepth 16384

noncomputable section

namespace Cert.AttnTie

open Idealize.ShloMosaic Idealize.ShloMosaic.TcCoe Idealize.SL.Sem
open Cert.AttnIdeal Cert.AttnIdeal.Val Cert.BandMath

/-- A value whose magnitude compares below infinity is finite. -/
theorem fin_of_lt (x : EReal) (h : Ideal.cmp .olt (max x (-x)) (Ideal.ofBits .f32 0x7F800000#32) = 1#1) : Fin' x := by
  have htop : Ideal.ofBits .f32 0x7F800000#32 = ⊤ := by simp [Ideal.ofBits, Ideal.ieee]
  rw [htop] at h
  have h' : max x (-x) < ⊤ := by
    by_contra hn
    have : Ideal.cmp .olt (max x (-x)) ⊤ = BitVec.ofBool (decide (max x (-x) < ⊤)) := rfl
    rw [this, decide_eq_false hn] at h
    exact absurd h (by decide)
  constructor <;> rintro rfl <;> simp at h'

theorem pre_fin (q : FVec Ideal S8x4096x1024 .bf16) (k v : FVec Ideal S8x4096x1024 .f32) (T : FVec Ideal S16x513 .f32)
    (h : Cert.Pre_finite_scores.fn (F := Ideal) q k v T = fun _ => 1#1) :
    (∀ i, Fin' (q i)) ∧ (∀ i, Fin' (k i)) ∧ (∀ i, Fin' (T i)) := by
  have h0 := congrFun h ix0
  unfold Cert.Pre_finite_scores.fn at h0
  obtain ⟨h1, h3⟩ := IntOp.andi_eq_one.1 h0
  obtain ⟨h1, h2⟩ := IntOp.andi_eq_one.1 h1
  refine ⟨fun i => ?_, fun i => ?_, fun i => ?_⟩
  · have := Host.reduce_andi_all _ _ _ _ _ h1 i
    exact fin_of_lt _ this
  · have := Host.reduce_andi_all _ _ _ _ _ h2 i
    exact fin_of_lt _ this
  · have := Host.reduce_andi_all _ _ _ _ _ h3 i
    exact fin_of_lt _ this

/-- Key `j` of the band of the chunk that holds row `R`, in the window of the block that holds it. -/
def emb (R : Fin 4096) (j : Fin 576) : Fin 768 := ⟨64 * (R.val % 256 / 64) + j.val, by omega⟩

theorem emb_inj (R : Fin 4096) : Function.Injective (emb R) := fun a b h => by
  have : 64 * (R.val % 256 / 64) + a.val = 64 * (R.val % 256 / 64) + b.val := congrArg Fin.val h
  exact Fin.ext (by omega)

theorem padRows_at (x : FVec Ideal S8x4096x1024 .f32) (b : Fin 8) (n : Fin 4608) (C C' : Fin 1024) (n' : Nat) (hn : n' < 4608)
    (h : n.val = n') (hC : C = C') : padRows x (ix3 b n C) = Cert.AttnRefIdeal.Val.padAt x b n' hn C' := by
  subst h hC; rfl

theorem tabIdx_eq (r j : Nat) (hr : r < 256) (hj : j < 576) :
    tabIdx ((64 * (r / 64) + j + 1024 - r) % 1024) = j - (r % 64 + 256) := by
  unfold tabIdx
  split
  · omega
  · split <;> omega

theorem bias_in (T : FVec Ideal S16x513 .f32) (h : Fin 16) (R : Fin 4096) (j : Fin 576) (r : Fin 256) (hr : r.val = R.val % 256)
    (l : Fin 1024) (hl : l.val = (emb R j).val) :
    biasArr (tabRows T) (ix3 h r l) = T (ix2 h ⟨j.val - (R.val % 64 + 256), by omega⟩) := by
  have hl' : l.val = 64 * (r.val / 64) + j.val := by rw [hl, hr]; rfl
  show (if r.val / 64 ≤ l.val / 64 ∧ l.val / 64 ≤ r.val / 64 + 8
    then T (ix2 h ⟨tabIdx ((l.val + 1024 - r.val) % 1024), tabIdx_lt _⟩) else (⊥ : EReal)) = _
  rw [if_pos (by omega)]
  refine congrArg T (congrArg (ix2 h) (Fin.ext ?_))
  show tabIdx ((l.val + 1024 - r.val) % 1024) = _
  rw [hl', tabIdx_eq _ _ r.isLt j.isLt]
  show _ = j.val - (R.val % 64 + 256)
  omega

theorem bias_out (T : FVec Ideal S16x513 .f32) (h : Fin 16) (R : Fin 4096) (r : Fin 256) (hr : r.val = R.val % 256)
    (l' : Fin 768) (l : Fin 1024) (hl : l.val = l'.val) (ho : ∀ j, emb R j ≠ l') : biasArr (tabRows T) (ix3 h r l) = (⊥ : EReal) := by
  refine if_neg fun hh => ?_
  have h1 : r.val / 64 ≤ l.val / 64 ∧ l.val / 64 ≤ r.val / 64 + 8 := hh
  refine ho ⟨l'.val - 64 * (r.val / 64), by omega⟩ (Fin.ext ?_)
  show 64 * (R.val % 256 / 64) + (l'.val - 64 * (r.val / 64)) = l'.val
  rw [← hr]
  omega

theorem att_congr {n : Nat} {S S' w w' : Fin n → EReal} (hS : ∀ j, S j = S' j) (hw : ∀ j, w j = w' j) : att S w = att S' w' := by
  obtain rfl : S = S' := funext hS
  obtain rfl : w = w' := funext hw
  rfl

theorem padAt_fin (x : FVec Ideal S8x4096x1024 .f32) (hx : ∀ i, Fin' (x i)) (b : Fin 8) (n : Nat) (hn : n < 4608) (C : Fin 1024) :
    Fin' (Cert.AttnRefIdeal.Val.padAt x b n hn C) := by
  unfold Cert.AttnRefIdeal.Val.padAt
  split
  · exact hx _
  · exact fin_zero

theorem refS_fin (q : FVec Ideal S8x4096x1024 .bf16) (k : FVec Ideal S8x4096x1024 .f32) (T : FVec Ideal S16x513 .f32)
    (hq : ∀ i, Fin' (q i)) (hk : ∀ i, Fin' (k i)) (hT : ∀ i, Fin' (T i)) (b : Fin 8) (c : Fin 64) (h : Fin 16) (a : Fin 64) (j : Fin 576)
    (hm : (8 - c.val) * 64 ≤ j.val) : Fin' (Cert.AttnRefIdeal.Val.refS q k T b c h a j) := by
  unfold Cert.AttnRefIdeal.Val.refS
  rw [if_pos hm]
  exact fin_score _ _ _ (fun _ => hq _) (fun _ => padAt_fin k hk _ _ _ _) (hT _)

theorem score_congr {x x' y y' : Fin 64 → EReal} {b b' : EReal} (hx : ∀ d, x d = x' d) (hy : ∀ d, y d = y' d) (hb : b = b') :
    score x y b = score x' y' b' := by
  obtain rfl : x = x' := funext hx
  obtain rfl : y = y' := funext hy
  obtain rfl := hb
  rfl

section
variable (q : FVec Ideal S8x4096x1024 .bf16) (k v : FVec Ideal S8x4096x1024 .f32) (T : FVec Ideal S16x513 .f32)
  (b : Fin 8) (R : Fin 4096) (C : Fin 1024)

/-- The scores of one query row against its window, as the kernel computes them. -/
def winOf : Fin 768 → EReal :=
  winS ⟨R.val / 256, by omega⟩ (fun e => q (ix3 b R ⟨C.val / 64 * 64 + e.val, by omega⟩))
    (fun l e => padRows k (ix3 b ⟨256 * (R.val / 256) + l.val, by omega⟩ ⟨C.val / 64 * 64 + e.val, by omega⟩))
    (fun l => biasArr (tabRows T) (ix3 ⟨C.val / 64, by omega⟩ ⟨R.val % 256, by omega⟩ ⟨l.val, by omega⟩))

/-- The scores of one query row against its band, as the reference computes them. -/
def bandOf : Fin 576 → EReal :=
  Cert.AttnRefIdeal.Val.refS q k T b ⟨R.val / 64, by omega⟩ ⟨C.val / 64, by omega⟩ ⟨R.val % 64, by omega⟩

theorem winOf_out (l : Fin 768) (ho : ∀ j, emb R j ≠ l) : winOf q k T b R C l = ⊥ := by
  unfold winOf winS
  beta_reduce
  by_cases h : 512 ≤ l.val + 256 * (R.val / 256)
  · rw [if_pos h, bias_out T ⟨C.val / 64, by omega⟩ R ⟨R.val % 256, by omega⟩ rfl l ⟨l.val, by omega⟩ rfl ho]
    exact score_bot _ _
  · exact if_neg h

theorem winOf_in (j : Fin 576) : winOf q k T b R C (emb R j) = bandOf q k T b R C j := by
  unfold winOf winS bandOf Cert.AttnRefIdeal.Val.refS
  beta_reduce
  have he : (emb R j).val = 64 * (R.val % 256 / 64) + j.val := rfl
  by_cases hm : (8 - R.val / 64) * 64 ≤ j.val
  · rw [if_pos (show 512 ≤ (emb R j).val + 256 * (R.val / 256) by omega), if_pos hm]
    refine score_congr (fun d => ?_) (fun d => ?_) ?_
    · have hR : R = ⟨R.val / 64 * 64 + R.val % 64, by omega⟩ := Fin.ext (by show R.val = R.val / 64 * 64 + R.val % 64; omega)
      exact congrArg (fun r => q (ix3 b r ⟨C.val / 64 * 64 + d.val, by omega⟩)) hR
    · exact padRows_at k b _ _ _ _ (by omega) (by show 256 * (R.val / 256) + (emb R j).val = R.val / 64 * 64 + j.val; omega) rfl
    · exact bias_in T ⟨C.val / 64, by omega⟩ R j ⟨R.val % 256, by omega⟩ rfl ⟨(emb R j).val, by omega⟩ rfl
  · rw [if_neg (show ¬ 512 ≤ (emb R j).val + 256 * (R.val / 256) by omega), if_neg hm]

theorem bandOf_fin (hq : ∀ i, Fin' (q i)) (hk : ∀ i, Fin' (k i)) (hT : ∀ i, Fin' (T i)) (j : Fin 576)
    (hm : (8 - R.val / 64) * 64 ≤ j.val) : Fin' (bandOf q k T b R C j) :=
  refS_fin q k T hq hk hT b ⟨R.val / 64, by omega⟩ ⟨C.val / 64, by omega⟩ ⟨R.val % 64, by omega⟩ j hm

theorem bandOf_out (j : Fin 576) (hm : ¬ (8 - R.val / 64) * 64 ≤ j.val) : bandOf q k T b R C j = ⊥ := if_neg hm

theorem tie_at (hq : ∀ i, Fin' (q i)) (hk : ∀ i, Fin' (k i)) (hT : ∀ i, Fin' (T i)) :
    attOf q (padRows k) (padRows v) (biasArr (tabRows T)) b R C = ∑ j : Fin 576,
      Cert.AttnRefIdeal.Val.padAt v b (R.val / 64 * 64 + j.val) (by omega) C
        * Ideal.div (wt (bandOf q k T b R C) j) (∑ l, wt (bandOf q k T b R C) l) := by
  show att (winOf q k T b R C) (fun l => padRows v (ix3 b ⟨256 * (R.val / 256) + l.val, by omega⟩ C)) = _
  rw [att_window (emb R) (emb_inj R) _ _ (winOf_out q k T b R C),
    att_congr (S' := bandOf q k T b R C) (w' := fun j => Cert.AttnRefIdeal.Val.padAt v b (R.val / 64 * 64 + j.val) (by omega) C)
      (winOf_in q k T b R C) fun j => padRows_at v b _ C C _ _
        (by show 256 * (R.val / 256) + (64 * (R.val % 256 / 64) + j.val) = R.val / 64 * 64 + j.val; omega) rfl]
  refine att_div _ _ (fun j => ?_) ⟨575, by decide⟩
    (bandOf_fin q k T b R C hq hk hT ⟨575, by decide⟩ (by show (8 - R.val / 64) * 64 ≤ 575; omega)).2
  by_cases hm : (8 - R.val / 64) * 64 ≤ j.val
  · exact (bandOf_fin q k T b R C hq hk hT j hm).1
  · rw [bandOf_out q k T b R C j hm]
    exact bot_ne_top

end

theorem tie (q : FVec Ideal S8x4096x1024 .bf16) (k v : FVec Ideal S8x4096x1024 .f32) (T : FVec Ideal S16x513 .f32)
    (hq : ∀ i, Fin' (q i)) (hk : ∀ i, Fin' (k i)) (hT : ∀ i, Fin' (T i)) :
    attArr q (padRows k) (padRows v) (biasArr (tabRows T)) = Cert.AttnRefIdeal.Read.val_main_v60 (F := Ideal) q k v T := by
  funext i
  idx_vars i
  exact (tie_at q k v T i0 i1 i2 hq hk hT).trans (Cert.AttnRefIdeal.Val.v60_at q k v T i0 i1 i2).symm

end Cert.AttnTie

end
-- ==== Proof.Attn.Claim.lean ====
/- The attention's claims: the reference's frame, and the equation of kernel and reference over the reals. -/
module

public import proofs.«01_k».proof.Defs
public import proofs.«01_k».proof.Proof.Attn.Run
public import proofs.«01_k».proof.Proof.Attn.Eq
public import Idealize.ShloMosaic.Lib.Quiescent

@[expose] public section

set_option maxRecDepth 16384

noncomputable section

namespace Cert.AttnTie

open Idealize.ShloMosaic Idealize.ShloMosaic.TcCoe Idealize.SL.Sem

/-- The reference runs, keeps its arguments, and has no counter to leave standing. -/
theorem ref_frame (m : (ℓ : Loc Cert.AttnRefIdeal.nD Cert.AttnRefIdeal.τ Cert.AttnRefIdeal.sig) → Buf (Elt Ideal) ℓ)
    (ρ : Dev Cert.AttnRefIdeal.nD → PrngReg) :
    θ_run (Cert.AttnRefIdeal.defs (F := Ideal)) (onTc (τ := Cert.AttnRefIdeal.τ) (Cert.AttnRefIdeal.main (F := Ideal))) ⟨m, fun _ => 0, ρ⟩
      (fun r => (∀ c : Dev Cert.AttnRefIdeal.nD,
        r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
        ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
        ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
        ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
        ∧ r.2.sem = fun _ => 0) :=
  (θ_run _ _ _).mono (fun r h => ⟨fun c => (h c).2, sem_eq_zero_of_no_sems rfl r.2⟩) (Cert.AttnRefIdeal.Value.run m ρ)

/-- What the kernel leaves in its result, of its arguments. -/
theorem result (m : (ℓ : Loc Cert.AttnIdeal.nD Cert.AttnIdeal.τ Cert.AttnIdeal.sig) → Buf (Elt Ideal) ℓ)
    (ρ : Dev Cert.AttnIdeal.nD → PrngReg) (c : Dev Cert.AttnIdeal.nD) :
    (Cert.AttnIdeal.Gen.dat1 (Cert.AttnIdeal.Gen.V10 m ρ) c).arrAt 4 Cert.AttnIdeal.cfg1.N
      = Cert.AttnIdeal.Val.attArr (m ((c.tc : Thread _ _).loc Cert.AttnIdeal.main_arg0))
          (Cert.AttnIdeal.Val.padRows (m ((c.tc : Thread _ _).loc Cert.AttnIdeal.main_arg1)))
          (Cert.AttnIdeal.Val.padRows (m ((c.tc : Thread _ _).loc Cert.AttnIdeal.main_arg2)))
          (Cert.AttnIdeal.Val.biasArr (Cert.AttnIdeal.Val.tabRows (m ((c.tc : Thread _ _).loc Cert.AttnIdeal.main_arg3)))) := by
  rw [Cert.AttnIdeal.Val.attn_final (Cert.AttnIdeal.Gen.V10 m ρ) c, Cert.AttnIdeal.Val.V10_arg0 m ρ c, Cert.AttnIdeal.Val.V10_v21 m ρ c,
    Cert.AttnIdeal.Val.V10_v23 m ρ c, Cert.AttnIdeal.Val.V10_v19 m ρ c, Cert.AttnIdeal.Val.bias_final (Cert.AttnIdeal.Gen.V5 m ρ) c,
    Cert.AttnIdeal.Val.V5_v18 m ρ c]

/-- From memories that agree on the arguments, with finite queries, keys and table: kernel and reference end with the same attention. -/
theorem equation : Cert.algebraic_AttnIdeal_AttnRefIdeal_pre_finite_scores := by
  intro m g m' g' hpre hag
  refine ⟨fun c => Cert.AttnRefIdeal.Read.val_main_v60 (F := Ideal) (m ((c.tc : Thread _ _).loc Cert.AttnIdeal.main_arg0))
    (m ((c.tc : Thread _ _).loc Cert.AttnIdeal.main_arg1)) (m ((c.tc : Thread _ _).loc Cert.AttnIdeal.main_arg2))
    (m ((c.tc : Thread _ _).loc Cert.AttnIdeal.main_arg3)), ?_, ?_⟩
  · refine (θ_run _ _ _).mono (fun r h c => ⟨?_, ?_, ?_, ?_, ?_⟩) (Cert.AttnIdeal.Val.run_mem m g)
    · obtain ⟨hq, hk, hT⟩ := pre_fin _ _ _ _ (hpre c)
      exact (h c Cert.AttnIdeal.main_v24 (by decide)).trans ((Cert.AttnIdeal.Gen.W11_arr m g c 4).trans
        ((result m g c).trans (tie _ _ _ _ hq hk hT)))
    · exact (h c Cert.AttnIdeal.main_arg0 (by decide)).trans (Cert.AttnIdeal.Gen.W11_main_arg0 m g c)
    · exact (h c Cert.AttnIdeal.main_arg1 (by decide)).trans (Cert.AttnIdeal.Gen.W11_main_arg1 m g c)
    · exact (h c Cert.AttnIdeal.main_arg2 (by decide)).trans (Cert.AttnIdeal.Gen.W11_main_arg2 m g c)
    · exact (h c Cert.AttnIdeal.main_arg3 (by decide)).trans (Cert.AttnIdeal.Gen.W11_main_arg3 m g c)
  · refine (θ_run _ _ _).mono (fun r h c => ⟨?_, (h c).2⟩) (Cert.AttnRefIdeal.Value.run m' g')
    obtain ⟨e0, e1, e2, e3⟩ := hag c
    refine (h c).1.trans ((Cert.AttnRefIdeal.Read.val_main_v60_eq m' c).trans ?_)
    rw [e0, e1, e2, e3]

end Cert.AttnTie

end
-- ==== Proof.Layer.Math.lean ====
/- One entry of the projections of the layer, over the extended reals. -/
module

public import Idealize.ShloMosaic.Lib.Pipeline.ValueKit

@[expose] public section

noncomputable section

namespace Cert.LayerMath

open Idealize.ShloMosaic

/-- A row divided by its root mean square, times a gain, scaled and shifted. -/
def hval (x g sc sh : Fin 2048 → EReal) (k : Fin 2048) : EReal :=
  x k * Ideal.rsqrt (Ideal.div (∑ j, x j * x j) (Ideal.ofBits FTy.f32 1157627904#32) + Ideal.ofBits FTy.f32 897988541#32) * g k * (1 + sc k) + sh k

/-- One entry of a product with a matrix: a row against a column. -/
def dot (h w : Fin 2048 → EReal) : EReal := ∑ k, h k * w k

/-- The gated entry: a projection times the sigmoid of another. -/
def gated (a b : EReal) : EReal := a * Ideal.logistic b

theorem hval_congr {x x' g g' sc sc' sh sh' : Fin 2048 → EReal} (hx : ∀ j, x j = x' j) (hg : ∀ j, g j = g' j)
    (hs : ∀ j, sc j = sc' j) (ht : ∀ j, sh j = sh' j) (k : Fin 2048) : hval x g sc sh k = hval x' g' sc' sh' k := by
  obtain rfl := funext hx
  obtain rfl := funext hg
  obtain rfl := funext hs
  obtain rfl := funext ht
  rfl

theorem dot_congr {h h' w w' : Fin 2048 → EReal} (hh : ∀ j, h j = h' j) (hw : ∀ j, w j = w' j) : dot h w = dot h' w' := by
  obtain rfl := funext hh
  obtain rfl := funext hw
  rfl

end Cert.LayerMath

end
-- ==== Proof.Inp.Arr.lean ====
/- The arrays the projection of the prompt leaves, entry by entry, from the arrays it finds. -/
module

public import proofs.«01_k».proof.Proof.Gen.InpIdeal.Frame
public import proofs.«01_k».proof.Proof.Layer.Math

@[expose] public section

set_option maxRecDepth 16384

noncomputable section

namespace Cert.InpIdeal.Val

open Idealize.ShloMosaic Idealize.ShloMosaic.TcCoe Idealize.SL.Sem
open Cert.InpIdeal Cert.InpIdeal.Gen Cert.LayerMath

variable (m : (ℓ : Loc nD τ sig) → Buf (Elt Ideal) ℓ)

/-- One row's normalised, modulated entry, of one block. -/
theorem pay1_at (x : FVec Ideal S512x2048 .f32) (g : FVec Ideal S1x2048 .f32) (sc sh : FVec Ideal S1x1x2048 .f32) (r : Fin 512) (k : Fin 2048) :
    k0_pay1 (F := Ideal) x g sc sh (ix2 r k) = hval (fun j => x (ix2 r j)) (fun j => g (ix2 0 j)) (fun j => sc (ix3 0 0 j)) (fun j => sh (ix3 0 0 j)) k := by
  unfold hval
  pointwise [k0_pay1]

theorem pay2_at (h : FVec Ideal S512x2048 .bf16) (w w' : FVec Ideal S2048x256 .bf16) (r : Fin 512) (k : Fin 256) :
    k0_pay2 (F := Ideal) h w w' (ix2 r k)
      = gated (dot (fun j => h (ix2 r j)) (fun j => w (ix2 j k))) (dot (fun j => h (ix2 r j)) (fun j => w' (ix2 j k))) := by
  unfold gated dot
  pointwise [k0_pay2]

theorem pay3_at (h : FVec Ideal S512x2048 .bf16) (w : FVec Ideal S2048x256 .bf16) (r : Fin 512) (k : Fin 256) :
    k0_pay3 (F := Ideal) h w (ix2 r k) = dot (fun j => h (ix2 r j)) (fun j => w (ix2 j k)) := by
  unfold dot
  pointwise [k0_pay3]

theorem pay4_at (h : FVec Ideal S512x2048 .bf16) (w : FVec Ideal S2048x256 .bf16) (r : Fin 512) (k : Fin 256) :
    k0_pay4 (F := Ideal) h w (ix2 r k) = dot (fun j => h (ix2 r j)) (fun j => w (ix2 j k)) := by
  unfold dot
  pointwise [k0_pay4]

theorem pay5_at (h : FVec Ideal S512x2048 .bf16) (w : FVec Ideal S2048x256 .bf16) (r : Fin 512) (k : Fin 256) :
    k0_pay5 (F := Ideal) h w (ix2 r k) = dot (fun j => h (ix2 r j)) (fun j => w (ix2 j k)) := by
  unfold dot
  pointwise [k0_pay5]

/-- Which block of each window a point meets. -/
theorem idxs : ∀ t : Fin cfg0.N, win0_0.index t = ![t.val / 4, 0] ∧ win0_1.index t = ![0, 0] ∧ win0_2.index t = ![t.val / 32, 0, 0]
    ∧ win0_3.index t = ![t.val / 32, 0, 0] ∧ win0_4.index t = ![0, t.val % 4] ∧ win0_5.index t = ![0, 4 + t.val % 4]
    ∧ win0_6.index t = ![0, 8 + t.val % 4] ∧ win0_7.index t = ![0, 12 + t.val % 4] ∧ win0_8.index t = ![0, 16 + t.val % 4]
    ∧ win0_9.index t = ![t.val / 4, t.val % 4] ∧ win0_10.index t = ![t.val / 4, t.val % 4] ∧ win0_11.index t = ![t.val / 4, t.val % 4]
    ∧ win0_12.index t = ![t.val / 4, t.val % 4] ∧ t.val < 256 :=
  (by decide +kernel : ∀ t : Fin grid0.N, _)

theorem iblk_x (c : Dev nD) (t : Fin cfg0.N) (r : Fin 512) (k : Fin 2048) (R : Fin 32768) (hR : R.val = 512 * (t.val / 4) + r.val) :
    iblk m c 0 t (ix2 r k) = V m c main_v0 (ix2 R k) := by
  obtain ⟨i, -⟩ := idxs t
  blk_ext [iblk, i, hR]

theorem iblk_g (c : Dev nD) (t : Fin cfg0.N) (k : Fin 2048) : iblk m c 1 t (ix2 0 k) = V m c main_v6 (ix2 0 k) := by
  obtain ⟨-, i, -⟩ := idxs t
  blk_ext [iblk, i]

theorem iblk_sc (c : Dev nD) (t : Fin cfg0.N) (k : Fin 2048) (b : Fin 8) (hb : b.val = t.val / 32) :
    iblk m c 2 t (ix3 0 0 k) = V m c main_v2 (ix3 b 0 k) := by
  obtain ⟨-, -, i, -⟩ := idxs t
  blk_ext [iblk, i, hb]

theorem iblk_sh (c : Dev nD) (t : Fin cfg0.N) (k : Fin 2048) (b : Fin 8) (hb : b.val = t.val / 32) :
    iblk m c 3 t (ix3 0 0 k) = V m c main_v3 (ix3 b 0 k) := by
  obtain ⟨-, -, -, i, -⟩ := idxs t
  blk_ext [iblk, i, hb]

theorem iblk_w4 (c : Dev nD) (t : Fin cfg0.N) (j : Fin 2048) (k : Fin 256) (C : Fin 5120) (hC : C.val = 256 * (t.val % 4) + k.val) :
    iblk m c 4 t (ix2 j k) = V m c main_v5 (ix2 j C) := by
  obtain ⟨-, -, -, -, i, -⟩ := idxs t
  blk_ext [iblk, i, hC]

theorem iblk_w5 (c : Dev nD) (t : Fin cfg0.N) (j : Fin 2048) (k : Fin 256) (C : Fin 5120) (hC : C.val = 1024 + 256 * (t.val % 4) + k.val) :
    iblk m c 5 t (ix2 j k) = V m c main_v5 (ix2 j C) := by
  obtain ⟨-, -, -, -, -, i, -⟩ := idxs t
  blk_ext [iblk, i, hC]

theorem iblk_w6 (c : Dev nD) (t : Fin cfg0.N) (j : Fin 2048) (k : Fin 256) (C : Fin 5120) (hC : C.val = 2048 + 256 * (t.val % 4) + k.val) :
    iblk m c 6 t (ix2 j k) = V m c main_v5 (ix2 j C) := by
  obtain ⟨-, -, -, -, -, -, i, -⟩ := idxs t
  blk_ext [iblk, i, hC]

theorem iblk_w7 (c : Dev nD) (t : Fin cfg0.N) (j : Fin 2048) (k : Fin 256) (C : Fin 5120) (hC : C.val = 3072 + 256 * (t.val % 4) + k.val) :
    iblk m c 7 t (ix2 j k) = V m c main_v5 (ix2 j C) := by
  obtain ⟨-, -, -, -, -, -, -, i, -⟩ := idxs t
  blk_ext [iblk, i, hC]

theorem iblk_w8 (c : Dev nD) (t : Fin cfg0.N) (j : Fin 2048) (k : Fin 256) (C : Fin 5120) (hC : C.val = 4096 + 256 * (t.val % 4) + k.val) :
    iblk m c 8 t (ix2 j k) = V m c main_v5 (ix2 j C) := by
  obtain ⟨-, -, -, -, -, -, -, -, i, -⟩ := idxs t
  blk_ext [iblk, i, hC]

/-- Row `R` of the normalised, modulated input. -/
def hAt (X : FVec Ideal S32768x2048 .f32) (G : FVec Ideal S1x2048 .f32) (SC SH : FVec Ideal S8x1x2048 .f32) (R : Fin 32768) (k : Fin 2048) : EReal :=
  hval (fun j => X (ix2 R j)) (fun j => G (ix2 0 j)) (fun j => SC (ix3 ⟨R.val / 4096, by omega⟩ 0 j)) (fun j => SH (ix3 ⟨R.val / 4096, by omega⟩ 0 j)) k

/-- The product of row `R` with column `o + C` of the weights. -/
def zAt (X : FVec Ideal S32768x2048 .f32) (G : FVec Ideal S1x2048 .f32) (SC SH : FVec Ideal S8x1x2048 .f32) (W : FVec Ideal S2048x5120 .bf16)
    (o : Nat) (ho : o ≤ 4096) (R : Fin 32768) (C : Fin 1024) : EReal :=
  dot (hAt X G SC SH R) (fun j => W (ix2 j ⟨o + C.val, by omega⟩))

/-- The row of the scratch at a point is that row's normalised, modulated input. -/
theorem pay1_row (c : Dev nD) (t : Fin cfg0.N) (r : Fin 512) (k : Fin 2048) (R : Fin 32768) (hR : R.val = 512 * (t.val / 4) + r.val) :
    k0_pay1 (F := Ideal) (iblk m c 0 t) (iblk m c 1 t) (iblk m c 2 t) (iblk m c 3 t) (ix2 r k)
      = hAt (V m c main_v0) (V m c main_v6) (V m c main_v2) (V m c main_v3) R k := by
  refine (pay1_at _ _ _ _ r k).trans (hval_congr (fun j => ?_) (fun j => ?_) (fun j => ?_) (fun j => ?_) k)
  · exact iblk_x m c t r j R hR
  · exact iblk_g m c t j
  · exact iblk_sc m c t j _ (by show R.val / 4096 = t.val / 32; omega)
  · exact iblk_sh m c t j _ (by show R.val / 4096 = t.val / 32; omega)

theorem carried (c : Dev nD) : ∀ (n : ℕ) (hn : n < cfg0.N) (r : Fin 512) (k : Fin 2048) (R : Fin 32768) (_ : R.val = 512 * (n / 4) + r.val),
    (outsAt0 m c n hn).2.2.2.2 (ix2 r k) = hAt (V m c main_v0) (V m c main_v6) (V m c main_v2) (V m c main_v3) R k := by
  intro n
  induction n with
  | zero =>
    intro hn r k R hR
    rw [outsAt0_A m c ⟨0, hn⟩ rfl]
    frame_out
    exact pay1_row m c ⟨0, hn⟩ r k R hR
  | succ n ih =>
    intro hn r k R hR
    by_cases h : (n + 1) % 4 = 0
    · rw [outsAt0_A m c ⟨n + 1, hn⟩ h]
      frame_out
      exact pay1_row m c ⟨n + 1, hn⟩ r k R hR
    · rw [outsAt0_B m c ⟨n + 1, hn⟩ h]
      frame_out
      exact ih (Nat.lt_of_succ_lt hn) r k R (by omega)

end Cert.InpIdeal.Val

end
-- ==== Proof.Inp.Outs.lean ====
/- What one point of the projection call of the prompt leaves in its four result blocks. -/
module

public import Idealize.ShloMosaic.Lib.Pipeline.ReadBack
public import proofs.«01_k».proof.Proof.Inp.Arr

@[expose] public section

set_option maxRecDepth 16384

noncomputable section

namespace Cert.InpIdeal.Val

open Idealize.ShloMosaic Idealize.ShloMosaic.TcCoe Idealize.SL.Sem
open Cert.InpIdeal Cert.InpIdeal.Gen Cert.LayerMath

variable (m : (ℓ : Loc nD τ sig) → Buf (Elt Ideal) ℓ)

/-- The gated array. -/
def uArr (X : FVec Ideal S32768x2048 .f32) (G : FVec Ideal S1x2048 .f32) (SC SH : FVec Ideal S8x1x2048 .f32) (W : FVec Ideal S2048x5120 .bf16) :
    FVec Ideal S32768x1024 .f32 := fun i =>
  gated (zAt X G SC SH W 0 (by omega) (i 0) (i 1)) (zAt X G SC SH W 1024 (by omega) (i 0) (i 1))

/-- A projected array: the columns of the weights from `o` on. -/
def zArr (X : FVec Ideal S32768x2048 .f32) (G : FVec Ideal S1x2048 .f32) (SC SH : FVec Ideal S8x1x2048 .f32) (W : FVec Ideal S2048x5120 .bf16)
    (o : Nat) (ho : o ≤ 4096) : FVec Ideal S32768x1024 .f32 := fun i => zAt X G SC SH W o ho (i 0) (i 1)

/-- The normalised, modulated block the products of a point read: computed there, or left by the point before. -/
def hBlk (c : Dev nD) (t : Fin cfg0.N) : FVec Ideal S512x2048 .bf16 :=
  if t.val % 4 = 0 then k0_pay1 (F := Ideal) (iblk m c 0 t) (iblk m c 1 t) (iblk m c 2 t) (iblk m c 3 t)
  else (outsAt0 m c (t.val - 1) (lt_of_le_of_lt (Nat.sub_le _ _) t.isLt)).2.2.2.2

theorem hBlk_row (c : Dev nD) (t : Fin cfg0.N) (r : Fin 512) (k : Fin 2048) (R : Fin 32768) (hR : R.val = 512 * (t.val / 4) + r.val) :
    hBlk m c t (ix2 r k) = hAt (V m c main_v0) (V m c main_v6) (V m c main_v2) (V m c main_v3) R k := by
  unfold hBlk
  by_cases h : t.val % 4 = 0
  · rw [if_pos h]
    exact pay1_row m c t r k R hR
  · rw [if_neg h]
    exact carried m c (t.val - 1) (lt_of_le_of_lt (Nat.sub_le _ _) t.isLt) r k R (by omega)

theorem outs_u (c : Dev nD) (t : Fin cfg0.N) (y : S512x256.Idx) :
    (outsAt0 m c t.val t.isLt).1 y = k0_pay2 (F := Ideal) (hBlk m c t) (iblk m c 4 t) (iblk m c 5 t) y := by
  unfold hBlk
  by_cases h : t.val % 4 = 0
  · rw [if_pos h, outsAt0_A m c t h]
    frame_out
  · rw [if_neg h, outsAt0_B m c t h]
    frame_out
    rw [read_unread_whole]

theorem outs_q (c : Dev nD) (t : Fin cfg0.N) (y : S512x256.Idx) :
    (outsAt0 m c t.val t.isLt).2.1 y = k0_pay3 (F := Ideal) (hBlk m c t) (iblk m c 6 t) y := by
  unfold hBlk
  by_cases h : t.val % 4 = 0
  · rw [if_pos h, outsAt0_A m c t h]
    frame_out
  · rw [if_neg h, outsAt0_B m c t h]
    frame_out
    rw [read_unread_whole]

theorem outs_k (c : Dev nD) (t : Fin cfg0.N) (y : S512x256.Idx) :
    (outsAt0 m c t.val t.isLt).2.2.1 y = k0_pay4 (F := Ideal) (hBlk m c t) (iblk m c 7 t) y := by
  unfold hBlk
  by_cases h : t.val % 4 = 0
  · rw [if_pos h, outsAt0_A m c t h]
    frame_out
  · rw [if_neg h, outsAt0_B m c t h]
    frame_out
    rw [read_unread_whole]

theorem outs_v (c : Dev nD) (t : Fin cfg0.N) (y : S512x256.Idx) :
    (outsAt0 m c t.val t.isLt).2.2.2.1 y = k0_pay5 (F := Ideal) (hBlk m c t) (iblk m c 8 t) y := by
  unfold hBlk
  by_cases h : t.val % 4 = 0
  · rw [if_pos h, outsAt0_A m c t h]
    frame_out
  · rw [if_neg h, outsAt0_B m c t h]
    frame_out
    rw [read_unread_whole]

end Cert.InpIdeal.Val

end
-- ==== Proof.Inp.Out.lean ====
/- The four result arrays of the projection call of the prompt. -/
module

public import proofs.«01_k».proof.Proof.Inp.Outs

@[expose] public section

set_option maxRecDepth 16384

noncomputable section

namespace Cert.InpIdeal.Val

open Idealize.ShloMosaic Idealize.ShloMosaic.TcCoe Idealize.SL.Sem
open Cert.InpIdeal Cert.InpIdeal.Gen Cert.LayerMath

variable (m : (ℓ : Loc nD τ sig) → Buf (Elt Ideal) ℓ)

theorem u_pt (c : Dev nD) (t : Fin cfg0.N) (y0 : Fin 512) (y1 : Fin 256) (R : Fin 32768) (C : Fin 1024)
    (hR : R.val = 512 * (t.val / 4) + y0.val) (hC : C.val = 256 * (t.val % 4) + y1.val) :
    (outsAt0 m c t.val t.isLt).1 (ix2 y0 y1) = uArr (V m c main_v0) (V m c main_v6) (V m c main_v2) (V m c main_v3) (V m c main_v5) (ix2 R C) := by
  rw [outs_u]
  refine (pay2_at _ _ _ y0 y1).trans (congrArg₂ gated (dot_congr (fun j => hBlk_row m c t y0 j R hR) fun j => ?_)
    (dot_congr (fun j => hBlk_row m c t y0 j R hR) fun j => ?_))
  · exact iblk_w4 m c t j y1 _ (by show 0 + C.val = 256 * (t.val % 4) + y1.val; omega)
  · exact iblk_w5 m c t j y1 _ (by show 1024 + C.val = 1024 + 256 * (t.val % 4) + y1.val; omega)

theorem u_final (c : Dev nD) : (dats m 0 c).arrAt 9 cfg0.N
    = uArr (V m c main_v0) (V m c main_v6) (V m c main_v2) (V m c main_v3) (V m c main_v5) := by
  refine (dats m 0 c).arrAt_eq_of_covers 9 _ (by decide +kernel) fun t _ y => ?_
  blk_simp
  rw [after0_9]
  obtain ⟨-, -, -, -, -, -, -, -, -, i9, -, -, -, hN⟩ := idxs t
  idx_vars y
  have he : ((View.whole main_v7_0).slice (win0_9.rect t)).emb (ix2 y0 y1)
      = ix2 ⟨512 * (t.val / 4) + y0.val, by omega⟩ ⟨256 * (t.val % 4) + y1.val, by omega⟩ := by
    blk_ext [i9]
  rw [he]
  exact u_pt m c t y0 y1 ⟨512 * (t.val / 4) + y0.val, by omega⟩ ⟨256 * (t.val % 4) + y1.val, by omega⟩ rfl rfl

theorem q_pt (c : Dev nD) (t : Fin cfg0.N) (y0 : Fin 512) (y1 : Fin 256) (R : Fin 32768) (C : Fin 1024)
    (hR : R.val = 512 * (t.val / 4) + y0.val) (hC : C.val = 256 * (t.val % 4) + y1.val) :
    (outsAt0 m c t.val t.isLt).2.1 (ix2 y0 y1) = zArr (V m c main_v0) (V m c main_v6) (V m c main_v2) (V m c main_v3) (V m c main_v5) 2048 (by omega) (ix2 R C) := by
  rw [outs_q]
  unfold zArr zAt
  refine (pay3_at _ _ y0 y1).trans (dot_congr (fun j => hBlk_row m c t y0 j R hR) fun j => ?_)
  exact iblk_w6 m c t j y1 ⟨2048 + C.val, by omega⟩ (by show 2048 + C.val = 2048 + 256 * (t.val % 4) + y1.val; omega)

theorem q_final (c : Dev nD) : (dats m 0 c).arrAt 10 cfg0.N
    = zArr (V m c main_v0) (V m c main_v6) (V m c main_v2) (V m c main_v3) (V m c main_v5) 2048 (by omega) := by
  refine (dats m 0 c).arrAt_eq_of_covers 10 _ (by decide +kernel) fun t _ y => ?_
  blk_simp
  rw [after0_10]
  obtain ⟨-, -, -, -, -, -, -, -, -, -, i9, -, -, hN⟩ := idxs t
  idx_vars y
  have he : ((View.whole main_v7_1).slice (win0_10.rect t)).emb (ix2 y0 y1)
      = ix2 ⟨512 * (t.val / 4) + y0.val, by omega⟩ ⟨256 * (t.val % 4) + y1.val, by omega⟩ := by
    blk_ext [i9]
  rw [he]
  exact q_pt m c t y0 y1 ⟨512 * (t.val / 4) + y0.val, by omega⟩ ⟨256 * (t.val % 4) + y1.val, by omega⟩ rfl rfl

theorem k_pt (c : Dev nD) (t : Fin cfg0.N) (y0 : Fin 512) (y1 : Fin 256) (R : Fin 32768) (C : Fin 1024)
    (hR : R.val = 512 * (t.val / 4) + y0.val) (hC : C.val = 256 * (t.val % 4) + y1.val) :
    (outsAt0 m c t.val t.isLt).2.2.1 (ix2 y0 y1) = zArr (V m c main_v0) (V m c main_v6) (V m c main_v2) (V m c main_v3) (V m c main_v5) 3072 (by omega) (ix2 R C) := by
  rw [outs_k]
  unfold zArr zAt
  refine (pay4_at _ _ y0 y1).trans (dot_congr (fun j => hBlk_row m c t y0 j R hR) fun j => ?_)
  exact iblk_w7 m c t j y1 ⟨3072 + C.val, by omega⟩ (by show 3072 + C.val = 3072 + 256 * (t.val % 4) + y1.val; omega)

theorem k_final (c : Dev nD) : (dats m 0 c).arrAt 11 cfg0.N
    = zArr (V m c main_v0) (V m c main_v6) (V m c main_v2) (V m c main_v3) (V m c main_v5) 3072 (by omega) := by
  refine (dats m 0 c).arrAt_eq_of_covers 11 _ (by decide +kernel) fun t _ y => ?_
  blk_simp
  rw [after0_11]
  obtain ⟨-, -, -, -, -, -, -, -, -, -, -, i9, -, hN⟩ := idxs t
  idx_vars y
  have he : ((View.whole main_v7_2).slice (win0_11.rect t)).emb (ix2 y0 y1)
      = ix2 ⟨512 * (t.val / 4) + y0.val, by omega⟩ ⟨256 * (t.val % 4) + y1.val, by omega⟩ := by
    blk_ext [i9]
  rw [he]
  exact k_pt m c t y0 y1 ⟨512 * (t.val / 4) + y0.val, by omega⟩ ⟨256 * (t.val % 4) + y1.val, by omega⟩ rfl rfl

theorem v_pt (c : Dev nD) (t : Fin cfg0.N) (y0 : Fin 512) (y1 : Fin 256) (R : Fin 32768) (C : Fin 1024)
    (hR : R.val = 512 * (t.val / 4) + y0.val) (hC : C.val = 256 * (t.val % 4) + y1.val) :
    (outsAt0 m c t.val t.isLt).2.2.2.1 (ix2 y0 y1) = zArr (V m c main_v0) (V m c main_v6) (V m c main_v2) (V m c main_v3) (V m c main_v5) 4096 (by omega) (ix2 R C) := by
  rw [outs_v]
  unfold zArr zAt
  refine (pay5_at _ _ y0 y1).trans (dot_congr (fun j => hBlk_row m c t y0 j R hR) fun j => ?_)
  exact iblk_w8 m c t j y1 ⟨4096 + C.val, by omega⟩ (by show 4096 + C.val = 4096 + 256 * (t.val % 4) + y1.val; omega)

theorem v_final (c : Dev nD) : (dats m 0 c).arrAt 12 cfg0.N
    = zArr (V m c main_v0) (V m c main_v6) (V m c main_v2) (V m c main_v3) (V m c main_v5) 4096 (by omega) := by
  refine (dats m 0 c).arrAt_eq_of_covers 12 _ (by decide +kernel) fun t _ y => ?_
  blk_simp
  rw [after0_12]
  obtain ⟨-, -, -, -, -, -, -, -, -, -, -, -, i9, hN⟩ := idxs t
  idx_vars y
  have he : ((View.whole main_v7_3).slice (win0_12.rect t)).emb (ix2 y0 y1)
      = ix2 ⟨512 * (t.val / 4) + y0.val, by omega⟩ ⟨256 * (t.val % 4) + y1.val, by omega⟩ := by
    blk_ext [i9]
  rw [he]
  exact v_pt m c t y0 y1 ⟨512 * (t.val / 4) + y0.val, by omega⟩ ⟨256 * (t.val % 4) + y1.val, by omega⟩ rfl rfl

end Cert.InpIdeal.Val

end
-- ==== Proof.Inp.Ref.lean ====
/- The reference's projection of the prompt, read at an entry. -/
module

public import proofs.«01_k».proof.Proof.Gen.InpRefIdeal.Read
public import proofs.«01_k».proof.Proof.Layer.Math

@[expose] public section

set_option maxRecDepth 16384

noncomputable section

namespace Cert.InpRefIdeal.Val

open Idealize.ShloMosaic Idealize.ShloMosaic.TcCoe Idealize.SL.Sem
open Cert.InpRefIdeal Cert.InpRefIdeal.Gen Cert.InpRefIdeal.Value Cert.InpRefIdeal.Read Cert.LayerMath

variable (x0 : FVec Ideal S8x4096x2048 .f32) (x1 x2 : FVec Ideal S8x2048 .f32) (x3 : FVec Ideal S1x2048 .f32) (x4 : FVec Ideal S1x2048x5120 .f32)

/-- The normalised, modulated entry `k` of row `r` of batch `b`. -/
def hRow (b : Fin 8) (r : Fin 4096) (k : Fin 2048) : EReal :=
  hval (fun j => x0 (ix3 b r j)) (fun j => x3 (ix2 0 j)) (fun j => x1 (ix2 b j)) (fun j => x2 (ix2 b j)) k

/-- The product of that row with column `C` of the weights. -/
def zRow (b : Fin 8) (r : Fin 4096) (C : Fin 5120) : EReal := dot (hRow x0 x1 x2 x3 b r) (fun j => x4 (ix3 0 j C))

theorem v21_at (b : Fin 8) (r : Fin 4096) (k : Fin 2048) : val_main_v21 (F := Ideal) x0 x1 x2 x3 (ix3 b r k) = hRow x0 x1 x2 x3 b r k := by
  unfold hRow hval
  pointwise [val_main_v21, val_main_v20, val_main_v19, val_main_v18, val_main_v17, val_main_v16, val_main_v15, val_main_v14, val_main_v13,
    val_main_v12, val_main_v11, val_main_v10, val_main_v9, val_main_v8, val_main_v7, val_main_v6, val_main_v5, val_main_v4, val_main_v3,
    val_main_v2, val_main_v1, val_main_v0, val_main_cst, val_main_cst_0, val_main_cst_1, val_main_cst_2]

theorem v23_at (b : Fin 8) (r : Fin 4096) (C : Fin 5120) : val_main_v23 (F := Ideal) x0 x1 x2 x3 x4 (ix3 b r C) = zRow x0 x1 x2 x3 x4 b r C := by
  unfold zRow dot
  pointwise [val_main_v23, val_main_v22, v21_at]

theorem v26_at (b : Fin 8) (r : Fin 4096) (C : Fin 1024) :
    val_main_v26 (F := Ideal) x0 x1 x2 x3 x4 (ix3 b r C) = zRow x0 x1 x2 x3 x4 b r ⟨2048 + C.val, by omega⟩ := by
  pointwise [val_main_v26, v23_at]

theorem v27_at (b : Fin 8) (r : Fin 4096) (C : Fin 1024) :
    val_main_v27 (F := Ideal) x0 x1 x2 x3 x4 (ix3 b r C) = zRow x0 x1 x2 x3 x4 b r ⟨3072 + C.val, by omega⟩ := by
  pointwise [val_main_v27, v23_at]

theorem v28_at (b : Fin 8) (r : Fin 4096) (C : Fin 1024) :
    val_main_v28 (F := Ideal) x0 x1 x2 x3 x4 (ix3 b r C) = zRow x0 x1 x2 x3 x4 b r ⟨4096 + C.val, by omega⟩ := by
  pointwise [val_main_v28, v23_at]

theorem v38_at (b : Fin 8) (r : Fin 4096) (C : Fin 1024) :
    val_main_v38 (F := Ideal) x0 x1 x2 x3 x4 (ix3 b r C) = zRow x0 x1 x2 x3 x4 b r ⟨2048 + C.val, by omega⟩ := by
  pointwise [val_main_v38, v26_at]

theorem v35_at (b : Fin 8) (r : Fin 4096) (C : Fin 1024) :
    val_main_v35 (F := Ideal) x0 x1 x2 x3 x4 (ix3 b r C)
      = gated (zRow x0 x1 x2 x3 x4 b r ⟨0 + C.val, by omega⟩) (zRow x0 x1 x2 x3 x4 b r ⟨1024 + C.val, by omega⟩) := by
  unfold gated Ideal.logistic
  pointwise [val_main_v35, val_main_v34, val_main_v33, val_main_v32, val_main_v31, val_main_v30, val_main_v29, val_main_v25, val_main_v24, val_main_cst_3, val_main_cst_4, v23_at]

end Cert.InpRefIdeal.Val

end
-- ==== Proof.Inp.Host.lean ====
/- What the host lines around the projection call of the prompt compute, and the call's results as the program returns
   them. -/
module

public import proofs.«01_k».proof.Proof.Inp.Out
public import proofs.«01_k».proof.Proof.Inp.Ref

@[expose] public section

set_option maxRecDepth 16384

noncomputable section

namespace Cert.InpIdeal.Val

open Idealize.ShloMosaic Idealize.ShloMosaic.TcCoe Idealize.SL.Sem
open Cert.InpIdeal Cert.InpIdeal.Gen Cert.LayerMath

variable (m : (ℓ : Loc nD τ sig) → Buf (Elt Ideal) ℓ)

/-- The arguments. -/
abbrev a0 (c : Dev nD) : FVec Ideal S8x4096x2048 .f32 := m ((c.tc : Thread nD τ).loc main_arg0)
abbrev a1 (c : Dev nD) : FVec Ideal S8x2048 .f32 := m ((c.tc : Thread nD τ).loc main_arg1)
abbrev a2 (c : Dev nD) : FVec Ideal S8x2048 .f32 := m ((c.tc : Thread nD τ).loc main_arg2)
abbrev a3 (c : Dev nD) : FVec Ideal S1x2048 .f32 := m ((c.tc : Thread nD τ).loc main_arg3)
abbrev a4 (c : Dev nD) : FVec Ideal S1x2048x5120 .f32 := m ((c.tc : Thread nD τ).loc main_arg4)

theorem V_v0 (c : Dev nD) : V m c main_v0 = shapeCast S32768x2048 (a0 m c) shapeCasts_S8x4096x2048_S32768x2048 := by
  show StableHlo.after hostOps0 (fun b => m (c, b)) (Proc.devRef .tc main_v0) = _
  after_results
  rfl

theorem V_v2 (c : Dev nD) : V m c main_v2 = shapeCast S8x1x2048 (a1 m c) shapeCasts_S8x2048_S8x1x2048 := by
  show StableHlo.after hostOps0 (fun b => m (c, b)) (Proc.devRef .tc main_v2) = _
  after_results
  rfl

theorem V_v3 (c : Dev nD) : V m c main_v3 = shapeCast S8x1x2048 (a2 m c) shapeCasts_S8x2048_S8x1x2048 := by
  show StableHlo.after hostOps0 (fun b => m (c, b)) (Proc.devRef .tc main_v3) = _
  after_results
  rfl

theorem V_v6 (c : Dev nD) : V m c main_v6 = shapeCast S1x2048 (shapeCast S2048 (a3 m c) shapeCasts_S1x2048_S2048) shapeCasts_S2048_S1x2048 := by
  show StableHlo.after hostOps0 (fun b => m (c, b)) (Proc.devRef .tc main_v6) = _
  after_results
  rfl

theorem V_v5 (c : Dev nD) : V m c main_v5 = truncf .bf16 (shapeCast S2048x5120 (a4 m c) shapeCasts_S1x2048x5120_S2048x5120) bitsLt_bf16_f32 := by
  show StableHlo.after hostOps0 (fun b => m (c, b)) (Proc.devRef .tc main_v5) = _
  after_results
  rfl

theorem x_at (c : Dev nD) (b : Fin 8) (r : Fin 4096) (j : Fin 2048) (R : Fin 32768) (hR : R.val = b.val * 4096 + r.val) :
    V m c main_v0 (ix2 R j) = a0 m c (ix3 b r j) := by
  have hb : (⟨R.val / 4096, by omega⟩ : Fin 8) = b := Fin.ext (by show R.val / 4096 = b.val; omega)
  have hr : (⟨R.val % 4096, by omega⟩ : Fin 4096) = r := Fin.ext (by show R.val % 4096 = r.val; omega)
  have e : V m c main_v0 (ix2 R j) = a0 m c (ix3 ⟨R.val / 4096, by omega⟩ ⟨R.val % 4096, by omega⟩ j) := by
    rw [V_v0]
    generalize a0 m c = x
    pointwise []
  exact e.trans (by rw [hb, hr])

theorem sc_at (c : Dev nD) (b : Fin 8) (j : Fin 2048) : V m c main_v2 (ix3 b 0 j) = a1 m c (ix2 b j) := by
  rw [V_v2]
  generalize a1 m c = x
  pointwise []

theorem sh_at (c : Dev nD) (b : Fin 8) (j : Fin 2048) : V m c main_v3 (ix3 b 0 j) = a2 m c (ix2 b j) := by
  rw [V_v3]
  generalize a2 m c = x
  pointwise []

theorem g_at (c : Dev nD) (j : Fin 2048) : V m c main_v6 (ix2 0 j) = a3 m c (ix2 0 j) := by
  rw [V_v6]
  generalize a3 m c = x
  pointwise []

theorem w_at (c : Dev nD) (j : Fin 2048) (C : Fin 5120) : V m c main_v5 (ix2 j C) = a4 m c (ix3 0 j C) := by
  rw [V_v5]
  generalize a4 m c = x
  pointwise []

open Cert.InpRefIdeal.Val (hRow zRow)

theorem h_eq (c : Dev nD) (b : Fin 8) (r : Fin 4096) (k : Fin 2048) (R : Fin 32768) (hR : R.val = b.val * 4096 + r.val) :
    hAt (V m c main_v0) (V m c main_v6) (V m c main_v2) (V m c main_v3) R k = hRow (a0 m c) (a1 m c) (a2 m c) (a3 m c) b r k := by
  have hb : (⟨R.val / 4096, by omega⟩ : Fin 8) = b := Fin.ext (by show R.val / 4096 = b.val; omega)
  unfold hAt hRow
  rw [hb]
  exact hval_congr (fun j => x_at m c b r j R hR) (fun j => g_at m c j) (fun j => sc_at m c b j) (fun j => sh_at m c b j) k

theorem z_eq (c : Dev nD) (o : Nat) (ho : o ≤ 4096) (b : Fin 8) (r : Fin 4096) (C : Fin 1024) (R : Fin 32768) (hR : R.val = b.val * 4096 + r.val) :
    zAt (V m c main_v0) (V m c main_v6) (V m c main_v2) (V m c main_v3) (V m c main_v5) o ho R C
      = zRow (a0 m c) (a1 m c) (a2 m c) (a3 m c) (a4 m c) b r ⟨o + C.val, by omega⟩ := by
  unfold zAt zRow
  exact dot_congr (fun j => h_eq m c b r j R hR) (fun j => w_at m c j _)

/-- The rows of a batch, of all rows in line. -/
theorem rows_at {φ : FTy} (X : FVec Ideal S32768x1024 φ) (b : Fin 8) (r : Fin 4096) (C : Fin 1024) :
    shapeCast S8x4096x1024 X shapeCasts_S32768x1024_S8x4096x1024 (ix3 b r C) = X (ix2 ⟨b.val * 4096 + r.val, by omega⟩ C) := by
  pointwise []

/-- What the program leaves at the end. -/
abbrev T (c : Dev nD) (b : Ref sig .tc) : Buf (Elt Ideal) ((c.tc : Thread nD τ).loc b) :=
  Pipeline.afterTail₀ cfgs (dats m) 0 (V0 m) [hostOps1] c b

theorem T_v8 (c : Dev nD) : T m c main_v8 = Cert.InpRefIdeal.Read.val_main_v35 (F := Ideal) (a0 m c) (a1 m c) (a2 m c) (a3 m c) (a4 m c) := by
  have e : T m c main_v8 = shapeCast S8x4096x1024 (uArr (V m c main_v0) (V m c main_v6) (V m c main_v2) (V m c main_v3) (V m c main_v5) : FVec Ideal S32768x1024 .f32) shapeCasts_S32768x1024_S8x4096x1024 := by
    have h := ((dats m 0 c).withArrays_arrAt sharedIn0 (V0 m c) (A_eq m c) 9).trans (u_final m c)
    show StableHlo.after hostOps1 (Pipeline.withArrays spec0 c (V0 m c) fun w => (dats m 0 c).arrAt w cfg0.N) (Proc.devRef .tc main_v8) = _
    generalize (Pipeline.withArrays spec0 c (V0 m c) fun w => (dats m 0 c).arrAt w cfg0.N) = W at h ⊢
    rw [← h]
    after_results
    rfl
  rw [e]
  funext y
  idx_vars y
  refine (rows_at (φ := .f32) _ y0 y1 y2).trans (Eq.trans ?_ (Cert.InpRefIdeal.Val.v35_at (a0 m c) (a1 m c) (a2 m c) (a3 m c) (a4 m c) y0 y1 y2).symm)
  exact congrArg₂ gated (z_eq m c 0 (by omega) y0 y1 y2 ⟨y0.val * 4096 + y1.val, by omega⟩ rfl) (z_eq m c 1024 (by omega) y0 y1 y2 ⟨y0.val * 4096 + y1.val, by omega⟩ rfl)

theorem T_v11 (c : Dev nD) : T m c main_v11 = Cert.InpRefIdeal.Read.val_main_v38 (F := Ideal) (a0 m c) (a1 m c) (a2 m c) (a3 m c) (a4 m c) := by
  have e : T m c main_v11 = shapeCast S8x4096x1024 (zArr (V m c main_v0) (V m c main_v6) (V m c main_v2) (V m c main_v3) (V m c main_v5) 2048 (by omega) : FVec Ideal S32768x1024 .bf16) shapeCasts_S32768x1024_S8x4096x1024 := by
    have h := ((dats m 0 c).withArrays_arrAt sharedIn0 (V0 m c) (A_eq m c) 10).trans (q_final m c)
    show StableHlo.after hostOps1 (Pipeline.withArrays spec0 c (V0 m c) fun w => (dats m 0 c).arrAt w cfg0.N) (Proc.devRef .tc main_v11) = _
    generalize (Pipeline.withArrays spec0 c (V0 m c) fun w => (dats m 0 c).arrAt w cfg0.N) = W at h ⊢
    rw [← h]
    after_results
    rfl
  rw [e]
  funext y
  idx_vars y
  refine (rows_at (φ := .bf16) _ y0 y1 y2).trans (Eq.trans ?_ (Cert.InpRefIdeal.Val.v38_at (a0 m c) (a1 m c) (a2 m c) (a3 m c) (a4 m c) y0 y1 y2).symm)
  exact z_eq m c 2048 (by omega) y0 y1 y2 ⟨y0.val * 4096 + y1.val, by omega⟩ rfl

theorem T_v9 (c : Dev nD) : T m c main_v9 = Cert.InpRefIdeal.Read.val_main_v27 (F := Ideal) (a0 m c) (a1 m c) (a2 m c) (a3 m c) (a4 m c) := by
  have e : T m c main_v9 = shapeCast S8x4096x1024 (zArr (V m c main_v0) (V m c main_v6) (V m c main_v2) (V m c main_v3) (V m c main_v5) 3072 (by omega) : FVec Ideal S32768x1024 .f32) shapeCasts_S32768x1024_S8x4096x1024 := by
    have h := ((dats m 0 c).withArrays_arrAt sharedIn0 (V0 m c) (A_eq m c) 11).trans (k_final m c)
    show StableHlo.after hostOps1 (Pipeline.withArrays spec0 c (V0 m c) fun w => (dats m 0 c).arrAt w cfg0.N) (Proc.devRef .tc main_v9) = _
    generalize (Pipeline.withArrays spec0 c (V0 m c) fun w => (dats m 0 c).arrAt w cfg0.N) = W at h ⊢
    rw [← h]
    after_results
    rfl
  rw [e]
  funext y
  idx_vars y
  refine (rows_at (φ := .f32) _ y0 y1 y2).trans (Eq.trans ?_ (Cert.InpRefIdeal.Val.v27_at (a0 m c) (a1 m c) (a2 m c) (a3 m c) (a4 m c) y0 y1 y2).symm)
  exact z_eq m c 3072 (by omega) y0 y1 y2 ⟨y0.val * 4096 + y1.val, by omega⟩ rfl

theorem T_v10 (c : Dev nD) : T m c main_v10 = Cert.InpRefIdeal.Read.val_main_v28 (F := Ideal) (a0 m c) (a1 m c) (a2 m c) (a3 m c) (a4 m c) := by
  have e : T m c main_v10 = shapeCast S8x4096x1024 (zArr (V m c main_v0) (V m c main_v6) (V m c main_v2) (V m c main_v3) (V m c main_v5) 4096 (by omega) : FVec Ideal S32768x1024 .f32) shapeCasts_S32768x1024_S8x4096x1024 := by
    have h := ((dats m 0 c).withArrays_arrAt sharedIn0 (V0 m c) (A_eq m c) 12).trans (v_final m c)
    show StableHlo.after hostOps1 (Pipeline.withArrays spec0 c (V0 m c) fun w => (dats m 0 c).arrAt w cfg0.N) (Proc.devRef .tc main_v10) = _
    generalize (Pipeline.withArrays spec0 c (V0 m c) fun w => (dats m 0 c).arrAt w cfg0.N) = W at h ⊢
    rw [← h]
    after_results
    rfl
  rw [e]
  funext y
  idx_vars y
  refine (rows_at (φ := .f32) _ y0 y1 y2).trans (Eq.trans ?_ (Cert.InpRefIdeal.Val.v28_at (a0 m c) (a1 m c) (a2 m c) (a3 m c) (a4 m c) y0 y1 y2).symm)
  exact z_eq m c 4096 (by omega) y0 y1 y2 ⟨y0.val * 4096 + y1.val, by omega⟩ rfl

theorem T_v13 (c : Dev nD) : T m c main_v13 = Cert.InpRefIdeal.Read.val_main_v40 (F := Ideal) (a0 m c) (a1 m c) (a2 m c) (a3 m c) (a4 m c) := by
  have e : T m c main_v13 = broadcastInDim S1x8x30x1024 ![1, 2, 3] bcast_S8x30x1024_S1x8x30x1024_1_2_3 (extractStridedSlice S8x30x1024 ![0, 4066, 0] (T m c main_v8 : FVec Ideal S8x4096x1024 .f32) slices_S8x4096x1024_S8x30x1024_0_4066_0) := by
    show StableHlo.after hostOps1 (Pipeline.withArrays spec0 c (V0 m c) fun w => (dats m 0 c).arrAt w cfg0.N) (Proc.devRef .tc main_v13) = _
    rw [show T m c main_v8 = StableHlo.after hostOps1 (Pipeline.withArrays spec0 c (V0 m c) fun w => (dats m 0 c).arrAt w cfg0.N) (Proc.devRef .tc main_v8) from rfl]
    generalize (Pipeline.withArrays spec0 c (V0 m c) fun w => (dats m 0 c).arrAt w cfg0.N) = W
    after_results
  rw [e, T_v8]
  unfold Cert.InpRefIdeal.Read.val_main_v40 Cert.InpRefIdeal.Read.val_main_v39
  rfl

theorem T_v16 (c : Dev nD) : T m c main_v16 = Cert.InpRefIdeal.Read.val_main_v42 (F := Ideal) (a0 m c) (a1 m c) (a2 m c) (a3 m c) (a4 m c) := by
  have e : T m c main_v16 = broadcastInDim S1x8x512x16x64 ![1, 2, 3, 4] bcast_S8x512x16x64_S1x8x512x16x64_1_2_3_4 (shapeCast S8x512x16x64 (extractStridedSlice S8x512x1024 ![0, 3584, 0] (T m c main_v9 : FVec Ideal S8x4096x1024 .f32) slices_S8x4096x1024_S8x512x1024_0_3584_0) shapeCasts_S8x512x1024_S8x512x16x64) := by
    show StableHlo.after hostOps1 (Pipeline.withArrays spec0 c (V0 m c) fun w => (dats m 0 c).arrAt w cfg0.N) (Proc.devRef .tc main_v16) = _
    rw [show T m c main_v9 = StableHlo.after hostOps1 (Pipeline.withArrays spec0 c (V0 m c) fun w => (dats m 0 c).arrAt w cfg0.N) (Proc.devRef .tc main_v9) from rfl]
    generalize (Pipeline.withArrays spec0 c (V0 m c) fun w => (dats m 0 c).arrAt w cfg0.N) = W
    after_results
    rfl
  rw [e, T_v9]
  unfold Cert.InpRefIdeal.Read.val_main_v42 Cert.InpRefIdeal.Read.val_main_v41 Cert.InpRefIdeal.Read.val_main_v36
  generalize Cert.InpRefIdeal.Read.val_main_v27 (F := Ideal) (a0 m c) (a1 m c) (a2 m c) (a3 m c) (a4 m c) = X
  funext y
  idx_vars y
  pointwise []

theorem T_v19 (c : Dev nD) : T m c main_v19 = Cert.InpRefIdeal.Read.val_main_v44 (F := Ideal) (a0 m c) (a1 m c) (a2 m c) (a3 m c) (a4 m c) := by
  have e : T m c main_v19 = broadcastInDim S1x8x512x16x64 ![1, 2, 3, 4] bcast_S8x512x16x64_S1x8x512x16x64_1_2_3_4 (shapeCast S8x512x16x64 (extractStridedSlice S8x512x1024 ![0, 3584, 0] (T m c main_v10 : FVec Ideal S8x4096x1024 .f32) slices_S8x4096x1024_S8x512x1024_0_3584_0) shapeCasts_S8x512x1024_S8x512x16x64) := by
    show StableHlo.after hostOps1 (Pipeline.withArrays spec0 c (V0 m c) fun w => (dats m 0 c).arrAt w cfg0.N) (Proc.devRef .tc main_v19) = _
    rw [show T m c main_v10 = StableHlo.after hostOps1 (Pipeline.withArrays spec0 c (V0 m c) fun w => (dats m 0 c).arrAt w cfg0.N) (Proc.devRef .tc main_v10) from rfl]
    generalize (Pipeline.withArrays spec0 c (V0 m c) fun w => (dats m 0 c).arrAt w cfg0.N) = W
    after_results
    rfl
  rw [e, T_v10]
  unfold Cert.InpRefIdeal.Read.val_main_v44 Cert.InpRefIdeal.Read.val_main_v43 Cert.InpRefIdeal.Read.val_main_v37
  generalize Cert.InpRefIdeal.Read.val_main_v28 (F := Ideal) (a0 m c) (a1 m c) (a2 m c) (a3 m c) (a4 m c) = X
  funext y
  idx_vars y
  pointwise []

/-- The program runs; what no window holds ends at what the lines after the call leave, and the arguments as they were. -/
theorem run_all (ρ : Dev nD → PrngReg) :
    θ_run (defs (F := Ideal)) (onTc (τ := τ) (main (F := Ideal))) ⟨m, fun _ => 0, ρ⟩ (fun r => ∀ c : Dev nD,
      (∀ b ∈ Pipeline.restRefs sig spec0, r.2.mem ((c.tc : Thread nD τ).loc b) = T m c b)
      ∧ (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))) :=
  (θ_run defs _ _).mono (fun r h c => ⟨(h c).2, ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩) (run_main m ρ)

end Cert.InpIdeal.Val

end
-- ==== Proof.Inp.Claim.lean ====
/- The claims on the projections of the prompt: the reference's frame, and the equation of kernel and reference over the reals. -/
module

public import proofs.«01_k».proof.Defs
public import proofs.«01_k».proof.Proof.Inp.Host
public import proofs.«01_k».proof.Proof.Gen.InpRefIdeal.Run
public import Idealize.ShloMosaic.Lib.Quiescent

@[expose] public section

set_option maxRecDepth 16384

noncomputable section

namespace Cert.InpTie

open Idealize.ShloMosaic Idealize.ShloMosaic.TcCoe Idealize.SL.Sem

/-- The reference runs, keeps its arguments, and has no counter to leave standing. -/
theorem ref_frame (m : (ℓ : Loc Cert.InpRefIdeal.nD Cert.InpRefIdeal.τ Cert.InpRefIdeal.sig) → Buf (Elt Ideal) ℓ)
    (ρ : Dev Cert.InpRefIdeal.nD → PrngReg) :
    θ_run (Cert.InpRefIdeal.defs (F := Ideal)) (onTc (τ := Cert.InpRefIdeal.τ) (Cert.InpRefIdeal.main (F := Ideal))) ⟨m, fun _ => 0, ρ⟩
      (fun r => (∀ c : Dev Cert.InpRefIdeal.nD,
        r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
        ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
        ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2)
        ∧ r.2.mem ((c.tc : Thread Cert.InpRefIdeal.nD Cert.InpRefIdeal.τ).loc Cert.InpRefIdeal.main_arg3) = m ((c.tc : Thread Cert.InpRefIdeal.nD Cert.InpRefIdeal.τ).loc Cert.InpRefIdeal.main_arg3)
        ∧ r.2.mem ((c.tc : Thread Cert.InpRefIdeal.nD Cert.InpRefIdeal.τ).loc Cert.InpRefIdeal.main_arg4) = m ((c.tc : Thread Cert.InpRefIdeal.nD Cert.InpRefIdeal.τ).loc Cert.InpRefIdeal.main_arg4))
        ∧ r.2.sem = fun _ => 0) :=
  (θ_run _ _ _).mono (fun r h => ⟨fun c => (h c).2.2.2.2.2.2.2, sem_eq_zero_of_no_sems rfl r.2⟩) (Cert.InpRefIdeal.Value.run m ρ)

/-- From memories that agree on the arguments: kernel and reference end with the same results. -/
theorem equation : Cert.algebraic_InpIdeal_InpRefIdeal := by
  intro m g m' g' hpre hag
  refine ⟨fun c => Cert.InpRefIdeal.Read.val_main_v35 (F := Ideal) (m ((c.tc : Thread _ _).loc Cert.InpIdeal.main_arg0)) (m ((c.tc : Thread _ _).loc Cert.InpIdeal.main_arg1)) (m ((c.tc : Thread _ _).loc Cert.InpIdeal.main_arg2)) (m ((c.tc : Thread _ _).loc Cert.InpIdeal.main_arg3)) (m ((c.tc : Thread _ _).loc Cert.InpIdeal.main_arg4)),
    fun c => Cert.InpRefIdeal.Read.val_main_v38 (F := Ideal) (m ((c.tc : Thread _ _).loc Cert.InpIdeal.main_arg0)) (m ((c.tc : Thread _ _).loc Cert.InpIdeal.main_arg1)) (m ((c.tc : Thread _ _).loc Cert.InpIdeal.main_arg2)) (m ((c.tc : Thread _ _).loc Cert.InpIdeal.main_arg3)) (m ((c.tc : Thread _ _).loc Cert.InpIdeal.main_arg4)),
    fun c => Cert.InpRefIdeal.Read.val_main_v27 (F := Ideal) (m ((c.tc : Thread _ _).loc Cert.InpIdeal.main_arg0)) (m ((c.tc : Thread _ _).loc Cert.InpIdeal.main_arg1)) (m ((c.tc : Thread _ _).loc Cert.InpIdeal.main_arg2)) (m ((c.tc : Thread _ _).loc Cert.InpIdeal.main_arg3)) (m ((c.tc : Thread _ _).loc Cert.InpIdeal.main_arg4)),
    fun c => Cert.InpRefIdeal.Read.val_main_v28 (F := Ideal) (m ((c.tc : Thread _ _).loc Cert.InpIdeal.main_arg0)) (m ((c.tc : Thread _ _).loc Cert.InpIdeal.main_arg1)) (m ((c.tc : Thread _ _).loc Cert.InpIdeal.main_arg2)) (m ((c.tc : Thread _ _).loc Cert.InpIdeal.main_arg3)) (m ((c.tc : Thread _ _).loc Cert.InpIdeal.main_arg4)),
    fun c => Cert.InpRefIdeal.Read.val_main_v40 (F := Ideal) (m ((c.tc : Thread _ _).loc Cert.InpIdeal.main_arg0)) (m ((c.tc : Thread _ _).loc Cert.InpIdeal.main_arg1)) (m ((c.tc : Thread _ _).loc Cert.InpIdeal.main_arg2)) (m ((c.tc : Thread _ _).loc Cert.InpIdeal.main_arg3)) (m ((c.tc : Thread _ _).loc Cert.InpIdeal.main_arg4)),
    fun c => Cert.InpRefIdeal.Read.val_main_v42 (F := Ideal) (m ((c.tc : Thread _ _).loc Cert.InpIdeal.main_arg0)) (m ((c.tc : Thread _ _).loc Cert.InpIdeal.main_arg1)) (m ((c.tc : Thread _ _).loc Cert.InpIdeal.main_arg2)) (m ((c.tc : Thread _ _).loc Cert.InpIdeal.main_arg3)) (m ((c.tc : Thread _ _).loc Cert.InpIdeal.main_arg4)),
    fun c => Cert.InpRefIdeal.Read.val_main_v44 (F := Ideal) (m ((c.tc : Thread _ _).loc Cert.InpIdeal.main_arg0)) (m ((c.tc : Thread _ _).loc Cert.InpIdeal.main_arg1)) (m ((c.tc : Thread _ _).loc Cert.InpIdeal.main_arg2)) (m ((c.tc : Thread _ _).loc Cert.InpIdeal.main_arg3)) (m ((c.tc : Thread _ _).loc Cert.InpIdeal.main_arg4)), ?_, ?_⟩
  · refine (θ_run _ _ _).mono (fun r h c => ⟨?_, ?_, ?_, ?_, ?_, ?_, ?_, ?_⟩) (Cert.InpIdeal.Val.run_all m g)
    · exact ((h c).1 Cert.InpIdeal.main_v8 (Pipeline.mem_restRefs_of Cert.InpIdeal.main_v8 (by decide) (by decide))).trans (Cert.InpIdeal.Val.T_v8 m c)
    · exact ((h c).1 Cert.InpIdeal.main_v11 (Pipeline.mem_restRefs_of Cert.InpIdeal.main_v11 (by decide) (by decide))).trans (Cert.InpIdeal.Val.T_v11 m c)
    · exact ((h c).1 Cert.InpIdeal.main_v9 (Pipeline.mem_restRefs_of Cert.InpIdeal.main_v9 (by decide) (by decide))).trans (Cert.InpIdeal.Val.T_v9 m c)
    · exact ((h c).1 Cert.InpIdeal.main_v10 (Pipeline.mem_restRefs_of Cert.InpIdeal.main_v10 (by decide) (by decide))).trans (Cert.InpIdeal.Val.T_v10 m c)
    · exact ((h c).1 Cert.InpIdeal.main_v13 (Pipeline.mem_restRefs_of Cert.InpIdeal.main_v13 (by decide) (by decide))).trans (Cert.InpIdeal.Val.T_v13 m c)
    · exact ((h c).1 Cert.InpIdeal.main_v16 (Pipeline.mem_restRefs_of Cert.InpIdeal.main_v16 (by decide) (by decide))).trans (Cert.InpIdeal.Val.T_v16 m c)
    · exact ((h c).1 Cert.InpIdeal.main_v19 (Pipeline.mem_restRefs_of Cert.InpIdeal.main_v19 (by decide) (by decide))).trans (Cert.InpIdeal.Val.T_v19 m c)
    · exact (h c).2
  · refine (θ_run _ _ _).mono (fun r h c => ⟨?_, ?_, ?_, ?_, ?_, ?_, ?_, (h c).2.2.2.2.2.2.2⟩) (Cert.InpRefIdeal.Value.run m' g')
    · obtain ⟨e0, e1, e2, e3, e4⟩ := hag c
      refine (h c).1.trans ((Cert.InpRefIdeal.Read.val_main_v35_eq (m' ((c.tc : Thread _ _).loc Cert.InpRefIdeal.main_arg0)) (m' ((c.tc : Thread _ _).loc Cert.InpRefIdeal.main_arg1)) (m' ((c.tc : Thread _ _).loc Cert.InpRefIdeal.main_arg2)) (m' ((c.tc : Thread _ _).loc Cert.InpRefIdeal.main_arg3)) (m' ((c.tc : Thread _ _).loc Cert.InpRefIdeal.main_arg4))).trans ?_)
      rw [e0, e1, e2, e3, e4]
    · obtain ⟨e0, e1, e2, e3, e4⟩ := hag c
      refine (h c).2.1.trans ((Cert.InpRefIdeal.Read.val_main_v38_eq (m' ((c.tc : Thread _ _).loc Cert.InpRefIdeal.main_arg0)) (m' ((c.tc : Thread _ _).loc Cert.InpRefIdeal.main_arg1)) (m' ((c.tc : Thread _ _).loc Cert.InpRefIdeal.main_arg2)) (m' ((c.tc : Thread _ _).loc Cert.InpRefIdeal.main_arg3)) (m' ((c.tc : Thread _ _).loc Cert.InpRefIdeal.main_arg4))).trans ?_)
      rw [e0, e1, e2, e3, e4]
    · obtain ⟨e0, e1, e2, e3, e4⟩ := hag c
      refine (h c).2.2.1.trans ((Cert.InpRefIdeal.Read.val_main_v27_eq (m' ((c.tc : Thread _ _).loc Cert.InpRefIdeal.main_arg0)) (m' ((c.tc : Thread _ _).loc Cert.InpRefIdeal.main_arg1)) (m' ((c.tc : Thread _ _).loc Cert.InpRefIdeal.main_arg2)) (m' ((c.tc : Thread _ _).loc Cert.InpRefIdeal.main_arg3)) (m' ((c.tc : Thread _ _).loc Cert.InpRefIdeal.main_arg4))).trans ?_)
      rw [e0, e1, e2, e3, e4]
    · obtain ⟨e0, e1, e2, e3, e4⟩ := hag c
      refine (h c).2.2.2.1.trans ((Cert.InpRefIdeal.Read.val_main_v28_eq (m' ((c.tc : Thread _ _).loc Cert.InpRefIdeal.main_arg0)) (m' ((c.tc : Thread _ _).loc Cert.InpRefIdeal.main_arg1)) (m' ((c.tc : Thread _ _).loc Cert.InpRefIdeal.main_arg2)) (m' ((c.tc : Thread _ _).loc Cert.InpRefIdeal.main_arg3)) (m' ((c.tc : Thread _ _).loc Cert.InpRefIdeal.main_arg4))).trans ?_)
      rw [e0, e1, e2, e3, e4]
    · obtain ⟨e0, e1, e2, e3, e4⟩ := hag c
      refine (h c).2.2.2.2.1.trans ((Cert.InpRefIdeal.Read.val_main_v40_eq (m' ((c.tc : Thread _ _).loc Cert.InpRefIdeal.main_arg0)) (m' ((c.tc : Thread _ _).loc Cert.InpRefIdeal.main_arg1)) (m' ((c.tc : Thread _ _).loc Cert.InpRefIdeal.main_arg2)) (m' ((c.tc : Thread _ _).loc Cert.InpRefIdeal.main_arg3)) (m' ((c.tc : Thread _ _).loc Cert.InpRefIdeal.main_arg4))).trans ?_)
      rw [e0, e1, e2, e3, e4]
    · obtain ⟨e0, e1, e2, e3, e4⟩ := hag c
      refine (h c).2.2.2.2.2.1.trans ((Cert.InpRefIdeal.Read.val_main_v42_eq (m' ((c.tc : Thread _ _).loc Cert.InpRefIdeal.main_arg0)) (m' ((c.tc : Thread _ _).loc Cert.InpRefIdeal.main_arg1)) (m' ((c.tc : Thread _ _).loc Cert.InpRefIdeal.main_arg2)) (m' ((c.tc : Thread _ _).loc Cert.InpRefIdeal.main_arg3)) (m' ((c.tc : Thread _ _).loc Cert.InpRefIdeal.main_arg4))).trans ?_)
      rw [e0, e1, e2, e3, e4]
    · obtain ⟨e0, e1, e2, e3, e4⟩ := hag c
      refine (h c).2.2.2.2.2.2.1.trans ((Cert.InpRefIdeal.Read.val_main_v44_eq (m' ((c.tc : Thread _ _).loc Cert.InpRefIdeal.main_arg0)) (m' ((c.tc : Thread _ _).loc Cert.InpRefIdeal.main_arg1)) (m' ((c.tc : Thread _ _).loc Cert.InpRefIdeal.main_arg2)) (m' ((c.tc : Thread _ _).loc Cert.InpRefIdeal.main_arg3)) (m' ((c.tc : Thread _ _).loc Cert.InpRefIdeal.main_arg4))).trans ?_)
      rw [e0, e1, e2, e3, e4]

end Cert.InpTie

end
-- ==== Proof.Ins.Arr.lean ====
/- The arrays the projection of the sample leaves, entry by entry, from the arrays it finds. -/
module

public import proofs.«01_k».proof.Proof.Gen.InsIdeal.Frame
public import proofs.«01_k».proof.Proof.Layer.Math

@[expose] public section

set_option maxRecDepth 16384

noncomputable section

namespace Cert.InsIdeal.Val

open Idealize.ShloMosaic Idealize.ShloMosaic.TcCoe Idealize.SL.Sem
open Cert.InsIdeal Cert.InsIdeal.Gen Cert.LayerMath

variable (m : (ℓ : Loc nD τ sig) → Buf (Elt Ideal) ℓ)

/-- One row's normalised, modulated entry, of one block. -/
theorem pay1_at (x : FVec Ideal S256x2048 .f32) (g : FVec Ideal S1x2048 .f32) (sc sh : FVec Ideal S1x256x2048 .f32) (r : Fin 256) (k : Fin 2048) :
    k0_pay1 (F := Ideal) x g sc sh (ix2 r k) = hval (fun j => x (ix2 r j)) (fun j => g (ix2 0 j)) (fun j => sc (ix3 0 r j)) (fun j => sh (ix3 0 r j)) k := by
  unfold hval
  pointwise [k0_pay1]

theorem pay2_at (h : FVec Ideal S256x2048 .bf16) (w w' : FVec Ideal S2048x256 .bf16) (r : Fin 256) (k : Fin 256) :
    k0_pay2 (F := Ideal) h w w' (ix2 r k)
      = gated (dot (fun j => h (ix2 r j)) (fun j => w (ix2 j k))) (dot (fun j => h (ix2 r j)) (fun j => w' (ix2 j k))) := by
  unfold gated dot
  pointwise [k0_pay2]

theorem pay3_at (h : FVec Ideal S256x2048 .bf16) (w : FVec Ideal S2048x256 .bf16) (r : Fin 256) (k : Fin 256) :
    k0_pay3 (F := Ideal) h w (ix2 r k) = dot (fun j => h (ix2 r j)) (fun j => w (ix2 j k)) := by
  unfold dot
  pointwise [k0_pay3]

theorem pay4_at (h : FVec Ideal S256x2048 .bf16) (w : FVec Ideal S2048x256 .bf16) (r : Fin 256) (k : Fin 256) :
    k0_pay4 (F := Ideal) h w (ix2 r k) = dot (fun j => h (ix2 r j)) (fun j => w (ix2 j k)) := by
  unfold dot
  pointwise [k0_pay4]

theorem pay5_at (h : FVec Ideal S256x2048 .bf16) (w : FVec Ideal S2048x256 .bf16) (r : Fin 256) (k : Fin 256) :
    k0_pay5 (F := Ideal) h w (ix2 r k) = dot (fun j => h (ix2 r j)) (fun j => w (ix2 j k)) := by
  unfold dot
  pointwise [k0_pay5]

/-- Which block of each window a point meets. -/
theorem idxs : ∀ t : Fin cfg0.N, win0_0.index t = ![t.val / 4, 0] ∧ win0_1.index t = ![0, 0] ∧ win0_2.index t = ![0, 0, 0]
    ∧ win0_3.index t = ![0, 0, 0] ∧ win0_4.index t = ![0, t.val % 4] ∧ win0_5.index t = ![0, 4 + t.val % 4]
    ∧ win0_6.index t = ![0, 8 + t.val % 4] ∧ win0_7.index t = ![0, 12 + t.val % 4] ∧ win0_8.index t = ![0, 16 + t.val % 4]
    ∧ win0_9.index t = ![t.val / 4, t.val % 4] ∧ win0_10.index t = ![t.val / 4, t.val % 4] ∧ win0_11.index t = ![t.val / 4, t.val % 4]
    ∧ win0_12.index t = ![t.val / 4, t.val % 4] ∧ t.val < 4 :=
  (by decide +kernel : ∀ t : Fin grid0.N, _)

theorem iblk_x (c : Dev nD) (t : Fin cfg0.N) (r : Fin 256) (k : Fin 2048) (R : Fin 256) (hR : R.val = 256 * (t.val / 4) + r.val) :
    iblk m c 0 t (ix2 r k) = V m c main_v6 (ix2 R k) := by
  obtain ⟨i, -⟩ := idxs t
  blk_ext [iblk, i, hR]

theorem iblk_g (c : Dev nD) (t : Fin cfg0.N) (k : Fin 2048) : iblk m c 1 t (ix2 0 k) = V m c main_v10 (ix2 0 k) := by
  obtain ⟨-, i, -⟩ := idxs t
  blk_ext [iblk, i]

theorem iblk_sc (c : Dev nD) (t : Fin cfg0.N) (r : Fin 256) (k : Fin 2048) :
    iblk m c 2 t (ix3 0 r k) = V m c main_v2 (ix3 0 r k) := by
  obtain ⟨-, -, i, -⟩ := idxs t
  blk_ext [iblk, i]

theorem iblk_sh (c : Dev nD) (t : Fin cfg0.N) (r : Fin 256) (k : Fin 2048) :
    iblk m c 3 t (ix3 0 r k) = V m c main_v5 (ix3 0 r k) := by
  obtain ⟨-, -, -, i, -⟩ := idxs t
  blk_ext [iblk, i]

theorem iblk_w4 (c : Dev nD) (t : Fin cfg0.N) (j : Fin 2048) (k : Fin 256) (C : Fin 5120) (hC : C.val = 256 * (t.val % 4) + k.val) :
    iblk m c 4 t (ix2 j k) = V m c main_v9 (ix2 j C) := by
  obtain ⟨-, -, -, -, i, -⟩ := idxs t
  blk_ext [iblk, i, hC]

theorem iblk_w5 (c : Dev nD) (t : Fin cfg0.N) (j : Fin 2048) (k : Fin 256) (C : Fin 5120) (hC : C.val = 1024 + 256 * (t.val % 4) + k.val) :
    iblk m c 5 t (ix2 j k) = V m c main_v9 (ix2 j C) := by
  obtain ⟨-, -, -, -, -, i, -⟩ := idxs t
  blk_ext [iblk, i, hC]

theorem iblk_w6 (c : Dev nD) (t : Fin cfg0.N) (j : Fin 2048) (k : Fin 256) (C : Fin 5120) (hC : C.val = 2048 + 256 * (t.val % 4) + k.val) :
    iblk m c 6 t (ix2 j k) = V m c main_v9 (ix2 j C) := by
  obtain ⟨-, -, -, -, -, -, i, -⟩ := idxs t
  blk_ext [iblk, i, hC]

theorem iblk_w7 (c : Dev nD) (t : Fin cfg0.N) (j : Fin 2048) (k : Fin 256) (C : Fin 5120) (hC : C.val = 3072 + 256 * (t.val % 4) + k.val) :
    iblk m c 7 t (ix2 j k) = V m c main_v9 (ix2 j C) := by
  obtain ⟨-, -, -, -, -, -, -, i, -⟩ := idxs t
  blk_ext [iblk, i, hC]

theorem iblk_w8 (c : Dev nD) (t : Fin cfg0.N) (j : Fin 2048) (k : Fin 256) (C : Fin 5120) (hC : C.val = 4096 + 256 * (t.val % 4) + k.val) :
    iblk m c 8 t (ix2 j k) = V m c main_v9 (ix2 j C) := by
  obtain ⟨-, -, -, -, -, -, -, -, i, -⟩ := idxs t
  blk_ext [iblk, i, hC]

/-- Row `R` of the normalised, modulated input. -/
def hAt (X : FVec Ideal S256x2048 .f32) (G : FVec Ideal S1x2048 .f32) (SC SH : FVec Ideal S1x256x2048 .f32) (R : Fin 256) (k : Fin 2048) : EReal :=
  hval (fun j => X (ix2 R j)) (fun j => G (ix2 0 j)) (fun j => SC (ix3 0 R j)) (fun j => SH (ix3 0 R j)) k

/-- The product of row `R` with column `o + C` of the weights. -/
def zAt (X : FVec Ideal S256x2048 .f32) (G : FVec Ideal S1x2048 .f32) (SC SH : FVec Ideal S1x256x2048 .f32) (W : FVec Ideal S2048x5120 .bf16)
    (o : Nat) (ho : o ≤ 4096) (R : Fin 256) (C : Fin 1024) : EReal :=
  dot (hAt X G SC SH R) (fun j => W (ix2 j ⟨o + C.val, by omega⟩))

/-- The row of the scratch at a point is that row's normalised, modulated input. -/
theorem pay1_row (c : Dev nD) (t : Fin cfg0.N) (r : Fin 256) (k : Fin 2048) (R : Fin 256) (hR : R.val = 256 * (t.val / 4) + r.val) :
    k0_pay1 (F := Ideal) (iblk m c 0 t) (iblk m c 1 t) (iblk m c 2 t) (iblk m c 3 t) (ix2 r k)
      = hAt (V m c main_v6) (V m c main_v10) (V m c main_v2) (V m c main_v5) R k := by
  have hN : t.val < 4 := t.isLt
  obtain rfl : R = r := Fin.ext (by omega)
  refine (pay1_at _ _ _ _ R k).trans (hval_congr (fun j => ?_) (fun j => ?_) (fun j => ?_) (fun j => ?_) k)
  · exact iblk_x m c t R j R hR
  · exact iblk_g m c t j
  · exact iblk_sc m c t R j
  · exact iblk_sh m c t R j

theorem carried (c : Dev nD) : ∀ (n : ℕ) (hn : n < cfg0.N) (r : Fin 256) (k : Fin 2048) (R : Fin 256) (_ : R.val = 256 * (n / 4) + r.val),
    (outsAt0 m c n hn).2.2.2.2 (ix2 r k) = hAt (V m c main_v6) (V m c main_v10) (V m c main_v2) (V m c main_v5) R k := by
  intro n
  induction n with
  | zero =>
    intro hn r k R hR
    rw [outsAt0_A m c ⟨0, hn⟩ rfl]
    frame_out
    exact pay1_row m c ⟨0, hn⟩ r k R hR
  | succ n ih =>
    intro hn r k R hR
    by_cases h : (n + 1) % 4 = 0
    · rw [outsAt0_A m c ⟨n + 1, hn⟩ h]
      frame_out
      exact pay1_row m c ⟨n + 1, hn⟩ r k R hR
    · rw [outsAt0_B m c ⟨n + 1, hn⟩ h]
      frame_out
      exact ih (Nat.lt_of_succ_lt hn) r k R (by omega)

end Cert.InsIdeal.Val

end
-- ==== Proof.Ins.Outs.lean ====
/- What one point of the projection call of the sample leaves in its four result blocks. -/
module

public import Idealize.ShloMosaic.Lib.Pipeline.ReadBack
public import proofs.«01_k».proof.Proof.Ins.Arr

@[expose] public section

set_option maxRecDepth 16384

noncomputable section

namespace Cert.InsIdeal.Val

open Idealize.ShloMosaic Idealize.ShloMosaic.TcCoe Idealize.SL.Sem
open Cert.InsIdeal Cert.InsIdeal.Gen Cert.LayerMath

variable (m : (ℓ : Loc nD τ sig) → Buf (Elt Ideal) ℓ)

/-- The gated array. -/
def uArr (X : FVec Ideal S256x2048 .f32) (G : FVec Ideal S1x2048 .f32) (SC SH : FVec Ideal S1x256x2048 .f32) (W : FVec Ideal S2048x5120 .bf16) :
    FVec Ideal S256x1024 .f32 := fun i =>
  gated (zAt X G SC SH W 0 (by omega) (i 0) (i 1)) (zAt X G SC SH W 1024 (by omega) (i 0) (i 1))

/-- A projected array: the columns of the weights from `o` on. -/
def zArr (X : FVec Ideal S256x2048 .f32) (G : FVec Ideal S1x2048 .f32) (SC SH : FVec Ideal S1x256x2048 .f32) (W : FVec Ideal S2048x5120 .bf16)
    (o : Nat) (ho : o ≤ 4096) : FVec Ideal S256x1024 .f32 := fun i => zAt X G SC SH W o ho (i 0) (i 1)

/-- The normalised, modulated block the products of a point read: computed there, or left by the point before. -/
def hBlk (c : Dev nD) (t : Fin cfg0.N) : FVec Ideal S256x2048 .bf16 :=
  if t.val % 4 = 0 then k0_pay1 (F := Ideal) (iblk m c 0 t) (iblk m c 1 t) (iblk m c 2 t) (iblk m c 3 t)
  else (outsAt0 m c (t.val - 1) (lt_of_le_of_lt (Nat.sub_le _ _) t.isLt)).2.2.2.2

theorem hBlk_row (c : Dev nD) (t : Fin cfg0.N) (r : Fin 256) (k : Fin 2048) (R : Fin 256) (hR : R.val = 256 * (t.val / 4) + r.val) :
    hBlk m c t (ix2 r k) = hAt (V m c main_v6) (V m c main_v10) (V m c main_v2) (V m c main_v5) R k := by
  unfold hBlk
  by_cases h : t.val % 4 = 0
  · rw [if_pos h]
    exact pay1_row m c t r k R hR
  · rw [if_neg h]
    exact carried m c (t.val - 1) (lt_of_le_of_lt (Nat.sub_le _ _) t.isLt) r k R (by omega)

theorem outs_u (c : Dev nD) (t : Fin cfg0.N) (y : S256x256.Idx) :
    (outsAt0 m c t.val t.isLt).1 y = k0_pay2 (F := Ideal) (hBlk m c t) (iblk m c 4 t) (iblk m c 5 t) y := by
  unfold hBlk
  by_cases h : t.val % 4 = 0
  · rw [if_pos h, outsAt0_A m c t h]
    frame_out
  · rw [if_neg h, outsAt0_B m c t h]
    frame_out
    rw [read_unread_whole]

theorem outs_q (c : Dev nD) (t : Fin cfg0.N) (y : S256x256.Idx) :
    (outsAt0 m c t.val t.isLt).2.1 y = k0_pay3 (F := Ideal) (hBlk m c t) (iblk m c 6 t) y := by
  unfold hBlk
  by_cases h : t.val % 4 = 0
  · rw [if_pos h, outsAt0_A m c t h]
    frame_out
  · rw [if_neg h, outsAt0_B m c t h]
    frame_out
    rw [read_unread_whole]

theorem outs_k (c : Dev nD) (t : Fin cfg0.N) (y : S256x256.Idx) :
    (outsAt0 m c t.val t.isLt).2.2.1 y = k0_pay4 (F := Ideal) (hBlk m c t) (iblk m c 7 t) y := by
  unfold hBlk
  by_cases h : t.val % 4 = 0
  · rw [if_pos h, outsAt0_A m c t h]
    frame_out
  · rw [if_neg h, outsAt0_B m c t h]
    frame_out
    rw [read_unread_whole]

theorem outs_v (c : Dev nD) (t : Fin cfg0.N) (y : S256x256.Idx) :
    (outsAt0 m c t.val t.isLt).2.2.2.1 y = k0_pay5 (F := Ideal) (hBlk m c t) (iblk m c 8 t) y := by
  unfold hBlk
  by_cases h : t.val % 4 = 0
  · rw [if_pos h, outsAt0_A m c t h]
    frame_out
  · rw [if_neg h, outsAt0_B m c t h]
    frame_out
    rw [read_unread_whole]

end Cert.InsIdeal.Val

end
-- ==== Proof.Ins.Out.lean ====
/- The four result arrays of the projection call of the sample. -/
module

public import proofs.«01_k».proof.Proof.Ins.Outs

@[expose] public section

set_option maxRecDepth 16384

noncomputable section

namespace Cert.InsIdeal.Val

open Idealize.ShloMosaic Idealize.ShloMosaic.TcCoe Idealize.SL.Sem
open Cert.InsIdeal Cert.InsIdeal.Gen Cert.LayerMath

variable (m : (ℓ : Loc nD τ sig) → Buf (Elt Ideal) ℓ)

theorem u_pt (c : Dev nD) (t : Fin cfg0.N) (y0 : Fin 256) (y1 : Fin 256) (R : Fin 256) (C : Fin 1024)
    (hR : R.val = 256 * (t.val / 4) + y0.val) (hC : C.val = 256 * (t.val % 4) + y1.val) :
    (outsAt0 m c t.val t.isLt).1 (ix2 y0 y1) = uArr (V m c main_v6) (V m c main_v10) (V m c main_v2) (V m c main_v5) (V m c main_v9) (ix2 R C) := by
  rw [outs_u]
  refine (pay2_at _ _ _ y0 y1).trans (congrArg₂ gated (dot_congr (fun j => hBlk_row m c t y0 j R hR) fun j => ?_)
    (dot_congr (fun j => hBlk_row m c t y0 j R hR) fun j => ?_))
  · exact iblk_w4 m c t j y1 _ (by show 0 + C.val = 256 * (t.val % 4) + y1.val; omega)
  · exact iblk_w5 m c t j y1 _ (by show 1024 + C.val = 1024 + 256 * (t.val % 4) + y1.val; omega)

theorem u_final (c : Dev nD) : (dats m 0 c).arrAt 9 cfg0.N
    = uArr (V m c main_v6) (V m c main_v10) (V m c main_v2) (V m c main_v5) (V m c main_v9) := by
  refine (dats m 0 c).arrAt_eq_of_covers 9 _ (by decide +kernel) fun t _ y => ?_
  blk_simp
  rw [after0_9]
  obtain ⟨-, -, -, -, -, -, -, -, -, i9, -, -, -, hN⟩ := idxs t
  idx_vars y
  have he : ((View.whole main_v11_0).slice (win0_9.rect t)).emb (ix2 y0 y1)
      = ix2 ⟨256 * (t.val / 4) + y0.val, by omega⟩ ⟨256 * (t.val % 4) + y1.val, by omega⟩ := by
    blk_ext [i9]
  rw [he]
  exact u_pt m c t y0 y1 ⟨256 * (t.val / 4) + y0.val, by omega⟩ ⟨256 * (t.val % 4) + y1.val, by omega⟩ rfl rfl

theorem q_pt (c : Dev nD) (t : Fin cfg0.N) (y0 : Fin 256) (y1 : Fin 256) (R : Fin 256) (C : Fin 1024)
    (hR : R.val = 256 * (t.val / 4) + y0.val) (hC : C.val = 256 * (t.val % 4) + y1.val) :
    (outsAt0 m c t.val t.isLt).2.1 (ix2 y0 y1) = zArr (V m c main_v6) (V m c main_v10) (V m c main_v2) (V m c main_v5) (V m c main_v9) 2048 (by omega) (ix2 R C) := by
  rw [outs_q]
  unfold zArr zAt
  refine (pay3_at _ _ y0 y1).trans (dot_congr (fun j => hBlk_row m c t y0 j R hR) fun j => ?_)
  exact iblk_w6 m c t j y1 ⟨2048 + C.val, by omega⟩ (by show 2048 + C.val = 2048 + 256 * (t.val % 4) + y1.val; omega)

theorem q_final (c : Dev nD) : (dats m 0 c).arrAt 10 cfg0.N
    = zArr (V m c main_v6) (V m c main_v10) (V m c main_v2) (V m c main_v5) (V m c main_v9) 2048 (by omega) := by
  refine (dats m 0 c).arrAt_eq_of_covers 10 _ (by decide +kernel) fun t _ y => ?_
  blk_simp
  rw [after0_10]
  obtain ⟨-, -, -, -, -, -, -, -, -, -, i9, -, -, hN⟩ := idxs t
  idx_vars y
  have he : ((View.whole main_v11_1).slice (win0_10.rect t)).emb (ix2 y0 y1)
      = ix2 ⟨256 * (t.val / 4) + y0.val, by omega⟩ ⟨256 * (t.val % 4) + y1.val, by omega⟩ := by
    blk_ext [i9]
  rw [he]
  exact q_pt m c t y0 y1 ⟨256 * (t.val / 4) + y0.val, by omega⟩ ⟨256 * (t.val % 4) + y1.val, by omega⟩ rfl rfl

theorem k_pt (c : Dev nD) (t : Fin cfg0.N) (y0 : Fin 256) (y1 : Fin 256) (R : Fin 256) (C : Fin 1024)
    (hR : R.val = 256 * (t.val / 4) + y0.val) (hC : C.val = 256 * (t.val % 4) + y1.val) :
    (outsAt0 m c t.val t.isLt).2.2.1 (ix2 y0 y1) = zArr (V m c main_v6) (V m c main_v10) (V m c main_v2) (V m c main_v5) (V m c main_v9) 3072 (by omega) (ix2 R C) := by
  rw [outs_k]
  unfold zArr zAt
  refine (pay4_at _ _ y0 y1).trans (dot_congr (fun j => hBlk_row m c t y0 j R hR) fun j => ?_)
  exact iblk_w7 m c t j y1 ⟨3072 + C.val, by omega⟩ (by show 3072 + C.val = 3072 + 256 * (t.val % 4) + y1.val; omega)

theorem k_final (c : Dev nD) : (dats m 0 c).arrAt 11 cfg0.N
    = zArr (V m c main_v6) (V m c main_v10) (V m c main_v2) (V m c main_v5) (V m c main_v9) 3072 (by omega) := by
  refine (dats m 0 c).arrAt_eq_of_covers 11 _ (by decide +kernel) fun t _ y => ?_
  blk_simp
  rw [after0_11]
  obtain ⟨-, -, -, -, -, -, -, -, -, -, -, i9, -, hN⟩ := idxs t
  idx_vars y
  have he : ((View.whole main_v11_2).slice (win0_11.rect t)).emb (ix2 y0 y1)
      = ix2 ⟨256 * (t.val / 4) + y0.val, by omega⟩ ⟨256 * (t.val % 4) + y1.val, by omega⟩ := by
    blk_ext [i9]
  rw [he]
  exact k_pt m c t y0 y1 ⟨256 * (t.val / 4) + y0.val, by omega⟩ ⟨256 * (t.val % 4) + y1.val, by omega⟩ rfl rfl

theorem v_pt (c : Dev nD) (t : Fin cfg0.N) (y0 : Fin 256) (y1 : Fin 256) (R : Fin 256) (C : Fin 1024)
    (hR : R.val = 256 * (t.val / 4) + y0.val) (hC : C.val = 256 * (t.val % 4) + y1.val) :
    (outsAt0 m c t.val t.isLt).2.2.2.1 (ix2 y0 y1) = zArr (V m c main_v6) (V m c main_v10) (V m c main_v2) (V m c main_v5) (V m c main_v9) 4096 (by omega) (ix2 R C) := by
  rw [outs_v]
  unfold zArr zAt
  refine (pay5_at _ _ y0 y1).trans (dot_congr (fun j => hBlk_row m c t y0 j R hR) fun j => ?_)
  exact iblk_w8 m c t j y1 ⟨4096 + C.val, by omega⟩ (by show 4096 + C.val = 4096 + 256 * (t.val % 4) + y1.val; omega)

theorem v_final (c : Dev nD) : (dats m 0 c).arrAt 12 cfg0.N
    = zArr (V m c main_v6) (V m c main_v10) (V m c main_v2) (V m c main_v5) (V m c main_v9) 4096 (by omega) := by
  refine (dats m 0 c).arrAt_eq_of_covers 12 _ (by decide +kernel) fun t _ y => ?_
  blk_simp
  rw [after0_12]
  obtain ⟨-, -, -, -, -, -, -, -, -, -, -, -, i9, hN⟩ := idxs t
  idx_vars y
  have he : ((View.whole main_v11_3).slice (win0_12.rect t)).emb (ix2 y0 y1)
      = ix2 ⟨256 * (t.val / 4) + y0.val, by omega⟩ ⟨256 * (t.val % 4) + y1.val, by omega⟩ := by
    blk_ext [i9]
  rw [he]
  exact v_pt m c t y0 y1 ⟨256 * (t.val / 4) + y0.val, by omega⟩ ⟨256 * (t.val % 4) + y1.val, by omega⟩ rfl rfl

end Cert.InsIdeal.Val

end
-- ==== Proof.Ins.Ref.lean ====
/- The reference's projection of the sample, read at an entry. -/
module

public import proofs.«01_k».proof.Proof.Gen.InsRefIdeal.Read
public import proofs.«01_k».proof.Proof.Layer.Math

@[expose] public section

set_option maxRecDepth 16384

noncomputable section

namespace Cert.InsRefIdeal.Val

open Idealize.ShloMosaic Idealize.ShloMosaic.TcCoe Idealize.SL.Sem
open Cert.InsRefIdeal Cert.InsRefIdeal.Gen Cert.InsRefIdeal.Value Cert.InsRefIdeal.Read Cert.LayerMath

variable (x0 : FVec Ideal S16x16x2048 .f32) (x1 x2 : FVec Ideal S16x2048 .f32) (x4 : FVec Ideal S1x2048 .f32) (x5 : FVec Ideal S1x2048x5120 .f32)

/-- The normalised, modulated entry `k` of row `r` of batch `b`. -/
def hRow (b : Fin 16) (r : Fin 16) (k : Fin 2048) : EReal :=
  hval (fun j => x0 (ix3 b r j)) (fun j => x4 (ix2 0 j)) (fun j => x1 (ix2 b j)) (fun j => x2 (ix2 b j)) k

/-- The product of that row with column `C` of the weights. -/
def zRow (b : Fin 16) (r : Fin 16) (C : Fin 5120) : EReal := dot (hRow x0 x1 x2 x4 b r) (fun j => x5 (ix3 0 j C))

theorem v21_at (b : Fin 16) (r : Fin 16) (k : Fin 2048) : val_main_v21 (F := Ideal) x0 x1 x2 x4 (ix3 b r k) = hRow x0 x1 x2 x4 b r k := by
  unfold hRow hval
  pointwise [val_main_v21, val_main_v20, val_main_v19, val_main_v18, val_main_v17, val_main_v16, val_main_v15, val_main_v14, val_main_v13,
    val_main_v12, val_main_v11, val_main_v10, val_main_v9, val_main_v8, val_main_v7, val_main_v6, val_main_v5, val_main_v4, val_main_v3,
    val_main_v2, val_main_v1, val_main_v0, val_main_cst, val_main_cst_0, val_main_cst_1, val_main_cst_2]

theorem v23_at (b : Fin 16) (r : Fin 16) (C : Fin 5120) : val_main_v23 (F := Ideal) x0 x1 x2 x4 x5 (ix3 b r C) = zRow x0 x1 x2 x4 x5 b r C := by
  unfold zRow dot
  pointwise [val_main_v23, val_main_v22, v21_at]

theorem v26_at (b : Fin 16) (r : Fin 16) (C : Fin 1024) :
    val_main_v26 (F := Ideal) x0 x1 x2 x4 x5 (ix3 b r C) = zRow x0 x1 x2 x4 x5 b r ⟨2048 + C.val, by omega⟩ := by
  pointwise [val_main_v26, v23_at]

theorem v27_at (b : Fin 16) (r : Fin 16) (C : Fin 1024) :
    val_main_v27 (F := Ideal) x0 x1 x2 x4 x5 (ix3 b r C) = zRow x0 x1 x2 x4 x5 b r ⟨3072 + C.val, by omega⟩ := by
  pointwise [val_main_v27, v23_at]

theorem v28_at (b : Fin 16) (r : Fin 16) (C : Fin 1024) :
    val_main_v28 (F := Ideal) x0 x1 x2 x4 x5 (ix3 b r C) = zRow x0 x1 x2 x4 x5 b r ⟨4096 + C.val, by omega⟩ := by
  pointwise [val_main_v28, v23_at]

theorem v36_at (b : Fin 16) (r : Fin 16) (C : Fin 1024) :
    val_main_v36 (F := Ideal) x0 x1 x2 x4 x5 (ix3 b r C) = zRow x0 x1 x2 x4 x5 b r ⟨2048 + C.val, by omega⟩ := by
  pointwise [val_main_v36, v26_at]

theorem v35_at (b : Fin 16) (r : Fin 16) (C : Fin 1024) :
    val_main_v35 (F := Ideal) x0 x1 x2 x4 x5 (ix3 b r C)
      = gated (zRow x0 x1 x2 x4 x5 b r ⟨0 + C.val, by omega⟩) (zRow x0 x1 x2 x4 x5 b r ⟨1024 + C.val, by omega⟩) := by
  unfold gated Ideal.logistic
  pointwise [val_main_v35, val_main_v34, val_main_v33, val_main_v32, val_main_v31, val_main_v30, val_main_v29, val_main_v25, val_main_v24, val_main_cst_3, val_main_cst_4, v23_at]

end Cert.InsRefIdeal.Val

end
-- ==== Proof.Ins.Host.lean ====
/- What the host lines around the projection call of the sample compute, and the call's results as the program returns
   them. -/
module

public import proofs.«01_k».proof.Proof.Ins.Out
public import proofs.«01_k».proof.Proof.Ins.Ref

@[expose] public section

set_option maxRecDepth 16384

noncomputable section

namespace Cert.InsIdeal.Val

open Idealize.ShloMosaic Idealize.ShloMosaic.TcCoe Idealize.SL.Sem
open Cert.InsIdeal Cert.InsIdeal.Gen Cert.LayerMath

variable (m : (ℓ : Loc nD τ sig) → Buf (Elt Ideal) ℓ)

/-- The arguments. -/
abbrev a0 (c : Dev nD) : FVec Ideal S16x16x2048 .f32 := m ((c.tc : Thread nD τ).loc main_arg0)
abbrev a1 (c : Dev nD) : FVec Ideal S16x2048 .f32 := m ((c.tc : Thread nD τ).loc main_arg1)
abbrev a2 (c : Dev nD) : FVec Ideal S16x2048 .f32 := m ((c.tc : Thread nD τ).loc main_arg2)
abbrev a3 (c : Dev nD) : FVec Ideal S1x16x30x1024 .f32 := m ((c.tc : Thread nD τ).loc main_arg3)
abbrev a4 (c : Dev nD) : FVec Ideal S1x2048 .f32 := m ((c.tc : Thread nD τ).loc main_arg4)
abbrev a5 (c : Dev nD) : FVec Ideal S1x2048x5120 .f32 := m ((c.tc : Thread nD τ).loc main_arg5)

theorem V_v6 (c : Dev nD) : V m c main_v6 = shapeCast S256x2048 (a0 m c) shapeCasts_S16x16x2048_S256x2048 := by
  show StableHlo.after hostOps0 (fun b => m (c, b)) (Proc.devRef .tc main_v6) = _
  after_results
  rfl

theorem V_v2 (c : Dev nD) : V m c main_v2 = shapeCast S1x256x2048 (shapeCast S256x2048 (broadcastInDim S16x16x2048 ![0, 2] bcast_S16x2048_S16x16x2048_0_2 (a1 m c)) shapeCasts_S16x16x2048_S256x2048) shapeCasts_S256x2048_S1x256x2048 := by
  show StableHlo.after hostOps0 (fun b => m (c, b)) (Proc.devRef .tc main_v2) = _
  after_results
  rfl

theorem V_v5 (c : Dev nD) : V m c main_v5 = shapeCast S1x256x2048 (shapeCast S256x2048 (broadcastInDim S16x16x2048 ![0, 2] bcast_S16x2048_S16x16x2048_0_2 (a2 m c)) shapeCasts_S16x16x2048_S256x2048) shapeCasts_S256x2048_S1x256x2048 := by
  show StableHlo.after hostOps0 (fun b => m (c, b)) (Proc.devRef .tc main_v5) = _
  after_results
  rfl

theorem V_v10 (c : Dev nD) : V m c main_v10 = shapeCast S1x2048 (shapeCast S2048 (a4 m c) shapeCasts_S1x2048_S2048) shapeCasts_S2048_S1x2048 := by
  show StableHlo.after hostOps0 (fun b => m (c, b)) (Proc.devRef .tc main_v10) = _
  after_results
  rfl

theorem V_v9 (c : Dev nD) : V m c main_v9 = truncf .bf16 (shapeCast S2048x5120 (a5 m c) shapeCasts_S1x2048x5120_S2048x5120) bitsLt_bf16_f32 := by
  show StableHlo.after hostOps0 (fun b => m (c, b)) (Proc.devRef .tc main_v9) = _
  after_results
  rfl

theorem x_at (c : Dev nD) (b r : Fin 16) (j : Fin 2048) (R : Fin 256) (hR : R.val = b.val * 16 + r.val) :
    V m c main_v6 (ix2 R j) = a0 m c (ix3 b r j) := by
  have hb : (⟨R.val / 16, by omega⟩ : Fin 16) = b := Fin.ext (by show R.val / 16 = b.val; omega)
  have hr : (⟨R.val % 16, by omega⟩ : Fin 16) = r := Fin.ext (by show R.val % 16 = r.val; omega)
  have e : V m c main_v6 (ix2 R j) = a0 m c (ix3 ⟨R.val / 16, by omega⟩ ⟨R.val % 16, by omega⟩ j) := by
    rw [V_v6]
    generalize a0 m c = x
    pointwise []
  exact e.trans (by rw [hb, hr])

theorem sc_at (c : Dev nD) (b r : Fin 16) (j : Fin 2048) (R : Fin 256) (hR : R.val = b.val * 16 + r.val) :
    V m c main_v2 (ix3 0 R j) = a1 m c (ix2 b j) := by
  have hb : (⟨R.val / 16, by omega⟩ : Fin 16) = b := Fin.ext (by show R.val / 16 = b.val; omega)
  have e : V m c main_v2 (ix3 0 R j) = a1 m c (ix2 ⟨R.val / 16, by omega⟩ j) := by
    rw [V_v2]
    generalize a1 m c = x
    pointwise []
  exact e.trans (by rw [hb])

theorem sh_at (c : Dev nD) (b r : Fin 16) (j : Fin 2048) (R : Fin 256) (hR : R.val = b.val * 16 + r.val) :
    V m c main_v5 (ix3 0 R j) = a2 m c (ix2 b j) := by
  have hb : (⟨R.val / 16, by omega⟩ : Fin 16) = b := Fin.ext (by show R.val / 16 = b.val; omega)
  have e : V m c main_v5 (ix3 0 R j) = a2 m c (ix2 ⟨R.val / 16, by omega⟩ j) := by
    rw [V_v5]
    generalize a2 m c = x
    pointwise []
  exact e.trans (by rw [hb])

theorem g_at (c : Dev nD) (j : Fin 2048) : V m c main_v10 (ix2 0 j) = a4 m c (ix2 0 j) := by
  rw [V_v10]
  generalize a4 m c = x
  pointwise []

theorem w_at (c : Dev nD) (j : Fin 2048) (C : Fin 5120) : V m c main_v9 (ix2 j C) = a5 m c (ix3 0 j C) := by
  rw [V_v9]
  generalize a5 m c = x
  pointwise []

open Cert.InsRefIdeal.Val (hRow zRow)

theorem h_eq (c : Dev nD) (b r : Fin 16) (k : Fin 2048) (R : Fin 256) (hR : R.val = b.val * 16 + r.val) :
    hAt (V m c main_v6) (V m c main_v10) (V m c main_v2) (V m c main_v5) R k = hRow (a0 m c) (a1 m c) (a2 m c) (a4 m c) b r k := by
  unfold hAt hRow
  exact hval_congr (fun j => x_at m c b r j R hR) (fun j => g_at m c j) (fun j => sc_at m c b r j R hR) (fun j => sh_at m c b r j R hR) k

theorem z_eq (c : Dev nD) (o : Nat) (ho : o ≤ 4096) (b r : Fin 16) (C : Fin 1024) (R : Fin 256) (hR : R.val = b.val * 16 + r.val) :
    zAt (V m c main_v6) (V m c main_v10) (V m c main_v2) (V m c main_v5) (V m c main_v9) o ho R C
      = zRow (a0 m c) (a1 m c) (a2 m c) (a4 m c) (a5 m c) b r ⟨o + C.val, by omega⟩ := by
  unfold zAt zRow
  exact dot_congr (fun j => h_eq m c b r j R hR) (fun j => w_at m c j _)

/-- The rows of a batch, of all rows in line. -/
theorem rows_at {φ : FTy} (X : FVec Ideal S256x1024 φ) (b r : Fin 16) (C : Fin 1024) :
    shapeCast S16x16x1024 X shapeCasts_S256x1024_S16x16x1024 (ix3 b r C) = X (ix2 ⟨b.val * 16 + r.val, by omega⟩ C) := by
  pointwise []

/-- The same with the columns cut into heads. -/
theorem heads_at (X : FVec Ideal S256x1024 .f32) (z : Fin 1) (b r h : Fin 16) (d : Fin 64) :
    broadcastInDim S1x16x16x16x64 ![1, 2, 3, 4] bcast_S16x16x16x64_S1x16x16x16x64_1_2_3_4 (shapeCast S16x16x16x64 X shapeCasts_S256x1024_S16x16x16x64) (ix5 z b r h d)
      = X (ix2 ⟨b.val * 16 + r.val, by omega⟩ ⟨h.val * 64 + d.val, by omega⟩) := by
  pointwise []

/-- What the program leaves at the end. -/
abbrev T (c : Dev nD) (b : Ref sig .tc) : Buf (Elt Ideal) ((c.tc : Thread nD τ).loc b) :=
  Pipeline.afterTail₀ cfgs (dats m) 0 (V0 m) [hostOps1] c b

theorem T_v12 (c : Dev nD) : T m c main_v12 = Cert.InsRefIdeal.Read.val_main_v35 (F := Ideal) (a0 m c) (a1 m c) (a2 m c) (a4 m c) (a5 m c) := by
  have e : T m c main_v12 = shapeCast S16x16x1024 (uArr (V m c main_v6) (V m c main_v10) (V m c main_v2) (V m c main_v5) (V m c main_v9) : FVec Ideal S256x1024 .f32) shapeCasts_S256x1024_S16x16x1024 := by
    have h := ((dats m 0 c).withArrays_arrAt sharedIn0 (V0 m c) (A_eq m c) 9).trans (u_final m c)
    show StableHlo.after hostOps1 (Pipeline.withArrays spec0 c (V0 m c) fun w => (dats m 0 c).arrAt w cfg0.N) (Proc.devRef .tc main_v12) = _
    generalize (Pipeline.withArrays spec0 c (V0 m c) fun w => (dats m 0 c).arrAt w cfg0.N) = W at h ⊢
    rw [← h]
    after_results
    rfl
  rw [e]
  funext y
  idx_vars y
  refine (rows_at (φ := .f32) _ y0 y1 y2).trans (Eq.trans ?_ (Cert.InsRefIdeal.Val.v35_at (a0 m c) (a1 m c) (a2 m c) (a4 m c) (a5 m c) y0 y1 y2).symm)
  exact congrArg₂ gated (z_eq m c 0 (by omega) y0 y1 y2 ⟨y0.val * 16 + y1.val, by omega⟩ rfl) (z_eq m c 1024 (by omega) y0 y1 y2 ⟨y0.val * 16 + y1.val, by omega⟩ rfl)

theorem T_v13 (c : Dev nD) : T m c main_v13 = Cert.InsRefIdeal.Read.val_main_v36 (F := Ideal) (a0 m c) (a1 m c) (a2 m c) (a4 m c) (a5 m c) := by
  have e : T m c main_v13 = shapeCast S16x16x1024 (zArr (V m c main_v6) (V m c main_v10) (V m c main_v2) (V m c main_v5) (V m c main_v9) 2048 (by omega) : FVec Ideal S256x1024 .bf16) shapeCasts_S256x1024_S16x16x1024 := by
    have h := ((dats m 0 c).withArrays_arrAt sharedIn0 (V0 m c) (A_eq m c) 10).trans (q_final m c)
    show StableHlo.after hostOps1 (Pipeline.withArrays spec0 c (V0 m c) fun w => (dats m 0 c).arrAt w cfg0.N) (Proc.devRef .tc main_v13) = _
    generalize (Pipeline.withArrays spec0 c (V0 m c) fun w => (dats m 0 c).arrAt w cfg0.N) = W at h ⊢
    rw [← h]
    after_results
    rfl
  rw [e]
  funext y
  idx_vars y
  refine (rows_at (φ := .bf16) _ y0 y1 y2).trans (Eq.trans ?_ (Cert.InsRefIdeal.Val.v36_at (a0 m c) (a1 m c) (a2 m c) (a4 m c) (a5 m c) y0 y1 y2).symm)
  exact z_eq m c 2048 (by omega) y0 y1 y2 ⟨y0.val * 16 + y1.val, by omega⟩ rfl

theorem T_v17 (c : Dev nD) : T m c main_v17 = Cert.InsRefIdeal.Read.val_main_v40 (F := Ideal) (a0 m c) (a1 m c) (a2 m c) (a3 m c) (a4 m c) (a5 m c) := by
  have e : T m c main_v17 = broadcastInDim S1x16x30x1024 ![1, 2, 3] bcast_S16x30x1024_S1x16x30x1024_1_2_3 (extractStridedSlice S16x30x1024 ![0, 16, 0] (concatenate S16x46x1024 1 [⟨S16x30x1024, shapeCast S16x30x1024 (a3 m c) shapeCasts_S1x16x30x1024_S16x30x1024⟩, ⟨S16x16x1024, (T m c main_v12 : FVec Ideal S16x16x1024 .f32)⟩] concatenates_S16x30x1024_S16x16x1024_S16x46x1024_d1) slices_S16x46x1024_S16x30x1024_0_16_0) := by
    show StableHlo.after hostOps1 (Pipeline.withArrays spec0 c (V0 m c) fun w => (dats m 0 c).arrAt w cfg0.N) (Proc.devRef .tc main_v17) = _
    rw [show T m c main_v12 = StableHlo.after hostOps1 (Pipeline.withArrays spec0 c (V0 m c) fun w => (dats m 0 c).arrAt w cfg0.N) (Proc.devRef .tc main_v12) from rfl]
    have h : (Pipeline.withArrays spec0 c (V0 m c) fun w => (dats m 0 c).arrAt w cfg0.N) (Proc.devRef .tc main_arg3) = a3 m c := by
      rw [Pipeline.withArrays_of_ne _ c (V0 m c) _ main_arg3 (by exact (by decide : ∀ w, Pipeline.arrRef spec0 w ≠ main_arg3))]
      exact V_main_arg3 m c
    generalize (Pipeline.withArrays spec0 c (V0 m c) fun w => (dats m 0 c).arrAt w cfg0.N) = W at h ⊢
    rw [← h]
    after_results
    rfl
  rw [e, T_v12]
  unfold Cert.InsRefIdeal.Read.val_main_v40 Cert.InsRefIdeal.Read.val_main_v39 Cert.InsRefIdeal.Read.val_main_v38 Cert.InsRefIdeal.Read.val_main_v37
  rfl

theorem ref_v42 (x0 : FVec Ideal S16x16x2048 .f32) (x1 x2 : FVec Ideal S16x2048 .f32) (x4 : FVec Ideal S1x2048 .f32) (x5 : FVec Ideal S1x2048x5120 .f32) (z : Fin 1) (b r h : Fin 16) (d : Fin 64) :
    Cert.InsRefIdeal.Read.val_main_v42 (F := Ideal) x0 x1 x2 x4 x5 (ix5 z b r h d) = Cert.InsRefIdeal.Read.val_main_v27 (F := Ideal) x0 x1 x2 x4 x5 (ix3 b r ⟨h.val * 64 + d.val, by omega⟩) := by
  pointwise [Cert.InsRefIdeal.Read.val_main_v42, Cert.InsRefIdeal.Read.val_main_v41]

theorem T_v19 (c : Dev nD) : T m c main_v19 = Cert.InsRefIdeal.Read.val_main_v42 (F := Ideal) (a0 m c) (a1 m c) (a2 m c) (a4 m c) (a5 m c) := by
  have e : T m c main_v19 = broadcastInDim S1x16x16x16x64 ![1, 2, 3, 4] bcast_S16x16x16x64_S1x16x16x16x64_1_2_3_4 (shapeCast S16x16x16x64 (zArr (V m c main_v6) (V m c main_v10) (V m c main_v2) (V m c main_v5) (V m c main_v9) 3072 (by omega) : FVec Ideal S256x1024 .f32) shapeCasts_S256x1024_S16x16x16x64) := by
    have h := ((dats m 0 c).withArrays_arrAt sharedIn0 (V0 m c) (A_eq m c) 11).trans (k_final m c)
    show StableHlo.after hostOps1 (Pipeline.withArrays spec0 c (V0 m c) fun w => (dats m 0 c).arrAt w cfg0.N) (Proc.devRef .tc main_v19) = _
    generalize (Pipeline.withArrays spec0 c (V0 m c) fun w => (dats m 0 c).arrAt w cfg0.N) = W at h ⊢
    rw [← h]
    after_results
    rfl
  rw [e]
  funext y
  idx_vars y
  refine (heads_at _ y0 y1 y2 y3 y4).trans (Eq.trans ?_ ((ref_v42 (a0 m c) (a1 m c) (a2 m c) (a4 m c) (a5 m c) y0 y1 y2 y3 y4).trans (Cert.InsRefIdeal.Val.v27_at (a0 m c) (a1 m c) (a2 m c) (a4 m c) (a5 m c) y1 y2 ⟨y3.val * 64 + y4.val, by omega⟩)).symm)
  exact z_eq m c 3072 (by omega) y1 y2 ⟨y3.val * 64 + y4.val, by omega⟩ ⟨y1.val * 16 + y2.val, by omega⟩ rfl

theorem ref_v44 (x0 : FVec Ideal S16x16x2048 .f32) (x1 x2 : FVec Ideal S16x2048 .f32) (x4 : FVec Ideal S1x2048 .f32) (x5 : FVec Ideal S1x2048x5120 .f32) (z : Fin 1) (b r h : Fin 16) (d : Fin 64) :
    Cert.InsRefIdeal.Read.val_main_v44 (F := Ideal) x0 x1 x2 x4 x5 (ix5 z b r h d) = Cert.InsRefIdeal.Read.val_main_v28 (F := Ideal) x0 x1 x2 x4 x5 (ix3 b r ⟨h.val * 64 + d.val, by omega⟩) := by
  pointwise [Cert.InsRefIdeal.Read.val_main_v44, Cert.InsRefIdeal.Read.val_main_v43]

theorem T_v21 (c : Dev nD) : T m c main_v21 = Cert.InsRefIdeal.Read.val_main_v44 (F := Ideal) (a0 m c) (a1 m c) (a2 m c) (a4 m c) (a5 m c) := by
  have e : T m c main_v21 = broadcastInDim S1x16x16x16x64 ![1, 2, 3, 4] bcast_S16x16x16x64_S1x16x16x16x64_1_2_3_4 (shapeCast S16x16x16x64 (zArr (V m c main_v6) (V m c main_v10) (V m c main_v2) (V m c main_v5) (V m c main_v9) 4096 (by omega) : FVec Ideal S256x1024 .f32) shapeCasts_S256x1024_S16x16x16x64) := by
    have h := ((dats m 0 c).withArrays_arrAt sharedIn0 (V0 m c) (A_eq m c) 12).trans (v_final m c)
    show StableHlo.after hostOps1 (Pipeline.withArrays spec0 c (V0 m c) fun w => (dats m 0 c).arrAt w cfg0.N) (Proc.devRef .tc main_v21) = _
    generalize (Pipeline.withArrays spec0 c (V0 m c) fun w => (dats m 0 c).arrAt w cfg0.N) = W at h ⊢
    rw [← h]
    after_results
    rfl
  rw [e]
  funext y
  idx_vars y
  refine (heads_at _ y0 y1 y2 y3 y4).trans (Eq.trans ?_ ((ref_v44 (a0 m c) (a1 m c) (a2 m c) (a4 m c) (a5 m c) y0 y1 y2 y3 y4).trans (Cert.InsRefIdeal.Val.v28_at (a0 m c) (a1 m c) (a2 m c) (a4 m c) (a5 m c) y1 y2 ⟨y3.val * 64 + y4.val, by omega⟩)).symm)
  exact z_eq m c 4096 (by omega) y1 y2 ⟨y3.val * 64 + y4.val, by omega⟩ ⟨y1.val * 16 + y2.val, by omega⟩ rfl

/-- The program runs; what no window holds ends at what the lines after the call leave, and the arguments as they were. -/
theorem run_all (ρ : Dev nD → PrngReg) :
    θ_run (defs (F := Ideal)) (onTc (τ := τ) (main (F := Ideal))) ⟨m, fun _ => 0, ρ⟩ (fun r => ∀ c : Dev nD,
      (∀ b ∈ Pipeline.restRefs sig spec0, r.2.mem ((c.tc : Thread nD τ).loc b) = T m c b)
      ∧ (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5))) :=
  (θ_run defs _ _).mono (fun r h c => ⟨(h c).2, ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩) (run_main m ρ)

end Cert.InsIdeal.Val

end
-- ==== Proof.Ins.Claim.lean ====
/- The claims on the projections of the sample: the reference's frame, and the equation of kernel and reference over the reals. -/
module

public import proofs.«01_k».proof.Defs
public import proofs.«01_k».proof.Proof.Ins.Host
public import proofs.«01_k».proof.Proof.Gen.InsRefIdeal.Run
public import Idealize.ShloMosaic.Lib.Quiescent

@[expose] public section

set_option maxRecDepth 16384

noncomputable section

namespace Cert.InsTie

open Idealize.ShloMosaic Idealize.ShloMosaic.TcCoe Idealize.SL.Sem

/-- The reference runs, keeps its arguments, and has no counter to leave standing. -/
theorem ref_frame (m : (ℓ : Loc Cert.InsRefIdeal.nD Cert.InsRefIdeal.τ Cert.InsRefIdeal.sig) → Buf (Elt Ideal) ℓ)
    (ρ : Dev Cert.InsRefIdeal.nD → PrngReg) :
    θ_run (Cert.InsRefIdeal.defs (F := Ideal)) (onTc (τ := Cert.InsRefIdeal.τ) (Cert.InsRefIdeal.main (F := Ideal))) ⟨m, fun _ => 0, ρ⟩
      (fun r => (∀ c : Dev Cert.InsRefIdeal.nD,
        r.2.mem ((c.tc : Thread Cert.InsRefIdeal.nD Cert.InsRefIdeal.τ).loc Cert.InsRefIdeal.main_arg0) = m ((c.tc : Thread Cert.InsRefIdeal.nD Cert.InsRefIdeal.τ).loc Cert.InsRefIdeal.main_arg0)
        ∧ r.2.mem ((c.tc : Thread Cert.InsRefIdeal.nD Cert.InsRefIdeal.τ).loc Cert.InsRefIdeal.main_arg1) = m ((c.tc : Thread Cert.InsRefIdeal.nD Cert.InsRefIdeal.τ).loc Cert.InsRefIdeal.main_arg1)
        ∧ r.2.mem ((c.tc : Thread Cert.InsRefIdeal.nD Cert.InsRefIdeal.τ).loc Cert.InsRefIdeal.main_arg2) = m ((c.tc : Thread Cert.InsRefIdeal.nD Cert.InsRefIdeal.τ).loc Cert.InsRefIdeal.main_arg2)
        ∧ r.2.mem ((c.tc : Thread Cert.InsRefIdeal.nD Cert.InsRefIdeal.τ).loc Cert.InsRefIdeal.main_arg3) = m ((c.tc : Thread Cert.InsRefIdeal.nD Cert.InsRefIdeal.τ).loc Cert.InsRefIdeal.main_arg3)
        ∧ r.2.mem ((c.tc : Thread Cert.InsRefIdeal.nD Cert.InsRefIdeal.τ).loc Cert.InsRefIdeal.main_arg4) = m ((c.tc : Thread Cert.InsRefIdeal.nD Cert.InsRefIdeal.τ).loc Cert.InsRefIdeal.main_arg4)
        ∧ r.2.mem ((c.tc : Thread Cert.InsRefIdeal.nD Cert.InsRefIdeal.τ).loc Cert.InsRefIdeal.main_arg5) = m ((c.tc : Thread Cert.InsRefIdeal.nD Cert.InsRefIdeal.τ).loc Cert.InsRefIdeal.main_arg5))
        ∧ r.2.sem = fun _ => 0) :=
  (θ_run _ _ _).mono (fun r h => ⟨fun c => (h c).2.2.2.2.2, sem_eq_zero_of_no_sems rfl r.2⟩) (Cert.InsRefIdeal.Value.run m ρ)

/-- From memories that agree on the arguments: kernel and reference end with the same results. -/
theorem equation : Cert.algebraic_InsIdeal_InsRefIdeal := by
  intro m g m' g' hpre hag
  refine ⟨fun c => Cert.InsRefIdeal.Read.val_main_v35 (F := Ideal) (m ((c.tc : Thread _ _).loc Cert.InsIdeal.main_arg0)) (m ((c.tc : Thread _ _).loc Cert.InsIdeal.main_arg1)) (m ((c.tc : Thread _ _).loc Cert.InsIdeal.main_arg2)) (m ((c.tc : Thread _ _).loc Cert.InsIdeal.main_arg4)) (m ((c.tc : Thread _ _).loc Cert.InsIdeal.main_arg5)),
    fun c => Cert.InsRefIdeal.Read.val_main_v36 (F := Ideal) (m ((c.tc : Thread _ _).loc Cert.InsIdeal.main_arg0)) (m ((c.tc : Thread _ _).loc Cert.InsIdeal.main_arg1)) (m ((c.tc : Thread _ _).loc Cert.InsIdeal.main_arg2)) (m ((c.tc : Thread _ _).loc Cert.InsIdeal.main_arg4)) (m ((c.tc : Thread _ _).loc Cert.InsIdeal.main_arg5)),
    fun c => Cert.InsRefIdeal.Read.val_main_v40 (F := Ideal) (m ((c.tc : Thread _ _).loc Cert.InsIdeal.main_arg0)) (m ((c.tc : Thread _ _).loc Cert.InsIdeal.main_arg1)) (m ((c.tc : Thread _ _).loc Cert.InsIdeal.main_arg2)) (m ((c.tc : Thread _ _).loc Cert.InsIdeal.main_arg3)) (m ((c.tc : Thread _ _).loc Cert.InsIdeal.main_arg4)) (m ((c.tc : Thread _ _).loc Cert.InsIdeal.main_arg5)),
    fun c => Cert.InsRefIdeal.Read.val_main_v42 (F := Ideal) (m ((c.tc : Thread _ _).loc Cert.InsIdeal.main_arg0)) (m ((c.tc : Thread _ _).loc Cert.InsIdeal.main_arg1)) (m ((c.tc : Thread _ _).loc Cert.InsIdeal.main_arg2)) (m ((c.tc : Thread _ _).loc Cert.InsIdeal.main_arg4)) (m ((c.tc : Thread _ _).loc Cert.InsIdeal.main_arg5)),
    fun c => Cert.InsRefIdeal.Read.val_main_v44 (F := Ideal) (m ((c.tc : Thread _ _).loc Cert.InsIdeal.main_arg0)) (m ((c.tc : Thread _ _).loc Cert.InsIdeal.main_arg1)) (m ((c.tc : Thread _ _).loc Cert.InsIdeal.main_arg2)) (m ((c.tc : Thread _ _).loc Cert.InsIdeal.main_arg4)) (m ((c.tc : Thread _ _).loc Cert.InsIdeal.main_arg5)), ?_, ?_⟩
  · refine (θ_run _ _ _).mono (fun r h c => ⟨?_, ?_, ?_, ?_, ?_, ?_⟩) (Cert.InsIdeal.Val.run_all m g)
    · exact ((h c).1 Cert.InsIdeal.main_v12 (Pipeline.mem_restRefs_of Cert.InsIdeal.main_v12 (by decide) (by decide))).trans (Cert.InsIdeal.Val.T_v12 m c)
    · exact ((h c).1 Cert.InsIdeal.main_v13 (Pipeline.mem_restRefs_of Cert.InsIdeal.main_v13 (by decide) (by decide))).trans (Cert.InsIdeal.Val.T_v13 m c)
    · exact ((h c).1 Cert.InsIdeal.main_v17 (Pipeline.mem_restRefs_of Cert.InsIdeal.main_v17 (by decide) (by decide))).trans (Cert.InsIdeal.Val.T_v17 m c)
    · exact ((h c).1 Cert.InsIdeal.main_v19 (Pipeline.mem_restRefs_of Cert.InsIdeal.main_v19 (by decide) (by decide))).trans (Cert.InsIdeal.Val.T_v19 m c)
    · exact ((h c).1 Cert.InsIdeal.main_v21 (Pipeline.mem_restRefs_of Cert.InsIdeal.main_v21 (by decide) (by decide))).trans (Cert.InsIdeal.Val.T_v21 m c)
    · exact (h c).2
  · refine (θ_run _ _ _).mono (fun r h c => ⟨?_, ?_, ?_, ?_, ?_, (h c).2.2.2.2.2⟩) (Cert.InsRefIdeal.Value.run m' g')
    · obtain ⟨e0, e1, e2, e3, e4, e5⟩ := hag c
      refine (h c).1.trans ((Cert.InsRefIdeal.Read.val_main_v35_eq (m' ((c.tc : Thread _ _).loc Cert.InsRefIdeal.main_arg0)) (m' ((c.tc : Thread _ _).loc Cert.InsRefIdeal.main_arg1)) (m' ((c.tc : Thread _ _).loc Cert.InsRefIdeal.main_arg2)) (m' ((c.tc : Thread _ _).loc Cert.InsRefIdeal.main_arg4)) (m' ((c.tc : Thread _ _).loc Cert.InsRefIdeal.main_arg5))).trans ?_)
      rw [e0, e1, e2, e4, e5]
    · obtain ⟨e0, e1, e2, e3, e4, e5⟩ := hag c
      refine (h c).2.1.trans ((Cert.InsRefIdeal.Read.val_main_v36_eq (m' ((c.tc : Thread _ _).loc Cert.InsRefIdeal.main_arg0)) (m' ((c.tc : Thread _ _).loc Cert.InsRefIdeal.main_arg1)) (m' ((c.tc : Thread _ _).loc Cert.InsRefIdeal.main_arg2)) (m' ((c.tc : Thread _ _).loc Cert.InsRefIdeal.main_arg4)) (m' ((c.tc : Thread _ _).loc Cert.InsRefIdeal.main_arg5))).trans ?_)
      rw [e0, e1, e2, e4, e5]
    · obtain ⟨e0, e1, e2, e3, e4, e5⟩ := hag c
      refine (h c).2.2.1.trans ((Cert.InsRefIdeal.Read.val_main_v40_eq (m' ((c.tc : Thread _ _).loc Cert.InsRefIdeal.main_arg0)) (m' ((c.tc : Thread _ _).loc Cert.InsRefIdeal.main_arg1)) (m' ((c.tc : Thread _ _).loc Cert.InsRefIdeal.main_arg2)) (m' ((c.tc : Thread _ _).loc Cert.InsRefIdeal.main_arg3)) (m' ((c.tc : Thread _ _).loc Cert.InsRefIdeal.main_arg4)) (m' ((c.tc : Thread _ _).loc Cert.InsRefIdeal.main_arg5))).trans ?_)
      rw [e0, e1, e2, e3, e4, e5]
    · obtain ⟨e0, e1, e2, e3, e4, e5⟩ := hag c
      refine (h c).2.2.2.1.trans ((Cert.InsRefIdeal.Read.val_main_v42_eq (m' ((c.tc : Thread _ _).loc Cert.InsRefIdeal.main_arg0)) (m' ((c.tc : Thread _ _).loc Cert.InsRefIdeal.main_arg1)) (m' ((c.tc : Thread _ _).loc Cert.InsRefIdeal.main_arg2)) (m' ((c.tc : Thread _ _).loc Cert.InsRefIdeal.main_arg4)) (m' ((c.tc : Thread _ _).loc Cert.InsRefIdeal.main_arg5))).trans ?_)
      rw [e0, e1, e2, e4, e5]
    · obtain ⟨e0, e1, e2, e3, e4, e5⟩ := hag c
      refine (h c).2.2.2.2.1.trans ((Cert.InsRefIdeal.Read.val_main_v44_eq (m' ((c.tc : Thread _ _).loc Cert.InsRefIdeal.main_arg0)) (m' ((c.tc : Thread _ _).loc Cert.InsRefIdeal.main_arg1)) (m' ((c.tc : Thread _ _).loc Cert.InsRefIdeal.main_arg2)) (m' ((c.tc : Thread _ _).loc Cert.InsRefIdeal.main_arg4)) (m' ((c.tc : Thread _ _).loc Cert.InsRefIdeal.main_arg5))).trans ?_)
      rw [e0, e1, e2, e4, e5]

end Cert.InsTie

end
-- ==== Proof.Mod.Arr.lean ====
/- The array the modulation call leaves, entry by entry, from the arrays it finds. -/
module

public import proofs.«01_k».proof.Proof.Gen.ModIdeal.Frame
public import proofs.«01_k».proof.Proof.Layer.Math

@[expose] public section

set_option maxRecDepth 16384

noncomputable section

namespace Cert.ModIdeal.Val

open Idealize.ShloMosaic Idealize.ShloMosaic.TcCoe Idealize.SL.Sem
open Cert.ModIdeal Cert.ModIdeal.Gen Cert.LayerMath

variable (m : (ℓ : Loc nD τ sig) → Buf (Elt Ideal) ℓ)

theorem pay1_at (x : FVec Ideal S24x2048 .f32) (w : FVec Ideal S2048x1536 .f32) (b : FVec Ideal S1x1536 .f32) (r : Fin 24) (k : Fin 1536) :
    k0_pay1 (F := Ideal) x w b (ix2 r k) = dot (fun j => gated (x (ix2 r j)) (x (ix2 r j))) (fun j => w (ix2 j k)) + b (ix2 0 k) := by
  unfold dot gated
  pointwise [k0_pay1]

/-- Which block of each window a point meets. -/
theorem idxs : ∀ t : Fin cfg0.N, win0_0.index t = ![0, 0] ∧ win0_1.index t = ![0, t.val] ∧ win0_2.index t = ![0, t.val]
    ∧ win0_3.index t = ![0, t.val] ∧ t.val < 8 :=
  (by decide +kernel : ∀ t : Fin grid0.N, _)

theorem iblk_x (c : Dev nD) (t : Fin cfg0.N) (r : Fin 24) (k : Fin 2048) : iblk m c 0 t (ix2 r k) = V m c main_v0 (ix2 r k) := by
  obtain ⟨i, -⟩ := idxs t
  blk_ext [iblk, i]

theorem iblk_w (c : Dev nD) (t : Fin cfg0.N) (j : Fin 2048) (k : Fin 1536) (C : Fin 12288) (hC : C.val = 1536 * t.val + k.val) :
    iblk m c 1 t (ix2 j k) = V m c main_v1 (ix2 j C) := by
  obtain ⟨-, i, -⟩ := idxs t
  blk_ext [iblk, i, hC]

theorem iblk_b (c : Dev nD) (t : Fin cfg0.N) (k : Fin 1536) (C : Fin 12288) (hC : C.val = 1536 * t.val + k.val) :
    iblk m c 2 t (ix2 0 k) = V m c main_v3 (ix2 0 C) := by
  obtain ⟨-, -, i, -⟩ := idxs t
  blk_ext [iblk, i, hC]

/-- The modulation: the silu of the conditioning vectors times the weights, plus the bias. -/
def modArr (X : FVec Ideal S24x2048 .f32) (W : FVec Ideal S2048x12288 .f32) (B : FVec Ideal S1x12288 .f32) : FVec Ideal S24x12288 .f32 := fun i =>
  dot (fun j => gated (X (ix2 (i 0) j)) (X (ix2 (i 0) j))) (fun j => W (ix2 j (i 1))) + B (ix2 0 (i 1))

theorem mod_pt (c : Dev nD) (t : Fin cfg0.N) (y0 : Fin 24) (y1 : Fin 1536) (C : Fin 12288) (hC : C.val = 1536 * t.val + y1.val) :
    k0_pay1 (F := Ideal) (iblk m c 0 t) (iblk m c 1 t) (iblk m c 2 t) (ix2 y0 y1) = modArr (V m c main_v0) (V m c main_v1) (V m c main_v3) (ix2 y0 C) := by
  unfold modArr
  refine (pay1_at _ _ _ y0 y1).trans (congrArg₂ (· + ·) (dot_congr (fun j => ?_) fun j => ?_) ?_)
  · exact congrArg₂ gated (iblk_x m c t y0 j) (iblk_x m c t y0 j)
  · exact iblk_w m c t j y1 C hC
  · exact iblk_b m c t y1 C hC

theorem mod_final (c : Dev nD) : (dats m 0 c).arrAt 3 cfg0.N = modArr (V m c main_v0) (V m c main_v1) (V m c main_v3) := by
  refine (dats m 0 c).arrAt_eq_of_covers 3 _ (by decide +kernel) fun t _ y => ?_
  blk_simp
  rw [after0_3]
  frame_out
  obtain ⟨-, -, -, i9, hN⟩ := idxs t
  idx_vars y
  have he : ((View.whole main_v4).slice (win0_3.rect t)).emb (ix2 y0 y1) = ix2 y0 ⟨1536 * t.val + y1.val, by omega⟩ := by
    blk_ext [i9]
  rw [he]
  exact mod_pt m c t y0 y1 ⟨1536 * t.val + y1.val, by omega⟩ rfl

end Cert.ModIdeal.Val

end
-- ==== Proof.Mod.Ref.lean ====
/- The reference's modulation, read at an entry. -/
module

public import proofs.«01_k».proof.Proof.Gen.ModRefIdeal.Read
public import proofs.«01_k».proof.Proof.Layer.Math

@[expose] public section

set_option maxRecDepth 16384

noncomputable section

namespace Cert.ModRefIdeal.Val

open Idealize.ShloMosaic Idealize.ShloMosaic.TcCoe Idealize.SL.Sem
open Cert.ModRefIdeal Cert.ModRefIdeal.Gen Cert.ModRefIdeal.Value Cert.ModRefIdeal.Read Cert.LayerMath

variable (x0 : FVec Ideal S8x2048 .f32) (x1 : FVec Ideal S16x2048 .f32) (x2 : FVec Ideal S1x2048x12288 .f32) (x3 : FVec Ideal S1x12288 .f32)

/-- The silu of a vector against column `k` of the weights, plus the bias. -/
def modRow (x : Fin 2048 → EReal) (k : Fin 12288) : EReal := dot (fun j => gated (x j) (x j)) (fun j => x2 (ix3 0 j k)) + x3 (ix2 0 k)

theorem v0_at (r : Fin 8) (j : Fin 2048) : val_main_v0 (F := Ideal) x0 (ix2 r j) = gated (x0 (ix2 r j)) (x0 (ix2 r j)) := by
  unfold gated Ideal.logistic
  pointwise [val_main_v0, val_main_call0_v5, val_main_call0_v4, val_main_call0_cst_0, val_main_call0_v3, val_main_call0_v2, val_main_call0_cst, val_main_call0_v1, val_main_call0_v0]

theorem v6_at (r : Fin 8) (k : Fin 12288) : val_main_v6 (F := Ideal) x0 x2 x3 (ix2 r k) = modRow x2 x3 (fun j => x0 (ix2 r j)) k := by
  unfold modRow dot
  pointwise [val_main_v6, val_main_v5, val_main_v4, val_main_v3, val_main_v2, val_main_v1, v0_at]

theorem v7_at (r : Fin 16) (j : Fin 2048) : val_main_v7 (F := Ideal) x1 (ix2 r j) = gated (x1 (ix2 r j)) (x1 (ix2 r j)) := by
  unfold gated Ideal.logistic
  pointwise [val_main_v7, val_main_call1_v5, val_main_call1_v4, val_main_call1_cst_0, val_main_call1_v3, val_main_call1_v2, val_main_call1_cst, val_main_call1_v1, val_main_call1_v0]

theorem v13_at (r : Fin 16) (k : Fin 12288) : val_main_v13 (F := Ideal) x1 x2 x3 (ix2 r k) = modRow x2 x3 (fun j => x1 (ix2 r j)) k := by
  unfold modRow dot
  pointwise [val_main_v13, val_main_v12, val_main_v11, val_main_v10, val_main_v9, val_main_v8, v7_at]

end Cert.ModRefIdeal.Val

end
-- ==== Proof.Mod.Host.lean ====
/- What the host lines around the modulation call compute, and the call's results as the program returns them. -/
module

public import proofs.«01_k».proof.Proof.Mod.Arr
public import proofs.«01_k».proof.Proof.Mod.Ref

@[expose] public section

set_option maxRecDepth 16384

noncomputable section

namespace Cert.ModIdeal.Val

open Idealize.ShloMosaic Idealize.ShloMosaic.TcCoe Idealize.SL.Sem
open Cert.ModIdeal Cert.ModIdeal.Gen Cert.LayerMath

variable (m : (ℓ : Loc nD τ sig) → Buf (Elt Ideal) ℓ)

/-- The arguments. -/
abbrev a0 (c : Dev nD) : FVec Ideal S8x2048 .f32 := m ((c.tc : Thread nD τ).loc main_arg0)
abbrev a1 (c : Dev nD) : FVec Ideal S16x2048 .f32 := m ((c.tc : Thread nD τ).loc main_arg1)
abbrev a2 (c : Dev nD) : FVec Ideal S1x2048x12288 .f32 := m ((c.tc : Thread nD τ).loc main_arg2)
abbrev a3 (c : Dev nD) : FVec Ideal S1x12288 .f32 := m ((c.tc : Thread nD τ).loc main_arg3)

theorem V_v0 (c : Dev nD) : V m c main_v0 = concatenate S24x2048 0 [⟨S8x2048, a0 m c⟩, ⟨S16x2048, a1 m c⟩] concatenates_S8x2048_S16x2048_S24x2048_d0 := by
  show StableHlo.after hostOps0 (fun b => m (c, b)) (Proc.devRef .tc main_v0) = _
  after_results

theorem V_v1 (c : Dev nD) : V m c main_v1 = shapeCast S2048x12288 (a2 m c) shapeCasts_S1x2048x12288_S2048x12288 := by
  show StableHlo.after hostOps0 (fun b => m (c, b)) (Proc.devRef .tc main_v1) = _
  after_results
  rfl

theorem V_v3 (c : Dev nD) : V m c main_v3 = shapeCast S1x12288 (shapeCast S12288 (a3 m c) shapeCasts_S1x12288_S12288) shapeCasts_S12288_S1x12288 := by
  show StableHlo.after hostOps0 (fun b => m (c, b)) (Proc.devRef .tc main_v3) = _
  after_results
  rfl

theorem xp_at (c : Dev nD) (r : Fin 8) (j : Fin 2048) : V m c main_v0 (ix2 ⟨r.val, by omega⟩ j) = a0 m c (ix2 r j) := by
  rw [V_v0]
  generalize a0 m c = x
  generalize a1 m c = x'
  pointwise []

theorem xs_at (c : Dev nD) (r : Fin 16) (j : Fin 2048) : V m c main_v0 (ix2 ⟨8 + r.val, by omega⟩ j) = a1 m c (ix2 r j) := by
  rw [V_v0]
  generalize a0 m c = x
  generalize a1 m c = x'
  pointwise []

theorem w_at (c : Dev nD) (j : Fin 2048) (k : Fin 12288) : V m c main_v1 (ix2 j k) = a2 m c (ix3 0 j k) := by
  rw [V_v1]
  generalize a2 m c = x
  pointwise []

theorem b_at (c : Dev nD) (k : Fin 12288) : V m c main_v3 (ix2 0 k) = a3 m c (ix2 0 k) := by
  rw [V_v3]
  generalize a3 m c = x
  pointwise []

open Cert.ModRefIdeal.Val (modRow)

theorem mod_eq (c : Dev nD) (R : Fin 24) (k : Fin 12288) (x : Fin 2048 → EReal) (hx : ∀ j, V m c main_v0 (ix2 R j) = x j) :
    modArr (V m c main_v0) (V m c main_v1) (V m c main_v3) (ix2 R k) = modRow (a2 m c) (a3 m c) x k := by
  unfold modArr modRow
  refine congrArg₂ (· + ·) (dot_congr (fun j => ?_) fun j => ?_) ?_
  · exact congrArg₂ gated (hx j) (hx j)
  · exact w_at m c j k
  · exact b_at m c k

theorem first_rows (X : FVec Ideal S24x12288 .f32) (r : Fin 8) (k : Fin 12288) :
    extractStridedSlice S8x12288 ![0, 0] X slices_S24x12288_S8x12288_0_0 (ix2 r k) = X (ix2 ⟨r.val, by omega⟩ k) := by
  pointwise []

theorem last_rows (X : FVec Ideal S24x12288 .f32) (r : Fin 16) (k : Fin 12288) :
    extractStridedSlice S16x12288 ![8, 0] X slices_S24x12288_S16x12288_8_0 (ix2 r k) = X (ix2 ⟨8 + r.val, by omega⟩ k) := by
  pointwise []

/-- What the program leaves at the end. -/
abbrev T (c : Dev nD) (b : Ref sig .tc) : Buf (Elt Ideal) ((c.tc : Thread nD τ).loc b) :=
  Pipeline.afterTail₀ cfgs (dats m) 0 (V0 m) [hostOps1] c b

theorem T_v5 (c : Dev nD) : T m c main_v5 = Cert.ModRefIdeal.Read.val_main_v6 (F := Ideal) (a0 m c) (a2 m c) (a3 m c) := by
  have e : T m c main_v5 = extractStridedSlice S8x12288 ![0, 0] (modArr (V m c main_v0) (V m c main_v1) (V m c main_v3) : FVec Ideal S24x12288 .f32) slices_S24x12288_S8x12288_0_0 := by
    have h := (Pipeline.withArrays_arr spec0 launch0.win.arr_inj c (V0 m c) (fun w => (dats m 0 c).arrAt w cfg0.N) 3).trans (mod_final m c)
    show StableHlo.after hostOps1 (Pipeline.withArrays spec0 c (V0 m c) fun w => (dats m 0 c).arrAt w cfg0.N) (Proc.devRef .tc main_v5) = _
    generalize (Pipeline.withArrays spec0 c (V0 m c) fun w => (dats m 0 c).arrAt w cfg0.N) = W at h ⊢
    rw [← h]
    after_results
  rw [e]
  funext y
  idx_vars y
  refine (first_rows _ y0 y1).trans (Eq.trans ?_ (Cert.ModRefIdeal.Val.v6_at (a0 m c) (a2 m c) (a3 m c) y0 y1).symm)
  exact mod_eq m c ⟨y0.val, by omega⟩ y1 _ (fun j => xp_at m c y0 j)

theorem T_v6 (c : Dev nD) : T m c main_v6 = Cert.ModRefIdeal.Read.val_main_v13 (F := Ideal) (a1 m c) (a2 m c) (a3 m c) := by
  have e : T m c main_v6 = extractStridedSlice S16x12288 ![8, 0] (modArr (V m c main_v0) (V m c main_v1) (V m c main_v3) : FVec Ideal S24x12288 .f32) slices_S24x12288_S16x12288_8_0 := by
    have h := (Pipeline.withArrays_arr spec0 launch0.win.arr_inj c (V0 m c) (fun w => (dats m 0 c).arrAt w cfg0.N) 3).trans (mod_final m c)
    show StableHlo.after hostOps1 (Pipeline.withArrays spec0 c (V0 m c) fun w => (dats m 0 c).arrAt w cfg0.N) (Proc.devRef .tc main_v6) = _
    generalize (Pipeline.withArrays spec0 c (V0 m c) fun w => (dats m 0 c).arrAt w cfg0.N) = W at h ⊢
    rw [← h]
    after_results
  rw [e]
  funext y
  idx_vars y
  refine (last_rows _ y0 y1).trans (Eq.trans ?_ (Cert.ModRefIdeal.Val.v13_at (a1 m c) (a2 m c) (a3 m c) y0 y1).symm)
  exact mod_eq m c ⟨8 + y0.val, by omega⟩ y1 _ (fun j => xs_at m c y0 j)

/-- The program runs; what no window holds ends at what the lines after the call leave, and the arguments as they were. -/
theorem run_all (ρ : Dev nD → PrngReg) :
    θ_run (defs (F := Ideal)) (onTc (τ := τ) (main (F := Ideal))) ⟨m, fun _ => 0, ρ⟩ (fun r => ∀ c : Dev nD,
      (∀ b ∈ Pipeline.restRefs sig spec0, r.2.mem ((c.tc : Thread nD τ).loc b) = T m c b)
      ∧ (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))) :=
  (θ_run defs _ _).mono (fun r h c => ⟨(h c).2, ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩) (run_main m ρ)

end Cert.ModIdeal.Val

end
-- ==== Proof.Mod.Claim.lean ====
/- The claims on the modulation: the reference's frame, and the equation of kernel and reference over the reals. -/
module

public import proofs.«01_k».proof.Defs
public import proofs.«01_k».proof.Proof.Mod.Host
public import proofs.«01_k».proof.Proof.Gen.ModRefIdeal.Run
public import Idealize.ShloMosaic.Lib.Quiescent

@[expose] public section

set_option maxRecDepth 16384

noncomputable section

namespace Cert.ModTie

open Idealize.ShloMosaic Idealize.ShloMosaic.TcCoe Idealize.SL.Sem

/-- The reference runs, keeps its arguments, and has no counter to leave standing. -/
theorem ref_frame (m : (ℓ : Loc Cert.ModRefIdeal.nD Cert.ModRefIdeal.τ Cert.ModRefIdeal.sig) → Buf (Elt Ideal) ℓ)
    (ρ : Dev Cert.ModRefIdeal.nD → PrngReg) :
    θ_run (Cert.ModRefIdeal.defs (F := Ideal)) (onTc (τ := Cert.ModRefIdeal.τ) (Cert.ModRefIdeal.main (F := Ideal))) ⟨m, fun _ => 0, ρ⟩
      (fun r => (∀ c : Dev Cert.ModRefIdeal.nD,
        r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
        ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
        ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
        ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
        ∧ r.2.sem = fun _ => 0) :=
  (θ_run _ _ _).mono (fun r h => ⟨fun c => (h c).2.2, sem_eq_zero_of_no_sems rfl r.2⟩) (Cert.ModRefIdeal.Value.run m ρ)

/-- From memories that agree on the arguments: kernel and reference end with the same results. -/
theorem equation : Cert.algebraic_ModIdeal_ModRefIdeal := by
  intro m g m' g' hpre hag
  refine ⟨fun c => Cert.ModRefIdeal.Read.val_main_v6 (F := Ideal) (m ((c.tc : Thread _ _).loc Cert.ModIdeal.main_arg0)) (m ((c.tc : Thread _ _).loc Cert.ModIdeal.main_arg2)) (m ((c.tc : Thread _ _).loc Cert.ModIdeal.main_arg3)),
    fun c => Cert.ModRefIdeal.Read.val_main_v13 (F := Ideal) (m ((c.tc : Thread _ _).loc Cert.ModIdeal.main_arg1)) (m ((c.tc : Thread _ _).loc Cert.ModIdeal.main_arg2)) (m ((c.tc : Thread _ _).loc Cert.ModIdeal.main_arg3)), ?_, ?_⟩
  · refine (θ_run _ _ _).mono (fun r h c => ⟨?_, ?_, ?_⟩) (Cert.ModIdeal.Val.run_all m g)
    · exact ((h c).1 Cert.ModIdeal.main_v5 (Pipeline.mem_restRefs_of Cert.ModIdeal.main_v5 (by decide) (by decide))).trans (Cert.ModIdeal.Val.T_v5 m c)
    · exact ((h c).1 Cert.ModIdeal.main_v6 (Pipeline.mem_restRefs_of Cert.ModIdeal.main_v6 (by decide) (by decide))).trans (Cert.ModIdeal.Val.T_v6 m c)
    · exact (h c).2
  · refine (θ_run _ _ _).mono (fun r h c => ⟨?_, ?_, (h c).2.2⟩) (Cert.ModRefIdeal.Value.run m' g')
    · obtain ⟨e0, e1, e2, e3⟩ := hag c
      refine (h c).1.trans ((Cert.ModRefIdeal.Read.val_main_v6_eq (m' ((c.tc : Thread _ _).loc Cert.ModRefIdeal.main_arg0)) (m' ((c.tc : Thread _ _).loc Cert.ModRefIdeal.main_arg2)) (m' ((c.tc : Thread _ _).loc Cert.ModRefIdeal.main_arg3))).trans ?_)
      rw [e0, e2, e3]
    · obtain ⟨e0, e1, e2, e3⟩ := hag c
      refine (h c).2.1.trans ((Cert.ModRefIdeal.Read.val_main_v13_eq (m' ((c.tc : Thread _ _).loc Cert.ModRefIdeal.main_arg1)) (m' ((c.tc : Thread _ _).loc Cert.ModRefIdeal.main_arg2)) (m' ((c.tc : Thread _ _).loc Cert.ModRefIdeal.main_arg3))).trans ?_)
      rw [e1, e2, e3]

end Cert.ModTie

end
-- ==== Proof.Layer.Residual.lean ====
/- One entry of the residual of the layer, over the extended reals. -/
module

public import Idealize.ShloMosaic.Lib.Pipeline.ValueKit

@[expose] public section

noncomputable section

namespace Cert.LayerMath

open Idealize.ShloMosaic

/-- One entry of the residual: the input plus the gate times the two halves' products. -/
def res (yc o : Fin 1024 → EReal) (w w' : Fin 1024 → EReal) (x g : EReal) : EReal := x + g * ((∑ k, yc k * w k) + ∑ k, o k * w' k)

theorem res_congr {yc yc' o o' w₁ w₁' w₂ w₂' : Fin 1024 → EReal} {x x' g g' : EReal} (hy : ∀ j, yc j = yc' j) (ho : ∀ j, o j = o' j)
    (h1 : ∀ j, w₁ j = w₁' j) (h2 : ∀ j, w₂ j = w₂' j) (hx : x = x') (hg : g = g') : res yc o w₁ w₂ x g = res yc' o' w₁' w₂' x' g' := by
  obtain rfl := funext hy
  obtain rfl := funext ho
  obtain rfl := funext h1
  obtain rfl := funext h2
  rw [hx, hg]

end Cert.LayerMath

end
-- ==== Proof.Mid.Arr.lean ====
/- The arrays the output projection leaves, entry by entry, from the arrays it finds. -/
module

public import proofs.«01_k».proof.Proof.Gen.MidIdeal.Frame
public import proofs.«01_k».proof.Proof.Layer.Math
public import proofs.«01_k».proof.Proof.Layer.Residual

@[expose] public section

set_option maxRecDepth 16384

noncomputable section

namespace Cert.MidIdeal.Val

open Idealize.ShloMosaic Idealize.ShloMosaic.TcCoe Idealize.SL.Sem
open Cert.MidIdeal Cert.MidIdeal.Gen Cert.LayerMath

variable (m : (ℓ : Loc nD τ sig) → Buf (Elt Ideal) ℓ)

theorem pay2_at (yc : FVec Ideal S512x1024 .bf16) (w : FVec Ideal S1024x2048 .bf16) (o : FVec Ideal S512x1024 .bf16) (w' : FVec Ideal S1024x2048 .bf16)
    (x : FVec Ideal S512x2048 .f32) (g : FVec Ideal S1x1x2048 .f32) (r : Fin 512) (k : Fin 2048) :
    k0_pay2 (F := Ideal) yc w o w' x g (ix2 r k)
      = res (fun j => yc (ix2 r j)) (fun j => o (ix2 r j)) (fun j => w (ix2 j k)) (fun j => w' (ix2 j k)) (x (ix2 r k)) (g (ix3 0 0 k)) := by
  unfold res
  pointwise [k0_pay2]

theorem pay3_at (yc : FVec Ideal S512x1024 .bf16) (w : FVec Ideal S1024x2048 .bf16) (o : FVec Ideal S512x1024 .bf16) (w' : FVec Ideal S1024x2048 .bf16)
    (x : FVec Ideal S512x2048 .f32) (g : FVec Ideal S1x1x2048 .f32) (n : FVec Ideal S1x2048 .f32) (r : Fin 512) (k : Fin 2048) :
    k0_pay3 (F := Ideal) yc w o w' x g n (ix2 r k)
      = k0_pay2 (F := Ideal) yc w o w' x g (ix2 r k)
        * Ideal.rsqrt (Ideal.div (∑ j, k0_pay2 (F := Ideal) yc w o w' x g (ix2 r j) * k0_pay2 (F := Ideal) yc w o w' x g (ix2 r j)) (Ideal.ofBits FTy.f32 1157627904#32) + Ideal.ofBits FTy.f32 897988541#32)
        * n (ix2 0 k) := by
  unfold k0_pay3
  generalize k0_pay2 (F := Ideal) yc w o w' x g = X
  pointwise []

theorem pay1_at (h : FVec Ideal S512x2048 .f32) (sc sh : FVec Ideal S1x1x2048 .f32) (r : Fin 512) (k : Fin 2048) :
    k0_pay1 (F := Ideal) h sc sh (ix2 k r) = h (ix2 r k) * (1 + sc (ix3 0 0 k)) + sh (ix3 0 0 k) := by
  pointwise [k0_pay1]

theorem pay13_at (yc : FVec Ideal S512x1024 .bf16) (w : FVec Ideal S1024x2048 .bf16) (o : FVec Ideal S512x1024 .bf16) (w' : FVec Ideal S1024x2048 .bf16)
    (x : FVec Ideal S512x2048 .f32) (g : FVec Ideal S1x1x2048 .f32) (n : FVec Ideal S1x2048 .f32) (sc sh : FVec Ideal S1x1x2048 .f32) (r : Fin 512) (k : Fin 2048) :
    k0_pay1 (F := Ideal) (k0_pay3 (F := Ideal) yc w o w' x g n) sc sh (ix2 k r)
      = hval (fun k => res (fun j => yc (ix2 r j)) (fun j => o (ix2 r j)) (fun j => w (ix2 j k)) (fun j => w' (ix2 j k)) (x (ix2 r k)) (g (ix3 0 0 k)))
          (fun k => n (ix2 0 k)) (fun k => sc (ix3 0 0 k)) (fun k => sh (ix3 0 0 k)) k := by
  rw [pay1_at, pay3_at]
  simp only [pay2_at]
  rfl

/-- Which block of each window a point meets. -/
theorem idxs : ∀ t : Fin cfg0.N, win0_0.index t = ![t.val, 0] ∧ win0_1.index t = ![t.val, 0] ∧ win0_2.index t = ![t.val, 0]
    ∧ win0_3.index t = ![0, 0] ∧ win0_4.index t = ![1, 0] ∧ win0_5.index t = ![t.val / 8, 0, 0]
    ∧ win0_6.index t = ![t.val / 8, 0, 0] ∧ win0_7.index t = ![t.val / 8, 0, 0] ∧ win0_8.index t = ![0, 0]
    ∧ win0_9.index t = ![t.val, 0] ∧ win0_10.index t = ![0, t.val] ∧ t.val < 64 :=
  (by decide +kernel : ∀ t : Fin grid0.N, _)

theorem iblk_yc (c : Dev nD) (t : Fin cfg0.N) (r : Fin 512) (k : Fin 1024) (R : Fin 32768) (hR : R.val = 512 * t.val + r.val) :
    iblk m c 0 t (ix2 r k) = V m c main_v0 (ix2 R k) := by
  obtain ⟨i, -⟩ := idxs t
  blk_ext [iblk, i, hR]

theorem iblk_o (c : Dev nD) (t : Fin cfg0.N) (r : Fin 512) (k : Fin 1024) (R : Fin 32768) (hR : R.val = 512 * t.val + r.val) :
    iblk m c 1 t (ix2 r k) = V m c main_v1 (ix2 R k) := by
  obtain ⟨-, i, -⟩ := idxs t
  blk_ext [iblk, i, hR]

theorem iblk_x (c : Dev nD) (t : Fin cfg0.N) (r : Fin 512) (k : Fin 2048) (R : Fin 32768) (hR : R.val = 512 * t.val + r.val) :
    iblk m c 2 t (ix2 r k) = V m c main_v2 (ix2 R k) := by
  obtain ⟨-, -, i, -⟩ := idxs t
  blk_ext [iblk, i, hR]

theorem iblk_w (c : Dev nD) (t : Fin cfg0.N) (j : Fin 1024) (k : Fin 2048) (J : Fin 2048) (hJ : J.val = j.val) :
    iblk m c 3 t (ix2 j k) = V m c main_v4 (ix2 J k) := by
  obtain ⟨-, -, -, i, -⟩ := idxs t
  blk_ext [iblk, i, hJ]

theorem iblk_w' (c : Dev nD) (t : Fin cfg0.N) (j : Fin 1024) (k : Fin 2048) (J : Fin 2048) (hJ : J.val = 1024 + j.val) :
    iblk m c 4 t (ix2 j k) = V m c main_v4 (ix2 J k) := by
  obtain ⟨-, -, -, -, i, -⟩ := idxs t
  blk_ext [iblk, i, hJ]

theorem iblk_g (c : Dev nD) (t : Fin cfg0.N) (k : Fin 2048) (b : Fin 8) (hb : b.val = t.val / 8) :
    iblk m c 5 t (ix3 0 0 k) = V m c main_v5 (ix3 b 0 k) := by
  obtain ⟨-, -, -, -, -, i, -⟩ := idxs t
  blk_ext [iblk, i, hb]

theorem iblk_sc (c : Dev nD) (t : Fin cfg0.N) (k : Fin 2048) (b : Fin 8) (hb : b.val = t.val / 8) :
    iblk m c 6 t (ix3 0 0 k) = V m c main_v6 (ix3 b 0 k) := by
  obtain ⟨-, -, -, -, -, -, i, -⟩ := idxs t
  blk_ext [iblk, i, hb]

theorem iblk_sh (c : Dev nD) (t : Fin cfg0.N) (k : Fin 2048) (b : Fin 8) (hb : b.val = t.val / 8) :
    iblk m c 7 t (ix3 0 0 k) = V m c main_v7 (ix3 b 0 k) := by
  obtain ⟨-, -, -, -, -, -, -, i, -⟩ := idxs t
  blk_ext [iblk, i, hb]

theorem iblk_n (c : Dev nD) (t : Fin cfg0.N) (k : Fin 2048) : iblk m c 8 t (ix2 0 k) = V m c main_v9 (ix2 0 k) := by
  obtain ⟨-, -, -, -, -, -, -, -, i, -⟩ := idxs t
  blk_ext [iblk, i]

/-- The residual at row `R`, column `k`. -/
def resAt (Y O : FVec Ideal S32768x1024 .bf16) (X : FVec Ideal S32768x2048 .f32) (W : FVec Ideal S2048x2048 .bf16) (G : FVec Ideal S8x1x2048 .f32)
    (R : Fin 32768) (k : Fin 2048) : EReal :=
  res (fun j => Y (ix2 R j)) (fun j => O (ix2 R j)) (fun j => W (ix2 ⟨j.val, by omega⟩ k)) (fun j => W (ix2 ⟨1024 + j.val, by omega⟩ k))
    (X (ix2 R k)) (G (ix3 ⟨R.val / 4096, by omega⟩ 0 k))

/-- The residual. -/
def resArr (Y O : FVec Ideal S32768x1024 .bf16) (X : FVec Ideal S32768x2048 .f32) (W : FVec Ideal S2048x2048 .bf16) (G : FVec Ideal S8x1x2048 .f32) :
    FVec Ideal S32768x2048 .f32 := fun i => resAt Y O X W G (i 0) (i 1)

/-- The residual normalised and modulated, turned over. -/
def normArr (Y O : FVec Ideal S32768x1024 .bf16) (X : FVec Ideal S32768x2048 .f32) (W : FVec Ideal S2048x2048 .bf16) (G SC SH : FVec Ideal S8x1x2048 .f32)
    (N : FVec Ideal S1x2048 .f32) : FVec Ideal S2048x32768 .bf16 := fun i =>
  hval (resAt Y O X W G (i 1)) (fun k => N (ix2 0 k)) (fun k => SC (ix3 ⟨(i 1).val / 4096, by have : (i 1).val < 32768 := (i 1).isLt; omega⟩ 0 k))
    (fun k => SH (ix3 ⟨(i 1).val / 4096, by have : (i 1).val < 32768 := (i 1).isLt; omega⟩ 0 k)) (i 0)

theorem res_row (c : Dev nD) (t : Fin cfg0.N) (r : Fin 512) (k : Fin 2048) (R : Fin 32768) (hR : R.val = 512 * t.val + r.val) :
    res (fun j => iblk m c 0 t (ix2 r j)) (fun j => iblk m c 1 t (ix2 r j)) (fun j => iblk m c 3 t (ix2 j k)) (fun j => iblk m c 4 t (ix2 j k))
        (iblk m c 2 t (ix2 r k)) (iblk m c 5 t (ix3 0 0 k))
      = resAt (V m c main_v0) (V m c main_v1) (V m c main_v2) (V m c main_v4) (V m c main_v5) R k := by
  unfold resAt
  refine res_congr (fun j => ?_) (fun j => ?_) (fun j => ?_) (fun j => ?_) ?_ ?_
  · exact iblk_yc m c t r j R hR
  · exact iblk_o m c t r j R hR
  · exact iblk_w m c t j k ⟨j.val, by omega⟩ rfl
  · exact iblk_w' m c t j k ⟨1024 + j.val, by omega⟩ rfl
  · exact iblk_x m c t r k R hR
  · exact iblk_g m c t k ⟨R.val / 4096, by omega⟩ (by show R.val / 4096 = t.val / 8; omega)

theorem res_pt (c : Dev nD) (t : Fin cfg0.N) (y0 : Fin 512) (y1 : Fin 2048) (R : Fin 32768) (hR : R.val = 512 * t.val + y0.val) :
    k0_pay2 (F := Ideal) (iblk m c 0 t) (iblk m c 3 t) (iblk m c 1 t) (iblk m c 4 t) (iblk m c 2 t) (iblk m c 5 t) (ix2 y0 y1)
      = resArr (V m c main_v0) (V m c main_v1) (V m c main_v2) (V m c main_v4) (V m c main_v5) (ix2 R y1) := by
  unfold resArr
  exact (pay2_at _ _ _ _ _ _ y0 y1).trans (res_row m c t y0 y1 R hR)

theorem norm_pt (c : Dev nD) (t : Fin cfg0.N) (y0 : Fin 512) (y1 : Fin 2048) (R : Fin 32768) (hR : R.val = 512 * t.val + y0.val) :
    k0_pay1 (F := Ideal) (k0_pay3 (F := Ideal) (iblk m c 0 t) (iblk m c 3 t) (iblk m c 1 t) (iblk m c 4 t) (iblk m c 2 t) (iblk m c 5 t) (iblk m c 8 t))
        (iblk m c 6 t) (iblk m c 7 t) (ix2 y1 y0)
      = normArr (V m c main_v0) (V m c main_v1) (V m c main_v2) (V m c main_v4) (V m c main_v5) (V m c main_v6) (V m c main_v7) (V m c main_v9) (ix2 y1 R) := by
  unfold normArr
  refine (pay13_at _ _ _ _ _ _ _ _ _ y0 y1).trans (hval_congr (fun j => ?_) (fun j => ?_) (fun j => ?_) (fun j => ?_) y1)
  · exact res_row m c t y0 j R hR
  · exact iblk_n m c t j
  · exact iblk_sc m c t j ⟨R.val / 4096, by omega⟩ (by show R.val / 4096 = t.val / 8; omega)
  · exact iblk_sh m c t j ⟨R.val / 4096, by omega⟩ (by show R.val / 4096 = t.val / 8; omega)

theorem res_final (c : Dev nD) : (dats m 0 c).arrAt 9 cfg0.N
    = resArr (V m c main_v0) (V m c main_v1) (V m c main_v2) (V m c main_v4) (V m c main_v5) := by
  refine (dats m 0 c).arrAt_eq_of_covers 9 _ (by decide +kernel) fun t _ y => ?_
  blk_simp
  rw [after0_9]
  frame_out
  obtain ⟨-, -, -, -, -, -, -, -, -, i9, -, hN⟩ := idxs t
  idx_vars y
  have he : ((View.whole main_v10_0).slice (win0_9.rect t)).emb (ix2 y0 y1) = ix2 ⟨512 * t.val + y0.val, by omega⟩ y1 := by
    blk_ext [i9]
  rw [he]
  exact res_pt m c t y0 y1 ⟨512 * t.val + y0.val, by omega⟩ rfl

theorem norm_final (c : Dev nD) : (dats m 0 c).arrAt 10 cfg0.N
    = normArr (V m c main_v0) (V m c main_v1) (V m c main_v2) (V m c main_v4) (V m c main_v5) (V m c main_v6) (V m c main_v7) (V m c main_v9) := by
  refine (dats m 0 c).arrAt_eq_of_covers 10 _ (by decide +kernel) fun t _ y => ?_
  blk_simp
  rw [after0_10]
  frame_out
  obtain ⟨-, -, -, -, -, -, -, -, -, -, i9, hN⟩ := idxs t
  idx_vars y
  have he : ((View.whole main_v10_1).slice (win0_10.rect t)).emb (ix2 y0 y1) = ix2 y0 ⟨512 * t.val + y1.val, by omega⟩ := by
    blk_ext [i9]
  rw [he]
  exact norm_pt m c t y1 y0 ⟨512 * t.val + y1.val, by omega⟩ rfl

end Cert.MidIdeal.Val

end
-- ==== Proof.Mid.Ref.lean ====
/- The reference's output projection, read at an entry. -/
module

public import proofs.«01_k».proof.Proof.Gen.MidRefIdeal.Read
public import proofs.«01_k».proof.Proof.Layer.Math
public import proofs.«01_k».proof.Proof.Layer.Residual

@[expose] public section

set_option maxRecDepth 16384

noncomputable section

namespace Cert.MidRefIdeal.Val

open Idealize.ShloMosaic Idealize.ShloMosaic.TcCoe Idealize.SL.Sem
open Cert.MidRefIdeal Cert.MidRefIdeal.Gen Cert.MidRefIdeal.Value Cert.MidRefIdeal.Read Cert.LayerMath

variable (x0 x1 : FVec Ideal S8x4096x1024 .bf16) (x2 : FVec Ideal S8x4096x2048 .f32) (x3 x4 x5 : FVec Ideal S8x2048 .f32) (x6 : FVec Ideal S1x2048 .f32) (x7 : FVec Ideal S1x2048x2048 .f32)

/-- The residual at entry `k` of row `r` of batch `b`. -/
def resRow (b : Fin 8) (r : Fin 4096) (k : Fin 2048) : EReal :=
  res (fun j => x0 (ix3 b r j)) (fun j => x1 (ix3 b r j)) (fun j => x7 (ix3 0 ⟨j.val, by omega⟩ k)) (fun j => x7 (ix3 0 ⟨1024 + j.val, by omega⟩ k))
    (x2 (ix3 b r k)) (x3 (ix2 b k))

/-- A sum over the joined columns is the two halves' sums. -/
theorem sum_halves (f : Fin 2048 → EReal) : (∑ j, f j) = (∑ j : Fin 1024, f ⟨j.val, by omega⟩) + ∑ j : Fin 1024, f ⟨1024 + j.val, by omega⟩ :=
  Fin.sum_univ_add (a := 1024) (b := 1024) f

theorem v1_first (b : Fin 8) (r : Fin 4096) (j : Fin 1024) : val_main_v1 (F := Ideal) x0 x1 (ix3 b r ⟨j.val, by omega⟩) = x0 (ix3 b r j) := by
  pointwise [val_main_v1]

theorem v1_last (b : Fin 8) (r : Fin 4096) (j : Fin 1024) : val_main_v1 (F := Ideal) x0 x1 (ix3 b r ⟨1024 + j.val, by omega⟩) = x1 (ix3 b r j) := by
  pointwise [val_main_v1]

theorem v4_sum (b : Fin 8) (r : Fin 4096) (k : Fin 2048) :
    val_main_v4 (F := Ideal) x0 x1 x7 (ix3 b r k) = ∑ j : Fin 2048, val_main_v1 (F := Ideal) x0 x1 (ix3 b r j) * x7 (ix3 0 j k) := by
  unfold val_main_v4 val_main_v2
  generalize val_main_v1 (F := Ideal) x0 x1 = X
  pointwise [val_main_v3]

theorem v7_at (b : Fin 8) (r : Fin 4096) (k : Fin 2048) : val_main_v7 (F := Ideal) x0 x1 x2 x3 x7 (ix3 b r k) = resRow x0 x1 x2 x3 x7 b r k := by
  have e : val_main_v7 (F := Ideal) x0 x1 x2 x3 x7 (ix3 b r k) = x2 (ix3 b r k) + x3 (ix2 b k) * val_main_v4 (F := Ideal) x0 x1 x7 (ix3 b r k) := by
    unfold val_main_v7 val_main_v6
    generalize val_main_v4 (F := Ideal) x0 x1 x7 = Y
    pointwise [val_main_v5, val_main_v0]
  rw [e, v4_sum, sum_halves]
  simp only [v1_first, v1_last]
  rfl

theorem v29_at (b : Fin 8) (r : Fin 4096) (k : Fin 2048) :
    val_main_v29 (F := Ideal) x0 x1 x2 x3 x4 x5 x6 x7 (ix3 b r k)
      = hval (resRow x0 x1 x2 x3 x7 b r) (fun j => x6 (ix2 0 j)) (fun j => x4 (ix2 b j)) (fun j => x5 (ix2 b j)) k := by
  unfold hval
  simp only [← v7_at]
  unfold val_main_v29 val_main_v26 val_main_v21 val_main_v17 val_main_v16 val_main_v15 val_main_v14 val_main_v12 val_main_v10 val_main_v9 val_main_v8
  generalize val_main_v7 (F := Ideal) x0 x1 x2 x3 x7 = X
  pointwise [val_main_v28, val_main_v27, val_main_v25, val_main_v24, val_main_v23, val_main_v22,
    val_main_v20, val_main_v19, val_main_v18, val_main_v13,
    val_main_v11, val_main_cst, val_main_cst_0, val_main_cst_1, val_main_cst_2]

theorem v30_at (b : Fin 8) (r : Fin 4096) (k : Fin 2048) (R : Fin 32768) (hR : R.val = b.val * 4096 + r.val) :
    val_main_v30 (F := Ideal) x0 x1 x2 x3 x7 (ix2 R k) = resRow x0 x1 x2 x3 x7 b r k := by
  have hb : (⟨R.val / 4096, by omega⟩ : Fin 8) = b := Fin.ext (by show R.val / 4096 = b.val; omega)
  have hr : (⟨R.val % 4096, by omega⟩ : Fin 4096) = r := Fin.ext (by show R.val % 4096 = r.val; omega)
  have e : val_main_v30 (F := Ideal) x0 x1 x2 x3 x7 (ix2 R k) = val_main_v7 (F := Ideal) x0 x1 x2 x3 x7 (ix3 ⟨R.val / 4096, by omega⟩ ⟨R.val % 4096, by omega⟩ k) := by
    unfold val_main_v30
    generalize val_main_v7 (F := Ideal) x0 x1 x2 x3 x7 = X
    pointwise []
  exact e.trans (by rw [hb, hr, v7_at])

theorem v33_at (b : Fin 8) (r : Fin 4096) (k : Fin 2048) (R : Fin 32768) (hR : R.val = b.val * 4096 + r.val) :
    val_main_v33 (F := Ideal) x0 x1 x2 x3 x4 x5 x6 x7 (ix2 k R)
      = hval (resRow x0 x1 x2 x3 x7 b r) (fun j => x6 (ix2 0 j)) (fun j => x4 (ix2 b j)) (fun j => x5 (ix2 b j)) k := by
  have hb : (⟨R.val / 4096, by omega⟩ : Fin 8) = b := Fin.ext (by show R.val / 4096 = b.val; omega)
  have hr : (⟨R.val % 4096, by omega⟩ : Fin 4096) = r := Fin.ext (by show R.val % 4096 = r.val; omega)
  have e : val_main_v33 (F := Ideal) x0 x1 x2 x3 x4 x5 x6 x7 (ix2 k R)
      = val_main_v29 (F := Ideal) x0 x1 x2 x3 x4 x5 x6 x7 (ix3 ⟨R.val / 4096, by omega⟩ ⟨R.val % 4096, by omega⟩ k) := by
    unfold val_main_v33 val_main_v32 val_main_v31
    generalize val_main_v29 (F := Ideal) x0 x1 x2 x3 x4 x5 x6 x7 = X
    pointwise []
  exact e.trans (by rw [hb, hr, v29_at])

end Cert.MidRefIdeal.Val

end
-- ==== Proof.Mid.Host.lean ====
/- What the host lines before the output projection compute, and the call's results as the program returns them. -/
module

public import proofs.«01_k».proof.Proof.Mid.Arr
public import proofs.«01_k».proof.Proof.Mid.Ref

@[expose] public section

set_option maxRecDepth 16384

noncomputable section

namespace Cert.MidIdeal.Val

open Idealize.ShloMosaic Idealize.ShloMosaic.TcCoe Idealize.SL.Sem
open Cert.MidIdeal Cert.MidIdeal.Gen Cert.LayerMath

variable (m : (ℓ : Loc nD τ sig) → Buf (Elt Ideal) ℓ)

/-- The arguments. -/
abbrev a0 (c : Dev nD) : FVec Ideal S8x4096x1024 .bf16 := m ((c.tc : Thread nD τ).loc main_arg0)
abbrev a1 (c : Dev nD) : FVec Ideal S8x4096x1024 .bf16 := m ((c.tc : Thread nD τ).loc main_arg1)
abbrev a2 (c : Dev nD) : FVec Ideal S8x4096x2048 .f32 := m ((c.tc : Thread nD τ).loc main_arg2)
abbrev a3 (c : Dev nD) : FVec Ideal S8x2048 .f32 := m ((c.tc : Thread nD τ).loc main_arg3)
abbrev a4 (c : Dev nD) : FVec Ideal S8x2048 .f32 := m ((c.tc : Thread nD τ).loc main_arg4)
abbrev a5 (c : Dev nD) : FVec Ideal S8x2048 .f32 := m ((c.tc : Thread nD τ).loc main_arg5)
abbrev a6 (c : Dev nD) : FVec Ideal S1x2048 .f32 := m ((c.tc : Thread nD τ).loc main_arg6)
abbrev a7 (c : Dev nD) : FVec Ideal S1x2048x2048 .f32 := m ((c.tc : Thread nD τ).loc main_arg7)

theorem V_v0 (c : Dev nD) : V m c main_v0 = shapeCast S32768x1024 (a0 m c) shapeCasts_S8x4096x1024_S32768x1024 := by
  show StableHlo.after hostOps0 (fun b => m (c, b)) (Proc.devRef .tc main_v0) = _
  after_results
  rfl

theorem V_v1 (c : Dev nD) : V m c main_v1 = shapeCast S32768x1024 (a1 m c) shapeCasts_S8x4096x1024_S32768x1024 := by
  show StableHlo.after hostOps0 (fun b => m (c, b)) (Proc.devRef .tc main_v1) = _
  after_results
  rfl

theorem V_v2 (c : Dev nD) : V m c main_v2 = shapeCast S32768x2048 (a2 m c) shapeCasts_S8x4096x2048_S32768x2048 := by
  show StableHlo.after hostOps0 (fun b => m (c, b)) (Proc.devRef .tc main_v2) = _
  after_results
  rfl

theorem V_v4 (c : Dev nD) : V m c main_v4 = truncf .bf16 (shapeCast S2048x2048 (a7 m c) shapeCasts_S1x2048x2048_S2048x2048) bitsLt_bf16_f32 := by
  show StableHlo.after hostOps0 (fun b => m (c, b)) (Proc.devRef .tc main_v4) = _
  after_results
  rfl

theorem V_v5 (c : Dev nD) : V m c main_v5 = shapeCast S8x1x2048 (a3 m c) shapeCasts_S8x2048_S8x1x2048 := by
  show StableHlo.after hostOps0 (fun b => m (c, b)) (Proc.devRef .tc main_v5) = _
  after_results
  rfl

theorem V_v6 (c : Dev nD) : V m c main_v6 = shapeCast S8x1x2048 (a4 m c) shapeCasts_S8x2048_S8x1x2048 := by
  show StableHlo.after hostOps0 (fun b => m (c, b)) (Proc.devRef .tc main_v6) = _
  after_results
  rfl

theorem V_v7 (c : Dev nD) : V m c main_v7 = shapeCast S8x1x2048 (a5 m c) shapeCasts_S8x2048_S8x1x2048 := by
  show StableHlo.after hostOps0 (fun b => m (c, b)) (Proc.devRef .tc main_v7) = _
  after_results
  rfl

theorem V_v9 (c : Dev nD) : V m c main_v9 = shapeCast S1x2048 (shapeCast S2048 (a6 m c) shapeCasts_S1x2048_S2048) shapeCasts_S2048_S1x2048 := by
  show StableHlo.after hostOps0 (fun b => m (c, b)) (Proc.devRef .tc main_v9) = _
  after_results
  rfl

theorem yc_at (c : Dev nD) (b : Fin 8) (r : Fin 4096) (j : Fin 1024) (R : Fin 32768) (hR : R.val = b.val * 4096 + r.val) :
    V m c main_v0 (ix2 R j) = a0 m c (ix3 b r j) := by
  have hb : (⟨R.val / 4096, by omega⟩ : Fin 8) = b := Fin.ext (by show R.val / 4096 = b.val; omega)
  have hr : (⟨R.val % 4096, by omega⟩ : Fin 4096) = r := Fin.ext (by show R.val % 4096 = r.val; omega)
  have e : V m c main_v0 (ix2 R j) = a0 m c (ix3 ⟨R.val / 4096, by omega⟩ ⟨R.val % 4096, by omega⟩ j) := by
    rw [V_v0]
    generalize a0 m c = x
    pointwise []
  exact e.trans (by rw [hb, hr])

theorem o_at (c : Dev nD) (b : Fin 8) (r : Fin 4096) (j : Fin 1024) (R : Fin 32768) (hR : R.val = b.val * 4096 + r.val) :
    V m c main_v1 (ix2 R j) = a1 m c (ix3 b r j) := by
  have hb : (⟨R.val / 4096, by omega⟩ : Fin 8) = b := Fin.ext (by show R.val / 4096 = b.val; omega)
  have hr : (⟨R.val % 4096, by omega⟩ : Fin 4096) = r := Fin.ext (by show R.val % 4096 = r.val; omega)
  have e : V m c main_v1 (ix2 R j) = a1 m c (ix3 ⟨R.val / 4096, by omega⟩ ⟨R.val % 4096, by omega⟩ j) := by
    rw [V_v1]
    generalize a1 m c = x
    pointwise []
  exact e.trans (by rw [hb, hr])

theorem x_at (c : Dev nD) (b : Fin 8) (r : Fin 4096) (j : Fin 2048) (R : Fin 32768) (hR : R.val = b.val * 4096 + r.val) :
    V m c main_v2 (ix2 R j) = a2 m c (ix3 b r j) := by
  have hb : (⟨R.val / 4096, by omega⟩ : Fin 8) = b := Fin.ext (by show R.val / 4096 = b.val; omega)
  have hr : (⟨R.val % 4096, by omega⟩ : Fin 4096) = r := Fin.ext (by show R.val % 4096 = r.val; omega)
  have e : V m c main_v2 (ix2 R j) = a2 m c (ix3 ⟨R.val / 4096, by omega⟩ ⟨R.val % 4096, by omega⟩ j) := by
    rw [V_v2]
    generalize a2 m c = x
    pointwise []
  exact e.trans (by rw [hb, hr])

theorem g1_at (c : Dev nD) (b : Fin 8) (j : Fin 2048) : V m c main_v5 (ix3 b 0 j) = a3 m c (ix2 b j) := by
  rw [V_v5]
  generalize a3 m c = x
  pointwise []

theorem sc_at (c : Dev nD) (b : Fin 8) (j : Fin 2048) : V m c main_v6 (ix3 b 0 j) = a4 m c (ix2 b j) := by
  rw [V_v6]
  generalize a4 m c = x
  pointwise []

theorem sh_at (c : Dev nD) (b : Fin 8) (j : Fin 2048) : V m c main_v7 (ix3 b 0 j) = a5 m c (ix2 b j) := by
  rw [V_v7]
  generalize a5 m c = x
  pointwise []

theorem n_at (c : Dev nD) (j : Fin 2048) : V m c main_v9 (ix2 0 j) = a6 m c (ix2 0 j) := by
  rw [V_v9]
  generalize a6 m c = x
  pointwise []

theorem w_at (c : Dev nD) (j k : Fin 2048) : V m c main_v4 (ix2 j k) = a7 m c (ix3 0 j k) := by
  rw [V_v4]
  generalize a7 m c = x
  pointwise []

open Cert.MidRefIdeal.Val (resRow)

theorem res_eq (c : Dev nD) (b : Fin 8) (r : Fin 4096) (k : Fin 2048) (R : Fin 32768) (hR : R.val = b.val * 4096 + r.val) :
    resAt (V m c main_v0) (V m c main_v1) (V m c main_v2) (V m c main_v4) (V m c main_v5) R k
      = resRow (a0 m c) (a1 m c) (a2 m c) (a3 m c) (a7 m c) b r k := by
  have hb : (⟨R.val / 4096, by omega⟩ : Fin 8) = b := Fin.ext (by show R.val / 4096 = b.val; omega)
  unfold resAt resRow
  rw [hb]
  exact res_congr (fun j => yc_at m c b r j R hR) (fun j => o_at m c b r j R hR) (fun j => w_at m c _ k) (fun j => w_at m c _ k)
    (x_at m c b r k R hR) (g1_at m c b k)

theorem norm_eq (c : Dev nD) (b : Fin 8) (r : Fin 4096) (k : Fin 2048) (R : Fin 32768) (hR : R.val = b.val * 4096 + r.val) :
    normArr (V m c main_v0) (V m c main_v1) (V m c main_v2) (V m c main_v4) (V m c main_v5) (V m c main_v6) (V m c main_v7) (V m c main_v9) (ix2 k R)
      = hval (resRow (a0 m c) (a1 m c) (a2 m c) (a3 m c) (a7 m c) b r) (fun j => a6 m c (ix2 0 j)) (fun j => a4 m c (ix2 b j)) (fun j => a5 m c (ix2 b j)) k := by
  have hb : (⟨R.val / 4096, by omega⟩ : Fin 8) = b := Fin.ext (by show R.val / 4096 = b.val; omega)
  show hval (resAt (V m c main_v0) (V m c main_v1) (V m c main_v2) (V m c main_v4) (V m c main_v5) R) (fun j => V m c main_v9 (ix2 0 j))
    (fun j => V m c main_v6 (ix3 ⟨R.val / 4096, by omega⟩ 0 j)) (fun j => V m c main_v7 (ix3 ⟨R.val / 4096, by omega⟩ 0 j)) k = _
  rw [hb]
  exact hval_congr (fun j => res_eq m c b r j R hR) (fun j => n_at m c j) (fun j => sc_at m c b j) (fun j => sh_at m c b j) k

theorem T_v10_0 (c : Dev nD) : (dats m 0 c).arrAt 9 cfg0.N
    = Cert.MidRefIdeal.Read.val_main_v30 (F := Ideal) (a0 m c) (a1 m c) (a2 m c) (a3 m c) (a7 m c) := by
  rw [res_final]
  funext y
  idx_vars y
  have hR : y0.val = (⟨y0.val / 4096, by omega⟩ : Fin 8).val * 4096 + (⟨y0.val % 4096, by omega⟩ : Fin 4096).val := by
    show y0.val = y0.val / 4096 * 4096 + y0.val % 4096
    omega
  exact (res_eq m c ⟨y0.val / 4096, by omega⟩ ⟨y0.val % 4096, by omega⟩ y1 y0 hR).trans
    (Cert.MidRefIdeal.Val.v30_at (a0 m c) (a1 m c) (a2 m c) (a3 m c) (a7 m c) _ _ y1 y0 hR).symm

theorem T_v10_1 (c : Dev nD) : (dats m 0 c).arrAt 10 cfg0.N
    = Cert.MidRefIdeal.Read.val_main_v33 (F := Ideal) (a0 m c) (a1 m c) (a2 m c) (a3 m c) (a4 m c) (a5 m c) (a6 m c) (a7 m c) := by
  rw [norm_final]
  funext y
  idx_vars y
  have hR : y1.val = (⟨y1.val / 4096, by omega⟩ : Fin 8).val * 4096 + (⟨y1.val % 4096, by omega⟩ : Fin 4096).val := by
    show y1.val = y1.val / 4096 * 4096 + y1.val % 4096
    omega
  exact (norm_eq m c ⟨y1.val / 4096, by omega⟩ ⟨y1.val % 4096, by omega⟩ y0 y1 hR).trans
    (Cert.MidRefIdeal.Val.v33_at (a0 m c) (a1 m c) (a2 m c) (a3 m c) (a4 m c) (a5 m c) (a6 m c) (a7 m c) _ _ y0 y1 hR).symm

/-- The program runs; its two results end at what the call leaves in its output windows, and the arguments as they were. -/
theorem run_all (ρ : Dev nD → PrngReg) :
    θ_run (defs (F := Ideal)) (onTc (τ := τ) (main (F := Ideal))) ⟨m, fun _ => 0, ρ⟩ (fun r => ∀ c : Dev nD,
      (r.2.mem ((c.tc : Thread nD τ).loc main_v10_0) = (dats m 0 c).arrAt 9 cfg0.N
        ∧ r.2.mem ((c.tc : Thread nD τ).loc main_v10_1) = (dats m 0 c).arrAt 10 cfg0.N)
      ∧ (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7))) :=
  (θ_run defs _ _).mono (fun r h c => ⟨⟨(h c).1 9, (h c).1 10⟩, ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) (run_main m ρ)

end Cert.MidIdeal.Val

end
-- ==== Proof.Mid.Claim.lean ====
/- The claims on the output projection: the reference's frame, and the equation of kernel and reference over the reals. -/
module

public import proofs.«01_k».proof.Defs
public import proofs.«01_k».proof.Proof.Mid.Host
public import proofs.«01_k».proof.Proof.Gen.MidRefIdeal.Run
public import Idealize.ShloMosaic.Lib.Quiescent

@[expose] public section

set_option maxRecDepth 16384

noncomputable section

namespace Cert.MidTie

open Idealize.ShloMosaic Idealize.ShloMosaic.TcCoe Idealize.SL.Sem

/-- The reference runs, keeps its arguments, and has no counter to leave standing. -/
theorem ref_frame (m : (ℓ : Loc Cert.MidRefIdeal.nD Cert.MidRefIdeal.τ Cert.MidRefIdeal.sig) → Buf (Elt Ideal) ℓ)
    (ρ : Dev Cert.MidRefIdeal.nD → PrngReg) :
    θ_run (Cert.MidRefIdeal.defs (F := Ideal)) (onTc (τ := Cert.MidRefIdeal.τ) (Cert.MidRefIdeal.main (F := Ideal))) ⟨m, fun _ => 0, ρ⟩
      (fun r => (∀ c : Dev Cert.MidRefIdeal.nD,
        r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
        ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
        ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
        ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
        ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
        ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
        ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6)
        ∧ r.2.mem ((c.tc : Thread Cert.MidRefIdeal.nD Cert.MidRefIdeal.τ).loc Cert.MidRefIdeal.main_arg7) = m ((c.tc : Thread Cert.MidRefIdeal.nD Cert.MidRefIdeal.τ).loc Cert.MidRefIdeal.main_arg7))
        ∧ r.2.sem = fun _ => 0) :=
  (θ_run _ _ _).mono (fun r h => ⟨fun c => (h c).2.2, sem_eq_zero_of_no_sems rfl r.2⟩) (Cert.MidRefIdeal.Value.run m ρ)

/-- From memories that agree on the arguments: kernel and reference end with the same results. -/
theorem equation : Cert.algebraic_MidIdeal_MidRefIdeal := by
  intro m g m' g' hpre hag
  refine ⟨fun c => Cert.MidRefIdeal.Read.val_main_v30 (F := Ideal) (m ((c.tc : Thread _ _).loc Cert.MidIdeal.main_arg0)) (m ((c.tc : Thread _ _).loc Cert.MidIdeal.main_arg1)) (m ((c.tc : Thread _ _).loc Cert.MidIdeal.main_arg2)) (m ((c.tc : Thread _ _).loc Cert.MidIdeal.main_arg3)) (m ((c.tc : Thread _ _).loc Cert.MidIdeal.main_arg7)),
    fun c => Cert.MidRefIdeal.Read.val_main_v33 (F := Ideal) (m ((c.tc : Thread _ _).loc Cert.MidIdeal.main_arg0)) (m ((c.tc : Thread _ _).loc Cert.MidIdeal.main_arg1)) (m ((c.tc : Thread _ _).loc Cert.MidIdeal.main_arg2)) (m ((c.tc : Thread _ _).loc Cert.MidIdeal.main_arg3)) (m ((c.tc : Thread _ _).loc Cert.MidIdeal.main_arg4)) (m ((c.tc : Thread _ _).loc Cert.MidIdeal.main_arg5)) (m ((c.tc : Thread _ _).loc Cert.MidIdeal.main_arg6)) (m ((c.tc : Thread _ _).loc Cert.MidIdeal.main_arg7)), ?_, ?_⟩
  · refine (θ_run _ _ _).mono (fun r h c => ⟨?_, ?_, ?_⟩) (Cert.MidIdeal.Val.run_all m g)
    · exact (h c).1.1.trans (Cert.MidIdeal.Val.T_v10_0 m c)
    · exact (h c).1.2.trans (Cert.MidIdeal.Val.T_v10_1 m c)
    · exact (h c).2
  · refine (θ_run _ _ _).mono (fun r h c => ⟨?_, ?_, (h c).2.2⟩) (Cert.MidRefIdeal.Value.run m' g')
    · obtain ⟨e0, e1, e2, e3, e4, e5, e6, e7⟩ := hag c
      refine (h c).1.trans ((Cert.MidRefIdeal.Read.val_main_v30_eq (m' ((c.tc : Thread _ _).loc Cert.MidRefIdeal.main_arg0)) (m' ((c.tc : Thread _ _).loc Cert.MidRefIdeal.main_arg1)) (m' ((c.tc : Thread _ _).loc Cert.MidRefIdeal.main_arg2)) (m' ((c.tc : Thread _ _).loc Cert.MidRefIdeal.main_arg3)) (m' ((c.tc : Thread _ _).loc Cert.MidRefIdeal.main_arg7))).trans ?_)
      rw [e0, e1, e2, e3, e7]
    · obtain ⟨e0, e1, e2, e3, e4, e5, e6, e7⟩ := hag c
      refine (h c).2.1.trans ((Cert.MidRefIdeal.Read.val_main_v33_eq (m' ((c.tc : Thread _ _).loc Cert.MidRefIdeal.main_arg0)) (m' ((c.tc : Thread _ _).loc Cert.MidRefIdeal.main_arg1)) (m' ((c.tc : Thread _ _).loc Cert.MidRefIdeal.main_arg2)) (m' ((c.tc : Thread _ _).loc Cert.MidRefIdeal.main_arg3)) (m' ((c.tc : Thread _ _).loc Cert.MidRefIdeal.main_arg4)) (m' ((c.tc : Thread _ _).loc Cert.MidRefIdeal.main_arg5)) (m' ((c.tc : Thread _ _).loc Cert.MidRefIdeal.main_arg6)) (m' ((c.tc : Thread _ _).loc Cert.MidRefIdeal.main_arg7))).trans ?_)
      rw [e0, e1, e2, e3, e4, e5, e6, e7]

end Cert.MidTie

end
-- ==== Proof.Prep.Rounds.lean ====
module

public import proofs.«01_k».proof.Proof.Gen.PrepIdeal.Frame
public import Idealize.ShloMosaic.Lib.Pipeline.ValueKit

/-! The rounds of the routing kernel's second score table. One round finds, in every column, the first
row that holds the column's greatest score, writes the round's number at that row of the rank table and
lowers the row's score to minus infinity. The printed text spreads sixteen such rounds over six pieces;
this file says what a round is once and shows each piece to be so many rounds. -/

@[expose] public section

set_option maxRecDepth 16384

noncomputable section

namespace Cert.PrepIdeal.Val

open Idealize.ShloMosaic Idealize.ShloMosaic.TcCoe Idealize.SL.Sem
open Cert.PrepIdeal Cert.PrepIdeal.Gen

variable {F : FTy → Type} [FloatOps F]

/-- The greatest score of every column, as a row. -/
abbrev high (s : FVec F S128x512 .f32) : FVec F S1x512 .f32 :=
  shapeCast S1x512 (multiReduction .maximumf [0] S512 s 0xFF800000#32 reduces_S128x512_S512 (.inl rfl) rfl)
    shapeCasts_S512_S1x512

/-- Where a score is its column's greatest. -/
abbrev mask (s : FVec F S128x512 .f32) : IVec S128x512 1 :=
  cmpf .oeq s (broadcastTo S128x512 (high s) broadcasts_S1x512_S128x512)

/-- The row numbers under a mask, a number past every row elsewhere. -/
abbrev cand (v7 : IVec S128x512 32) (m : IVec S128x512 1) : IVec S128x512 32 :=
  select m v7 (broadcast S128x512 1048576#32)

/-- The least number of every column, as a row. -/
abbrev low (c : IVec S128x512 32) : IVec S1x512 32 :=
  shapeCast S1x512 (multiReductionI .minsi [0] S512 c 2147483647#32 reduces_S128x512_S512 rfl)
    shapeCasts_S512_S1x512

/-- Where a row's number is the one given for its column. -/
abbrev hit (v7 : IVec S128x512 32) (l : IVec S1x512 32) : IVec S128x512 1 :=
  cmpi .eq v7 (broadcastTo S128x512 l broadcasts_S1x512_S128x512)

/-- The row a round picks in every column. -/
abbrev sel (v7 : IVec S128x512 32) (s : FVec F S128x512 .f32) : IVec S128x512 1 :=
  hit v7 (low (cand v7 (mask s)))

/-- The scores after a pick. -/
abbrev drop (h : IVec S128x512 1) (s : FVec F S128x512 .f32) : FVec F S128x512 .f32 :=
  select h (broadcast S128x512 (Scalar.ofBits .f32 0xFF800000#32 : F .f32)) s

/-- The scores after a round. -/
def nxt (v7 : IVec S128x512 32) (s : FVec F S128x512 .f32) : FVec F S128x512 .f32 := drop (sel v7 s) s

/-- The ranks after a pick, numbered by the constant `w`. -/
abbrev note (h : IVec S128x512 1) (w : BitVec 32) (r : FVec F S128x512 .f32) : FVec F S128x512 .f32 :=
  select h (broadcast S128x512 (Scalar.ofBits .f32 w : F .f32)) r

/-- The ranks after a round on the scores `s`. -/
def put (v7 : IVec S128x512 32) (s : FVec F S128x512 .f32) (w : BitVec 32) (r : FVec F S128x512 .f32) :
    FVec F S128x512 .f32 := note (sel v7 s) w r

/-- The ranks before the first round: sixteen everywhere. -/
def rank0 : FVec F S128x512 .f32 := broadcast S128x512 (Scalar.ofBits .f32 0x41800000#32 : F .f32)

/-- The scores after `n` rounds. -/
def st (v7 : IVec S128x512 32) (s : FVec F S128x512 .f32) : ℕ → FVec F S128x512 .f32
  | 0 => s
  | n + 1 => nxt v7 (st v7 s n)

/-- The round numbers' bits. -/
def word (n : ℕ) : BitVec 32 :=
  match n with
  | 0 => 0x00000000#32 | 1 => 0x3F800000#32 | 2 => 0x40000000#32 | 3 => 0x40400000#32
  | 4 => 0x40800000#32 | 5 => 0x40A00000#32 | 6 => 0x40C00000#32 | 7 => 0x40E00000#32
  | 8 => 0x41000000#32 | 9 => 0x41100000#32 | 10 => 0x41200000#32 | 11 => 0x41300000#32
  | 12 => 0x41400000#32 | 13 => 0x41500000#32 | 14 => 0x41600000#32 | _ => 0x41700000#32

/-- The ranks after `n` rounds. -/
def rk (v7 : IVec S128x512 32) (s : FVec F S128x512 .f32) : ℕ → FVec F S128x512 .f32
  | 0 => rank0
  | n + 1 => put v7 (st v7 s n) (word n) (rk v7 s n)

section Pieces
variable (v7 : IVec S128x512 32) (s r : FVec F S128x512 .f32)

theorem part_65 : k0_pay65 v7 s = put v7 s 0x00000000#32 rank0 := by
  dsimp only [k0_pay65, k0_pay64, k0_pay63, put, nxt, rank0]
theorem part_66 : k0_pay66 v7 s = nxt v7 s := by
  dsimp only [k0_pay66, k0_pay64, k0_pay63, put, nxt, rank0]
theorem part_68 : k0_pay68 v7 s = mask (nxt v7 s) := by
  dsimp only [k0_pay68, k0_pay66, k0_pay64, k0_pay63, k0_pay67, put, nxt, rank0]
theorem part_70 : k0_pay70 v7 s (mask s) = nxt v7 s := by
  dsimp only [k0_pay70, k0_pay69, put, nxt, rank0]
theorem part_73 : k0_pay73 v7 s (mask s) = nxt v7 (nxt v7 s) := by
  dsimp only [k0_pay73, k0_pay70, k0_pay69, k0_pay72, k0_pay71, put, nxt, rank0]
theorem part_77 : k0_pay77 v7 s (mask s) = nxt v7 (nxt v7 (nxt v7 s)) := by
  dsimp only [k0_pay77, k0_pay73, k0_pay70, k0_pay69, k0_pay72, k0_pay71, k0_pay75, k0_pay74, put, nxt, rank0]
theorem part_76 : k0_pay76 v7 r s (mask s)
    = put v7 (nxt v7 (nxt v7 s)) 0x40400000#32 (put v7 (nxt v7 s) 0x40000000#32 (put v7 s 0x3F800000#32 r)) := by
  dsimp only [k0_pay76, k0_pay69, k0_pay72, k0_pay70, k0_pay71, k0_pay75, k0_pay73, k0_pay74, put, nxt, rank0]
theorem part_79 : k0_pay79 v7 s (mask s) = cand v7 (mask (nxt v7 (nxt v7 (nxt v7 s)))) := by
  dsimp only [k0_pay79, k0_pay77, k0_pay73, k0_pay70, k0_pay69, k0_pay72, k0_pay71, k0_pay75, k0_pay74, k0_pay78, put, nxt, rank0]
theorem part_88 : k0_pay88 v7 s (cand v7 (mask s)) = nxt v7 (nxt v7 (nxt v7 s)) := by
  dsimp only [k0_pay88, k0_pay84, k0_pay81, k0_pay80, k0_pay83, k0_pay82, k0_pay86, k0_pay85, put, nxt, rank0]
theorem part_87 : k0_pay87 v7 r s (cand v7 (mask s))
    = put v7 (nxt v7 (nxt v7 s)) 0x40C00000#32 (put v7 (nxt v7 s) 0x40A00000#32 (put v7 s 0x40800000#32 r)) := by
  dsimp only [k0_pay87, k0_pay80, k0_pay83, k0_pay81, k0_pay82, k0_pay86, k0_pay84, k0_pay85, put, nxt, rank0]
theorem part_90 : k0_pay90 v7 s (cand v7 (mask s)) = low (cand v7 (mask (nxt v7 (nxt v7 (nxt v7 s))))) := by
  dsimp only [k0_pay90, k0_pay88, k0_pay84, k0_pay81, k0_pay80, k0_pay83, k0_pay82, k0_pay86, k0_pay85, k0_pay89, put, nxt, rank0]
theorem part_98 : k0_pay98 v7 r s (low (cand v7 (mask s)))
    = put v7 (nxt v7 (nxt v7 s)) 0x41100000#32 (put v7 (nxt v7 s) 0x41000000#32 (put v7 s 0x40E00000#32 r)) := by
  dsimp only [k0_pay98, k0_pay91, k0_pay94, k0_pay92, k0_pay93, k0_pay97, k0_pay95, k0_pay96, put, nxt, rank0]
theorem part_99 : k0_pay99 v7 s (low (cand v7 (mask s))) = nxt v7 (nxt v7 (nxt v7 s)) := by
  dsimp only [k0_pay99, k0_pay95, k0_pay92, k0_pay91, k0_pay94, k0_pay93, k0_pay97, k0_pay96, put, nxt, rank0]
theorem part_101 : k0_pay101 v7 s (low (cand v7 (mask s))) = sel v7 (nxt v7 (nxt v7 (nxt v7 s))) := by
  dsimp only [k0_pay101, k0_pay100, k0_pay99, k0_pay95, k0_pay92, k0_pay91, k0_pay94, k0_pay93, k0_pay97, k0_pay96, put, nxt, rank0]
theorem part_108 : k0_pay108 v7 s (sel v7 s) = nxt v7 (nxt v7 (nxt v7 s)) := by
  dsimp only [k0_pay108, k0_pay105, k0_pay102, k0_pay104, k0_pay103, k0_pay107, k0_pay106, put, nxt, rank0]
theorem part_110 : k0_pay110 v7 s (sel v7 s) = sel v7 (nxt v7 (nxt v7 (nxt v7 s))) := by
  dsimp only [k0_pay110, k0_pay108, k0_pay105, k0_pay102, k0_pay104, k0_pay103, k0_pay107, k0_pay106, k0_pay109, put, nxt, rank0]
theorem part_111 : k0_pay111 v7 r s (sel v7 s) (Scalar.ofBits .f32 0x41200000#32)
    = put v7 (nxt v7 (nxt v7 (nxt v7 s))) 0x41500000#32 (put v7 (nxt v7 (nxt v7 s)) 0x41400000#32
        (put v7 (nxt v7 s) 0x41300000#32 (put v7 s 0x41200000#32 r))) := by
  dsimp only [k0_pay111, k0_pay104, k0_pay102, k0_pay103, k0_pay107, k0_pay105, k0_pay106, k0_pay110, k0_pay108, k0_pay109, put, nxt, rank0]
theorem part_117 : k0_pay117 v7 s (sel v7 s) r (Scalar.ofBits .f32 0xFF800000#32)
    = put v7 (nxt v7 (nxt v7 s)) 0x41700000#32 (put v7 (nxt v7 s) 0x41600000#32 r) := by
  dsimp only [k0_pay117, k0_pay114, k0_pay112, k0_pay113, k0_pay115, k0_pay116, put, nxt, rank0]

end Pieces

section Trip
variable (arg3 : Memref sig .tc .vmem S2x128x128 .bf16) (arg8 : Memref sig .tc .vmem S2048x512 .f32)
  (v7 : IVec S128x512 32) (X3 : BufTy.Contents (Elt F) arg3.view.ty) (X8 : BufTy.Contents (Elt F) arg8.view.ty)
  (k : Fin k0_t1_loop.trips)

/-- One trip's second score table. -/
abbrev tbl : FVec F S128x512 .f32 := trip_k0_t1.sl.r_1 arg3 arg8 X3 X8 k

theorem at_34 : trip_k0_t1.sl.r_34 arg3 arg8 v7 X3 X8 k = rk v7 (tbl arg3 arg8 X3 X8 k) 1 := by
  unfold trip_k0_t1.sl.r_34; exact part_65 _ _
theorem at_35 : trip_k0_t1.sl.r_35 arg3 arg8 v7 X3 X8 k = st v7 (tbl arg3 arg8 X3 X8 k) 1 := by
  unfold trip_k0_t1.sl.r_35; exact part_66 _ _
theorem at_37 : trip_k0_t1.sl.r_37 arg3 arg8 v7 X3 X8 k = mask (st v7 (tbl arg3 arg8 X3 X8 k) 1) := by
  unfold trip_k0_t1.sl.r_37; exact part_68 _ _
theorem at_40 : trip_k0_t1.sl.r_40 arg3 arg8 v7 X3 X8 k = rk v7 (tbl arg3 arg8 X3 X8 k) 4 := by
  unfold trip_k0_t1.sl.r_40; rw [at_34, at_35, at_37]; exact part_76 _ _ _
theorem at_41 : trip_k0_t1.sl.r_41 arg3 arg8 v7 X3 X8 k = st v7 (tbl arg3 arg8 X3 X8 k) 4 := by
  unfold trip_k0_t1.sl.r_41; rw [at_35, at_37]; exact part_77 _ _
theorem at_43 : trip_k0_t1.sl.r_43 arg3 arg8 v7 X3 X8 k = cand v7 (mask (st v7 (tbl arg3 arg8 X3 X8 k) 4)) := by
  unfold trip_k0_t1.sl.r_43; rw [at_35, at_37]; exact part_79 _ _
theorem at_46 : trip_k0_t1.sl.r_46 arg3 arg8 v7 X3 X8 k = rk v7 (tbl arg3 arg8 X3 X8 k) 7 := by
  unfold trip_k0_t1.sl.r_46; rw [at_40, at_41, at_43]; exact part_87 _ _ _
theorem at_47 : trip_k0_t1.sl.r_47 arg3 arg8 v7 X3 X8 k = st v7 (tbl arg3 arg8 X3 X8 k) 7 := by
  unfold trip_k0_t1.sl.r_47; rw [at_41, at_43]; exact part_88 _ _
theorem at_49 : trip_k0_t1.sl.r_49 arg3 arg8 v7 X3 X8 k = low (cand v7 (mask (st v7 (tbl arg3 arg8 X3 X8 k) 7))) := by
  unfold trip_k0_t1.sl.r_49; rw [at_41, at_43]; exact part_90 _ _
theorem at_52 : trip_k0_t1.sl.r_52 arg3 arg8 v7 X3 X8 k = rk v7 (tbl arg3 arg8 X3 X8 k) 10 := by
  unfold trip_k0_t1.sl.r_52; rw [at_46, at_47, at_49]; exact part_98 _ _ _
theorem at_53 : trip_k0_t1.sl.r_53 arg3 arg8 v7 X3 X8 k = st v7 (tbl arg3 arg8 X3 X8 k) 10 := by
  unfold trip_k0_t1.sl.r_53; rw [at_47, at_49]; exact part_99 _ _
theorem at_55 : trip_k0_t1.sl.r_55 arg3 arg8 v7 X3 X8 k = sel v7 (st v7 (tbl arg3 arg8 X3 X8 k) 10) := by
  unfold trip_k0_t1.sl.r_55; rw [at_47, at_49]; exact part_101 _ _
theorem at_58 : trip_k0_t1.sl.r_58 arg3 arg8 v7 X3 X8 k = st v7 (tbl arg3 arg8 X3 X8 k) 13 := by
  unfold trip_k0_t1.sl.r_58; rw [at_53, at_55]; exact part_108 _ _
theorem at_60 : trip_k0_t1.sl.r_60 arg3 arg8 v7 X3 X8 k = sel v7 (st v7 (tbl arg3 arg8 X3 X8 k) 13) := by
  unfold trip_k0_t1.sl.r_60; rw [at_53, at_55]; exact part_110 _ _
theorem at_61 : trip_k0_t1.sl.r_61 arg3 arg8 v7 X3 X8 k = rk v7 (tbl arg3 arg8 X3 X8 k) 14 := by
  unfold trip_k0_t1.sl.r_61; rw [at_52, at_53, at_55]; exact part_111 _ _ _
/-- A trip's rank table is the ranks after sixteen rounds. -/
theorem at_62 : trip_k0_t1.sl.r_62 arg3 arg8 v7 X3 X8 k = rk v7 (tbl arg3 arg8 X3 X8 k) 16 := by
  unfold trip_k0_t1.sl.r_62; rw [at_58, at_60, at_61]; exact part_117 _ _ _

end Trip

end Cert.PrepIdeal.Val

end
-- ==== Proof.Prep.Order.lean ====
module

public import Idealize.ShloMosaic.Lib.Pipeline.ValueKit

/-! Taking the greatest of a finite list of scores sixteen times, first row first, numbers every row by
how many rows come before it, capped at sixteen. Pure mathematics of one column. -/

@[expose] public section

noncomputable section

namespace Prep.Order

variable {n : ℕ}

/-- Row `m` comes before row `k`: a greater score, or the same score and an earlier row. -/
def Before (s : Fin n → EReal) (m k : Fin n) : Prop := s k < s m ∨ (s m = s k ∧ m < k)

open Classical in
/-- How many rows come before row `k`. -/
def rank (s : Fin n → EReal) (k : Fin n) : ℕ := (Finset.univ.filter fun m => Before s m k).card

/-- Row `k` is the first that holds the greatest score. -/
def First (s : Fin n → EReal) (k : Fin n) : Prop :=
  s k = Finset.univ.sup s ∧ ∀ m, s m = Finset.univ.sup s → k ≤ m

theorem before_irrefl (s : Fin n → EReal) (k : Fin n) : ¬ Before s k k := by
  rintro (h | h)
  · exact lt_irrefl _ h
  · exact lt_irrefl _ h.2

theorem before_trans (s : Fin n → EReal) {a b c : Fin n} (h : Before s a b) (h' : Before s b c) : Before s a c := by
  rcases h with h | ⟨h, g⟩ <;> rcases h' with h' | ⟨h', g'⟩
  · exact .inl (h'.trans h)
  · exact .inl (h' ▸ h)
  · exact .inl (h.symm ▸ h')
  · exact .inr ⟨h.trans h', g.trans g'⟩

theorem before_total (s : Fin n → EReal) (a b : Fin n) (h : a ≠ b) : Before s a b ∨ Before s b a := by
  rcases lt_trichotomy (s a) (s b) with g | g | g
  · exact .inr (.inl g)
  · rcases lt_or_gt_of_ne h with l | l
    · exact .inl (.inr ⟨g, l⟩)
    · exact .inr (.inr ⟨g.symm, l⟩)
  · exact .inl (.inl g)

theorem rank_lt (s : Fin n → EReal) {a b : Fin n} (h : Before s a b) : rank s a < rank s b := by
  classical
  unfold rank
  refine Finset.card_lt_card ?_
  rw [Finset.ssubset_iff_of_subset]
  · exact ⟨a, by simpa using h, by simpa using before_irrefl s a⟩
  · intro m hm
    simp only [Finset.mem_filter, Finset.mem_univ, true_and] at hm ⊢
    exact before_trans s hm h

theorem rank_lt_n (s : Fin n → EReal) (a : Fin n) : rank s a < n := by
  classical
  unfold rank
  have : (Finset.univ.filter fun m => Before s m a).card < (Finset.univ : Finset (Fin n)).card := by
    refine Finset.card_lt_card ?_
    rw [Finset.ssubset_iff_of_subset (Finset.filter_subset _ _)]
    exact ⟨a, Finset.mem_univ _, by simpa using before_irrefl s a⟩
  simpa using this

theorem rank_inj (s : Fin n → EReal) {a b : Fin n} (h : rank s a = rank s b) : a = b := by
  by_contra hab
  rcases before_total s a b hab with g | g
  · exact absurd h (rank_lt s g).ne
  · exact absurd h.symm (rank_lt s g).ne

theorem exists_rank (s : Fin n → EReal) (r : ℕ) (hr : r < n) : ∃ p, rank s p = r := by
  have hinj : Function.Injective (fun a : Fin n => (⟨rank s a, rank_lt_n s a⟩ : Fin n)) := fun a b h =>
    rank_inj s (by simpa using h)
  obtain ⟨p, hp⟩ := (Finite.injective_iff_surjective.1 hinj) ⟨r, hr⟩
  exact ⟨p, by simpa using congrArg Fin.val hp⟩

/-- The scores left after the first `r` rows are taken. -/
def left (s : Fin n → EReal) (r : ℕ) (k : Fin n) : EReal := if rank s k < r then ⊥ else s k

theorem first_unique (s : Fin n → EReal) {a b : Fin n} (ha : First s a) (hb : First s b) : a = b :=
  le_antisymm (ha.2 b hb.1) (hb.2 a ha.1)

/-- Round `r` takes the row of rank `r`. -/
theorem first_left (s : Fin n → EReal) (hs : ∀ k, s k ≠ ⊥) (r : ℕ) (hr : r < n) (k : Fin n) :
    First (left s r) k ↔ rank s k = r := by
  obtain ⟨p, hp⟩ := exists_rank s r hr
  have hb : ∀ m, ¬ rank s m < r → m = p ∨ Before s p m := fun m hm => by
    by_cases h : m = p
    · exact .inl h
    · rcases before_total s m p h with g | g
      · exact absurd (hp ▸ rank_lt s g) hm
      · exact .inr g
  have hle : ∀ m, ¬ rank s m < r → s m ≤ s p := fun m hm => by
    rcases hb m hm with rfl | g
    · exact le_rfl
    · rcases g with g | g
      · exact g.le
      · exact g.1.symm.le
  have hpp : left s r p = s p := by unfold left; rw [if_neg (by omega)]
  have htop : Finset.univ.sup (left s r) = s p := by
    refine le_antisymm (Finset.sup_le fun m _ => ?_) ?_
    · unfold left
      split
      · exact bot_le
      · exact hle m ‹_›
    · rw [← hpp]; exact Finset.le_sup (f := left s r) (Finset.mem_univ p)
  have hfirst : First (left s r) p := by
    refine ⟨hpp.trans htop.symm, fun m hm => ?_⟩
    rw [htop] at hm
    by_cases hmr : rank s m < r
    · unfold left at hm; rw [if_pos hmr] at hm; exact absurd hm.symm (hs p)
    · unfold left at hm; rw [if_neg hmr] at hm
      rcases hb m hmr with rfl | g
      · exact le_rfl
      · rcases g with g | g
        · exact absurd hm g.ne
        · exact g.2.le
  constructor
  · intro h; rw [first_unique _ h hfirst]; exact hp
  · intro h; rw [rank_inj s (h.trans hp.symm)]; exact hfirst

/-- What one round leaves. -/
theorem left_succ (s : Fin n → EReal) (hs : ∀ k, s k ≠ ⊥) (r : ℕ) (hr : r < n) (k : Fin n) [Decidable (First (left s r) k)] :
    left s (r + 1) k = if First (left s r) k then ⊥ else left s r k := by
  have h := first_left s hs r hr k
  by_cases hk : rank s k = r
  · rw [if_pos (h.2 hk)]; unfold left; rw [if_pos (by omega)]
  · rw [if_neg fun g => hk (h.1 g)]; unfold left
    by_cases h' : rank s k < r
    · rw [if_pos (by omega), if_pos h']
    · rw [if_neg (by omega), if_neg h']

theorem left_zero (s : Fin n → EReal) (k : Fin n) : left s 0 k = s k := by
  unfold left; rw [if_neg (by omega)]

/-- The first row that holds the greatest score, found as the least of the row numbers that hold it
(a number past every row standing for the others). -/
theorem first_iff_fold (hn : n ≤ 1048576) (s : Fin n → EReal) (M : EReal) (hM : M = Finset.univ.sup s) (k : Fin n) :
    ((k.val : ℤ) = Finset.univ.fold min 2147483647 (fun m : Fin n => if s m = M then (m.val : ℤ) else 1048576))
      ↔ First s k := by
  subst hM
  rw [le_antisymm_iff, Finset.le_fold_min, Finset.fold_min_le]
  have hk := k.isLt
  constructor
  · rintro ⟨⟨-, h1⟩, h2⟩
    rcases h2 with h2 | ⟨m, -, h2⟩
    · omega
    · by_cases hm : s m = Finset.univ.sup s
      · rw [if_pos hm] at h2
        have h3 := h1 m (Finset.mem_univ _)
        rw [if_pos hm] at h3
        have hkm : k = m := Fin.ext (by omega)
        subst hkm
        refine ⟨hm, fun j hj => ?_⟩
        have h4 := h1 j (Finset.mem_univ _)
        rw [if_pos hj] at h4
        exact Fin.le_def.2 (by omega)
      · rw [if_neg hm] at h2; omega
  · rintro ⟨h1, h2⟩
    refine ⟨⟨by omega, fun m _ => ?_⟩, .inr ⟨k, Finset.mem_univ _, by rw [if_pos h1]⟩⟩
    by_cases hm : s m = Finset.univ.sup s
    · rw [if_pos hm]; have := Fin.le_def.1 (h2 m hm); omega
    · rw [if_neg hm]; omega

open Classical in
/-- The count of the rows before `k`, as a sum of ones and zeros. -/
theorem sum_before (s : Fin n → EReal) (k : Fin n) :
    (∑ m : Fin n, if Before s m k then (1 : EReal) else 0) = (rank s k : EReal) := by
  rw [Finset.sum_boole]; rfl

end Prep.Order

end
-- ==== Proof.Prep.Cols.lean ====
module

public import proofs.«01_k».proof.Proof.Prep.Rounds
public import proofs.«01_k».proof.Proof.Prep.Order
public import Idealize.ShloMosaic.Lib.SortNet.Extract
public import Idealize.ShloMosaic.PureOps.Ideal.Laws

/-! What the rounds compute, column by column: on finite scores the rank table after sixteen rounds is
the number of rows that come before, capped at sixteen. -/

@[expose] public section

set_option maxRecDepth 16384

noncomputable section

namespace Cert.PrepIdeal.Val

open Idealize.ShloMosaic Idealize.ShloMosaic.TcCoe Idealize.SL.Sem
open Cert.PrepIdeal Cert.PrepIdeal.Gen Prep.Order

/-- One column of a score table. -/
def col (s : FVec Ideal S128x512 .f32) (t : Fin 512) (n : Fin 128) : EReal := s (ix2 n t)

/-- The table of row numbers. -/
abbrev rows : IVec S128x512 32 := iota .tc S128x512 32 [0] iota_S128x512_d0_w32

theorem lift_at (t : Fin 512) (n : Fin 128) : reduces_S128x512_S512.lift (ix1 t) n = ix2 n t := by
  funext a; fin_cases a <;> rfl

theorem negInf : (Scalar.ofBits .f32 0xFF800000#32 : Ideal .f32) = (⊥ : EReal) := by
  show Ideal.ofBits .f32 0xFF800000#32 = ⊥
  simp [Ideal.ofBits, Ideal.ieee]

theorem high_at (s : FVec Ideal S128x512 .f32) (n : Fin 128) (t : Fin 512) :
    broadcastTo S128x512 (high s) broadcasts_S1x512_S128x512 (ix2 n t) = Finset.univ.sup (col s t) := by
  have h : ∀ y : FVec Ideal S512 .f32, broadcastTo S128x512 (shapeCast S1x512 y shapeCasts_S512_S1x512)
      broadcasts_S1x512_S128x512 (ix2 n t) = y (ix1 t) := fun y => by pointwise []
  rw [h]
  refine (Ideal.multiReduction_maximumf_single s 0xFF800000#32 reduces_S128x512_S512 (.inl rfl) rfl (ix1 t)).trans ?_
  have e : (s ∘ reduces_S128x512_S512.lift (ix1 t)) = col s t := by
    funext m; exact congrArg s (lift_at t m)
  rw [e]
  have hb : (FloatOps.ofBits .f32 0xFF800000#32 : Ideal .f32) = (⊥ : EReal) := negInf
  rw [hb]; rfl

theorem fold_toInt (f : Fin 128 → BitVec 32) :
    (Finset.univ.fold IKind.minsi.op 2147483647#32 f).toInt = Finset.univ.fold min 2147483647 fun m => (f m).toInt :=
  (Finset.fold_hom (op := IKind.minsi.op) (op' := (min : ℤ → ℤ → ℤ)) (m := BitVec.toInt)
    (b := 2147483647#32) (s := Finset.univ) (f := f) (fun x y => SortNet.toInt_minsi x y)).symm

theorem low_at (c : IVec S128x512 32) (n : Fin 128) (t : Fin 512) :
    (broadcastTo S128x512 (low c) broadcasts_S1x512_S128x512 (ix2 n t)).toInt
      = Finset.univ.fold min 2147483647 (fun m : Fin 128 => (c (ix2 m t)).toInt) := by
  have h : ∀ y : IVec S512 32, broadcastTo S128x512 (shapeCast S1x512 y shapeCasts_S512_S1x512)
      broadcasts_S1x512_S128x512 (ix2 n t) = y (ix1 t) := fun y => by pointwise []
  have e1 : multiReductionI .minsi [0] S512 c 2147483647#32 reduces_S128x512_S512 rfl (ix1 t)
      = Finset.univ.fold IKind.minsi.op 2147483647#32 (c ∘ reduces_S128x512_S512.lift (ix1 t)) := by
    refine (multiReductionI_eq_fold .minsi c 2147483647#32 reduces_S128x512_S512 rfl (ix1 t)).trans ?_
    exact reduces_S128x512_S512.fold_filter_drop_single _ _ c (ix1 t)
  have e2 : (c ∘ reduces_S128x512_S512.lift (ix1 t)) = fun m : Fin 128 => c (ix2 m t) := by
    funext m; exact congrArg c (lift_at t m)
  have e3 : low c = shapeCast S1x512 (multiReductionI .minsi [0] S512 c 2147483647#32 reduces_S128x512_S512 rfl)
      shapeCasts_S512_S1x512 := rfl
  rw [e3, h, e1, e2]
  exact fold_toInt _

open Classical in
theorem mask_at (s : FVec Ideal S128x512 .f32) (n : Fin 128) (t : Fin 512) :
    mask s (ix2 n t) = if col s t n = Finset.univ.sup (col s t) then 1#1 else 0#1 := by
  show Ideal.cmp .oeq (s (ix2 n t)) (broadcastTo S128x512 (high s) broadcasts_S1x512_S128x512 (ix2 n t)) = _
  rw [high_at]
  show BitVec.ofBool (decide (col s t n = _)) = _
  split
  · next h => rw [decide_eq_true h]; rfl
  · next h => rw [decide_eq_false h]; rfl

theorem rows_at (n : Fin 128) (t : Fin 512) : (rows (ix2 n t)) = BitVec.ofNat 32 n.val := by
  pointwise []

theorem toInt_small (n : Fin 128) : (BitVec.ofNat 32 n.val).toInt = (n.val : ℤ) := by
  revert n; decide +kernel

open Classical in
theorem sel_at (s : FVec Ideal S128x512 .f32) (n : Fin 128) (t : Fin 512) :
    sel rows s (ix2 n t) = if First (col s t) n then 1#1 else 0#1 := by
  show BitVec.ofBool (rows (ix2 n t) == broadcastTo S128x512 (low (cand rows (mask s))) broadcasts_S1x512_S128x512 (ix2 n t)) = _
  have hc : ∀ m : Fin 128, (cand rows (mask s) (ix2 m t)).toInt
      = if col s t m = Finset.univ.sup (col s t) then (m.val : ℤ) else 1048576 := fun m => by
    show (Scalar.select (mask s (ix2 m t)) (rows (ix2 m t)) 1048576#32).toInt = _
    rw [mask_at, rows_at]
    split
    · exact toInt_small m
    · rfl
  have hl := low_at (cand rows (mask s)) n t
  simp only [hc] at hl
  have hiff := first_iff_fold (n := 128) (by norm_num) (col s t) _ rfl n
  rw [← hl] at hiff
  generalize broadcastTo S128x512 (low (cand rows (mask s))) broadcasts_S1x512_S128x512 (ix2 n t) = w at hiff ⊢
  rw [rows_at]
  by_cases hf : First (col s t) n
  · rw [if_pos hf]
    have : BitVec.ofNat 32 n.val = w := BitVec.eq_of_toInt_eq ((toInt_small n).trans (hiff.2 hf))
    rw [this]; simp
  · rw [if_neg hf]
    have : BitVec.ofNat 32 n.val ≠ w := fun h => hf (hiff.1 (by rw [← h, toInt_small n]))
    rw [beq_eq_false_iff_ne.2 this]; rfl

open Classical in
theorem nxt_at (s : FVec Ideal S128x512 .f32) (n : Fin 128) (t : Fin 512) :
    nxt rows s (ix2 n t) = if First (col s t) n then (⊥ : EReal) else s (ix2 n t) := by
  have e : nxt rows s (ix2 n t) = Scalar.select (sel rows s (ix2 n t)) (Scalar.ofBits .f32 0xFF800000#32 : Ideal .f32) (s (ix2 n t)) := by
    unfold nxt
    generalize sel rows s = h
    rfl
  rw [e, sel_at, negInf]
  split <;> rfl

/-- The scores after `r` rounds are those of the rows of rank at least `r`. -/
theorem st_at (s : FVec Ideal S128x512 .f32) (t : Fin 512) (hs : ∀ n, col s t n ≠ ⊥) (r : ℕ) (hr : r ≤ 128) :
    col (st rows s r) t = left (col s t) r := by
  classical
  induction r with
  | zero => funext n; exact (left_zero _ n).symm
  | succ r ih =>
    have ih := ih (by omega)
    funext n
    show nxt rows (st rows s r) (ix2 n t) = _
    rw [nxt_at, left_succ _ hs r (by omega), ← ih]
    rfl

theorem word_at (r : ℕ) (hr : r < 16) : (Scalar.ofBits .f32 (word r) : Ideal .f32) = ((r : ℕ) : EReal) := by
  show Ideal.ofBits .f32 (word r) = _
  interval_cases r <;> simp [word, Ideal.ofBits, Ideal.ieee] <;> rw [← EReal.coe_mul] <;> norm_num <;> rfl

theorem sixteen : (Scalar.ofBits .f32 0x41800000#32 : Ideal .f32) = ((16 : ℕ) : EReal) := by
  show Ideal.ofBits .f32 0x41800000#32 = _
  simp [Ideal.ofBits, Ideal.ieee] <;> rw [← EReal.coe_mul] <;> norm_num <;> rfl

/-- The ranks after `r` rounds: those below `r` found, sixteen elsewhere. -/
theorem rk_at (s : FVec Ideal S128x512 .f32) (t : Fin 512) (hs : ∀ n, col s t n ≠ ⊥) (r : ℕ) (hr : r ≤ 16) (n : Fin 128) :
    rk rows s r (ix2 n t) = ((if rank (col s t) n < r then rank (col s t) n else 16 : ℕ) : EReal) := by
  classical
  induction r with
  | zero => exact sixteen
  | succ r ih =>
    have ih := ih (by omega)
    have e : rk rows s (r + 1) (ix2 n t)
        = Scalar.select (sel rows (st rows s r) (ix2 n t)) (Scalar.ofBits .f32 (word r) : Ideal .f32) (rk rows s r (ix2 n t)) := by
      rw [rk]
      unfold put
      generalize sel rows (st rows s r) = h
      rfl
    rw [e, sel_at, st_at s t hs r (by omega), ih, word_at r (by omega)]
    have h := first_left (col s t) hs r (by omega) n
    by_cases hk : rank (col s t) n = r
    · rw [if_pos (h.2 hk), hk, if_pos (Nat.lt_succ_self r)]; rfl
    · rw [if_neg fun g => hk (h.1 g)]
      by_cases h' : rank (col s t) n < r
      · rw [if_pos h', if_pos (by omega)]; rfl
      · rw [if_neg h', if_neg (by omega)]; rfl

/-- The rank table: how many rows come before, capped at sixteen. -/
theorem rk16_at (s : FVec Ideal S128x512 .f32) (t : Fin 512) (hs : ∀ n, col s t n ≠ ⊥) (n : Fin 128) :
    rk rows s 16 (ix2 n t) = min (rank (col s t) n : EReal) ((16 : ℕ) : EReal) := by
  rw [rk_at s t hs 16 le_rfl n]
  split
  · next h => rw [min_eq_left]; exact_mod_cast h.le
  · next h => rw [min_eq_right]; exact_mod_cast not_lt.1 h

end Cert.PrepIdeal.Val

end
-- ==== Proof.Prep.Trip.lean ====
module

public import proofs.«01_k».proof.Proof.Prep.Cols
public import Idealize.ShloMosaic.Lib.Pipeline.ReadBack

/-! What one trip of the routing kernel's loop stores, entry by entry: the trip of head `h` turns the
head's two score tables into the capped ranks of the second and the exponentials of the first. -/

@[expose] public section

set_option maxRecDepth 16384

noncomputable section

namespace Cert.PrepIdeal.Val

open Idealize.ShloMosaic Idealize.ShloMosaic.TcCoe Idealize.SL.Sem
open Cert.PrepIdeal Cert.PrepIdeal.Gen Prep.Order

/-- A score: key `n` of table `p` against the query of head `h` and column `t`. -/
def score (Q : Fin 2048 → Fin 512 → EReal) (x2 : FVec Ideal S2x128x128 .bf16) (p : Fin 2) (h : Fin 8) (t : Fin 512) (n : Fin 128) : EReal :=
  ∑ d : Fin 128, x2 (ix3 p n d) * Q ⟨256 * h.val + 128 * p.val + d.val, by omega⟩ t

theorem pay3_at (a : FVec Ideal S128x512 .f32) (b : FVec Ideal S1x128x128 .bf16) (n : Fin 128) (t : Fin 512) :
    k0_pay3 (F := Ideal) a b (ix2 n t) = ∑ d : Fin 128, b (ix3 0 n d) * a (ix2 d t) := by
  pointwise [k0_pay3]

theorem pay4_at (a : FVec Ideal S128x512 .f32) (b : FVec Ideal S1x128x128 .bf16) (n : Fin 128) (t : Fin 512) :
    k0_pay4 (F := Ideal) a b (ix2 n t) = ∑ d : Fin 128, b (ix3 0 n d) * a (ix2 d t) := by
  pointwise [k0_pay4]

theorem pay1_at (w : FVec Ideal S2048x2048 .bf16) (h : FVec Ideal S2048x512 .bf16) (J : Fin 2048) (t : Fin 512) :
    k0_pay1 (F := Ideal) w h (ix2 J t) = ∑ j : Fin 2048, w (ix2 J j) * h (ix2 j t) := by
  pointwise [k0_pay1]

theorem pay211_at (r : FVec Ideal S128x512 .f32) (n : Fin 128) (t : Fin 512) :
    k0_pay211 (F := Ideal) r (ix3 0 n t) = r (ix2 n t) := by
  pointwise [k0_pay211]

theorem row0_at (a0 a1 a2 a3 a4 a5 a6 a7 a8 a9 a10 a11 a12 a13 a14 a15 : FVec Ideal S1x512 .f32) (t : Fin 512) :
    concatenate S16x512 0 [⟨S1x512, a0⟩, ⟨S1x512, a1⟩, ⟨S1x512, a2⟩, ⟨S1x512, a3⟩, ⟨S1x512, a4⟩, ⟨S1x512, a5⟩, ⟨S1x512, a6⟩, ⟨S1x512, a7⟩,
        ⟨S1x512, a8⟩, ⟨S1x512, a9⟩, ⟨S1x512, a10⟩, ⟨S1x512, a11⟩, ⟨S1x512, a12⟩, ⟨S1x512, a13⟩, ⟨S1x512, a14⟩, ⟨S1x512, a15⟩]
      concatenates_S1x512_S1x512_S1x512_S1x512_S1x512_S1x512_S1x512_S1x512_S1x512_S1x512_S1x512_S1x512_S1x512_S1x512_S1x512_S1x512_S16x512_d0
      (ix2 0 t) = a0 (ix2 0 t) := by
  pointwise []

theorem pay213_at (s : FVec Ideal S128x512 .f32) (r : FVec Ideal S16x512 .f32) (n : Fin 128) (t : Fin 512) :
    k0_pay213 (F := Ideal) s r (ix3 0 n t) = Ideal.exp (s (ix2 n t) - r (ix2 0 t)) := by
  pointwise [k0_pay213]

theorem high_row (s : FVec Ideal S128x512 .f32) (t : Fin 512) : high s (ix2 0 t) = Finset.univ.sup (col s t) := by
  rw [← high_at s 0 t]
  generalize high s = y
  symm
  pointwise []

end Cert.PrepIdeal.Val

end
-- ==== Proof.Prep.Block.lean ====
module

public import proofs.«01_k».proof.Proof.Prep.Trip
public import proofs.«01_k».proof.Proof.Prep.Rounds
public import proofs.«01_k».proof.Proof.Gen.PrepIdeal.Frame
public import Idealize.ShloMosaic.Lib.WholeRead

/-! The blocks a point of the routing kernel leaves, from the blocks it finds: the eight trips of the
loop store the eight heads, so together they store one function of the block's index. -/

@[expose] public section

set_option maxRecDepth 16384

noncomputable section

namespace Cert.PrepIdeal.Val

open Idealize.ShloMosaic Idealize.ShloMosaic.TcCoe Idealize.SL.Sem
open Cert.PrepIdeal Cert.PrepIdeal.Gen Prep.Order

variable (arg3 : Memref sig .tc .vmem S2x128x128 .bf16) (arg8 : Memref sig .tc .vmem S2048x512 .f32)
  (X3 : BufTy.Contents (Elt Ideal) arg3.view.ty) (X8 : BufTy.Contents (Elt Ideal) arg8.view.ty)
  (x2 : FVec Ideal S2x128x128 .bf16) (Q : Fin 2048 → Fin 512 → EReal)

/-- The first table of head `k`. -/
theorem r_at (h3 : arg3.view.read (Elt Ideal) X3 = x2) (h8 : ∀ J t, arg8.view.read (Elt Ideal) X8 (ix2 J t) = Q J t)
    (k : Fin k0_t1_loop.trips) (h : Fin 8) (hk : h.val = k.val) (n : Fin 128) (t : Fin 512) :
    trip_k0_t1.sl.r arg3 arg8 X3 X8 k (ix2 n t) = score Q x2 0 h t n := by
  unfold trip_k0_t1.sl.r
  refine (pay3_at _ _ n t).trans (Finset.sum_congr rfl fun d _ => ?_)
  refine congrArg₂ (· * ·) ?_ ?_
  · rw [View.readAt_eq_ld, h3]
    refine congrArg x2 (funext fun a => Fin.ext ?_)
    fin_cases a <;> simp [LoadRect.idx, Rect.toLoadRect, Rect.unit, ix3]
  · rw [View.readAt_eq_ld, ← h8]
    refine congrArg (arg8.view.read (Elt Ideal) X8) (funext fun a => Fin.ext ?_)
    fin_cases a <;> simp [LoadRect.idx, Rect.toLoadRect, Rect.unit, ix2, k0_off1_eq, hk]

/-- The second table of head `k`. -/
theorem r1_at (h3 : arg3.view.read (Elt Ideal) X3 = x2) (h8 : ∀ J t, arg8.view.read (Elt Ideal) X8 (ix2 J t) = Q J t)
    (k : Fin k0_t1_loop.trips) (h : Fin 8) (hk : h.val = k.val) (n : Fin 128) (t : Fin 512) :
    trip_k0_t1.sl.r_1 arg3 arg8 X3 X8 k (ix2 n t) = score Q x2 1 h t n := by
  unfold trip_k0_t1.sl.r_1
  refine (pay4_at _ _ n t).trans (Finset.sum_congr rfl fun d _ => ?_)
  refine congrArg₂ (· * ·) ?_ ?_
  · rw [View.readAt_eq_ld, h3]
    refine congrArg x2 (funext fun a => Fin.ext ?_)
    fin_cases a <;> simp [LoadRect.idx, Rect.toLoadRect, Rect.unit, ix3]
  · rw [View.readAt_eq_ld, ← h8]
    refine congrArg (arg8.view.read (Elt Ideal) X8) (funext fun a => Fin.ext ?_)
    fin_cases a <;> simp [LoadRect.idx, Rect.toLoadRect, Rect.unit, ix2, k0_off2_eq, hk]

/-- What is stored of the ranks: the ranks of the second table's column, capped at 16. -/
def rankVal (s : Fin 128 → EReal) (n : Fin 128) : EReal := min (rank s n : EReal) ((16 : ℕ) : EReal)

/-- What is stored of the weights: the exponential of a score less the column's largest. -/
def weightVal (s : Fin 128 → EReal) (n : Fin 128) : EReal := Ideal.exp (s n - Finset.univ.sup s)

theorem rank_trip (h3 : arg3.view.read (Elt Ideal) X3 = x2) (h8 : ∀ J t, arg8.view.read (Elt Ideal) X8 (ix2 J t) = Q J t)
    (hs : ∀ h t n, score Q x2 1 h t n ≠ ⊥)
    (k : Fin k0_t1_loop.trips) (h : Fin 8) (hk : h.val = k.val) (n : Fin 128) (t : Fin 512) :
    k0_pay211 (F := Ideal) (trip_k0_t1.sl.r_62 arg3 arg8 rows X3 X8 k) (ix3 0 n t) = rankVal (score Q x2 1 h t) n := by
  have hc : col (tbl arg3 arg8 X3 X8 k) t = score Q x2 1 h t := funext fun n => r1_at arg3 arg8 X3 X8 x2 Q h3 h8 k h hk n t
  refine (pay211_at _ n t).trans ?_
  rw [at_62]
  refine (rk16_at _ t (fun n => ?_) n).trans ?_
  · rw [hc]; exact hs h t n
  · rw [hc]; rfl

theorem r2_eq (k : Fin k0_t1_loop.trips) : trip_k0_t1.sl.r_2 arg3 arg8 X3 X8 k = high (trip_k0_t1.sl.r arg3 arg8 X3 X8 k) := by
  unfold trip_k0_t1.sl.r_2 trip_k0_t1.sl.r k0_pay5
  rfl

theorem weight_trip (h3 : arg3.view.read (Elt Ideal) X3 = x2) (h8 : ∀ J t, arg8.view.read (Elt Ideal) X8 (ix2 J t) = Q J t)
    (v7 : IVec S128x512 32) (k : Fin k0_t1_loop.trips) (h : Fin 8) (hk : h.val = k.val) (n : Fin 128) (t : Fin 512) :
    k0_pay213 (F := Ideal) (trip_k0_t1.sl.r arg3 arg8 X3 X8 k) (trip_k0_t1.sl.r_32 arg3 arg8 v7 X3 X8 k) (ix3 0 n t)
      = weightVal (score Q x2 0 h t) n := by
  have hc : col (trip_k0_t1.sl.r arg3 arg8 X3 X8 k) t = score Q x2 0 h t := funext fun n => r_at arg3 arg8 X3 X8 x2 Q h3 h8 k h hk n t
  refine (pay213_at _ _ n t).trans ?_
  have hr : trip_k0_t1.sl.r_32 arg3 arg8 v7 X3 X8 k (ix2 0 t) = Finset.univ.sup (score Q x2 0 h t) := by
    unfold trip_k0_t1.sl.r_32 k0_pay62
    refine (row0_at _ _ _ _ _ _ _ _ _ _ _ _ _ _ _ _ t).trans ?_
    rw [← hc, ← high_row]
    exact congrFun (r2_eq arg3 arg8 X3 X8 k) (ix2 0 t)
  rw [hr, ← hc]
  rfl

end Cert.PrepIdeal.Val

end
-- ==== Proof.Prep.Whole.lean ====
module

public import proofs.«01_k».proof.Proof.Prep.Block
public import Idealize.ShloMosaic.Lib.Pipeline.CanonAppend

/-! The whole blocks a point of the routing kernel leaves: ranks and weights of all eight heads. -/

@[expose] public section

set_option maxRecDepth 16384

noncomputable section

namespace Cert.PrepIdeal.Val

open Idealize.ShloMosaic Idealize.ShloMosaic.TcCoe Idealize.SL.Sem
open Cert.PrepIdeal Cert.PrepIdeal.Gen Prep.Order

/-- The block of ranks. -/
def rankBlk (Q : Fin 2048 → Fin 512 → EReal) (x2 : FVec Ideal S2x128x128 .bf16) : FVec Ideal S8x128x512 .bf16 :=
  fun y => rankVal (score Q x2 1 (y 0) (y 2)) (y 1)

/-- The block of weights. -/
def weightBlk (Q : Fin 2048 → Fin 512 → EReal) (x2 : FVec Ideal S2x128x128 .bf16) : FVec Ideal S8x128x512 .f32 :=
  fun y => weightVal (score Q x2 0 (y 0) (y 2)) (y 1)

/-- The queries a point forms: the product of the weights with the point's columns. -/
def query (x0 : FVec Ideal S2048x512 .bf16) (x1 : FVec Ideal S2048x2048 .bf16) (J : Fin 2048) (t : Fin 512) : EReal :=
  ∑ j : Fin 2048, x1 (ix2 J j) * x0 (ix2 j t)

variable (c : Dev nD) (i : grid0.Coords)
  (arg1 : Memref sig .tc .vmem S2048x512 .bf16) (harg1 : arg1.IsWhole) (arg2 : Memref sig .tc .vmem S2048x2048 .bf16) (harg2 : arg2.IsWhole)
  (arg3 : Memref sig .tc .vmem S2x128x128 .bf16) (harg3 : arg3.IsWhole) (arg4 : Memref sig .tc .vmem S8x128x512 .bf16) (harg4 : arg4.IsWhole)
  (arg5 : Memref sig .tc .vmem S8x128x512 .bf16) (harg5 : arg5.IsWhole) (arg6 : Memref sig .tc .vmem S8x128x512 .f32) (harg6 : arg6.IsWhole)
  (arg7 : Memref sig .tc .vmem S8x128x512 .f32) (harg7 : arg7.IsWhole) (arg8 : Memref sig .tc .vmem S2048x512 .f32) (harg8 : arg8.IsWhole)

section Pieces

variable (X3 : BufTy.Contents (Elt Ideal) arg3.view.ty) (X8 : BufTy.Contents (Elt Ideal) arg8.view.ty)
  (x2 : FVec Ideal S2x128x128 .bf16) (Q : Fin 2048 → Fin 512 → EReal) (v8 : IVec S256x512 32)

theorem rank_pieces (h3 : arg3.view.read (Elt Ideal) X3 = x2) (h8 : ∀ J t, arg8.view.read (Elt Ideal) X8 (ix2 J t) = Q J t) (hs : ∀ h t n, score Q x2 1 h t n ≠ ⊥)
    (K : ℕ) (hK : K ≤ k0_t1_loop.trips) :
    ∀ p ∈ (pb_k0_t1 (F := Ideal) Variants.none c none i arg1 harg1 arg2 harg2 arg3 harg3 arg4 harg4 arg5 harg5 arg6 harg6 arg7 harg7 arg8 harg8 rows v8 X3 X8 K).1,
      ∀ x : p.1.shape.Idx, p.2 x = rankBlk Q x2 (p.1.emb x) := by
  induction K with
  | zero => intro p hp; simp [pb_k0_t1] at hp
  | succ K ih =>
    rw [pb_k0_t1_succ (k := ⟨K, hK⟩)]
    intro p hp
    rcases List.mem_append.1 hp with hp | hp
    · have hp' : p ∈ (trip_k0_t1 (F := Ideal) Variants.none c none i arg1 harg1 arg2 harg2 arg3 harg3 arg4 harg4 arg5 harg5 arg6 harg6 arg7 harg7 arg8 harg8 rows v8 X3 X8 ⟨K, hK⟩).1 := hp
      unfold trip_k0_t1 at hp'
      dsimp only at hp'
      obtain rfl := List.mem_singleton.1 hp'
      have hlt : K < 8 := lt_of_lt_of_le hK k0_t1_abs.2.1
      intro x
      obtain ⟨y0, n, t, rfl⟩ : ∃ (y0 : Fin 1) (n : Fin 128) (t : Fin 512), x = ix3 y0 n t :=
        ⟨x 0, x 1, x 2, funext fun a => by fin_cases a <;> rfl⟩
      obtain rfl : y0 = 0 := Subsingleton.elim _ _
      have he : (Rect.unit (s := S8x128x512) (k0_off3 ⟨K, hK⟩) S1x128x512.size (k0_off3_inb ⟨K, hK⟩)).emb (ix3 0 n t) = ix3 (⟨K, hlt⟩ : Fin 8) n t :=
        funext fun a => Fin.ext (by fin_cases a <;> simp [Rect.emb, LoadRect.idx, Rect.unit, ix3, k0_off3_eq])
      refine (rank_trip arg3 arg8 X3 X8 x2 Q h3 h8 hs ⟨K, hK⟩ ⟨K, hlt⟩ rfl n t).trans ?_
      exact (congrArg (rankBlk Q x2) he).symm
    · exact ih (Nat.le_of_succ_le hK) p hp

theorem weight_pieces (h3 : arg3.view.read (Elt Ideal) X3 = x2) (h8 : ∀ J t, arg8.view.read (Elt Ideal) X8 (ix2 J t) = Q J t) (v7 : IVec S128x512 32)
    (K : ℕ) (hK : K ≤ k0_t1_loop.trips) :
    ∀ p ∈ (pb_k0_t1 (F := Ideal) Variants.none c none i arg1 harg1 arg2 harg2 arg3 harg3 arg4 harg4 arg5 harg5 arg6 harg6 arg7 harg7 arg8 harg8 v7 v8 X3 X8 K).2.2.2,
      ∀ x : p.1.shape.Idx, p.2 x = weightBlk Q x2 (p.1.emb x) := by
  induction K with
  | zero => intro p hp; simp [pb_k0_t1] at hp
  | succ K ih =>
    rw [pb_k0_t1_succ (k := ⟨K, hK⟩)]
    intro p hp
    rcases List.mem_append.1 hp with hp | hp
    · have hp' : p ∈ (trip_k0_t1 (F := Ideal) Variants.none c none i arg1 harg1 arg2 harg2 arg3 harg3 arg4 harg4 arg5 harg5 arg6 harg6 arg7 harg7 arg8 harg8 v7 v8 X3 X8 ⟨K, hK⟩).2.2.2.1 := hp
      unfold trip_k0_t1 at hp'
      dsimp only at hp'
      obtain rfl := List.mem_singleton.1 hp'
      have hlt : K < 8 := lt_of_lt_of_le hK k0_t1_abs.2.1
      intro x
      obtain ⟨y0, n, t, rfl⟩ : ∃ (y0 : Fin 1) (n : Fin 128) (t : Fin 512), x = ix3 y0 n t :=
        ⟨x 0, x 1, x 2, funext fun a => by fin_cases a <;> rfl⟩
      obtain rfl : y0 = 0 := Subsingleton.elim _ _
      have he : (Rect.unit (s := S8x128x512) (k0_off3 ⟨K, hK⟩) S1x128x512.size (k0_off3_inb ⟨K, hK⟩)).emb (ix3 0 n t) = ix3 (⟨K, hlt⟩ : Fin 8) n t :=
        funext fun a => Fin.ext (by fin_cases a <;> simp [Rect.emb, LoadRect.idx, Rect.unit, ix3, k0_off3_eq])
      refine (weight_trip arg3 arg8 X3 X8 x2 Q h3 h8 v7 ⟨K, hK⟩ ⟨K, hlt⟩ rfl n t).trans ?_
      exact (congrArg (weightBlk Q x2) he).symm
    · exact ih (Nat.le_of_succ_le hK) p hp

end Pieces

/-- What the scratch buffer holds once the queries are stored. -/
theorem stored (x0 : FVec Ideal S2048x512 .bf16) (x1 : FVec Ideal S2048x2048 .bf16) (J : Fin 2048) (t : Fin 512) :
    arg8.view.read (Elt Ideal) (arg8.view.writes (Elt Ideal) arg8.view.junk (kernelRun0_A.sl.HS0_1 c arg1 harg1 arg2 harg2 x0 x1)) (ix2 J t) = query x0 x1 J t := by
  rw [View.read_writes_junk_eq_canon]
  unfold kernelRun0_A.sl.HS0_1
  rw [View.canon_cons_unit_lit]
  refine (pay1_at _ _ J t).trans (Finset.sum_congr rfl fun j _ => ?_)
  rw [Memref.IsWhole.readAt_unread, Memref.IsWhole.readAt_unread]
  refine congrArg₂ (· * ·) (congrArg x1 (funext fun a => Fin.ext ?_)) (congrArg x0 (funext fun a => Fin.ext ?_))
  · fin_cases a <;> simp [LoadRect.idx, Rect.toLoadRect, Rect.unit, ix2]
  · fin_cases a <;> simp [LoadRect.idx, Rect.toLoadRect, Rect.unit, ix2]
  intro a
  fin_cases a <;> rfl

theorem out3_eq (x0 : FVec Ideal S2048x512 .bf16) (x1 : FVec Ideal S2048x2048 .bf16) (x2 : FVec Ideal S2x128x128 .bf16) (hs : ∀ h t n, score (query x0 x1) x2 1 h t n ≠ ⊥) :
    out0_A_3 (F := Ideal) c i arg1 harg1 arg2 harg2 arg3 harg3 arg4 harg4 arg5 harg5 arg6 harg6 arg7 harg7 arg8 harg8 x0 x1 x2 = rankBlk (query x0 x1) x2 := by
  funext y
  unfold out0_A_3
  rw [View.read_writes_junk_eq_canon]
  have hm : ∀ p ∈ (kernelRun0_A (F := Ideal) c i arg1 harg1 arg2 harg2 arg3 harg3 arg4 harg4 arg5 harg5 arg6 harg6 arg7 harg7 arg8 harg8 x0 x1 x2).1, ∀ x : p.1.shape.Idx, p.2 x = rankBlk (query x0 x1) x2 (p.1.emb x) := by
    unfold kernelRun0_A
    dsimp only
    exact rank_pieces c i arg1 harg1 arg2 harg2 arg3 harg3 arg4 harg4 arg5 harg5 arg6 harg6 arg7 harg7 arg8 harg8 _ _ x2 (query x0 x1) _ (Memref.IsWhole.read_unread (Val := Elt Ideal) harg3 x2) (stored c arg1 harg1 arg2 harg2 arg8 x0 x1) hs _ le_rfl
  have h := View.canon_append_of_pieces (rankBlk (query x0 x1) x2) [] _ hm y (cover0_A_3 (F := Ideal) c i arg1 harg1 arg2 harg2 arg3 harg3 arg4 harg4 arg5 harg5 arg6 harg6 arg7 harg7 arg8 harg8 x0 x1 x2 y)
  rw [List.append_nil] at h
  exact h

theorem out6_eq (x0 : FVec Ideal S2048x512 .bf16) (x1 : FVec Ideal S2048x2048 .bf16) (x2 : FVec Ideal S2x128x128 .bf16) :
    out0_A_6 (F := Ideal) c i arg1 harg1 arg2 harg2 arg3 harg3 arg4 harg4 arg5 harg5 arg6 harg6 arg7 harg7 arg8 harg8 x0 x1 x2 = weightBlk (query x0 x1) x2 := by
  funext y
  unfold out0_A_6
  rw [View.read_writes_junk_eq_canon]
  have hm : ∀ p ∈ (kernelRun0_A (F := Ideal) c i arg1 harg1 arg2 harg2 arg3 harg3 arg4 harg4 arg5 harg5 arg6 harg6 arg7 harg7 arg8 harg8 x0 x1 x2).2.2.2.1, ∀ x : p.1.shape.Idx, p.2 x = weightBlk (query x0 x1) x2 (p.1.emb x) := by
    unfold kernelRun0_A
    dsimp only
    exact weight_pieces c i arg1 harg1 arg2 harg2 arg3 harg3 arg4 harg4 arg5 harg5 arg6 harg6 arg7 harg7 arg8 harg8 _ _ x2 (query x0 x1) _ (Memref.IsWhole.read_unread (Val := Elt Ideal) harg3 x2) (stored c arg1 harg1 arg2 harg2 arg8 x0 x1) _ _ le_rfl
  have h := View.canon_append_of_pieces (weightBlk (query x0 x1) x2) [] _ hm y (cover0_A_6 (F := Ideal) c i arg1 harg1 arg2 harg2 arg3 harg3 arg4 harg4 arg5 harg5 arg6 harg6 arg7 harg7 arg8 harg8 x0 x1 x2 y)
  rw [List.append_nil] at h
  exact h

end Cert.PrepIdeal.Val

end
-- ==== Proof.Prep.Ref.lean ====
module

public import proofs.«01_k».proof.Proof.Gen.PrepRefIdeal.Read
public import proofs.«01_k».proof.Proof.Prep.Order
public import Idealize.ShloMosaic.Lib.Pipeline.ValueKit

/-! The reference's routing, read at an entry. -/

@[expose] public section

set_option maxRecDepth 16384

noncomputable section

namespace Cert.PrepRefIdeal.Val

open Idealize.ShloMosaic Idealize.ShloMosaic.TcCoe Idealize.SL.Sem
open Cert.PrepRefIdeal Cert.PrepRefIdeal.Gen Cert.PrepRefIdeal.Value Cert.PrepRefIdeal.Read Prep.Order

variable (x0 : FVec Ideal S2048x32768 .bf16) (x1 : FVec Ideal S1x2048x2048 .f32) (x2 : FVec Ideal S1x2x128x128 .f32)

/-- The score of key `n` of table `p` against the query of head `h` of token `t`. -/
def sval (p : Fin 2) (h : Fin 8) (t : Fin 32768) (n : Fin 128) : EReal :=
  ∑ d : Fin 128, x2 (ix4 0 p n d) * ∑ j : Fin 2048, x0 (ix2 j t) * x1 (ix3 0 j ⟨256 * h.val + 128 * p.val + d.val, by omega⟩)

theorem v3_at (t : Fin 32768) (J : Fin 2048) : val_main_v3 (F := Ideal) x0 x1 (ix2 t J) = ∑ j : Fin 2048, x0 (ix2 j t) * x1 (ix3 0 j J) := by
  pointwise [val_main_v3, val_main_v1, val_main_v0, val_main_v2]

theorem v4_at (t : Fin 32768) (h : Fin 8) (p : Fin 2) (d : Fin 128) :
    val_main_v4 (F := Ideal) x0 x1 (ix4 t h p d) = val_main_v3 (F := Ideal) x0 x1 (ix2 t ⟨256 * h.val + 128 * p.val + d.val, by omega⟩) := by
  unfold val_main_v4
  generalize val_main_v3 (F := Ideal) x0 x1 = y
  pointwise []
  exact congrArg y (congrArg (ix2 t) (Fin.ext (show h.val * 256 + p.val * 128 + d.val = 256 * h.val + 128 * p.val + d.val by omega)))

theorem v7_at (t : Fin 32768) (h : Fin 8) (p : Fin 2) (n : Fin 128) :
    val_main_v7 (F := Ideal) x0 x1 x2 (ix4 t h p n) = sval x0 x1 x2 p h t n := by
  have e : val_main_v7 (F := Ideal) x0 x1 x2 (ix4 t h p n) = ∑ d : Fin 128, x2 (ix4 0 p n d) * val_main_v4 (F := Ideal) x0 x1 (ix4 t h p d) := by
    unfold val_main_v7 val_main_v6
    generalize val_main_v4 (F := Ideal) x0 x1 = y
    pointwise [val_main_v5]
  rw [e]
  simp only [v4_at, v3_at]
  rfl

theorem v9_at (t : Fin 32768) (h : Fin 8) (n : Fin 128) : val_main_v9 (F := Ideal) x0 x1 x2 (ix3 t h n) = sval x0 x1 x2 0 h t n := by
  rw [← v7_at]
  unfold val_main_v9 val_main_v8
  generalize val_main_v7 (F := Ideal) x0 x1 x2 = y
  pointwise []

theorem v11_at (t : Fin 32768) (h : Fin 8) (n : Fin 128) : val_main_v11 (F := Ideal) x0 x1 x2 (ix3 t h n) = sval x0 x1 x2 1 h t n := by
  rw [← v7_at]
  unfold val_main_v11 val_main_v10
  generalize val_main_v7 (F := Ideal) x0 x1 x2 = y
  pointwise []

theorem v15_at (t : Fin 32768) (h : Fin 8) (n m : Fin 128) : val_main_v15 (F := Ideal) x0 x1 x2 (ix4 t h n m) = sval x0 x1 x2 1 h t m := by
  rw [← v11_at]
  unfold val_main_v15 val_main_v14
  generalize val_main_v11 (F := Ideal) x0 x1 x2 = y
  pointwise []

theorem v16_at (t : Fin 32768) (h : Fin 8) (n m : Fin 128) : val_main_v16 (F := Ideal) x0 x1 x2 (ix4 t h n m) = sval x0 x1 x2 1 h t n := by
  rw [← v11_at]
  unfold val_main_v16 val_main_v13
  generalize val_main_v11 (F := Ideal) x0 x1 x2 = y
  pointwise []

theorem v18_at (t : Fin 32768) (h : Fin 8) (n m : Fin 128) : val_main_v18 (F := Ideal) x0 x1 x2 (ix4 t h n m) = sval x0 x1 x2 1 h t m := by
  rw [← v11_at]
  unfold val_main_v18 val_main_v14
  generalize val_main_v11 (F := Ideal) x0 x1 x2 = y
  pointwise []

theorem v19_at (t : Fin 32768) (h : Fin 8) (n m : Fin 128) : val_main_v19 (F := Ideal) x0 x1 x2 (ix4 t h n m) = sval x0 x1 x2 1 h t n := by
  rw [← v11_at]
  unfold val_main_v19 val_main_v13
  generalize val_main_v11 (F := Ideal) x0 x1 x2 = y
  pointwise []

theorem v23_at (n m : Fin 128) : val_main_v23 (F := Ideal) (ix2 n m) = BitVec.ofNat 32 m.val := by
  pointwise [val_main_v23, val_main_v21, val_main_v12]

theorem v24_at (n m : Fin 128) : val_main_v24 (F := Ideal) (ix2 n m) = BitVec.ofNat 32 n.val := by
  pointwise [val_main_v24, val_main_v22, val_main_v12]

theorem v27_at (t : Fin 32768) (h : Fin 8) (n m : Fin 128) :
    val_main_v27 (F := Ideal) (ix4 t h n m) = IntOp.cmpi .slt (BitVec.ofNat 32 m.val) (BitVec.ofNat 32 n.val) := by
  rw [← v23_at n m, ← v24_at n m]
  unfold val_main_v27 val_main_v26 val_main_v25
  generalize val_main_v23 (F := Ideal) = a
  generalize val_main_v24 (F := Ideal) = b
  pointwise []

open Classical in
theorem v30_at (t : Fin 32768) (h : Fin 8) (n m : Fin 128) :
    val_main_v30 (F := Ideal) x0 x1 x2 (ix4 t h n m) = if Before (sval x0 x1 x2 1 h t) m n then (1 : EReal) else 0 := by
  rw [val_main_v30_apply, val_main_v29_apply, val_main_v28_apply, val_main_v17_apply, val_main_v20_apply, v15_at, v16_at, v18_at, v19_at, v27_at]
  generalize sval x0 x1 x2 1 h t = s
  have hlt : IntOp.cmpi .slt (BitVec.ofNat 32 m.val) (BitVec.ofNat 32 n.val) = BitVec.ofBool (decide (m < n)) := by
    revert m n; decide +kernel
  have hgt : ∀ a b : EReal, FloatOps.cmpf (F := Ideal) (φ := .f32) .ogt a b = BitVec.ofBool (decide (b < a)) := fun _ _ => rfl
  have heq : ∀ a b : EReal, FloatOps.cmpf (F := Ideal) (φ := .f32) .oeq a b = BitVec.ofBool (decide (a = b)) := fun _ _ => rfl
  rw [hlt, hgt, heq]
  have hb : ∀ a b c : Bool, IntOp.ori (BitVec.ofBool a) (IntOp.andi (BitVec.ofBool b) (BitVec.ofBool c)) = BitVec.ofBool (a || (b && c)) := by decide
  have h1 : (FloatOps.uitofp .f32 (BitVec.ofBool true) : Ideal .f32) = (1 : EReal) := by
    show (((1 : ℕ) : ℝ) : EReal) = 1
    simp
  have h0 : (FloatOps.uitofp .f32 (BitVec.ofBool false) : Ideal .f32) = (0 : EReal) := by
    show (((0 : ℕ) : ℝ) : EReal) = 0
    simp
  rw [hb]
  unfold Before
  by_cases hB : s n < s m ∨ (s m = s n ∧ m < n)
  · rw [if_pos hB, ← h1]
    have : (decide (s n < s m) || (decide (s m = s n) && decide (m < n))) = true := by simpa using hB
    rw [this]
  · rw [if_neg hB, ← h0]
    have : (decide (s n < s m) || (decide (s m = s n) && decide (m < n))) = false := by
      rw [← Bool.not_eq_true]
      exact fun h => hB (by simpa using h)
    rw [this]

theorem v31_at (t : Fin 32768) (h : Fin 8) (n : Fin 128) :
    val_main_v31 (F := Ideal) x0 x1 x2 (ix3 t h n) = (rank (sval x0 x1 x2 1 h t) n : EReal) := by
  rw [val_main_v31_apply, ← sum_before]
  have hz : val_main_cst (F := Ideal) (Shape.Idx.first h_S_) = 0 := by
    simp [val_main_cst_apply, Ideal.ofBits_def, Ideal.ofBits, Ideal.ieee]
  rw [hz, zero_add]
  refine Finset.sum_congr rfl fun m _ => ?_
  rw [← v30_at]
  refine congrArg (val_main_v30 (F := Ideal) x0 x1 x2) (funext fun a => ?_)
  fin_cases a <;> rfl

theorem v40_at (t : Fin 32768) (h : Fin 8) (n : Fin 128) :
    val_main_v40 (F := Ideal) x0 x1 x2 (ix3 h n t) = min (rank (sval x0 x1 x2 1 h t) n : EReal) ((16 : ℕ) : EReal) := by
  have h16 : Ideal.ofBits FTy.f32 0x41800000#32 = ((16 : ℕ) : EReal) := by
    simp [Ideal.ofBits, Ideal.ieee] <;> rw [← EReal.coe_mul] <;> norm_num <;> rfl
  rw [← v31_at, ← h16]
  unfold val_main_v40 val_main_v39 val_main_v33 val_main_v32 val_main_cst_0
  generalize val_main_v31 (F := Ideal) x0 x1 x2 = y
  pointwise []

theorem v34_at (t : Fin 32768) (h : Fin 8) :
    val_main_v34 (F := Ideal) x0 x1 x2 (ix2 t h) = Finset.univ.sup (sval x0 x1 x2 0 h t) := by
  have hv : ∀ n, val_main_v9 (F := Ideal) x0 x1 x2 (ix3 t h n) = sval x0 x1 x2 0 h t n := v9_at x0 x1 x2 t h
  rw [show sval x0 x1 x2 0 h t = fun n => val_main_v9 (F := Ideal) x0 x1 x2 (ix3 t h n) from funext fun n => (hv n).symm]
  unfold val_main_v34 val_main_cst_1
  generalize val_main_v9 (F := Ideal) x0 x1 x2 = y
  have hr : S32768x8x128.Reduces [2] S32768x8 := by decide
  refine (Host.reduce_eq_fold_single (FloatOps.maximumf (F := Ideal) (φ := .f32)) y _ reducesTo_S32768x8x128_S32768x8_d2 hr h_S_ (ix2 t h)).trans ?_
  have e : (y ∘ hr.lift (ix2 t h)) = fun n : Fin 128 => y (ix3 t h n) := by
    funext n
    refine congrArg y (funext fun a => ?_)
    fin_cases a <;> rfl
  have hb : constant (F := Ideal) S_ .f32 0xFF800000#32 (Shape.Idx.first h_S_) = (⊥ : EReal) := by
    show Ideal.ofBits .f32 0xFF800000#32 = ⊥
    simp [Ideal.ofBits, Ideal.ieee]
  rw [e, hb]
  rfl

theorem v41_at (t : Fin 32768) (h : Fin 8) (n : Fin 128) :
    val_main_v41 (F := Ideal) x0 x1 x2 (ix3 h n t) = Ideal.exp (sval x0 x1 x2 0 h t n - Finset.univ.sup (sval x0 x1 x2 0 h t)) := by
  rw [← v34_at, ← v9_at]
  unfold val_main_v41 val_main_v38 val_main_v37 val_main_v36 val_main_v35
  generalize val_main_v34 (F := Ideal) x0 x1 x2 = y
  generalize val_main_v9 (F := Ideal) x0 x1 x2 = z
  pointwise []

end Cert.PrepRefIdeal.Val

end
-- ==== Proof.Prep.Arr.lean ====
module

public import proofs.«01_k».proof.Proof.Prep.Whole
public import proofs.«01_k».proof.Proof.Prep.Ref
public import proofs.«01_k».proof.Proof.Gen.PrepIdeal.Frame

/-! The arrays the routing kernel leaves are the reference's, where no score of the second table is
minus infinity. -/

@[expose] public section

set_option maxRecDepth 16384

noncomputable section

namespace Cert.PrepIdeal.Val

open Idealize.ShloMosaic Idealize.ShloMosaic.TcCoe Idealize.SL.Sem
open Cert.PrepIdeal Cert.PrepIdeal.Gen Prep.Order
open Cert.PrepRefIdeal.Val (sval)

variable (m : (ℓ : Loc nD τ sig) → Buf (Elt Ideal) ℓ)

/-- The arguments: the rows to route, turned over; the query weights; the keys of the two tables. -/
abbrev a0 (c : Dev nD) : FVec Ideal S2048x32768 .bf16 := m ((c.tc : Thread nD τ).loc main_arg0)
abbrev a1 (c : Dev nD) : FVec Ideal S1x2048x2048 .f32 := m ((c.tc : Thread nD τ).loc main_arg1)
abbrev a2 (c : Dev nD) : FVec Ideal S1x2x128x128 .f32 := m ((c.tc : Thread nD τ).loc main_arg2)

theorem V_v2 (c : Dev nD) : V m c main_v2 = truncf .bf16 (transpose S2048x2048 [1, 0] (shapeCast S2048x2048 (a1 m c) shapeCasts_S1x2048x2048_S2048x2048)
    transposes_S2048x2048_S2048x2048_1_0) bitsLt_bf16_f32 := by
  show StableHlo.after hostOps0 (fun b => m (c, b)) (Proc.devRef .tc main_v2) = _
  after_results
  rfl

theorem V_v4 (c : Dev nD) : V m c main_v4 = truncf .bf16 (shapeCast S2x128x128 (a2 m c) shapeCasts_S1x2x128x128_S2x128x128) bitsLt_bf16_f32 := by
  show StableHlo.after hostOps0 (fun b => m (c, b)) (Proc.devRef .tc main_v4) = _
  after_results
  rfl

theorem w_at (c : Dev nD) (J j : Fin 2048) : V m c main_v2 (ix2 J j) = a1 m c (ix3 0 j J) := by
  rw [V_v2]
  generalize a1 m c = x
  pointwise []

theorem k_at (c : Dev nD) (p : Fin 2) (n d : Fin 128) : V m c main_v4 (ix3 p n d) = a2 m c (ix4 0 p n d) := by
  rw [V_v4]
  generalize a2 m c = x
  pointwise []

/-- Which block of each window a point meets. -/
theorem idxs : ∀ t : Fin cfg0.N, win0_0.index t = ![0, t.val] ∧ win0_1.index t = ![0, 0] ∧ win0_2.index t = ![0, 0, 0]
    ∧ win0_3.index t = ![0, 0, t.val] ∧ win0_6.index t = ![0, 0, t.val] ∧ t.val < 64 :=
  (by decide +kernel : ∀ t : Fin grid0.N, _)

theorem iblk_h (c : Dev nD) (t : Fin cfg0.N) (j : Fin 2048) (r : Fin 512) (R : Fin 32768) (hR : R.val = 512 * t.val + r.val) :
    iblk m c 0 t (ix2 j r) = V m c main_arg0 (ix2 j R) := by
  obtain ⟨i, -⟩ := idxs t
  blk_ext [iblk, i, hR]

theorem iblk_w (c : Dev nD) (t : Fin cfg0.N) (J j : Fin 2048) : iblk m c 1 t (ix2 J j) = V m c main_v2 (ix2 J j) := by
  obtain ⟨-, i, -⟩ := idxs t
  blk_ext [iblk, i]

theorem iblk_k (c : Dev nD) (t : Fin cfg0.N) (p : Fin 2) (n d : Fin 128) : iblk m c 2 t (ix3 p n d) = V m c main_v4 (ix3 p n d) := by
  obtain ⟨-, -, i, -⟩ := idxs t
  blk_ext [iblk, i]

/-- A point's scores are the reference's at the point's tokens. -/
theorem score_eq (c : Dev nD) (t : Fin cfg0.N) (p : Fin 2) (h : Fin 8) (r : Fin 512) (R : Fin 32768) (hR : R.val = 512 * t.val + r.val) :
    score (query (iblk m c 0 t) (iblk m c 1 t)) (iblk m c 2 t) p h r = sval (a0 m c) (a1 m c) (a2 m c) p h R := by
  funext n
  refine Finset.sum_congr rfl fun d _ => congrArg₂ (· * ·) ((iblk_k m c t p n d).trans (k_at m c p n d)) ?_
  refine Finset.sum_congr rfl fun j _ => ?_
  refine (congrArg₂ (fun a b : EReal => a * b) ((iblk_w m c t _ j).trans (w_at m c _ j)) ((iblk_h m c t j r R hR).trans (congrFun (V_main_arg0 m c) _))).trans ?_
  exact mul_comm _ _

theorem rank_final (c : Dev nD) (hs : ∀ h T n, sval (a0 m c) (a1 m c) (a2 m c) 1 h T n ≠ ⊥) : (dats m 0 c).arrAt 3 cfg0.N
    = Cert.PrepRefIdeal.Read.val_main_v40 (F := Ideal) (a0 m c) (a1 m c) (a2 m c) := by
  refine (dats m 0 c).arrAt_eq_of_covers 3 _ (by decide +kernel) fun t _ y => ?_
  blk_simp
  rw [after0_3]
  obtain ⟨-, -, -, i3, -, hN⟩ := idxs t
  unfold outsAt0
  dsimp only
  rw [out3_eq]
  · idx_vars y
    have he : ((View.whole main_v5_0).slice (win0_3.rect t)).emb (ix3 y0 y1 y2) = ix3 y0 y1 ⟨512 * t.val + y2.val, by omega⟩ := by
      blk_ext [i3]
    rw [he]
    refine Eq.trans ?_ (Cert.PrepRefIdeal.Val.v40_at (a0 m c) (a1 m c) (a2 m c) ⟨512 * t.val + y2.val, by omega⟩ y0 y1).symm
    rw [← score_eq m c t 1 y0 y2 ⟨512 * t.val + y2.val, by omega⟩ rfl]
    rfl
  · intro h r n
    rw [score_eq m c t 1 h r ⟨512 * t.val + r.val, by omega⟩ rfl]
    exact hs _ _ _

theorem weight_final (c : Dev nD) : (dats m 0 c).arrAt 6 cfg0.N
    = Cert.PrepRefIdeal.Read.val_main_v41 (F := Ideal) (a0 m c) (a1 m c) (a2 m c) := by
  refine (dats m 0 c).arrAt_eq_of_covers 6 _ (by decide +kernel) fun t _ y => ?_
  blk_simp
  rw [after0_6]
  obtain ⟨-, -, -, -, i6, hN⟩ := idxs t
  unfold outsAt0
  dsimp only
  rw [out6_eq]
  idx_vars y
  have he : ((View.whole main_v5_3).slice (win0_6.rect t)).emb (ix3 y0 y1 y2) = ix3 y0 y1 ⟨512 * t.val + y2.val, by omega⟩ := by
    blk_ext [i6]
  rw [he]
  refine Eq.trans ?_ (Cert.PrepRefIdeal.Val.v41_at (a0 m c) (a1 m c) (a2 m c) ⟨512 * t.val + y2.val, by omega⟩ y0 y1).symm
  rw [← score_eq m c t 0 y0 y2 ⟨512 * t.val + y2.val, by omega⟩ rfl]
  rfl

/-- The program runs; its two results end at what the call leaves in its output windows, and the arguments as they were. -/
theorem run_all (ρ : Dev nD → PrngReg) :
    θ_run (defs (F := Ideal)) (onTc (τ := τ) (main (F := Ideal))) ⟨m, fun _ => 0, ρ⟩ (fun r => ∀ c : Dev nD,
      (r.2.mem ((c.tc : Thread nD τ).loc main_v5_0) = (dats m 0 c).arrAt 3 cfg0.N
        ∧ r.2.mem ((c.tc : Thread nD τ).loc main_v5_3) = (dats m 0 c).arrAt 6 cfg0.N)
      ∧ (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))) :=
  (θ_run defs _ _).mono (fun r h c => ⟨⟨(h c).1 3, (h c).1 6⟩, ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

end Cert.PrepIdeal.Val

end
-- ==== Proof.Prep.Claim.lean ====
/- The claims on the routing: the reference's frame, and the equation of kernel and reference over the reals. -/
module

public import proofs.«01_k».proof.Defs
public import proofs.«01_k».proof.Proof.Prep.Arr
public import proofs.«01_k».proof.Proof.Attn.Eq
public import proofs.«01_k».proof.Proof.Gen.Pre_finite_route
public import proofs.«01_k».proof.Proof.Gen.PrepRefIdeal.Run
public import Idealize.ShloMosaic.Lib.Quiescent
public import Idealize.ShloMosaic.Lib.ReduceAll

@[expose] public section

set_option maxRecDepth 16384

noncomputable section

namespace Cert.PrepTie

open Idealize.ShloMosaic Idealize.ShloMosaic.TcCoe Idealize.SL.Sem
open Cert.PrepIdeal Cert.PrepIdeal.Val Cert.BandMath
open Cert.PrepRefIdeal.Val (sval)

/-- The reference runs, keeps its arguments, and has no counter to leave standing. -/
theorem ref_frame (m : (ℓ : Loc Cert.PrepRefIdeal.nD Cert.PrepRefIdeal.τ Cert.PrepRefIdeal.sig) → Buf (Elt Ideal) ℓ)
    (ρ : Dev Cert.PrepRefIdeal.nD → PrngReg) :
    θ_run (Cert.PrepRefIdeal.defs (F := Ideal)) (onTc (τ := Cert.PrepRefIdeal.τ) (Cert.PrepRefIdeal.main (F := Ideal))) ⟨m, fun _ => 0, ρ⟩
      (fun r => (∀ c : Dev Cert.PrepRefIdeal.nD,
        r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
        ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
        ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2))
        ∧ r.2.sem = fun _ => 0) :=
  (θ_run _ _ _).mono (fun r h => ⟨fun c => (h c).2.2, sem_eq_zero_of_no_sems rfl r.2⟩) (Cert.PrepRefIdeal.Value.run m ρ)

theorem pre_fin (x : FVec Ideal S2048x32768 .bf16) (w : FVec Ideal S1x2048x2048 .f32) (k : FVec Ideal S1x2x128x128 .f32)
    (h : Cert.Pre_finite_route.fn (F := Ideal) x w k = fun _ => 1#1) :
    (∀ i, Fin' (x i)) ∧ (∀ i, Fin' (w i)) ∧ (∀ i, Fin' (k i)) := by
  have h0 := congrFun h ix0
  unfold Cert.Pre_finite_route.fn at h0
  obtain ⟨h1, h3⟩ := IntOp.andi_eq_one.1 h0
  obtain ⟨h1, h2⟩ := IntOp.andi_eq_one.1 h1
  refine ⟨fun i => ?_, fun i => ?_, fun i => ?_⟩
  · have := Host.reduce_andi_all _ _ _ _ _ h1 i
    exact Cert.AttnTie.fin_of_lt _ this
  · have := Host.reduce_andi_all _ _ _ _ _ h2 i
    exact Cert.AttnTie.fin_of_lt _ this
  · have := Host.reduce_andi_all _ _ _ _ _ h3 i
    exact Cert.AttnTie.fin_of_lt _ this

/-- Finite arguments have finite scores. -/
theorem sval_fin (x : FVec Ideal S2048x32768 .bf16) (w : FVec Ideal S1x2048x2048 .f32) (k : FVec Ideal S1x2x128x128 .f32)
    (hx : ∀ i, Fin' (x i)) (hw : ∀ i, Fin' (w i)) (hk : ∀ i, Fin' (k i)) (p : Fin 2) (h : Fin 8) (T : Fin 32768) (n : Fin 128) :
    sval x w k p h T n ≠ ⊥ :=
  (fin_sum _ fun _ => fin_mul (hk _) (fin_sum _ fun _ => fin_mul (hx _) (hw _))).2

/-- From memories that agree on the arguments, all finite: kernel and reference end with the same ranks and weights. -/
theorem equation : Cert.algebraic_PrepIdeal_PrepRefIdeal_pre_finite_route := by
  intro m g m' g' hpre hag
  refine ⟨fun c => Cert.PrepRefIdeal.Read.val_main_v40 (F := Ideal) (m ((c.tc : Thread _ _).loc Cert.PrepIdeal.main_arg0)) (m ((c.tc : Thread _ _).loc Cert.PrepIdeal.main_arg1)) (m ((c.tc : Thread _ _).loc Cert.PrepIdeal.main_arg2)),
    fun c => Cert.PrepRefIdeal.Read.val_main_v41 (F := Ideal) (m ((c.tc : Thread _ _).loc Cert.PrepIdeal.main_arg0)) (m ((c.tc : Thread _ _).loc Cert.PrepIdeal.main_arg1)) (m ((c.tc : Thread _ _).loc Cert.PrepIdeal.main_arg2)), ?_, ?_⟩
  · refine (θ_run _ _ _).mono (fun r h c => ⟨?_, ?_, ?_⟩) (Cert.PrepIdeal.Val.run_all m g)
    · obtain ⟨hx, hw, hk⟩ := pre_fin _ _ _ (hpre c)
      exact (h c).1.1.trans (Cert.PrepIdeal.Val.rank_final m c fun h T n => sval_fin _ _ _ hx hw hk 1 h T n)
    · exact (h c).1.2.trans (Cert.PrepIdeal.Val.weight_final m c)
    · exact (h c).2
  · refine (θ_run _ _ _).mono (fun r h c => ⟨?_, ?_, (h c).2.2⟩) (Cert.PrepRefIdeal.Value.run m' g')
    · obtain ⟨e0, e1, e2⟩ := hag c
      refine (h c).1.trans ((Cert.PrepRefIdeal.Read.val_main_v40_eq m' c).trans ?_)
      rw [e0, e1, e2]
    · obtain ⟨e0, e1, e2⟩ := hag c
      refine (h c).2.1.trans ((Cert.PrepRefIdeal.Read.val_main_v41_eq (m' ((c.tc : Thread _ _).loc Cert.PrepRefIdeal.main_arg0)) (m' ((c.tc : Thread _ _).loc Cert.PrepRefIdeal.main_arg1)) (m' ((c.tc : Thread _ _).loc Cert.PrepRefIdeal.main_arg2))).trans ?_)
      rw [e0, e1, e2]

end Cert.PrepTie

end
-- ==== Proof.Layer.Peer.lean ====
/- The arithmetic of the expert mixing at one token: activation, routing weight, and the sum over all experts. -/
module

public import proofs.«01_k».proof.Proof.Layer.Math

@[expose] public section

noncomputable section

namespace Cert.LayerMath

open Idealize.ShloMosaic

/-- The weight of the expert in row `a`, column `b` of the table: the heads' products of probabilities, where the column's rank
    lies below the row's count. -/
def gate8 (r p c q : Fin 8 → EReal) : EReal := ∑ h, (if r h < c h then p h else 0) * q h

theorem gate8_eq (r p c q : Fin 8 → EReal) : gate8 r p c q
    = (if r 0 < c 0 then p 0 else 0) * q 0 + (if r 1 < c 1 then p 1 else 0) * q 1 + (if r 2 < c 2 then p 2 else 0) * q 2
      + (if r 3 < c 3 then p 3 else 0) * q 3 + (if r 4 < c 4 then p 4 else 0) * q 4 + (if r 5 < c 5 then p 5 else 0) * q 5
      + (if r 6 < c 6 then p 6 else 0) * q 6 + (if r 7 < c 7 then p 7 else 0) * q 7 := by
  unfold gate8
  exact Fin.sum_univ_eight _

theorem gate8_congr {r r' p p' c c' q q' : Fin 8 → EReal} (hr : ∀ h, r h = r' h) (hp : ∀ h, p h = p' h) (hc : ∀ h, c h = c' h)
    (hq : ∀ h, q h = q' h) : gate8 r p c q = gate8 r' p' c' q' := by
  obtain rfl := funext hr
  obtain rfl := funext hp
  obtain rfl := funext hc
  obtain rfl := funext hq
  rfl

/-- The activation, with the hyperbolic tangent in place of the error function. -/
def gelu (x : EReal) : EReal :=
  Ideal.ofBits FTy.f32 1056964608#32 * x * (1 + Ideal.tanh (Ideal.ofBits FTy.f32 1061962282#32 * (x + Ideal.ofBits FTy.f32 1027024659#32 * (x * x * x))))

/-- What expert `E` gives to a token: its activation times its weight. -/
def share (h : Fin 2048 → EReal) (u : Fin 16384 → Fin 2048 → EReal) (r p c q : Fin 8 → Fin 128 → EReal) (E : Fin 16384) : EReal :=
  gelu (dot (u E) h) * gate8 (fun a => r a ⟨E.val % 128, by omega⟩) (fun a => p a ⟨E.val % 128, by omega⟩)
    (fun a => c a ⟨E.val / 128, by omega⟩) (fun a => q a ⟨E.val / 128, by omega⟩)

/-- A row divided by its root mean square, times a gain. -/
def normed (x n : Fin 2048 → EReal) (k : Fin 2048) : EReal :=
  x k * Ideal.rsqrt (Ideal.div (∑ j, x j * x j) (Ideal.ofBits FTy.f32 1157627904#32) + Ideal.ofBits FTy.f32 897988541#32) * n k

theorem normed_congr {x x' n n' : Fin 2048 → EReal} (hx : ∀ j, x j = x' j) (hn : ∀ j, n j = n' j) (k : Fin 2048) :
    normed x n k = normed x' n' k := by
  obtain rfl := funext hx
  obtain rfl := funext hn
  rfl

/-- One tile's part of the sum over the experts. -/
def tileSum (F : Fin 16384 → EReal) (e : ℕ) : EReal := if he : e < 32 then ∑ j : Fin 512, F ⟨512 * e + j.val, by omega⟩ else 0

/-- The sum over the experts of the tiles up to `e`. -/
def upTo (F : Fin 16384 → EReal) (e : ℕ) : EReal := ∑ i ∈ Finset.range (e + 1), tileSum F i

theorem upTo_zero (F : Fin 16384 → EReal) : upTo F 0 = ∑ j : Fin 512, F ⟨j.val, by omega⟩ := by
  unfold upTo
  rw [Finset.sum_range_one]
  unfold tileSum
  rw [dif_pos (by omega)]
  exact Finset.sum_congr rfl fun j _ => congrArg F (Fin.ext (by show 512 * 0 + j.val = j.val; omega))

theorem upTo_succ (F : Fin 16384 → EReal) (e : ℕ) (he : e + 1 < 32) :
    upTo F (e + 1) = upTo F e + ∑ j : Fin 512, F ⟨512 * (e + 1) + j.val, by omega⟩ := by
  unfold upTo
  rw [Finset.sum_range_succ]
  exact congrArg (_ + ·) (by unfold tileSum; rw [dif_pos he])

theorem upTo_last (F : Fin 16384 → EReal) : upTo F 31 = ∑ E, F E := by
  unfold upTo
  rw [Finset.sum_range]
  have e : ∀ i : Fin 32, tileSum F i.val = ∑ j : Fin 512, F (finProdFinEquiv (i, j)) := fun i => by
    unfold tileSum
    rw [dif_pos i.isLt]
    exact Finset.sum_congr rfl fun j _ => congrArg F (Fin.ext (by show 512 * i.val + j.val = j.val + 512 * i.val; omega))
  refine (Finset.sum_congr rfl fun i _ => e i).trans ?_
  rw [← Fintype.sum_prod_type' (f := fun (i : Fin 32) (j : Fin 512) => F (finProdFinEquiv (i, j)))]
  exact Fintype.sum_equiv finProdFinEquiv _ _ fun _ => rfl

end Cert.LayerMath

end
-- ==== Proof.Mix.Pay.lean ====
/- What the expert mixing computes from the blocks it is handed, entry by entry. -/
module

public import proofs.«01_k».proof.Proof.Gen.MixIdeal.Skeleton
public import proofs.«01_k».proof.Proof.Layer.Peer
public import Idealize.ShloMosaic.Lib.Pipeline.ValueKit

@[expose] public section

set_option maxRecDepth 16384

noncomputable section

namespace Cert.MixIdeal.Val

open Idealize.ShloMosaic Idealize.ShloMosaic.TcCoe Idealize.SL.Sem
open Cert.MixIdeal Cert.MixIdeal.Gen Cert.LayerMath

/-- The first group of 128 experts of a tile: activation times the weight the ranks and counts give. -/
theorem group0_at (V : FVec Ideal S512x512 .f32) (c0 c1 c2 c3 c4 c5 c6 c7 q0 q1 q2 q3 q4 q5 q6 q7 : FVec Ideal S1x1x512 .f32) (r0 r1 r2 r3 r4 r5 r6 r7 p0 p1 p2 p3 p4 p5 p6 p7 : FVec Ideal S1x128x512 .bf16)
    (b : Fin 128) (t : Fin 512) :
    k0_pay16 (F := Ideal) V (k0_pay13 (F := Ideal) (k0_pay10 (F := Ideal) (k0_pay7 (F := Ideal) (k0_pay5 (F := Ideal) q0) (k0_pay6 (F := Ideal) c0 r0) p0 c1 q1 r1 p1) (k0_pay8 (F := Ideal) q2) (k0_pay9 (F := Ideal) c2 r2) p2 c3 q3 r3 p3) (k0_pay11 (F := Ideal) q4) (k0_pay12 (F := Ideal) c4 r4) p4 c5 q5 r5 p5) (k0_pay14 (F := Ideal) q6) (k0_pay15 (F := Ideal) c6 r6) p6 c7 q7 r7 p7 (ix2 b t)
      = V (ix2 ⟨0 + b.val, by omega⟩ t) * gate8 ![r0 (ix3 0 b t), r1 (ix3 0 b t), r2 (ix3 0 b t), r3 (ix3 0 b t), r4 (ix3 0 b t), r5 (ix3 0 b t), r6 (ix3 0 b t), r7 (ix3 0 b t)] ![p0 (ix3 0 b t), p1 (ix3 0 b t), p2 (ix3 0 b t), p3 (ix3 0 b t), p4 (ix3 0 b t), p5 (ix3 0 b t), p6 (ix3 0 b t), p7 (ix3 0 b t)]
          ![c0 (ix3 0 0 t), c1 (ix3 0 0 t), c2 (ix3 0 0 t), c3 (ix3 0 0 t), c4 (ix3 0 0 t), c5 (ix3 0 0 t), c6 (ix3 0 0 t), c7 (ix3 0 0 t)] ![q0 (ix3 0 0 t), q1 (ix3 0 0 t), q2 (ix3 0 0 t), q3 (ix3 0 0 t), q4 (ix3 0 0 t), q5 (ix3 0 0 t), q6 (ix3 0 0 t), q7 (ix3 0 0 t)] := by
  rw [gate8_eq]
  pointwise [k0_pay16, k0_pay13, k0_pay10, k0_pay7, k0_pay5, k0_pay6, k0_pay8, k0_pay9, k0_pay11, k0_pay12, k0_pay14, k0_pay15]

/-- The second group of 128 experts of a tile: activation times the weight the ranks and counts give. -/
theorem group1_at (V : FVec Ideal S512x512 .f32) (c0 c1 c2 c3 c4 c5 c6 c7 q0 q1 q2 q3 q4 q5 q6 q7 : FVec Ideal S1x1x512 .f32) (r0 r1 r2 r3 r4 r5 r6 r7 p0 p1 p2 p3 p4 p5 p6 p7 : FVec Ideal S1x128x512 .bf16)
    (b : Fin 128) (t : Fin 512) :
    k0_pay24 (F := Ideal) V (k0_pay22 (F := Ideal) (k0_pay20 (F := Ideal) (k0_pay18 (F := Ideal) (k0_pay17 (F := Ideal) c0) q0 r0 p0 c1 q1 r1 p1) (k0_pay19 (F := Ideal) c2) q2 r2 p2 c3 q3 r3 p3) (k0_pay21 (F := Ideal) c4) q4 r4 p4 c5 q5 r5 p5) (k0_pay23 (F := Ideal) c6) q6 r6 p6 c7 q7 r7 p7 (ix2 b t)
      = V (ix2 ⟨128 + b.val, by omega⟩ t) * gate8 ![r0 (ix3 0 b t), r1 (ix3 0 b t), r2 (ix3 0 b t), r3 (ix3 0 b t), r4 (ix3 0 b t), r5 (ix3 0 b t), r6 (ix3 0 b t), r7 (ix3 0 b t)] ![p0 (ix3 0 b t), p1 (ix3 0 b t), p2 (ix3 0 b t), p3 (ix3 0 b t), p4 (ix3 0 b t), p5 (ix3 0 b t), p6 (ix3 0 b t), p7 (ix3 0 b t)]
          ![c0 (ix3 0 0 t), c1 (ix3 0 0 t), c2 (ix3 0 0 t), c3 (ix3 0 0 t), c4 (ix3 0 0 t), c5 (ix3 0 0 t), c6 (ix3 0 0 t), c7 (ix3 0 0 t)] ![q0 (ix3 0 0 t), q1 (ix3 0 0 t), q2 (ix3 0 0 t), q3 (ix3 0 0 t), q4 (ix3 0 0 t), q5 (ix3 0 0 t), q6 (ix3 0 0 t), q7 (ix3 0 0 t)] := by
  rw [gate8_eq]
  pointwise [k0_pay24, k0_pay22, k0_pay20, k0_pay18, k0_pay17, k0_pay19, k0_pay21, k0_pay23]

/-- The third group of 128 experts of a tile: activation times the weight the ranks and counts give. -/
theorem group2_at (V : FVec Ideal S512x512 .f32) (c0 c1 c2 c3 c4 c5 c6 c7 q0 q1 q2 q3 q4 q5 q6 q7 : FVec Ideal S1x1x512 .f32) (r0 r1 r2 r3 r4 r5 r6 r7 p0 p1 p2 p3 p4 p5 p6 p7 : FVec Ideal S1x128x512 .bf16)
    (b : Fin 128) (t : Fin 512) :
    k0_pay37 (F := Ideal) V (k0_pay34 (F := Ideal) (k0_pay31 (F := Ideal) (k0_pay28 (F := Ideal) (k0_pay25 (F := Ideal) c0 q0 r0 p0) (k0_pay26 (F := Ideal) q1) (k0_pay27 (F := Ideal) c1 r1 p1) c2 q2 r2 p2) (k0_pay29 (F := Ideal) q3) (k0_pay30 (F := Ideal) c3 r3 p3) c4 q4 r4 p4) (k0_pay32 (F := Ideal) q5) (k0_pay33 (F := Ideal) c5 r5 p5) c6 q6 r6 p6) (k0_pay35 (F := Ideal) q7) (k0_pay36 (F := Ideal) c7 r7 p7) (ix2 b t)
      = V (ix2 ⟨256 + b.val, by omega⟩ t) * gate8 ![r0 (ix3 0 b t), r1 (ix3 0 b t), r2 (ix3 0 b t), r3 (ix3 0 b t), r4 (ix3 0 b t), r5 (ix3 0 b t), r6 (ix3 0 b t), r7 (ix3 0 b t)] ![p0 (ix3 0 b t), p1 (ix3 0 b t), p2 (ix3 0 b t), p3 (ix3 0 b t), p4 (ix3 0 b t), p5 (ix3 0 b t), p6 (ix3 0 b t), p7 (ix3 0 b t)]
          ![c0 (ix3 0 0 t), c1 (ix3 0 0 t), c2 (ix3 0 0 t), c3 (ix3 0 0 t), c4 (ix3 0 0 t), c5 (ix3 0 0 t), c6 (ix3 0 0 t), c7 (ix3 0 0 t)] ![q0 (ix3 0 0 t), q1 (ix3 0 0 t), q2 (ix3 0 0 t), q3 (ix3 0 0 t), q4 (ix3 0 0 t), q5 (ix3 0 0 t), q6 (ix3 0 0 t), q7 (ix3 0 0 t)] := by
  rw [gate8_eq]
  pointwise [k0_pay37, k0_pay34, k0_pay31, k0_pay28, k0_pay25, k0_pay26, k0_pay27, k0_pay29, k0_pay30, k0_pay32, k0_pay33, k0_pay35, k0_pay36]

/-- The fourth group of 128 experts of a tile: activation times the weight the ranks and counts give. -/
theorem group3_at (V : FVec Ideal S512x512 .f32) (c0 c1 c2 c3 c4 c5 c6 c7 q0 q1 q2 q3 q4 q5 q6 q7 : FVec Ideal S1x1x512 .f32) (r0 r1 r2 r3 r4 r5 r6 r7 p0 p1 p2 p3 p4 p5 p6 p7 : FVec Ideal S1x128x512 .bf16)
    (b : Fin 128) (t : Fin 512) :
    k0_pay50 (F := Ideal) V (k0_pay47 (F := Ideal) (k0_pay44 (F := Ideal) (k0_pay41 (F := Ideal) (k0_pay38 (F := Ideal) c0 q0 r0 p0) (k0_pay39 (F := Ideal) c1) (k0_pay40 (F := Ideal) q1) r1 p1 c2 q2 r2 p2) (k0_pay42 (F := Ideal) c3) (k0_pay43 (F := Ideal) q3) r3 p3 c4 q4 r4 p4) (k0_pay45 (F := Ideal) c5) (k0_pay46 (F := Ideal) q5) r5 p5 c6 q6 r6 p6) (k0_pay48 (F := Ideal) c7) (k0_pay49 (F := Ideal) q7) r7 p7 (ix2 b t)
      = V (ix2 ⟨384 + b.val, by omega⟩ t) * gate8 ![r0 (ix3 0 b t), r1 (ix3 0 b t), r2 (ix3 0 b t), r3 (ix3 0 b t), r4 (ix3 0 b t), r5 (ix3 0 b t), r6 (ix3 0 b t), r7 (ix3 0 b t)] ![p0 (ix3 0 b t), p1 (ix3 0 b t), p2 (ix3 0 b t), p3 (ix3 0 b t), p4 (ix3 0 b t), p5 (ix3 0 b t), p6 (ix3 0 b t), p7 (ix3 0 b t)]
          ![c0 (ix3 0 0 t), c1 (ix3 0 0 t), c2 (ix3 0 0 t), c3 (ix3 0 0 t), c4 (ix3 0 0 t), c5 (ix3 0 0 t), c6 (ix3 0 0 t), c7 (ix3 0 0 t)] ![q0 (ix3 0 0 t), q1 (ix3 0 0 t), q2 (ix3 0 0 t), q3 (ix3 0 0 t), q4 (ix3 0 0 t), q5 (ix3 0 0 t), q6 (ix3 0 0 t), q7 (ix3 0 0 t)] := by
  rw [gate8_eq]
  pointwise [k0_pay50, k0_pay47, k0_pay44, k0_pay41, k0_pay38, k0_pay39, k0_pay40, k0_pay42, k0_pay43, k0_pay45, k0_pay46, k0_pay48, k0_pay49]

theorem act_at (u : FVec Ideal S512x2048 .bf16) (h : FVec Ideal S2048x512 .bf16) (e : Fin 512) (t : Fin 512) :
    k0_pay4 (F := Ideal) u h (ix2 e t) = gelu (dot (fun j => u (ix2 e j)) (fun j => h (ix2 j t))) := by
  unfold gelu dot
  pointwise [k0_pay4]

theorem acc_at (a : FVec Ideal S2048x512 .f32) (v : FVec Ideal S2048x512 .bf16) (w : FVec Ideal S512x512 .bf16) (k : Fin 2048) (t : Fin 512) :
    k0_pay1 (F := Ideal) (k0_pay51 (F := Ideal) a v w) (ix2 k t) = a (ix2 k t) + ∑ e, v (ix2 k e) * w (ix2 e t) := by
  pointwise [k0_pay1, k0_pay51]

theorem zero_at (k : Fin 2048) (t : Fin 512) : k0_pay3 (F := Ideal) (ix2 k t) = (0 : EReal) := by
  pointwise [k0_pay3]

end Cert.MixIdeal.Val

end
-- ==== Proof.Mix.Tile.lean ====
/- The weighted activations of one tile of experts, as the expert mixing stores and reads them back. -/
module

public import proofs.«01_k».proof.Proof.Gen.MixIdeal.Frame
public import proofs.«01_k».proof.Proof.Mix.Pay
public import Idealize.ShloMosaic.Lib.Pipeline.ReadBack

@[expose] public section

set_option maxRecDepth 16384

noncomputable section

namespace Cert.MixIdeal.Val

open Idealize.ShloMosaic Idealize.ShloMosaic.TcCoe Idealize.SL.Sem
open Cert.MixIdeal Cert.MixIdeal.Gen Cert.LayerMath

/-- Activation times weight, for the 512 experts of tile `e`. -/
def tileBlk (A : FVec Ideal S512x512 .f32) (r p : FVec Ideal S8x128x512 .bf16) (c q : FVec Ideal S8x128x512 .f32) (e : ℕ) : FVec Ideal S512x512 .bf16 := fun i =>
  A i * gate8 (fun h => r (ix3 h ⟨(i 0).val % 128, by omega⟩ (i 1))) (fun h => p (ix3 h ⟨(i 0).val % 128, by omega⟩ (i 1)))
    (fun h => c (ix3 h ⟨(4 * e + (i 0).val / 128) % 128, by omega⟩ (i 1))) (fun h => q (ix3 h ⟨(4 * e + (i 0).val / 128) % 128, by omega⟩ (i 1)))

theorem tileBlk_at (A : FVec Ideal S512x512 .f32) (r p : FVec Ideal S8x128x512 .bf16) (c q : FVec Ideal S8x128x512 .f32) (e : ℕ)
    (E : Fin 512) (b a : Fin 128) (t : Fin 512) (hb : E.val % 128 = b.val) (ha : (4 * e + E.val / 128) % 128 = a.val) :
    tileBlk A r p c q e (ix2 E t)
      = A (ix2 E t) * gate8 (fun h => r (ix3 h b t)) (fun h => p (ix3 h b t)) (fun h => c (ix3 h a t)) (fun h => q (ix3 h a t)) := by
  have hb' : (⟨E.val % 128, by omega⟩ : Fin 128) = b := Fin.ext hb
  have ha' : (⟨(4 * e + E.val / 128) % 128, by omega⟩ : Fin 128) = a := Fin.ext ha
  show A (ix2 E t) * gate8 (fun h => r (ix3 h ⟨E.val % 128, by omega⟩ t)) (fun h => p (ix3 h ⟨E.val % 128, by omega⟩ t))
    (fun h => c (ix3 h ⟨(4 * e + E.val / 128) % 128, by omega⟩ t)) (fun h => q (ix3 h ⟨(4 * e + E.val / 128) % 128, by omega⟩ t)) = _
  rw [hb', ha']

theorem ld_row (X : FVec Ideal S8x128x512 .f32) (off : Fin 3 → ℕ) (inb : ∀ a, off a + S1x1x512.size a ≤ S8x128x512.size a) (h : Fin 8) (a : Fin 128)
    (ho : off = ![h.val, a.val, 0]) (t : Fin 512) : View.ld (Val := Elt Ideal) (e' := .f32) X (Rect.unit (s := S8x128x512) off S1x1x512.size inb) (ix3 0 0 t) = X (ix3 h a t) := by
  subst ho
  exact View.ld_unit_apply_of (Val := Elt Ideal) (e := .f32) (S := S8x128x512) X _ _ inb _ (ix3 h a t) (by intro d; fin_cases d <;> simp [ix3])

theorem ld_slab (X : FVec Ideal S8x128x512 .bf16) (off : Fin 3 → ℕ) (inb : ∀ a, off a + S1x128x512.size a ≤ S8x128x512.size a) (h : Fin 8)
    (ho : off = ![h.val, 0, 0]) (b : Fin 128) (t : Fin 512) :
    View.ld (Val := Elt Ideal) (e' := .bf16) X (Rect.unit (s := S8x128x512) off S1x128x512.size inb) (ix3 0 b t) = X (ix3 h b t) := by
  subst ho
  exact View.ld_unit_apply_of (Val := Elt Ideal) (e := .bf16) (S := S8x128x512) X _ _ inb _ (ix3 h b t) (by intro d; fin_cases d <;> simp [ix3])

/-- The first 128 experts of the tile. -/
theorem piece0 (A : FVec Ideal S512x512 .f32) (r p : FVec Ideal S8x128x512 .bf16) (c q : FVec Ideal S8x128x512 .f32) (i : grid0.Coords) (b : Fin 128) (t : Fin 512) :
    k0_pay16 (F := Ideal) A (k0_pay13 (F := Ideal) (k0_pay10 (F := Ideal) (k0_pay7 (F := Ideal) (k0_pay5 (F := Ideal) (View.ld (Val := Elt Ideal) (e' := .f32) q (Rect.unit (s := S8x128x512) (k0_off1 i 0#32) S1x1x512.size (k0_off1_inb i 0)))) (k0_pay6 (F := Ideal) (View.ld (Val := Elt Ideal) (e' := .f32) c (Rect.unit (s := S8x128x512) (k0_off1 i 0#32) S1x1x512.size (k0_off1_inb i 0))) (View.ld (Val := Elt Ideal) (e' := .bf16) r (Rect.unit (s := S8x128x512) ![0, 0, 0] S1x128x512.size inb_S8x128x512_S1x128x512_0_0_0))) (View.ld (Val := Elt Ideal) (e' := .bf16) p (Rect.unit (s := S8x128x512) ![0, 0, 0] S1x128x512.size inb_S8x128x512_S1x128x512_0_0_0)) (View.ld (Val := Elt Ideal) (e' := .f32) c (Rect.unit (s := S8x128x512) (k0_off2 i 0#32) S1x1x512.size (k0_off2_inb i 0))) (View.ld (Val := Elt Ideal) (e' := .f32) q (Rect.unit (s := S8x128x512) (k0_off2 i 0#32) S1x1x512.size (k0_off2_inb i 0))) (View.ld (Val := Elt Ideal) (e' := .bf16) r (Rect.unit (s := S8x128x512) ![1, 0, 0] S1x128x512.size inb_S8x128x512_S1x128x512_1_0_0)) (View.ld (Val := Elt Ideal) (e' := .bf16) p (Rect.unit (s := S8x128x512) ![1, 0, 0] S1x128x512.size inb_S8x128x512_S1x128x512_1_0_0))) (k0_pay8 (F := Ideal) (View.ld (Val := Elt Ideal) (e' := .f32) q (Rect.unit (s := S8x128x512) (k0_off3 i 0#32) S1x1x512.size (k0_off3_inb i 0)))) (k0_pay9 (F := Ideal) (View.ld (Val := Elt Ideal) (e' := .f32) c (Rect.unit (s := S8x128x512) (k0_off3 i 0#32) S1x1x512.size (k0_off3_inb i 0))) (View.ld (Val := Elt Ideal) (e' := .bf16) r (Rect.unit (s := S8x128x512) ![2, 0, 0] S1x128x512.size inb_S8x128x512_S1x128x512_2_0_0))) (View.ld (Val := Elt Ideal) (e' := .bf16) p (Rect.unit (s := S8x128x512) ![2, 0, 0] S1x128x512.size inb_S8x128x512_S1x128x512_2_0_0)) (View.ld (Val := Elt Ideal) (e' := .f32) c (Rect.unit (s := S8x128x512) (k0_off4 i 0#32) S1x1x512.size (k0_off4_inb i 0))) (View.ld (Val := Elt Ideal) (e' := .f32) q (Rect.unit (s := S8x128x512) (k0_off4 i 0#32) S1x1x512.size (k0_off4_inb i 0))) (View.ld (Val := Elt Ideal) (e' := .bf16) r (Rect.unit (s := S8x128x512) ![3, 0, 0] S1x128x512.size inb_S8x128x512_S1x128x512_3_0_0)) (View.ld (Val := Elt Ideal) (e' := .bf16) p (Rect.unit (s := S8x128x512) ![3, 0, 0] S1x128x512.size inb_S8x128x512_S1x128x512_3_0_0))) (k0_pay11 (F := Ideal) (View.ld (Val := Elt Ideal) (e' := .f32) q (Rect.unit (s := S8x128x512) (k0_off5 i 0#32) S1x1x512.size (k0_off5_inb i 0)))) (k0_pay12 (F := Ideal) (View.ld (Val := Elt Ideal) (e' := .f32) c (Rect.unit (s := S8x128x512) (k0_off5 i 0#32) S1x1x512.size (k0_off5_inb i 0))) (View.ld (Val := Elt Ideal) (e' := .bf16) r (Rect.unit (s := S8x128x512) ![4, 0, 0] S1x128x512.size inb_S8x128x512_S1x128x512_4_0_0))) (View.ld (Val := Elt Ideal) (e' := .bf16) p (Rect.unit (s := S8x128x512) ![4, 0, 0] S1x128x512.size inb_S8x128x512_S1x128x512_4_0_0)) (View.ld (Val := Elt Ideal) (e' := .f32) c (Rect.unit (s := S8x128x512) (k0_off6 i 0#32) S1x1x512.size (k0_off6_inb i 0))) (View.ld (Val := Elt Ideal) (e' := .f32) q (Rect.unit (s := S8x128x512) (k0_off6 i 0#32) S1x1x512.size (k0_off6_inb i 0))) (View.ld (Val := Elt Ideal) (e' := .bf16) r (Rect.unit (s := S8x128x512) ![5, 0, 0] S1x128x512.size inb_S8x128x512_S1x128x512_5_0_0)) (View.ld (Val := Elt Ideal) (e' := .bf16) p (Rect.unit (s := S8x128x512) ![5, 0, 0] S1x128x512.size inb_S8x128x512_S1x128x512_5_0_0))) (k0_pay14 (F := Ideal) (View.ld (Val := Elt Ideal) (e' := .f32) q (Rect.unit (s := S8x128x512) (k0_off7 i 0#32) S1x1x512.size (k0_off7_inb i 0)))) (k0_pay15 (F := Ideal) (View.ld (Val := Elt Ideal) (e' := .f32) c (Rect.unit (s := S8x128x512) (k0_off7 i 0#32) S1x1x512.size (k0_off7_inb i 0))) (View.ld (Val := Elt Ideal) (e' := .bf16) r (Rect.unit (s := S8x128x512) ![6, 0, 0] S1x128x512.size inb_S8x128x512_S1x128x512_6_0_0))) (View.ld (Val := Elt Ideal) (e' := .bf16) p (Rect.unit (s := S8x128x512) ![6, 0, 0] S1x128x512.size inb_S8x128x512_S1x128x512_6_0_0)) (View.ld (Val := Elt Ideal) (e' := .f32) c (Rect.unit (s := S8x128x512) (k0_off8 i 0#32) S1x1x512.size (k0_off8_inb i 0))) (View.ld (Val := Elt Ideal) (e' := .f32) q (Rect.unit (s := S8x128x512) (k0_off8 i 0#32) S1x1x512.size (k0_off8_inb i 0))) (View.ld (Val := Elt Ideal) (e' := .bf16) r (Rect.unit (s := S8x128x512) ![7, 0, 0] S1x128x512.size inb_S8x128x512_S1x128x512_7_0_0)) (View.ld (Val := Elt Ideal) (e' := .bf16) p (Rect.unit (s := S8x128x512) ![7, 0, 0] S1x128x512.size inb_S8x128x512_S1x128x512_7_0_0)) (ix2 b t)
      = tileBlk A r p c q (i 1).val (ix2 ⟨0 + b.val, by omega⟩ t) := by
  have hi : (i 1).val < 32 := (i 1).isLt
  rw [tileBlk_at A r p c q (i 1).val ⟨0 + b.val, by omega⟩ b ⟨4 * (i 1).val + 0, by omega⟩ t (by show (0 + b.val) % 128 = b.val; omega)
    (by show (4 * (i 1).val + (0 + b.val) / 128) % 128 = 4 * (i 1).val + 0; omega)]
  refine (group0_at A _ _ _ _ _ _ _ _ _ _ _ _ _ _ _ _ _ _ _ _ _ _ _ _ _ _ _ _ _ _ _ _ b t).trans (congrArg (fun x : EReal => A (ix2 ⟨0 + b.val, by omega⟩ t) * x) (gate8_congr ?_ ?_ ?_ ?_))
  · intro h; fin_cases h
    · exact ld_slab r _ _ 0 rfl b t
    · exact ld_slab r _ _ 1 rfl b t
    · exact ld_slab r _ _ 2 rfl b t
    · exact ld_slab r _ _ 3 rfl b t
    · exact ld_slab r _ _ 4 rfl b t
    · exact ld_slab r _ _ 5 rfl b t
    · exact ld_slab r _ _ 6 rfl b t
    · exact ld_slab r _ _ 7 rfl b t
  · intro h; fin_cases h
    · exact ld_slab p _ _ 0 rfl b t
    · exact ld_slab p _ _ 1 rfl b t
    · exact ld_slab p _ _ 2 rfl b t
    · exact ld_slab p _ _ 3 rfl b t
    · exact ld_slab p _ _ 4 rfl b t
    · exact ld_slab p _ _ 5 rfl b t
    · exact ld_slab p _ _ 6 rfl b t
    · exact ld_slab p _ _ 7 rfl b t
  · intro h; fin_cases h
    · exact ld_row c _ _ 0 ⟨4 * (i 1).val + 0, by omega⟩ (k0_off1_eq i 0) t
    · exact ld_row c _ _ 1 ⟨4 * (i 1).val + 0, by omega⟩ (k0_off2_eq i 0) t
    · exact ld_row c _ _ 2 ⟨4 * (i 1).val + 0, by omega⟩ (k0_off3_eq i 0) t
    · exact ld_row c _ _ 3 ⟨4 * (i 1).val + 0, by omega⟩ (k0_off4_eq i 0) t
    · exact ld_row c _ _ 4 ⟨4 * (i 1).val + 0, by omega⟩ (k0_off5_eq i 0) t
    · exact ld_row c _ _ 5 ⟨4 * (i 1).val + 0, by omega⟩ (k0_off6_eq i 0) t
    · exact ld_row c _ _ 6 ⟨4 * (i 1).val + 0, by omega⟩ (k0_off7_eq i 0) t
    · exact ld_row c _ _ 7 ⟨4 * (i 1).val + 0, by omega⟩ (k0_off8_eq i 0) t
  · intro h; fin_cases h
    · exact ld_row q _ _ 0 ⟨4 * (i 1).val + 0, by omega⟩ (k0_off1_eq i 0) t
    · exact ld_row q _ _ 1 ⟨4 * (i 1).val + 0, by omega⟩ (k0_off2_eq i 0) t
    · exact ld_row q _ _ 2 ⟨4 * (i 1).val + 0, by omega⟩ (k0_off3_eq i 0) t
    · exact ld_row q _ _ 3 ⟨4 * (i 1).val + 0, by omega⟩ (k0_off4_eq i 0) t
    · exact ld_row q _ _ 4 ⟨4 * (i 1).val + 0, by omega⟩ (k0_off5_eq i 0) t
    · exact ld_row q _ _ 5 ⟨4 * (i 1).val + 0, by omega⟩ (k0_off6_eq i 0) t
    · exact ld_row q _ _ 6 ⟨4 * (i 1).val + 0, by omega⟩ (k0_off7_eq i 0) t
    · exact ld_row q _ _ 7 ⟨4 * (i 1).val + 0, by omega⟩ (k0_off8_eq i 0) t

/-- The second 128 experts of the tile. -/
theorem piece1 (A : FVec Ideal S512x512 .f32) (r p : FVec Ideal S8x128x512 .bf16) (c q : FVec Ideal S8x128x512 .f32) (i : grid0.Coords) (b : Fin 128) (t : Fin 512) :
    k0_pay24 (F := Ideal) A (k0_pay22 (F := Ideal) (k0_pay20 (F := Ideal) (k0_pay18 (F := Ideal) (k0_pay17 (F := Ideal) (View.ld (Val := Elt Ideal) (e' := .f32) c (Rect.unit (s := S8x128x512) (k0_off1 i 1#32) S1x1x512.size (k0_off1_inb i 1)))) (View.ld (Val := Elt Ideal) (e' := .f32) q (Rect.unit (s := S8x128x512) (k0_off1 i 1#32) S1x1x512.size (k0_off1_inb i 1))) (View.ld (Val := Elt Ideal) (e' := .bf16) r (Rect.unit (s := S8x128x512) ![0, 0, 0] S1x128x512.size inb_S8x128x512_S1x128x512_0_0_0)) (View.ld (Val := Elt Ideal) (e' := .bf16) p (Rect.unit (s := S8x128x512) ![0, 0, 0] S1x128x512.size inb_S8x128x512_S1x128x512_0_0_0)) (View.ld (Val := Elt Ideal) (e' := .f32) c (Rect.unit (s := S8x128x512) (k0_off2 i 1#32) S1x1x512.size (k0_off2_inb i 1))) (View.ld (Val := Elt Ideal) (e' := .f32) q (Rect.unit (s := S8x128x512) (k0_off2 i 1#32) S1x1x512.size (k0_off2_inb i 1))) (View.ld (Val := Elt Ideal) (e' := .bf16) r (Rect.unit (s := S8x128x512) ![1, 0, 0] S1x128x512.size inb_S8x128x512_S1x128x512_1_0_0)) (View.ld (Val := Elt Ideal) (e' := .bf16) p (Rect.unit (s := S8x128x512) ![1, 0, 0] S1x128x512.size inb_S8x128x512_S1x128x512_1_0_0))) (k0_pay19 (F := Ideal) (View.ld (Val := Elt Ideal) (e' := .f32) c (Rect.unit (s := S8x128x512) (k0_off3 i 1#32) S1x1x512.size (k0_off3_inb i 1)))) (View.ld (Val := Elt Ideal) (e' := .f32) q (Rect.unit (s := S8x128x512) (k0_off3 i 1#32) S1x1x512.size (k0_off3_inb i 1))) (View.ld (Val := Elt Ideal) (e' := .bf16) r (Rect.unit (s := S8x128x512) ![2, 0, 0] S1x128x512.size inb_S8x128x512_S1x128x512_2_0_0)) (View.ld (Val := Elt Ideal) (e' := .bf16) p (Rect.unit (s := S8x128x512) ![2, 0, 0] S1x128x512.size inb_S8x128x512_S1x128x512_2_0_0)) (View.ld (Val := Elt Ideal) (e' := .f32) c (Rect.unit (s := S8x128x512) (k0_off4 i 1#32) S1x1x512.size (k0_off4_inb i 1))) (View.ld (Val := Elt Ideal) (e' := .f32) q (Rect.unit (s := S8x128x512) (k0_off4 i 1#32) S1x1x512.size (k0_off4_inb i 1))) (View.ld (Val := Elt Ideal) (e' := .bf16) r (Rect.unit (s := S8x128x512) ![3, 0, 0] S1x128x512.size inb_S8x128x512_S1x128x512_3_0_0)) (View.ld (Val := Elt Ideal) (e' := .bf16) p (Rect.unit (s := S8x128x512) ![3, 0, 0] S1x128x512.size inb_S8x128x512_S1x128x512_3_0_0))) (k0_pay21 (F := Ideal) (View.ld (Val := Elt Ideal) (e' := .f32) c (Rect.unit (s := S8x128x512) (k0_off5 i 1#32) S1x1x512.size (k0_off5_inb i 1)))) (View.ld (Val := Elt Ideal) (e' := .f32) q (Rect.unit (s := S8x128x512) (k0_off5 i 1#32) S1x1x512.size (k0_off5_inb i 1))) (View.ld (Val := Elt Ideal) (e' := .bf16) r (Rect.unit (s := S8x128x512) ![4, 0, 0] S1x128x512.size inb_S8x128x512_S1x128x512_4_0_0)) (View.ld (Val := Elt Ideal) (e' := .bf16) p (Rect.unit (s := S8x128x512) ![4, 0, 0] S1x128x512.size inb_S8x128x512_S1x128x512_4_0_0)) (View.ld (Val := Elt Ideal) (e' := .f32) c (Rect.unit (s := S8x128x512) (k0_off6 i 1#32) S1x1x512.size (k0_off6_inb i 1))) (View.ld (Val := Elt Ideal) (e' := .f32) q (Rect.unit (s := S8x128x512) (k0_off6 i 1#32) S1x1x512.size (k0_off6_inb i 1))) (View.ld (Val := Elt Ideal) (e' := .bf16) r (Rect.unit (s := S8x128x512) ![5, 0, 0] S1x128x512.size inb_S8x128x512_S1x128x512_5_0_0)) (View.ld (Val := Elt Ideal) (e' := .bf16) p (Rect.unit (s := S8x128x512) ![5, 0, 0] S1x128x512.size inb_S8x128x512_S1x128x512_5_0_0))) (k0_pay23 (F := Ideal) (View.ld (Val := Elt Ideal) (e' := .f32) c (Rect.unit (s := S8x128x512) (k0_off7 i 1#32) S1x1x512.size (k0_off7_inb i 1)))) (View.ld (Val := Elt Ideal) (e' := .f32) q (Rect.unit (s := S8x128x512) (k0_off7 i 1#32) S1x1x512.size (k0_off7_inb i 1))) (View.ld (Val := Elt Ideal) (e' := .bf16) r (Rect.unit (s := S8x128x512) ![6, 0, 0] S1x128x512.size inb_S8x128x512_S1x128x512_6_0_0)) (View.ld (Val := Elt Ideal) (e' := .bf16) p (Rect.unit (s := S8x128x512) ![6, 0, 0] S1x128x512.size inb_S8x128x512_S1x128x512_6_0_0)) (View.ld (Val := Elt Ideal) (e' := .f32) c (Rect.unit (s := S8x128x512) (k0_off8 i 1#32) S1x1x512.size (k0_off8_inb i 1))) (View.ld (Val := Elt Ideal) (e' := .f32) q (Rect.unit (s := S8x128x512) (k0_off8 i 1#32) S1x1x512.size (k0_off8_inb i 1))) (View.ld (Val := Elt Ideal) (e' := .bf16) r (Rect.unit (s := S8x128x512) ![7, 0, 0] S1x128x512.size inb_S8x128x512_S1x128x512_7_0_0)) (View.ld (Val := Elt Ideal) (e' := .bf16) p (Rect.unit (s := S8x128x512) ![7, 0, 0] S1x128x512.size inb_S8x128x512_S1x128x512_7_0_0)) (ix2 b t)
      = tileBlk A r p c q (i 1).val (ix2 ⟨128 + b.val, by omega⟩ t) := by
  have hi : (i 1).val < 32 := (i 1).isLt
  rw [tileBlk_at A r p c q (i 1).val ⟨128 + b.val, by omega⟩ b ⟨4 * (i 1).val + 1, by omega⟩ t (by show (128 + b.val) % 128 = b.val; omega)
    (by show (4 * (i 1).val + (128 + b.val) / 128) % 128 = 4 * (i 1).val + 1; omega)]
  refine (group1_at A _ _ _ _ _ _ _ _ _ _ _ _ _ _ _ _ _ _ _ _ _ _ _ _ _ _ _ _ _ _ _ _ b t).trans (congrArg (fun x : EReal => A (ix2 ⟨128 + b.val, by omega⟩ t) * x) (gate8_congr ?_ ?_ ?_ ?_))
  · intro h; fin_cases h
    · exact ld_slab r _ _ 0 rfl b t
    · exact ld_slab r _ _ 1 rfl b t
    · exact ld_slab r _ _ 2 rfl b t
    · exact ld_slab r _ _ 3 rfl b t
    · exact ld_slab r _ _ 4 rfl b t
    · exact ld_slab r _ _ 5 rfl b t
    · exact ld_slab r _ _ 6 rfl b t
    · exact ld_slab r _ _ 7 rfl b t
  · intro h; fin_cases h
    · exact ld_slab p _ _ 0 rfl b t
    · exact ld_slab p _ _ 1 rfl b t
    · exact ld_slab p _ _ 2 rfl b t
    · exact ld_slab p _ _ 3 rfl b t
    · exact ld_slab p _ _ 4 rfl b t
    · exact ld_slab p _ _ 5 rfl b t
    · exact ld_slab p _ _ 6 rfl b t
    · exact ld_slab p _ _ 7 rfl b t
  · intro h; fin_cases h
    · exact ld_row c _ _ 0 ⟨4 * (i 1).val + 1, by omega⟩ (k0_off1_eq i 1) t
    · exact ld_row c _ _ 1 ⟨4 * (i 1).val + 1, by omega⟩ (k0_off2_eq i 1) t
    · exact ld_row c _ _ 2 ⟨4 * (i 1).val + 1, by omega⟩ (k0_off3_eq i 1) t
    · exact ld_row c _ _ 3 ⟨4 * (i 1).val + 1, by omega⟩ (k0_off4_eq i 1) t
    · exact ld_row c _ _ 4 ⟨4 * (i 1).val + 1, by omega⟩ (k0_off5_eq i 1) t
    · exact ld_row c _ _ 5 ⟨4 * (i 1).val + 1, by omega⟩ (k0_off6_eq i 1) t
    · exact ld_row c _ _ 6 ⟨4 * (i 1).val + 1, by omega⟩ (k0_off7_eq i 1) t
    · exact ld_row c _ _ 7 ⟨4 * (i 1).val + 1, by omega⟩ (k0_off8_eq i 1) t
  · intro h; fin_cases h
    · exact ld_row q _ _ 0 ⟨4 * (i 1).val + 1, by omega⟩ (k0_off1_eq i 1) t
    · exact ld_row q _ _ 1 ⟨4 * (i 1).val + 1, by omega⟩ (k0_off2_eq i 1) t
    · exact ld_row q _ _ 2 ⟨4 * (i 1).val + 1, by omega⟩ (k0_off3_eq i 1) t
    · exact ld_row q _ _ 3 ⟨4 * (i 1).val + 1, by omega⟩ (k0_off4_eq i 1) t
    · exact ld_row q _ _ 4 ⟨4 * (i 1).val + 1, by omega⟩ (k0_off5_eq i 1) t
    · exact ld_row q _ _ 5 ⟨4 * (i 1).val + 1, by omega⟩ (k0_off6_eq i 1) t
    · exact ld_row q _ _ 6 ⟨4 * (i 1).val + 1, by omega⟩ (k0_off7_eq i 1) t
    · exact ld_row q _ _ 7 ⟨4 * (i 1).val + 1, by omega⟩ (k0_off8_eq i 1) t

/-- The third 128 experts of the tile. -/
theorem piece2 (A : FVec Ideal S512x512 .f32) (r p : FVec Ideal S8x128x512 .bf16) (c q : FVec Ideal S8x128x512 .f32) (i : grid0.Coords) (b : Fin 128) (t : Fin 512) :
    k0_pay37 (F := Ideal) A (k0_pay34 (F := Ideal) (k0_pay31 (F := Ideal) (k0_pay28 (F := Ideal) (k0_pay25 (F := Ideal) (View.ld (Val := Elt Ideal) (e' := .f32) c (Rect.unit (s := S8x128x512) (k0_off1 i 2#32) S1x1x512.size (k0_off1_inb i 2))) (View.ld (Val := Elt Ideal) (e' := .f32) q (Rect.unit (s := S8x128x512) (k0_off1 i 2#32) S1x1x512.size (k0_off1_inb i 2))) (View.ld (Val := Elt Ideal) (e' := .bf16) r (Rect.unit (s := S8x128x512) ![0, 0, 0] S1x128x512.size inb_S8x128x512_S1x128x512_0_0_0)) (View.ld (Val := Elt Ideal) (e' := .bf16) p (Rect.unit (s := S8x128x512) ![0, 0, 0] S1x128x512.size inb_S8x128x512_S1x128x512_0_0_0))) (k0_pay26 (F := Ideal) (View.ld (Val := Elt Ideal) (e' := .f32) q (Rect.unit (s := S8x128x512) (k0_off2 i 2#32) S1x1x512.size (k0_off2_inb i 2)))) (k0_pay27 (F := Ideal) (View.ld (Val := Elt Ideal) (e' := .f32) c (Rect.unit (s := S8x128x512) (k0_off2 i 2#32) S1x1x512.size (k0_off2_inb i 2))) (View.ld (Val := Elt Ideal) (e' := .bf16) r (Rect.unit (s := S8x128x512) ![1, 0, 0] S1x128x512.size inb_S8x128x512_S1x128x512_1_0_0)) (View.ld (Val := Elt Ideal) (e' := .bf16) p (Rect.unit (s := S8x128x512) ![1, 0, 0] S1x128x512.size inb_S8x128x512_S1x128x512_1_0_0))) (View.ld (Val := Elt Ideal) (e' := .f32) c (Rect.unit (s := S8x128x512) (k0_off3 i 2#32) S1x1x512.size (k0_off3_inb i 2))) (View.ld (Val := Elt Ideal) (e' := .f32) q (Rect.unit (s := S8x128x512) (k0_off3 i 2#32) S1x1x512.size (k0_off3_inb i 2))) (View.ld (Val := Elt Ideal) (e' := .bf16) r (Rect.unit (s := S8x128x512) ![2, 0, 0] S1x128x512.size inb_S8x128x512_S1x128x512_2_0_0)) (View.ld (Val := Elt Ideal) (e' := .bf16) p (Rect.unit (s := S8x128x512) ![2, 0, 0] S1x128x512.size inb_S8x128x512_S1x128x512_2_0_0))) (k0_pay29 (F := Ideal) (View.ld (Val := Elt Ideal) (e' := .f32) q (Rect.unit (s := S8x128x512) (k0_off4 i 2#32) S1x1x512.size (k0_off4_inb i 2)))) (k0_pay30 (F := Ideal) (View.ld (Val := Elt Ideal) (e' := .f32) c (Rect.unit (s := S8x128x512) (k0_off4 i 2#32) S1x1x512.size (k0_off4_inb i 2))) (View.ld (Val := Elt Ideal) (e' := .bf16) r (Rect.unit (s := S8x128x512) ![3, 0, 0] S1x128x512.size inb_S8x128x512_S1x128x512_3_0_0)) (View.ld (Val := Elt Ideal) (e' := .bf16) p (Rect.unit (s := S8x128x512) ![3, 0, 0] S1x128x512.size inb_S8x128x512_S1x128x512_3_0_0))) (View.ld (Val := Elt Ideal) (e' := .f32) c (Rect.unit (s := S8x128x512) (k0_off5 i 2#32) S1x1x512.size (k0_off5_inb i 2))) (View.ld (Val := Elt Ideal) (e' := .f32) q (Rect.unit (s := S8x128x512) (k0_off5 i 2#32) S1x1x512.size (k0_off5_inb i 2))) (View.ld (Val := Elt Ideal) (e' := .bf16) r (Rect.unit (s := S8x128x512) ![4, 0, 0] S1x128x512.size inb_S8x128x512_S1x128x512_4_0_0)) (View.ld (Val := Elt Ideal) (e' := .bf16) p (Rect.unit (s := S8x128x512) ![4, 0, 0] S1x128x512.size inb_S8x128x512_S1x128x512_4_0_0))) (k0_pay32 (F := Ideal) (View.ld (Val := Elt Ideal) (e' := .f32) q (Rect.unit (s := S8x128x512) (k0_off6 i 2#32) S1x1x512.size (k0_off6_inb i 2)))) (k0_pay33 (F := Ideal) (View.ld (Val := Elt Ideal) (e' := .f32) c (Rect.unit (s := S8x128x512) (k0_off6 i 2#32) S1x1x512.size (k0_off6_inb i 2))) (View.ld (Val := Elt Ideal) (e' := .bf16) r (Rect.unit (s := S8x128x512) ![5, 0, 0] S1x128x512.size inb_S8x128x512_S1x128x512_5_0_0)) (View.ld (Val := Elt Ideal) (e' := .bf16) p (Rect.unit (s := S8x128x512) ![5, 0, 0] S1x128x512.size inb_S8x128x512_S1x128x512_5_0_0))) (View.ld (Val := Elt Ideal) (e' := .f32) c (Rect.unit (s := S8x128x512) (k0_off7 i 2#32) S1x1x512.size (k0_off7_inb i 2))) (View.ld (Val := Elt Ideal) (e' := .f32) q (Rect.unit (s := S8x128x512) (k0_off7 i 2#32) S1x1x512.size (k0_off7_inb i 2))) (View.ld (Val := Elt Ideal) (e' := .bf16) r (Rect.unit (s := S8x128x512) ![6, 0, 0] S1x128x512.size inb_S8x128x512_S1x128x512_6_0_0)) (View.ld (Val := Elt Ideal) (e' := .bf16) p (Rect.unit (s := S8x128x512) ![6, 0, 0] S1x128x512.size inb_S8x128x512_S1x128x512_6_0_0))) (k0_pay35 (F := Ideal) (View.ld (Val := Elt Ideal) (e' := .f32) q (Rect.unit (s := S8x128x512) (k0_off8 i 2#32) S1x1x512.size (k0_off8_inb i 2)))) (k0_pay36 (F := Ideal) (View.ld (Val := Elt Ideal) (e' := .f32) c (Rect.unit (s := S8x128x512) (k0_off8 i 2#32) S1x1x512.size (k0_off8_inb i 2))) (View.ld (Val := Elt Ideal) (e' := .bf16) r (Rect.unit (s := S8x128x512) ![7, 0, 0] S1x128x512.size inb_S8x128x512_S1x128x512_7_0_0)) (View.ld (Val := Elt Ideal) (e' := .bf16) p (Rect.unit (s := S8x128x512) ![7, 0, 0] S1x128x512.size inb_S8x128x512_S1x128x512_7_0_0))) (ix2 b t)
      = tileBlk A r p c q (i 1).val (ix2 ⟨256 + b.val, by omega⟩ t) := by
  have hi : (i 1).val < 32 := (i 1).isLt
  rw [tileBlk_at A r p c q (i 1).val ⟨256 + b.val, by omega⟩ b ⟨4 * (i 1).val + 2, by omega⟩ t (by show (256 + b.val) % 128 = b.val; omega)
    (by show (4 * (i 1).val + (256 + b.val) / 128) % 128 = 4 * (i 1).val + 2; omega)]
  refine (group2_at A _ _ _ _ _ _ _ _ _ _ _ _ _ _ _ _ _ _ _ _ _ _ _ _ _ _ _ _ _ _ _ _ b t).trans (congrArg (fun x : EReal => A (ix2 ⟨256 + b.val, by omega⟩ t) * x) (gate8_congr ?_ ?_ ?_ ?_))
  · intro h; fin_cases h
    · exact ld_slab r _ _ 0 rfl b t
    · exact ld_slab r _ _ 1 rfl b t
    · exact ld_slab r _ _ 2 rfl b t
    · exact ld_slab r _ _ 3 rfl b t
    · exact ld_slab r _ _ 4 rfl b t
    · exact ld_slab r _ _ 5 rfl b t
    · exact ld_slab r _ _ 6 rfl b t
    · exact ld_slab r _ _ 7 rfl b t
  · intro h; fin_cases h
    · exact ld_slab p _ _ 0 rfl b t
    · exact ld_slab p _ _ 1 rfl b t
    · exact ld_slab p _ _ 2 rfl b t
    · exact ld_slab p _ _ 3 rfl b t
    · exact ld_slab p _ _ 4 rfl b t
    · exact ld_slab p _ _ 5 rfl b t
    · exact ld_slab p _ _ 6 rfl b t
    · exact ld_slab p _ _ 7 rfl b t
  · intro h; fin_cases h
    · exact ld_row c _ _ 0 ⟨4 * (i 1).val + 2, by omega⟩ (k0_off1_eq i 2) t
    · exact ld_row c _ _ 1 ⟨4 * (i 1).val + 2, by omega⟩ (k0_off2_eq i 2) t
    · exact ld_row c _ _ 2 ⟨4 * (i 1).val + 2, by omega⟩ (k0_off3_eq i 2) t
    · exact ld_row c _ _ 3 ⟨4 * (i 1).val + 2, by omega⟩ (k0_off4_eq i 2) t
    · exact ld_row c _ _ 4 ⟨4 * (i 1).val + 2, by omega⟩ (k0_off5_eq i 2) t
    · exact ld_row c _ _ 5 ⟨4 * (i 1).val + 2, by omega⟩ (k0_off6_eq i 2) t
    · exact ld_row c _ _ 6 ⟨4 * (i 1).val + 2, by omega⟩ (k0_off7_eq i 2) t
    · exact ld_row c _ _ 7 ⟨4 * (i 1).val + 2, by omega⟩ (k0_off8_eq i 2) t
  · intro h; fin_cases h
    · exact ld_row q _ _ 0 ⟨4 * (i 1).val + 2, by omega⟩ (k0_off1_eq i 2) t
    · exact ld_row q _ _ 1 ⟨4 * (i 1).val + 2, by omega⟩ (k0_off2_eq i 2) t
    · exact ld_row q _ _ 2 ⟨4 * (i 1).val + 2, by omega⟩ (k0_off3_eq i 2) t
    · exact ld_row q _ _ 3 ⟨4 * (i 1).val + 2, by omega⟩ (k0_off4_eq i 2) t
    · exact ld_row q _ _ 4 ⟨4 * (i 1).val + 2, by omega⟩ (k0_off5_eq i 2) t
    · exact ld_row q _ _ 5 ⟨4 * (i 1).val + 2, by omega⟩ (k0_off6_eq i 2) t
    · exact ld_row q _ _ 6 ⟨4 * (i 1).val + 2, by omega⟩ (k0_off7_eq i 2) t
    · exact ld_row q _ _ 7 ⟨4 * (i 1).val + 2, by omega⟩ (k0_off8_eq i 2) t

/-- The fourth 128 experts of the tile. -/
theorem piece3 (A : FVec Ideal S512x512 .f32) (r p : FVec Ideal S8x128x512 .bf16) (c q : FVec Ideal S8x128x512 .f32) (i : grid0.Coords) (b : Fin 128) (t : Fin 512) :
    k0_pay50 (F := Ideal) A (k0_pay47 (F := Ideal) (k0_pay44 (F := Ideal) (k0_pay41 (F := Ideal) (k0_pay38 (F := Ideal) (View.ld (Val := Elt Ideal) (e' := .f32) c (Rect.unit (s := S8x128x512) (k0_off1 i 3#32) S1x1x512.size (k0_off1_inb i 3))) (View.ld (Val := Elt Ideal) (e' := .f32) q (Rect.unit (s := S8x128x512) (k0_off1 i 3#32) S1x1x512.size (k0_off1_inb i 3))) (View.ld (Val := Elt Ideal) (e' := .bf16) r (Rect.unit (s := S8x128x512) ![0, 0, 0] S1x128x512.size inb_S8x128x512_S1x128x512_0_0_0)) (View.ld (Val := Elt Ideal) (e' := .bf16) p (Rect.unit (s := S8x128x512) ![0, 0, 0] S1x128x512.size inb_S8x128x512_S1x128x512_0_0_0))) (k0_pay39 (F := Ideal) (View.ld (Val := Elt Ideal) (e' := .f32) c (Rect.unit (s := S8x128x512) (k0_off2 i 3#32) S1x1x512.size (k0_off2_inb i 3)))) (k0_pay40 (F := Ideal) (View.ld (Val := Elt Ideal) (e' := .f32) q (Rect.unit (s := S8x128x512) (k0_off2 i 3#32) S1x1x512.size (k0_off2_inb i 3)))) (View.ld (Val := Elt Ideal) (e' := .bf16) r (Rect.unit (s := S8x128x512) ![1, 0, 0] S1x128x512.size inb_S8x128x512_S1x128x512_1_0_0)) (View.ld (Val := Elt Ideal) (e' := .bf16) p (Rect.unit (s := S8x128x512) ![1, 0, 0] S1x128x512.size inb_S8x128x512_S1x128x512_1_0_0)) (View.ld (Val := Elt Ideal) (e' := .f32) c (Rect.unit (s := S8x128x512) (k0_off3 i 3#32) S1x1x512.size (k0_off3_inb i 3))) (View.ld (Val := Elt Ideal) (e' := .f32) q (Rect.unit (s := S8x128x512) (k0_off3 i 3#32) S1x1x512.size (k0_off3_inb i 3))) (View.ld (Val := Elt Ideal) (e' := .bf16) r (Rect.unit (s := S8x128x512) ![2, 0, 0] S1x128x512.size inb_S8x128x512_S1x128x512_2_0_0)) (View.ld (Val := Elt Ideal) (e' := .bf16) p (Rect.unit (s := S8x128x512) ![2, 0, 0] S1x128x512.size inb_S8x128x512_S1x128x512_2_0_0))) (k0_pay42 (F := Ideal) (View.ld (Val := Elt Ideal) (e' := .f32) c (Rect.unit (s := S8x128x512) (k0_off4 i 3#32) S1x1x512.size (k0_off4_inb i 3)))) (k0_pay43 (F := Ideal) (View.ld (Val := Elt Ideal) (e' := .f32) q (Rect.unit (s := S8x128x512) (k0_off4 i 3#32) S1x1x512.size (k0_off4_inb i 3)))) (View.ld (Val := Elt Ideal) (e' := .bf16) r (Rect.unit (s := S8x128x512) ![3, 0, 0] S1x128x512.size inb_S8x128x512_S1x128x512_3_0_0)) (View.ld (Val := Elt Ideal) (e' := .bf16) p (Rect.unit (s := S8x128x512) ![3, 0, 0] S1x128x512.size inb_S8x128x512_S1x128x512_3_0_0)) (View.ld (Val := Elt Ideal) (e' := .f32) c (Rect.unit (s := S8x128x512) (k0_off5 i 3#32) S1x1x512.size (k0_off5_inb i 3))) (View.ld (Val := Elt Ideal) (e' := .f32) q (Rect.unit (s := S8x128x512) (k0_off5 i 3#32) S1x1x512.size (k0_off5_inb i 3))) (View.ld (Val := Elt Ideal) (e' := .bf16) r (Rect.unit (s := S8x128x512) ![4, 0, 0] S1x128x512.size inb_S8x128x512_S1x128x512_4_0_0)) (View.ld (Val := Elt Ideal) (e' := .bf16) p (Rect.unit (s := S8x128x512) ![4, 0, 0] S1x128x512.size inb_S8x128x512_S1x128x512_4_0_0))) (k0_pay45 (F := Ideal) (View.ld (Val := Elt Ideal) (e' := .f32) c (Rect.unit (s := S8x128x512) (k0_off6 i 3#32) S1x1x512.size (k0_off6_inb i 3)))) (k0_pay46 (F := Ideal) (View.ld (Val := Elt Ideal) (e' := .f32) q (Rect.unit (s := S8x128x512) (k0_off6 i 3#32) S1x1x512.size (k0_off6_inb i 3)))) (View.ld (Val := Elt Ideal) (e' := .bf16) r (Rect.unit (s := S8x128x512) ![5, 0, 0] S1x128x512.size inb_S8x128x512_S1x128x512_5_0_0)) (View.ld (Val := Elt Ideal) (e' := .bf16) p (Rect.unit (s := S8x128x512) ![5, 0, 0] S1x128x512.size inb_S8x128x512_S1x128x512_5_0_0)) (View.ld (Val := Elt Ideal) (e' := .f32) c (Rect.unit (s := S8x128x512) (k0_off7 i 3#32) S1x1x512.size (k0_off7_inb i 3))) (View.ld (Val := Elt Ideal) (e' := .f32) q (Rect.unit (s := S8x128x512) (k0_off7 i 3#32) S1x1x512.size (k0_off7_inb i 3))) (View.ld (Val := Elt Ideal) (e' := .bf16) r (Rect.unit (s := S8x128x512) ![6, 0, 0] S1x128x512.size inb_S8x128x512_S1x128x512_6_0_0)) (View.ld (Val := Elt Ideal) (e' := .bf16) p (Rect.unit (s := S8x128x512) ![6, 0, 0] S1x128x512.size inb_S8x128x512_S1x128x512_6_0_0))) (k0_pay48 (F := Ideal) (View.ld (Val := Elt Ideal) (e' := .f32) c (Rect.unit (s := S8x128x512) (k0_off8 i 3#32) S1x1x512.size (k0_off8_inb i 3)))) (k0_pay49 (F := Ideal) (View.ld (Val := Elt Ideal) (e' := .f32) q (Rect.unit (s := S8x128x512) (k0_off8 i 3#32) S1x1x512.size (k0_off8_inb i 3)))) (View.ld (Val := Elt Ideal) (e' := .bf16) r (Rect.unit (s := S8x128x512) ![7, 0, 0] S1x128x512.size inb_S8x128x512_S1x128x512_7_0_0)) (View.ld (Val := Elt Ideal) (e' := .bf16) p (Rect.unit (s := S8x128x512) ![7, 0, 0] S1x128x512.size inb_S8x128x512_S1x128x512_7_0_0)) (ix2 b t)
      = tileBlk A r p c q (i 1).val (ix2 ⟨384 + b.val, by omega⟩ t) := by
  have hi : (i 1).val < 32 := (i 1).isLt
  rw [tileBlk_at A r p c q (i 1).val ⟨384 + b.val, by omega⟩ b ⟨4 * (i 1).val + 3, by omega⟩ t (by show (384 + b.val) % 128 = b.val; omega)
    (by show (4 * (i 1).val + (384 + b.val) / 128) % 128 = 4 * (i 1).val + 3; omega)]
  refine (group3_at A _ _ _ _ _ _ _ _ _ _ _ _ _ _ _ _ _ _ _ _ _ _ _ _ _ _ _ _ _ _ _ _ b t).trans (congrArg (fun x : EReal => A (ix2 ⟨384 + b.val, by omega⟩ t) * x) (gate8_congr ?_ ?_ ?_ ?_))
  · intro h; fin_cases h
    · exact ld_slab r _ _ 0 rfl b t
    · exact ld_slab r _ _ 1 rfl b t
    · exact ld_slab r _ _ 2 rfl b t
    · exact ld_slab r _ _ 3 rfl b t
    · exact ld_slab r _ _ 4 rfl b t
    · exact ld_slab r _ _ 5 rfl b t
    · exact ld_slab r _ _ 6 rfl b t
    · exact ld_slab r _ _ 7 rfl b t
  · intro h; fin_cases h
    · exact ld_slab p _ _ 0 rfl b t
    · exact ld_slab p _ _ 1 rfl b t
    · exact ld_slab p _ _ 2 rfl b t
    · exact ld_slab p _ _ 3 rfl b t
    · exact ld_slab p _ _ 4 rfl b t
    · exact ld_slab p _ _ 5 rfl b t
    · exact ld_slab p _ _ 6 rfl b t
    · exact ld_slab p _ _ 7 rfl b t
  · intro h; fin_cases h
    · exact ld_row c _ _ 0 ⟨4 * (i 1).val + 3, by omega⟩ (k0_off1_eq i 3) t
    · exact ld_row c _ _ 1 ⟨4 * (i 1).val + 3, by omega⟩ (k0_off2_eq i 3) t
    · exact ld_row c _ _ 2 ⟨4 * (i 1).val + 3, by omega⟩ (k0_off3_eq i 3) t
    · exact ld_row c _ _ 3 ⟨4 * (i 1).val + 3, by omega⟩ (k0_off4_eq i 3) t
    · exact ld_row c _ _ 4 ⟨4 * (i 1).val + 3, by omega⟩ (k0_off5_eq i 3) t
    · exact ld_row c _ _ 5 ⟨4 * (i 1).val + 3, by omega⟩ (k0_off6_eq i 3) t
    · exact ld_row c _ _ 6 ⟨4 * (i 1).val + 3, by omega⟩ (k0_off7_eq i 3) t
    · exact ld_row c _ _ 7 ⟨4 * (i 1).val + 3, by omega⟩ (k0_off8_eq i 3) t
  · intro h; fin_cases h
    · exact ld_row q _ _ 0 ⟨4 * (i 1).val + 3, by omega⟩ (k0_off1_eq i 3) t
    · exact ld_row q _ _ 1 ⟨4 * (i 1).val + 3, by omega⟩ (k0_off2_eq i 3) t
    · exact ld_row q _ _ 2 ⟨4 * (i 1).val + 3, by omega⟩ (k0_off3_eq i 3) t
    · exact ld_row q _ _ 3 ⟨4 * (i 1).val + 3, by omega⟩ (k0_off4_eq i 3) t
    · exact ld_row q _ _ 4 ⟨4 * (i 1).val + 3, by omega⟩ (k0_off5_eq i 3) t
    · exact ld_row q _ _ 5 ⟨4 * (i 1).val + 3, by omega⟩ (k0_off6_eq i 3) t
    · exact ld_row q _ _ 6 ⟨4 * (i 1).val + 3, by omega⟩ (k0_off7_eq i 3) t
    · exact ld_row q _ _ 7 ⟨4 * (i 1).val + 3, by omega⟩ (k0_off8_eq i 3) t

/-- Four stores of 128 rows each, read back whole: each entry is the entry of the store that holds it. -/
theorem stored_at (w3 w2 w1 w0 : FVec Ideal S128x512 .bf16) (G : FVec Ideal S512x512 .bf16)
    (h3 : ∀ (b : Fin 128) (t : Fin 512), w3 (ix2 b t) = G (ix2 ⟨384 + b.val, by omega⟩ t))
    (h2 : ∀ (b : Fin 128) (t : Fin 512), w2 (ix2 b t) = G (ix2 ⟨256 + b.val, by omega⟩ t))
    (h1 : ∀ (b : Fin 128) (t : Fin 512), w1 (ix2 b t) = G (ix2 ⟨128 + b.val, by omega⟩ t))
    (h0 : ∀ (b : Fin 128) (t : Fin 512), w0 (ix2 b t) = G (ix2 ⟨0 + b.val, by omega⟩ t))
    (E : Fin 512) (t : Fin 512) :
    (View.whole cc0_scratch1).readCov (Val := Elt Ideal) [⟨Rect.unit (s := S512x512) ![384, 0] S128x512.size inb_S512x512_S128x512_384_0, w3⟩, ⟨Rect.unit (s := S512x512) ![256, 0] S128x512.size inb_S512x512_S128x512_256_0, w2⟩, ⟨Rect.unit (s := S512x512) ![128, 0] S128x512.size inb_S512x512_S128x512_128_0, w1⟩, ⟨Rect.unit (s := S512x512) ![0, 0] S128x512.size inb_S512x512_S128x512_0_0, w0⟩]
      (Rect.unit (s := S512x512) ![0, 0] S512x512.size inb_S512x512_S512x512_0_0).toLoadRect (ix2 E t) = G (ix2 E t) := by
  rw [View.readCov_eq_canon']
  have he : (Rect.unit (s := S512x512) ![0, 0] S512x512.size inb_S512x512_S512x512_0_0).toLoadRect.idx (ix2 E t) = ix2 E t :=
    funext fun a => Fin.ext (by fin_cases a <;> simp [LoadRect.idx, Rect.toLoadRect, Rect.unit, ix2])
  show View.canon _ ((Rect.unit (s := S512x512) ![0, 0] S512x512.size inb_S512x512_S512x512_0_0).toLoadRect.idx (ix2 E t)) = _
  rw [he]
  have h := View.canon_append_of_piecesOf (Val := Elt Ideal) (e := .bf16) G [] [⟨Rect.unit (s := S512x512) ![384, 0] S128x512.size inb_S512x512_S128x512_384_0, w3⟩, ⟨Rect.unit (s := S512x512) ![256, 0] S128x512.size inb_S512x512_S128x512_256_0, w2⟩, ⟨Rect.unit (s := S512x512) ![128, 0] S128x512.size inb_S512x512_S128x512_128_0, w1⟩, ⟨Rect.unit (s := S512x512) ![0, 0] S128x512.size inb_S512x512_S128x512_0_0, w0⟩]
    ⟨fun x => ?_, fun x => ?_, fun x => ?_, fun x => ?_, trivial⟩ (ix2 E t)
    (View.cover_of_tiledL (s := S512x512) _ S128x512.size (by sl_kernel_rfl) (ix2 E t))
  · exact h
  · obtain ⟨b, s, rfl⟩ : ∃ (b : Fin 128) (s : Fin 512), x = ix2 b s := ⟨x 0, x 1, funext fun a => by fin_cases a <;> rfl⟩
    exact (h3 b s).trans (congrArg G (funext fun a => Fin.ext (by fin_cases a <;> simp [Rect.emb, LoadRect.idx, Rect.unit, ix2])))
  · obtain ⟨b, s, rfl⟩ : ∃ (b : Fin 128) (s : Fin 512), x = ix2 b s := ⟨x 0, x 1, funext fun a => by fin_cases a <;> rfl⟩
    exact (h2 b s).trans (congrArg G (funext fun a => Fin.ext (by fin_cases a <;> simp [Rect.emb, LoadRect.idx, Rect.unit, ix2])))
  · obtain ⟨b, s, rfl⟩ : ∃ (b : Fin 128) (s : Fin 512), x = ix2 b s := ⟨x 0, x 1, funext fun a => by fin_cases a <;> rfl⟩
    exact (h1 b s).trans (congrArg G (funext fun a => Fin.ext (by fin_cases a <;> simp [Rect.emb, LoadRect.idx, Rect.unit, ix2])))
  · obtain ⟨b, s, rfl⟩ : ∃ (b : Fin 128) (s : Fin 512), x = ix2 b s := ⟨x 0, x 1, funext fun a => by fin_cases a <;> rfl⟩
    exact (h0 b s).trans (congrArg G (funext fun a => Fin.ext (by fin_cases a <;> simp [Rect.emb, LoadRect.idx, Rect.unit, ix2])))

end Cert.MixIdeal.Val

end
-- ==== Proof.Mix.Arr.lean ====
/- The array the expert mixing leaves, entry by entry, from the arrays it finds. -/
module

public import proofs.«01_k».proof.Proof.Mix.Tile

@[expose] public section

set_option maxRecDepth 16384

noncomputable section

namespace Cert.MixIdeal.Val

open Idealize.ShloMosaic Idealize.ShloMosaic.TcCoe Idealize.SL.Sem
open Cert.MixIdeal Cert.MixIdeal.Gen Cert.LayerMath

variable (m : (ℓ : Loc nD τ sig) → Buf (Elt Ideal) ℓ)

theorem pay2_at (x : FVec Ideal S512x2048 .f32) (g : FVec Ideal S1x1x2048 .f32) (a : FVec Ideal S2048x512 .f32) (n : FVec Ideal S1x2048 .f32)
    (r : Fin 512) (k : Fin 2048) :
    k0_pay2 (F := Ideal) x g a n (ix2 r k) = normed (fun j => x (ix2 r j) + g (ix3 0 0 j) * a (ix2 j r)) (fun j => n (ix2 0 j)) k := by
  unfold normed
  pointwise [k0_pay2]

/-- Which block of each window a point meets. -/
theorem idxs : ∀ t : Fin cfg0.N, win0_0.index t = ![0, t.val / 32] ∧ win0_1.index t = ![t.val % 32, 0] ∧ win0_2.index t = ![0, t.val % 32]
    ∧ win0_3.index t = ![0, 0, t.val / 32] ∧ win0_4.index t = ![0, 0, t.val / 32] ∧ win0_5.index t = ![0, 0, t.val / 32]
    ∧ win0_6.index t = ![0, 0, t.val / 32] ∧ win0_7.index t = ![t.val / 32, 0] ∧ win0_8.index t = ![t.val / 256, 0, 0]
    ∧ win0_9.index t = ![0, 0] ∧ win0_10.index t = ![t.val / 32, 0] ∧ (grid0.coords t 1).val = t.val % 32 ∧ t.val < 2048 :=
  (by decide +kernel : ∀ t : Fin grid0.N, _)

theorem iblk_h (c : Dev nD) (t : Fin cfg0.N) (j : Fin 2048) (s : Fin 512) (T : Fin 32768) (hT : T.val = 512 * (t.val / 32) + s.val) :
    iblk m c 0 t (ix2 j s) = V m c main_arg0 (ix2 j T) := by
  obtain ⟨i, -⟩ := idxs t
  blk_ext [iblk, i, hT]

theorem iblk_u (c : Dev nD) (t : Fin cfg0.N) (e : Fin 512) (j : Fin 2048) (E : Fin 16384) (hE : E.val = 512 * (t.val % 32) + e.val) :
    iblk m c 1 t (ix2 e j) = V m c main_v1 (ix2 E j) := by
  obtain ⟨-, i, -⟩ := idxs t
  blk_ext [iblk, i, hE]

theorem iblk_v (c : Dev nD) (t : Fin cfg0.N) (k : Fin 2048) (e : Fin 512) (E : Fin 16384) (hE : E.val = 512 * (t.val % 32) + e.val) :
    iblk m c 2 t (ix2 k e) = V m c main_v4 (ix2 k E) := by
  obtain ⟨-, -, i, -⟩ := idxs t
  blk_ext [iblk, i, hE]

theorem iblk_r (c : Dev nD) (t : Fin cfg0.N) (a : Fin 8) (b : Fin 128) (s : Fin 512) (T : Fin 32768) (hT : T.val = 512 * (t.val / 32) + s.val) :
    iblk m c 3 t (ix3 a b s) = V m c main_arg3 (ix3 a b T) := by
  obtain ⟨-, -, -, i, -⟩ := idxs t
  blk_ext [iblk, i, hT]

theorem iblk_p (c : Dev nD) (t : Fin cfg0.N) (a : Fin 8) (b : Fin 128) (s : Fin 512) (T : Fin 32768) (hT : T.val = 512 * (t.val / 32) + s.val) :
    iblk m c 4 t (ix3 a b s) = V m c main_arg4 (ix3 a b T) := by
  obtain ⟨-, -, -, -, i, -⟩ := idxs t
  blk_ext [iblk, i, hT]

theorem iblk_c (c : Dev nD) (t : Fin cfg0.N) (a : Fin 8) (b : Fin 128) (s : Fin 512) (T : Fin 32768) (hT : T.val = 512 * (t.val / 32) + s.val) :
    iblk m c 5 t (ix3 a b s) = V m c main_arg5 (ix3 a b T) := by
  obtain ⟨-, -, -, -, -, i, -⟩ := idxs t
  blk_ext [iblk, i, hT]

theorem iblk_q (c : Dev nD) (t : Fin cfg0.N) (a : Fin 8) (b : Fin 128) (s : Fin 512) (T : Fin 32768) (hT : T.val = 512 * (t.val / 32) + s.val) :
    iblk m c 6 t (ix3 a b s) = V m c main_arg6 (ix3 a b T) := by
  obtain ⟨-, -, -, -, -, -, i, -⟩ := idxs t
  blk_ext [iblk, i, hT]

theorem iblk_x (c : Dev nD) (t : Fin cfg0.N) (s : Fin 512) (k : Fin 2048) (T : Fin 32768) (hT : T.val = 512 * (t.val / 32) + s.val) :
    iblk m c 7 t (ix2 s k) = V m c main_arg7 (ix2 T k) := by
  obtain ⟨-, -, -, -, -, -, -, i, -⟩ := idxs t
  blk_ext [iblk, i, hT]

theorem iblk_g (c : Dev nD) (t : Fin cfg0.N) (k : Fin 2048) (b : Fin 8) (hb : b.val = t.val / 256) :
    iblk m c 8 t (ix3 0 0 k) = V m c main_v5 (ix3 b 0 k) := by
  obtain ⟨-, -, -, -, -, -, -, -, i, -⟩ := idxs t
  blk_ext [iblk, i, hb]

theorem iblk_n (c : Dev nD) (t : Fin cfg0.N) (k : Fin 2048)  :
    iblk m c 9 t (ix2 0 k) = V m c main_v6 (ix2 0 k) := by
  obtain ⟨-, -, -, -, -, -, -, -, -, i, -⟩ := idxs t
  blk_ext [iblk, i]

/-- What expert `E` gives to token `t`. -/
def shareV (H : FVec Ideal S2048x32768 .bf16) (U : FVec Ideal S16384x2048 .bf16) (R P : FVec Ideal S8x128x32768 .bf16) (C Q : FVec Ideal S8x128x32768 .f32)
    (t : Fin 32768) (E : Fin 16384) : EReal :=
  share (fun j => H (ix2 j t)) (fun E j => U (ix2 E j)) (fun a b => R (ix3 a b t)) (fun a b => P (ix3 a b t))
    (fun a b => C (ix3 a b t)) (fun a b => Q (ix3 a b t)) E

/-- That, times expert `E`'s value in column `k`. -/
def termV (H : FVec Ideal S2048x32768 .bf16) (U : FVec Ideal S16384x2048 .bf16) (R P : FVec Ideal S8x128x32768 .bf16) (C Q : FVec Ideal S8x128x32768 .f32)
    (W : FVec Ideal S2048x16384 .bf16) (k : Fin 2048) (t : Fin 32768) (E : Fin 16384) : EReal :=
  W (ix2 k E) * shareV H U R P C Q t E

/-- What the experts of a tile give to a token, as the tile's block holds it. -/
theorem tile_share (c : Dev nD) (t : Fin cfg0.N) (e : Fin 512) (s : Fin 512) (T : Fin 32768) (hT : T.val = 512 * (t.val / 32) + s.val) (E : Fin 16384)
    (hE : E.val = 512 * (t.val % 32) + e.val) :
    (tileBlk (k0_pay4 (F := Ideal) (iblk m c 1 t) (iblk m c 0 t)) (iblk m c 3 t) (iblk m c 4 t) (iblk m c 5 t) (iblk m c 6 t) (grid0.coords t 1).val) (ix2 e s)
      = shareV (V m c main_arg0) (V m c main_v1) (V m c main_arg3) (V m c main_arg4) (V m c main_arg5) (V m c main_arg6) T E := by
  obtain ⟨-, -, -, -, -, -, -, -, -, -, -, hc, -⟩ := idxs t
  rw [tileBlk_at _ _ _ _ _ _ e ⟨E.val % 128, by omega⟩ ⟨E.val / 128, by omega⟩ s (by show e.val % 128 = E.val % 128; omega)
    (by rw [hc]; show (4 * (t.val % 32) + e.val / 128) % 128 = E.val / 128; omega), act_at]
  unfold shareV share
  refine congrArg₂ (fun a b : EReal => a * b) (congrArg gelu (dot_congr (fun j => ?_) (fun j => ?_)))
    (gate8_congr (fun a => ?_) (fun a => ?_) (fun a => ?_) (fun a => ?_))
  · exact iblk_u m c t e j E hE
  · exact iblk_h m c t j s T hT
  · exact iblk_r m c t a _ s T hT
  · exact iblk_p m c t a _ s T hT
  · exact iblk_c m c t a _ s T hT
  · exact iblk_q m c t a _ s T hT

/-- The product of the values with a tile's block. -/
theorem term_share (c : Dev nD) (t : Fin cfg0.N) (k : Fin 2048) (e : Fin 512) (s : Fin 512) (T : Fin 32768) (hT : T.val = 512 * (t.val / 32) + s.val) (w : EReal)
    (hw : w = (tileBlk (k0_pay4 (F := Ideal) (iblk m c 1 t) (iblk m c 0 t)) (iblk m c 3 t) (iblk m c 4 t) (iblk m c 5 t) (iblk m c 6 t) (grid0.coords t 1).val) (ix2 e s)) (E : Fin 16384) (hE : E.val = 512 * (t.val % 32) + e.val) :
    (fun a b : EReal => a * b) (iblk m c 2 t (ix2 k e)) w = termV (V m c main_arg0) (V m c main_v1) (V m c main_arg3) (V m c main_arg4) (V m c main_arg5) (V m c main_arg6) (V m c main_v4) k T E :=
  congrArg₂ (fun a b : EReal => a * b) (iblk_v m c t k e E hE) (hw.trans (tile_share m c t e s T hT E hE))

/-- What the accumulator holds after a point: the sum over the experts of the tiles met so far. -/
def sumTo (c : Dev nD) (k : Fin 2048) (T : Fin 32768) (n : ℕ) : EReal :=
  upTo (termV (V m c main_arg0) (V m c main_v1) (V m c main_arg3) (V m c main_arg4) (V m c main_arg5) (V m c main_arg6) (V m c main_v4) k T) n

theorem first_point (c : Dev nD) (t : Fin cfg0.N) (h0 : t.val % 32 = 0) (k : Fin 2048) (s : Fin 512) (T : Fin 32768) (hT : T.val = 512 * (t.val / 32) + s.val) :
    (outsAt0 m c t.val t.isLt).2 (ix2 k s) = sumTo m c k T (t.val % 32) := by
  rw [outsAt0_A m c t h0 (by omega)]
  frame_out
  refine (acc_at _ _ _ k s).trans ?_
  unfold sumTo
  rw [h0, upTo_zero]
  refine (congrArg₂ (fun a b : EReal => a + b) (zero_at k s) (Finset.sum_congr rfl fun e _ => ?_)).trans (zero_add _)
  exact term_share m c t k e s T hT _ (stored_at _ _ _ _ _ (piece3 _ _ _ _ _ (grid0.coords t)) (piece2 _ _ _ _ _ (grid0.coords t))
    (piece1 _ _ _ _ _ (grid0.coords t)) (piece0 _ _ _ _ _ (grid0.coords t)) e s) ⟨e.val, by omega⟩ (by show e.val = _; omega)

theorem middle_point (c : Dev nD) (t : Fin cfg0.N) (h0 : ¬t.val % 32 = 0) (h1 : ¬t.val % 32 = 31) (k : Fin 2048) (s : Fin 512) (T : Fin 32768) (hT : T.val = 512 * (t.val / 32) + s.val)
    (ih : (outsAt0 m c (t.val - 1) (by omega)).2 (ix2 k s) = sumTo m c k T (t.val % 32 - 1)) :
    (outsAt0 m c t.val t.isLt).2 (ix2 k s) = sumTo m c k T (t.val % 32) := by
  rw [outsAt0_B m c t h0 h1]
  frame_out
  refine (acc_at _ _ _ k s).trans ?_
  have hn : t.val % 32 = t.val % 32 - 1 + 1 := by omega
  have hs := upTo_succ (termV (V m c main_arg0) (V m c main_v1) (V m c main_arg3) (V m c main_arg4) (V m c main_arg5) (V m c main_arg6) (V m c main_v4) k T) (t.val % 32 - 1) (by omega)
  unfold sumTo at ih ⊢
  rw [hn, hs]
  refine congrArg₂ (fun a b : EReal => a + b) ?_ (Finset.sum_congr rfl fun e _ => ?_)
  · exact (congrFun (Memref.IsWhole.read_unread (Val := Elt Ideal) _ _) _).trans ih
  exact term_share m c t k e s T hT _ (stored_at _ _ _ _ _ (piece3 _ _ _ _ _ (grid0.coords t)) (piece2 _ _ _ _ _ (grid0.coords t))
    (piece1 _ _ _ _ _ (grid0.coords t)) (piece0 _ _ _ _ _ (grid0.coords t)) e s) ⟨512 * (t.val % 32 - 1 + 1) + e.val, by omega⟩
    (by show 512 * (t.val % 32 - 1 + 1) + e.val = _; omega)

theorem last_point (c : Dev nD) (t : Fin cfg0.N) (h0 : ¬t.val % 32 = 0) (h1 : t.val % 32 = 31) (k : Fin 2048) (s : Fin 512) (T : Fin 32768) (hT : T.val = 512 * (t.val / 32) + s.val)
    (ih : (outsAt0 m c (t.val - 1) (by omega)).2 (ix2 k s) = sumTo m c k T (t.val % 32 - 1)) :
    (outsAt0 m c t.val t.isLt).2 (ix2 k s) = sumTo m c k T (t.val % 32) := by
  rw [outsAt0_C m c t h0 h1]
  frame_out
  refine (acc_at _ _ _ k s).trans ?_
  have hn : t.val % 32 = t.val % 32 - 1 + 1 := by omega
  have hs := upTo_succ (termV (V m c main_arg0) (V m c main_v1) (V m c main_arg3) (V m c main_arg4) (V m c main_arg5) (V m c main_arg6) (V m c main_v4) k T) (t.val % 32 - 1) (by omega)
  unfold sumTo at ih ⊢
  rw [hn, hs]
  refine congrArg₂ (fun a b : EReal => a + b) ?_ (Finset.sum_congr rfl fun e _ => ?_)
  · exact (congrFun (Memref.IsWhole.read_unread (Val := Elt Ideal) _ _) _).trans ih
  exact term_share m c t k e s T hT _ (stored_at _ _ _ _ _ (piece3 _ _ _ _ _ (grid0.coords t)) (piece2 _ _ _ _ _ (grid0.coords t))
    (piece1 _ _ _ _ _ (grid0.coords t)) (piece0 _ _ _ _ _ (grid0.coords t)) e s) ⟨512 * (t.val % 32 - 1 + 1) + e.val, by omega⟩
    (by show 512 * (t.val % 32 - 1 + 1) + e.val = _; omega)

theorem carried (c : Dev nD) : ∀ (n : ℕ) (hn : n < cfg0.N) (k : Fin 2048) (s : Fin 512) (T : Fin 32768) (_ : T.val = 512 * (n / 32) + s.val),
    (outsAt0 m c n hn).2 (ix2 k s) = sumTo m c k T (n % 32) := by
  intro n
  induction n with
  | zero =>
    intro hn k s T hT
    exact first_point m c ⟨0, hn⟩ rfl k s T hT
  | succ n ih =>
    intro hn k s T hT
    by_cases h0 : (n + 1) % 32 = 0
    · exact first_point m c ⟨n + 1, hn⟩ h0 k s T hT
    · have hp : (outsAt0 m c (n + 1 - 1) (by omega)).2 (ix2 k s) = sumTo m c k T ((n + 1) % 32 - 1) := by
        rw [show (n + 1) % 32 - 1 = n % 32 by omega]
        exact ih (Nat.lt_of_succ_lt hn) k s T (by omega)
      by_cases h1 : (n + 1) % 32 = 31
      · exact last_point m c ⟨n + 1, hn⟩ h0 h1 k s T hT hp
      · exact middle_point m c ⟨n + 1, hn⟩ h0 h1 k s T hT hp

/-- The result from the arrays the call finds. -/
def outArr (H : FVec Ideal S2048x32768 .bf16) (U : FVec Ideal S16384x2048 .bf16) (R P : FVec Ideal S8x128x32768 .bf16) (C Q : FVec Ideal S8x128x32768 .f32) (W : FVec Ideal S2048x16384 .bf16) (X : FVec Ideal S32768x2048 .f32)
    (G : FVec Ideal S8x1x2048 .f32) (N : FVec Ideal S1x2048 .f32) : FVec Ideal S32768x2048 .f32 := fun i =>
  normed (fun j => X (ix2 (i 0) j) + G (ix3 ⟨(i 0).val / 4096, by have : (i 0).val < 32768 := (i 0).isLt; omega⟩ 0 j) * ∑ E, W (ix2 j E) * shareV H U R P C Q (i 0) E) (fun j => N (ix2 0 j)) (i 1)

theorem out_pt (c : Dev nD) (t : Fin cfg0.N) (h1 : t.val % 32 = 31) (s : Fin 512) (k : Fin 2048) (T : Fin 32768) (hT : T.val = 512 * (t.val / 32) + s.val) :
    (outsAt0 m c t.val t.isLt).1 (ix2 s k)
      = outArr (V m c main_arg0) (V m c main_v1) (V m c main_arg3) (V m c main_arg4) (V m c main_arg5) (V m c main_arg6) (V m c main_v4) (V m c main_arg7) (V m c main_v5) (V m c main_v6) (ix2 T k) := by
  have h2 : ∀ j : Fin 2048, (outsAt0 m c t.val t.isLt).2 (ix2 j s) = sumTo m c j T 31 := fun j => (carried m c t.val t.isLt j s T hT).trans (by rw [h1])
  unfold outArr
  rw [outsAt0_C m c t (by omega) h1] at h2 ⊢
  unfold sumTo at h2
  simp only [upTo_last] at h2
  revert h2
  frame_out
  intro h2
  refine (pay2_at _ _ _ _ s k).trans (normed_congr (fun j => ?_) (fun j => iblk_n m c t j) k)
  exact congrArg₂ (fun a b : EReal => a + b) (iblk_x m c t s j T hT)
    (congrArg₂ (fun a b : EReal => a * b) (iblk_g m c t j ⟨T.val / 4096, by omega⟩ (by show T.val / 4096 = t.val / 256; omega)) (h2 j))

theorem out_final (c : Dev nD) : (dats m 0 c).arrAt 10 cfg0.N
    = outArr (V m c main_arg0) (V m c main_v1) (V m c main_arg3) (V m c main_arg4) (V m c main_arg5) (V m c main_arg6) (V m c main_v4) (V m c main_arg7) (V m c main_v5) (V m c main_v6) := by
  refine (dats m 0 c).arrAt_eq_of_covers 10 _ (by decide +kernel) fun t hw y => ?_
  have h1 : t.val % 32 = 31 := (by decide +kernel : ∀ t : Fin grid0.N, win0_10.flush t = true → t.val % 32 = 31) t hw
  blk_simp
  rw [after0_10]
  obtain ⟨-, -, -, -, -, -, -, -, -, -, i10, -, hN⟩ := idxs t
  idx_vars y
  have he : ((View.whole main_v7).slice (win0_10.rect t)).emb (ix2 y0 y1) = ix2 ⟨512 * (t.val / 32) + y0.val, by omega⟩ y1 := by
    blk_ext [i10]
  rw [he]
  exact out_pt m c t h1 y0 y1 ⟨512 * (t.val / 32) + y0.val, by omega⟩ rfl

end Cert.MixIdeal.Val

end
-- ==== Proof.Mix.Ref.lean ====
/- The reference's expert mixing, read at an entry. -/
module

public import proofs.«01_k».proof.Proof.Gen.MixRefIdeal.Read
public import proofs.«01_k».proof.Proof.Layer.Peer

@[expose] public section

set_option maxRecDepth 16384

noncomputable section

namespace Cert.MixRefIdeal.Val

open Idealize.ShloMosaic Idealize.ShloMosaic.TcCoe Idealize.SL.Sem
open Cert.MixRefIdeal Cert.MixRefIdeal.Gen Cert.MixRefIdeal.Value Cert.MixRefIdeal.Read Cert.LayerMath

variable (x0 : FVec Ideal S2048x32768 .bf16) (x1 x2 : FVec Ideal S1x16384x2048 .f32) (x3 x4 : FVec Ideal S8x128x32768 .bf16)
  (x5 x6 : FVec Ideal S8x128x32768 .f32) (x7 : FVec Ideal S32768x2048 .f32) (x8 : FVec Ideal S8x2048 .f32) (x9 : FVec Ideal S2048 .f32)

/-- What expert `E` gives to token `t`. -/
def shareAt (t : Fin 32768) (E : Fin 16384) : EReal :=
  share (fun j => x0 (ix2 j t)) (fun E j => x1 (ix3 0 E j)) (fun a b => x3 (ix3 a b t)) (fun a b => x4 (ix3 a b t))
    (fun a b => x5 (ix3 a b t)) (fun a b => x6 (ix3 a b t)) E

theorem v12_at (a b : Fin 128) (t : Fin 32768) :
    val_main_v12 (F := Ideal) x3 x4 x5 x6 (ix3 a b t)
      = gate8 (fun h => x3 (ix3 h b t)) (fun h => x4 (ix3 h b t)) (fun h => x5 (ix3 h a t)) (fun h => x6 (ix3 h a t)) := by
  unfold gate8
  pointwise [val_main_v12, val_main_v11, val_main_v10, val_main_v9, val_main_v8, val_main_v7, val_main_v6, val_main_v5, val_main_v4, val_main_v3,
    val_main_v2, val_main_v1, val_main_v0, val_main_cst, val_main_cst_0, val_main_call0_v0, val_main_call0_v1, val_main_call0_v2]
  simp only [id_eq]
  pointwise []

theorem v13_at (E : Fin 16384) (t : Fin 32768) :
    val_main_v13 (F := Ideal) x3 x4 x5 x6 (ix2 E t) = val_main_v12 (F := Ideal) x3 x4 x5 x6 (ix3 ⟨E.val / 128, by omega⟩ ⟨E.val % 128, by omega⟩ t) := by
  unfold val_main_v13
  generalize val_main_v12 (F := Ideal) x3 x4 x5 x6 = y
  pointwise []

theorem v16_at (E : Fin 16384) (t : Fin 32768) :
    val_main_v16 (F := Ideal) x0 x1 (ix2 E t) = dot (fun j => x1 (ix3 0 E j)) (fun j => x0 (ix2 j t)) := by
  unfold dot
  pointwise [val_main_v16, val_main_v15, val_main_v14]

theorem v29_at (E : Fin 16384) (t : Fin 32768) :
    val_main_v29 (F := Ideal) x0 x1 (ix2 E t) = gelu (val_main_v16 (F := Ideal) x0 x1 (ix2 E t)) := by
  have e : val_main_v29 (F := Ideal) x0 x1 (ix2 E t) = (fun x : EReal => x * (Ideal.ofBits FTy.f32 1056964608#32 * (1 + Ideal.tanh (Ideal.ofBits FTy.f32 1061962282#32 * (x + Ideal.ofBits FTy.f32 1027024659#32 * (x * x * x))))))
      (val_main_v16 (F := Ideal) x0 x1 (ix2 E t)) := by
    unfold val_main_v29 val_main_v28 val_main_v26 val_main_v24 val_main_v23 val_main_v21 val_main_v20 val_main_v18 val_main_v17
    generalize val_main_v16 (F := Ideal) x0 x1 = X
    pointwise [val_main_v27, val_main_v25, val_main_v22, val_main_v19, val_main_cst_1, val_main_cst_2, val_main_cst_3, val_main_cst_4]
  rw [e]
  unfold gelu
  generalize val_main_v16 (F := Ideal) x0 x1 (ix2 E t) = x
  show x * (_ * _) = _ * x * _
  rw [← mul_assoc, mul_comm x]

theorem v30_at (E : Fin 16384) (t : Fin 32768) :
    val_main_v30 (F := Ideal) x0 x1 x3 x4 x5 x6 (ix2 E t) = shareAt x0 x1 x3 x4 x5 x6 t E := by
  have e : val_main_v30 (F := Ideal) x0 x1 x3 x4 x5 x6 (ix2 E t) = val_main_v13 (F := Ideal) x3 x4 x5 x6 (ix2 E t) * val_main_v29 (F := Ideal) x0 x1 (ix2 E t) := rfl
  rw [e, v29_at, v16_at, v13_at, v12_at, mul_comm]
  rfl

theorem v33_at (t : Fin 32768) (k : Fin 2048) :
    val_main_v33 (F := Ideal) x0 x1 x2 x3 x4 x5 x6 (ix2 t k) = ∑ E, x2 (ix3 0 E k) * shareAt x0 x1 x3 x4 x5 x6 t E := by
  have e : val_main_v33 (F := Ideal) x0 x1 x2 x3 x4 x5 x6 (ix2 t k) = ∑ E : Fin 16384, val_main_v30 (F := Ideal) x0 x1 x3 x4 x5 x6 (ix2 E t) * x2 (ix3 0 E k) := by
    unfold val_main_v33 val_main_v31
    generalize val_main_v30 (F := Ideal) x0 x1 x3 x4 x5 x6 = X
    pointwise [val_main_v32]
  rw [e]
  exact Finset.sum_congr rfl fun E _ => by rw [v30_at, mul_comm]

theorem v39_at (b : Fin 8) (r : Fin 4096) (k : Fin 2048) (t : Fin 32768) (ht : t.val = b.val * 4096 + r.val) :
    val_main_v39 (F := Ideal) x0 x1 x2 x3 x4 x5 x6 x7 x8 (ix3 b r k)
      = x7 (ix2 t k) + x8 (ix2 b k) * ∑ E, x2 (ix3 0 E k) * shareAt x0 x1 x3 x4 x5 x6 t E := by
  have ht' : t = ⟨b.val * 4096 + r.val, by omega⟩ := Fin.ext ht
  rw [← v33_at, ht']
  unfold val_main_v39 val_main_v38 val_main_v36
  generalize val_main_v33 (F := Ideal) x0 x1 x2 x3 x4 x5 x6 = X
  pointwise [val_main_v34, val_main_v35, val_main_v37]

theorem v52_at (b : Fin 8) (r : Fin 4096) (k : Fin 2048) :
    val_main_v52 (F := Ideal) x0 x1 x2 x3 x4 x5 x6 x7 x8 x9 (ix3 b r k)
      = normed (fun j => val_main_v39 (F := Ideal) x0 x1 x2 x3 x4 x5 x6 x7 x8 (ix3 b r j)) (fun j => x9 (ix1 j)) k := by
  unfold normed
  unfold val_main_v52 val_main_v49 val_main_v48 val_main_v47 val_main_v46 val_main_v44 val_main_v42 val_main_v41 val_main_v40
  generalize val_main_v39 (F := Ideal) x0 x1 x2 x3 x4 x5 x6 x7 x8 = X
  pointwise [val_main_v51, val_main_v50, val_main_v45, val_main_v43, val_main_cst_5, val_main_cst_6, val_main_cst_7]

theorem v53_at (t : Fin 32768) (k : Fin 2048) :
    val_main_v53 (F := Ideal) x0 x1 x2 x3 x4 x5 x6 x7 x8 x9 (ix2 t k)
      = normed (fun j => x7 (ix2 t j) + x8 (ix2 ⟨t.val / 4096, by omega⟩ j) * ∑ E, x2 (ix3 0 E j) * shareAt x0 x1 x3 x4 x5 x6 t E) (fun j => x9 (ix1 j)) k := by
  have e : val_main_v53 (F := Ideal) x0 x1 x2 x3 x4 x5 x6 x7 x8 x9 (ix2 t k)
      = val_main_v52 (F := Ideal) x0 x1 x2 x3 x4 x5 x6 x7 x8 x9 (ix3 ⟨t.val / 4096, by omega⟩ ⟨t.val % 4096, by omega⟩ k) := by
    unfold val_main_v53
    generalize val_main_v52 (F := Ideal) x0 x1 x2 x3 x4 x5 x6 x7 x8 x9 = X
    pointwise []
  rw [e, v52_at]
  exact normed_congr (fun j => v39_at x0 x1 x2 x3 x4 x5 x6 x7 x8 _ _ j t (by show t.val = t.val / 4096 * 4096 + t.val % 4096; omega)) (fun _ => rfl) k

end Cert.MixRefIdeal.Val

end
-- ==== Proof.Mix.Host.lean ====
/- What the host lines before the expert mixing compute, and the call's result as the program returns it. -/
module

public import proofs.«01_k».proof.Proof.Mix.Arr
public import proofs.«01_k».proof.Proof.Mix.Ref

@[expose] public section

set_option maxRecDepth 16384

noncomputable section

namespace Cert.MixIdeal.Val

open Idealize.ShloMosaic Idealize.ShloMosaic.TcCoe Idealize.SL.Sem
open Cert.MixIdeal Cert.MixIdeal.Gen Cert.LayerMath

variable (m : (ℓ : Loc nD τ sig) → Buf (Elt Ideal) ℓ)

/-- The arguments. -/
abbrev a0 (c : Dev nD) : FVec Ideal S2048x32768 .bf16 := m ((c.tc : Thread nD τ).loc main_arg0)
abbrev a1 (c : Dev nD) : FVec Ideal S1x16384x2048 .f32 := m ((c.tc : Thread nD τ).loc main_arg1)
abbrev a2 (c : Dev nD) : FVec Ideal S1x16384x2048 .f32 := m ((c.tc : Thread nD τ).loc main_arg2)
abbrev a3 (c : Dev nD) : FVec Ideal S8x128x32768 .bf16 := m ((c.tc : Thread nD τ).loc main_arg3)
abbrev a4 (c : Dev nD) : FVec Ideal S8x128x32768 .bf16 := m ((c.tc : Thread nD τ).loc main_arg4)
abbrev a5 (c : Dev nD) : FVec Ideal S8x128x32768 .f32 := m ((c.tc : Thread nD τ).loc main_arg5)
abbrev a6 (c : Dev nD) : FVec Ideal S8x128x32768 .f32 := m ((c.tc : Thread nD τ).loc main_arg6)
abbrev a7 (c : Dev nD) : FVec Ideal S32768x2048 .f32 := m ((c.tc : Thread nD τ).loc main_arg7)
abbrev a8 (c : Dev nD) : FVec Ideal S8x2048 .f32 := m ((c.tc : Thread nD τ).loc main_arg8)
abbrev a9 (c : Dev nD) : FVec Ideal S2048 .f32 := m ((c.tc : Thread nD τ).loc main_arg9)

theorem V_v1 (c : Dev nD) : V m c main_v1 = truncf .bf16 (shapeCast S16384x2048 (a1 m c) shapeCasts_S1x16384x2048_S16384x2048) bitsLt_bf16_f32 := by
  show StableHlo.after hostOps0 (fun b => m (c, b)) (Proc.devRef .tc main_v1) = _
  after_results
  rfl

theorem V_v4 (c : Dev nD) : V m c main_v4 = truncf .bf16 (transpose S2048x16384 [1, 0] (shapeCast S16384x2048 (a2 m c) shapeCasts_S1x16384x2048_S16384x2048) transposes_S16384x2048_S2048x16384_1_0) bitsLt_bf16_f32 := by
  show StableHlo.after hostOps0 (fun b => m (c, b)) (Proc.devRef .tc main_v4) = _
  after_results
  rfl

theorem V_v5 (c : Dev nD) : V m c main_v5 = shapeCast S8x1x2048 (a8 m c) shapeCasts_S8x2048_S8x1x2048 := by
  show StableHlo.after hostOps0 (fun b => m (c, b)) (Proc.devRef .tc main_v5) = _
  after_results
  rfl

theorem V_v6 (c : Dev nD) : V m c main_v6 = shapeCast S1x2048 (a9 m c) shapeCasts_S2048_S1x2048 := by
  show StableHlo.after hostOps0 (fun b => m (c, b)) (Proc.devRef .tc main_v6) = _
  after_results
  rfl

theorem u_at (c : Dev nD) (E : Fin 16384) (j : Fin 2048) : V m c main_v1 (ix2 E j) = a1 m c (ix3 0 E j) := by
  rw [V_v1]
  generalize a1 m c = x
  pointwise []

theorem v_at (c : Dev nD) (k : Fin 2048) (E : Fin 16384) : V m c main_v4 (ix2 k E) = a2 m c (ix3 0 E k) := by
  rw [V_v4]
  generalize a2 m c = x
  pointwise []

theorem g_at (c : Dev nD) (b : Fin 8) (j : Fin 2048) : V m c main_v5 (ix3 b 0 j) = a8 m c (ix2 b j) := by
  rw [V_v5]
  generalize a8 m c = x
  pointwise []

theorem n_at (c : Dev nD) (j : Fin 2048) : V m c main_v6 (ix2 0 j) = a9 m c (ix1 j) := by
  rw [V_v6]
  generalize a9 m c = x
  pointwise []

theorem share_eq (c : Dev nD) (t : Fin 32768) (E : Fin 16384) :
    shareV (V m c main_arg0) (V m c main_v1) (V m c main_arg3) (V m c main_arg4) (V m c main_arg5) (V m c main_arg6) t E
      = Cert.MixRefIdeal.Val.shareAt (a0 m c) (a1 m c) (a3 m c) (a4 m c) (a5 m c) (a6 m c) t E := by
  rw [V_main_arg0, V_main_arg3, V_main_arg4, V_main_arg5, V_main_arg6]
  unfold shareV Cert.MixRefIdeal.Val.shareAt share
  refine congrArg₂ (fun a b : EReal => a * b) (congrArg gelu (dot_congr (fun j => ?_) (fun _ => rfl))) rfl
  exact u_at m c E j

theorem T_v7 (c : Dev nD) : (dats m 0 c).arrAt 10 cfg0.N
    = Cert.MixRefIdeal.Read.val_main_v53 (F := Ideal) (a0 m c) (a1 m c) (a2 m c) (a3 m c) (a4 m c) (a5 m c) (a6 m c) (a7 m c) (a8 m c) (a9 m c) := by
  rw [out_final]
  funext y
  idx_vars y
  refine Eq.trans ?_ (Cert.MixRefIdeal.Val.v53_at (a0 m c) (a1 m c) (a2 m c) (a3 m c) (a4 m c) (a5 m c) (a6 m c) (a7 m c) (a8 m c) (a9 m c) y0 y1).symm
  unfold outArr
  refine normed_congr (fun j => ?_) (fun j => n_at m c j) y1
  refine congrArg₂ (fun a b : EReal => a + b) (congrFun (V_main_arg7 m c) _) (congrArg₂ (fun a b : EReal => a * b) (g_at m c _ j)
    (Finset.sum_congr rfl fun E _ => ?_))
  exact congrArg₂ (fun a b : EReal => a * b) (v_at m c j E) (share_eq m c y0 E)

/-- The program runs; its result ends at what the call leaves in its output window, and the arguments as they were. -/
theorem run_all (ρ : Dev nD → PrngReg) :
    θ_run (defs (F := Ideal)) (onTc (τ := τ) (main (F := Ideal))) ⟨m, fun _ => 0, ρ⟩ (fun r => ∀ c : Dev nD,
      r.2.mem ((c.tc : Thread nD τ).loc main_v7) = (dats m 0 c).arrAt 10 cfg0.N
      ∧ (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9))) :=
  (θ_run defs _ _).mono (fun r h c => ⟨(h c).1 10, ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) (run_main m ρ)

end Cert.MixIdeal.Val

end
-- ==== Proof.Mix.Claim.lean ====
/- The claims on the expert mixing of the prompt: the reference's frame, and the equation of kernel and reference over the reals. -/
module

public import proofs.«01_k».proof.Defs
public import proofs.«01_k».proof.Proof.Mix.Host
public import proofs.«01_k».proof.Proof.Gen.MixRefIdeal.Run
public import Idealize.ShloMosaic.Lib.Quiescent

@[expose] public section

set_option maxRecDepth 16384

noncomputable section

namespace Cert.MixTie

open Idealize.ShloMosaic Idealize.ShloMosaic.TcCoe Idealize.SL.Sem

/-- The reference runs, keeps its arguments, and has no counter to leave standing. -/
theorem ref_frame (m : (ℓ : Loc Cert.MixRefIdeal.nD Cert.MixRefIdeal.τ Cert.MixRefIdeal.sig) → Buf (Elt Ideal) ℓ)
    (ρ : Dev Cert.MixRefIdeal.nD → PrngReg) :
    θ_run (Cert.MixRefIdeal.defs (F := Ideal)) (onTc (τ := Cert.MixRefIdeal.τ) (Cert.MixRefIdeal.main (F := Ideal))) ⟨m, fun _ => 0, ρ⟩
      (fun r => (∀ c : Dev Cert.MixRefIdeal.nD,
        r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
        ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
        ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
        ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
        ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
        ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
        ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
        ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
        ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
        ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9))
        ∧ r.2.sem = fun _ => 0) :=
  (θ_run _ _ _).mono (fun r h => ⟨fun c => (h c).2, sem_eq_zero_of_no_sems rfl r.2⟩) (Cert.MixRefIdeal.Value.run m ρ)

/-- From memories that agree on the arguments: kernel and reference end with the same results. -/
theorem equation : Cert.algebraic_MixIdeal_MixRefIdeal := by
  intro m g m' g' hpre hag
  refine ⟨fun c => Cert.MixRefIdeal.Read.val_main_v53 (F := Ideal) (m ((c.tc : Thread _ _).loc Cert.MixIdeal.main_arg0)) (m ((c.tc : Thread _ _).loc Cert.MixIdeal.main_arg1)) (m ((c.tc : Thread _ _).loc Cert.MixIdeal.main_arg2)) (m ((c.tc : Thread _ _).loc Cert.MixIdeal.main_arg3)) (m ((c.tc : Thread _ _).loc Cert.MixIdeal.main_arg4)) (m ((c.tc : Thread _ _).loc Cert.MixIdeal.main_arg5)) (m ((c.tc : Thread _ _).loc Cert.MixIdeal.main_arg6)) (m ((c.tc : Thread _ _).loc Cert.MixIdeal.main_arg7)) (m ((c.tc : Thread _ _).loc Cert.MixIdeal.main_arg8)) (m ((c.tc : Thread _ _).loc Cert.MixIdeal.main_arg9)), ?_, ?_⟩
  · refine (θ_run _ _ _).mono (fun r h c => ⟨?_, ?_⟩) (Cert.MixIdeal.Val.run_all m g)
    · exact (h c).1.trans (Cert.MixIdeal.Val.T_v7 m c)
    · exact (h c).2
  · refine (θ_run _ _ _).mono (fun r h c => ⟨?_, (h c).2⟩) (Cert.MixRefIdeal.Value.run m' g')
    · obtain ⟨e0, e1, e2, e3, e4, e5, e6, e7, e8, e9⟩ := hag c
      refine (h c).1.trans ((Cert.MixRefIdeal.Read.val_main_v53_eq m' c).trans ?_)
      rw [e0, e1, e2, e3, e4, e5, e6, e7, e8, e9]

end Cert.MixTie

end
-- ==== Proof.Mis.Pay.lean ====
/- What the expert mixing computes from the blocks it is handed, entry by entry. -/
module

public import proofs.«01_k».proof.Proof.Gen.MisIdeal.Skeleton
public import proofs.«01_k».proof.Proof.Layer.Peer
public import Idealize.ShloMosaic.Lib.Pipeline.ValueKit

@[expose] public section

set_option maxRecDepth 16384

noncomputable section

namespace Cert.MisIdeal.Val

open Idealize.ShloMosaic Idealize.ShloMosaic.TcCoe Idealize.SL.Sem
open Cert.MisIdeal Cert.MisIdeal.Gen Cert.LayerMath

/-- The first group of 128 experts of a tile: activation times the weight the ranks and counts give. -/
theorem group0_at (V : FVec Ideal S512x256 .f32) (c0 c1 c2 c3 c4 c5 c6 c7 q0 q1 q2 q3 q4 q5 q6 q7 : FVec Ideal S1x1x256 .f32) (r0 r1 r2 r3 r4 r5 r6 r7 p0 p1 p2 p3 p4 p5 p6 p7 : FVec Ideal S1x128x256 .bf16)
    (b : Fin 128) (t : Fin 256) :
    k0_pay16 (F := Ideal) V (k0_pay13 (F := Ideal) (k0_pay10 (F := Ideal) (k0_pay7 (F := Ideal) (k0_pay5 (F := Ideal) q0) (k0_pay6 (F := Ideal) c0 r0) p0 c1 q1 r1 p1) (k0_pay8 (F := Ideal) q2) (k0_pay9 (F := Ideal) c2 r2) p2 c3 q3 r3 p3) (k0_pay11 (F := Ideal) q4) (k0_pay12 (F := Ideal) c4 r4) p4 c5 q5 r5 p5) (k0_pay14 (F := Ideal) q6) (k0_pay15 (F := Ideal) c6 r6) p6 c7 q7 r7 p7 (ix2 b t)
      = V (ix2 ⟨0 + b.val, by omega⟩ t) * gate8 ![r0 (ix3 0 b t), r1 (ix3 0 b t), r2 (ix3 0 b t), r3 (ix3 0 b t), r4 (ix3 0 b t), r5 (ix3 0 b t), r6 (ix3 0 b t), r7 (ix3 0 b t)] ![p0 (ix3 0 b t), p1 (ix3 0 b t), p2 (ix3 0 b t), p3 (ix3 0 b t), p4 (ix3 0 b t), p5 (ix3 0 b t), p6 (ix3 0 b t), p7 (ix3 0 b t)]
          ![c0 (ix3 0 0 t), c1 (ix3 0 0 t), c2 (ix3 0 0 t), c3 (ix3 0 0 t), c4 (ix3 0 0 t), c5 (ix3 0 0 t), c6 (ix3 0 0 t), c7 (ix3 0 0 t)] ![q0 (ix3 0 0 t), q1 (ix3 0 0 t), q2 (ix3 0 0 t), q3 (ix3 0 0 t), q4 (ix3 0 0 t), q5 (ix3 0 0 t), q6 (ix3 0 0 t), q7 (ix3 0 0 t)] := by
  rw [gate8_eq]
  pointwise [k0_pay16, k0_pay13, k0_pay10, k0_pay7, k0_pay5, k0_pay6, k0_pay8, k0_pay9, k0_pay11, k0_pay12, k0_pay14, k0_pay15]

/-- The second group of 128 experts of a tile: activation times the weight the ranks and counts give. -/
theorem group1_at (V : FVec Ideal S512x256 .f32) (c0 c1 c2 c3 c4 c5 c6 c7 q0 q1 q2 q3 q4 q5 q6 q7 : FVec Ideal S1x1x256 .f32) (r0 r1 r2 r3 r4 r5 r6 r7 p0 p1 p2 p3 p4 p5 p6 p7 : FVec Ideal S1x128x256 .bf16)
    (b : Fin 128) (t : Fin 256) :
    k0_pay24 (F := Ideal) V (k0_pay22 (F := Ideal) (k0_pay20 (F := Ideal) (k0_pay18 (F := Ideal) (k0_pay17 (F := Ideal) c0) q0 r0 p0 c1 q1 r1 p1) (k0_pay19 (F := Ideal) c2) q2 r2 p2 c3 q3 r3 p3) (k0_pay21 (F := Ideal) c4) q4 r4 p4 c5 q5 r5 p5) (k0_pay23 (F := Ideal) c6) q6 r6 p6 c7 q7 r7 p7 (ix2 b t)
      = V (ix2 ⟨128 + b.val, by omega⟩ t) * gate8 ![r0 (ix3 0 b t), r1 (ix3 0 b t), r2 (ix3 0 b t), r3 (ix3 0 b t), r4 (ix3 0 b t), r5 (ix3 0 b t), r6 (ix3 0 b t), r7 (ix3 0 b t)] ![p0 (ix3 0 b t), p1 (ix3 0 b t), p2 (ix3 0 b t), p3 (ix3 0 b t), p4 (ix3 0 b t), p5 (ix3 0 b t), p6 (ix3 0 b t), p7 (ix3 0 b t)]
          ![c0 (ix3 0 0 t), c1 (ix3 0 0 t), c2 (ix3 0 0 t), c3 (ix3 0 0 t), c4 (ix3 0 0 t), c5 (ix3 0 0 t), c6 (ix3 0 0 t), c7 (ix3 0 0 t)] ![q0 (ix3 0 0 t), q1 (ix3 0 0 t), q2 (ix3 0 0 t), q3 (ix3 0 0 t), q4 (ix3 0 0 t), q5 (ix3 0 0 t), q6 (ix3 0 0 t), q7 (ix3 0 0 t)] := by
  rw [gate8_eq]
  pointwise [k0_pay24, k0_pay22, k0_pay20, k0_pay18, k0_pay17, k0_pay19, k0_pay21, k0_pay23]

/-- The third group of 128 experts of a tile: activation times the weight the ranks and counts give. -/
theorem group2_at (V : FVec Ideal S512x256 .f32) (c0 c1 c2 c3 c4 c5 c6 c7 q0 q1 q2 q3 q4 q5 q6 q7 : FVec Ideal S1x1x256 .f32) (r0 r1 r2 r3 r4 r5 r6 r7 p0 p1 p2 p3 p4 p5 p6 p7 : FVec Ideal S1x128x256 .bf16)
    (b : Fin 128) (t : Fin 256) :
    k0_pay37 (F := Ideal) V (k0_pay34 (F := Ideal) (k0_pay31 (F := Ideal) (k0_pay28 (F := Ideal) (k0_pay25 (F := Ideal) c0 q0 r0 p0) (k0_pay26 (F := Ideal) q1) (k0_pay27 (F := Ideal) c1 r1 p1) c2 q2 r2 p2) (k0_pay29 (F := Ideal) q3) (k0_pay30 (F := Ideal) c3 r3 p3) c4 q4 r4 p4) (k0_pay32 (F := Ideal) q5) (k0_pay33 (F := Ideal) c5 r5 p5) c6 q6 r6 p6) (k0_pay35 (F := Ideal) q7) (k0_pay36 (F := Ideal) c7 r7 p7) (ix2 b t)
      = V (ix2 ⟨256 + b.val, by omega⟩ t) * gate8 ![r0 (ix3 0 b t), r1 (ix3 0 b t), r2 (ix3 0 b t), r3 (ix3 0 b t), r4 (ix3 0 b t), r5 (ix3 0 b t), r6 (ix3 0 b t), r7 (ix3 0 b t)] ![p0 (ix3 0 b t), p1 (ix3 0 b t), p2 (ix3 0 b t), p3 (ix3 0 b t), p4 (ix3 0 b t), p5 (ix3 0 b t), p6 (ix3 0 b t), p7 (ix3 0 b t)]
          ![c0 (ix3 0 0 t), c1 (ix3 0 0 t), c2 (ix3 0 0 t), c3 (ix3 0 0 t), c4 (ix3 0 0 t), c5 (ix3 0 0 t), c6 (ix3 0 0 t), c7 (ix3 0 0 t)] ![q0 (ix3 0 0 t), q1 (ix3 0 0 t), q2 (ix3 0 0 t), q3 (ix3 0 0 t), q4 (ix3 0 0 t), q5 (ix3 0 0 t), q6 (ix3 0 0 t), q7 (ix3 0 0 t)] := by
  rw [gate8_eq]
  pointwise [k0_pay37, k0_pay34, k0_pay31, k0_pay28, k0_pay25, k0_pay26, k0_pay27, k0_pay29, k0_pay30, k0_pay32, k0_pay33, k0_pay35, k0_pay36]

/-- The fourth group of 128 experts of a tile: activation times the weight the ranks and counts give. -/
theorem group3_at (V : FVec Ideal S512x256 .f32) (c0 c1 c2 c3 c4 c5 c6 c7 q0 q1 q2 q3 q4 q5 q6 q7 : FVec Ideal S1x1x256 .f32) (r0 r1 r2 r3 r4 r5 r6 r7 p0 p1 p2 p3 p4 p5 p6 p7 : FVec Ideal S1x128x256 .bf16)
    (b : Fin 128) (t : Fin 256) :
    k0_pay50 (F := Ideal) V (k0_pay47 (F := Ideal) (k0_pay44 (F := Ideal) (k0_pay41 (F := Ideal) (k0_pay38 (F := Ideal) c0 q0 r0 p0) (k0_pay39 (F := Ideal) c1) (k0_pay40 (F := Ideal) q1) r1 p1 c2 q2 r2 p2) (k0_pay42 (F := Ideal) c3) (k0_pay43 (F := Ideal) q3) r3 p3 c4 q4 r4 p4) (k0_pay45 (F := Ideal) c5) (k0_pay46 (F := Ideal) q5) r5 p5 c6 q6 r6 p6) (k0_pay48 (F := Ideal) c7) (k0_pay49 (F := Ideal) q7) r7 p7 (ix2 b t)
      = V (ix2 ⟨384 + b.val, by omega⟩ t) * gate8 ![r0 (ix3 0 b t), r1 (ix3 0 b t), r2 (ix3 0 b t), r3 (ix3 0 b t), r4 (ix3 0 b t), r5 (ix3 0 b t), r6 (ix3 0 b t), r7 (ix3 0 b t)] ![p0 (ix3 0 b t), p1 (ix3 0 b t), p2 (ix3 0 b t), p3 (ix3 0 b t), p4 (ix3 0 b t), p5 (ix3 0 b t), p6 (ix3 0 b t), p7 (ix3 0 b t)]
          ![c0 (ix3 0 0 t), c1 (ix3 0 0 t), c2 (ix3 0 0 t), c3 (ix3 0 0 t), c4 (ix3 0 0 t), c5 (ix3 0 0 t), c6 (ix3 0 0 t), c7 (ix3 0 0 t)] ![q0 (ix3 0 0 t), q1 (ix3 0 0 t), q2 (ix3 0 0 t), q3 (ix3 0 0 t), q4 (ix3 0 0 t), q5 (ix3 0 0 t), q6 (ix3 0 0 t), q7 (ix3 0 0 t)] := by
  rw [gate8_eq]
  pointwise [k0_pay50, k0_pay47, k0_pay44, k0_pay41, k0_pay38, k0_pay39, k0_pay40, k0_pay42, k0_pay43, k0_pay45, k0_pay46, k0_pay48, k0_pay49]

theorem act_at (u : FVec Ideal S512x2048 .bf16) (h : FVec Ideal S2048x256 .bf16) (e : Fin 512) (t : Fin 256) :
    k0_pay4 (F := Ideal) u h (ix2 e t) = gelu (dot (fun j => u (ix2 e j)) (fun j => h (ix2 j t))) := by
  unfold gelu dot
  pointwise [k0_pay4]

theorem acc_at (a : FVec Ideal S2048x256 .f32) (v : FVec Ideal S2048x512 .bf16) (w : FVec Ideal S512x256 .bf16) (k : Fin 2048) (t : Fin 256) :
    k0_pay1 (F := Ideal) (k0_pay51 (F := Ideal) a v w) (ix2 k t) = a (ix2 k t) + ∑ e, v (ix2 k e) * w (ix2 e t) := by
  pointwise [k0_pay1, k0_pay51]

theorem zero_at (k : Fin 2048) (t : Fin 256) : k0_pay3 (F := Ideal) (ix2 k t) = (0 : EReal) := by
  pointwise [k0_pay3]

end Cert.MisIdeal.Val

end
-- ==== Proof.Mis.Tile.lean ====
/- The weighted activations of one tile of experts, as the expert mixing stores and reads them back. -/
module

public import proofs.«01_k».proof.Proof.Gen.MisIdeal.Frame
public import proofs.«01_k».proof.Proof.Mis.Pay
public import Idealize.ShloMosaic.Lib.Pipeline.ReadBack

@[expose] public section

set_option maxRecDepth 16384

noncomputable section

namespace Cert.MisIdeal.Val

open Idealize.ShloMosaic Idealize.ShloMosaic.TcCoe Idealize.SL.Sem
open Cert.MisIdeal Cert.MisIdeal.Gen Cert.LayerMath

/-- Activation times weight, for the 512 experts of tile `e`. -/
def tileBlk (A : FVec Ideal S512x256 .f32) (r p : FVec Ideal S8x128x256 .bf16) (c q : FVec Ideal S8x128x256 .f32) (e : ℕ) : FVec Ideal S512x256 .bf16 := fun i =>
  A i * gate8 (fun h => r (ix3 h ⟨(i 0).val % 128, by omega⟩ (i 1))) (fun h => p (ix3 h ⟨(i 0).val % 128, by omega⟩ (i 1)))
    (fun h => c (ix3 h ⟨(4 * e + (i 0).val / 128) % 128, by omega⟩ (i 1))) (fun h => q (ix3 h ⟨(4 * e + (i 0).val / 128) % 128, by omega⟩ (i 1)))

theorem tileBlk_at (A : FVec Ideal S512x256 .f32) (r p : FVec Ideal S8x128x256 .bf16) (c q : FVec Ideal S8x128x256 .f32) (e : ℕ)
    (E : Fin 512) (b a : Fin 128) (t : Fin 256) (hb : E.val % 128 = b.val) (ha : (4 * e + E.val / 128) % 128 = a.val) :
    tileBlk A r p c q e (ix2 E t)
      = A (ix2 E t) * gate8 (fun h => r (ix3 h b t)) (fun h => p (ix3 h b t)) (fun h => c (ix3 h a t)) (fun h => q (ix3 h a t)) := by
  have hb' : (⟨E.val % 128, by omega⟩ : Fin 128) = b := Fin.ext hb
  have ha' : (⟨(4 * e + E.val / 128) % 128, by omega⟩ : Fin 128) = a := Fin.ext ha
  show A (ix2 E t) * gate8 (fun h => r (ix3 h ⟨E.val % 128, by omega⟩ t)) (fun h => p (ix3 h ⟨E.val % 128, by omega⟩ t))
    (fun h => c (ix3 h ⟨(4 * e + E.val / 128) % 128, by omega⟩ t)) (fun h => q (ix3 h ⟨(4 * e + E.val / 128) % 128, by omega⟩ t)) = _
  rw [hb', ha']

theorem ld_row (X : FVec Ideal S8x128x256 .f32) (off : Fin 3 → ℕ) (inb : ∀ a, off a + S1x1x256.size a ≤ S8x128x256.size a) (h : Fin 8) (a : Fin 128)
    (ho : off = ![h.val, a.val, 0]) (t : Fin 256) : View.ld (Val := Elt Ideal) (e' := .f32) X (Rect.unit (s := S8x128x256) off S1x1x256.size inb) (ix3 0 0 t) = X (ix3 h a t) := by
  subst ho
  exact View.ld_unit_apply_of (Val := Elt Ideal) (e := .f32) (S := S8x128x256) X _ _ inb _ (ix3 h a t) (by intro d; fin_cases d <;> simp [ix3])

theorem ld_slab (X : FVec Ideal S8x128x256 .bf16) (off : Fin 3 → ℕ) (inb : ∀ a, off a + S1x128x256.size a ≤ S8x128x256.size a) (h : Fin 8)
    (ho : off = ![h.val, 0, 0]) (b : Fin 128) (t : Fin 256) :
    View.ld (Val := Elt Ideal) (e' := .bf16) X (Rect.unit (s := S8x128x256) off S1x128x256.size inb) (ix3 0 b t) = X (ix3 h b t) := by
  subst ho
  exact View.ld_unit_apply_of (Val := Elt Ideal) (e := .bf16) (S := S8x128x256) X _ _ inb _ (ix3 h b t) (by intro d; fin_cases d <;> simp [ix3])

/-- The first 128 experts of the tile. -/
theorem piece0 (A : FVec Ideal S512x256 .f32) (r p : FVec Ideal S8x128x256 .bf16) (c q : FVec Ideal S8x128x256 .f32) (i : grid0.Coords) (b : Fin 128) (t : Fin 256) :
    k0_pay16 (F := Ideal) A (k0_pay13 (F := Ideal) (k0_pay10 (F := Ideal) (k0_pay7 (F := Ideal) (k0_pay5 (F := Ideal) (View.ld (Val := Elt Ideal) (e' := .f32) q (Rect.unit (s := S8x128x256) (k0_off1 i 0#32) S1x1x256.size (k0_off1_inb i 0)))) (k0_pay6 (F := Ideal) (View.ld (Val := Elt Ideal) (e' := .f32) c (Rect.unit (s := S8x128x256) (k0_off1 i 0#32) S1x1x256.size (k0_off1_inb i 0))) (View.ld (Val := Elt Ideal) (e' := .bf16) r (Rect.unit (s := S8x128x256) ![0, 0, 0] S1x128x256.size inb_S8x128x256_S1x128x256_0_0_0))) (View.ld (Val := Elt Ideal) (e' := .bf16) p (Rect.unit (s := S8x128x256) ![0, 0, 0] S1x128x256.size inb_S8x128x256_S1x128x256_0_0_0)) (View.ld (Val := Elt Ideal) (e' := .f32) c (Rect.unit (s := S8x128x256) (k0_off2 i 0#32) S1x1x256.size (k0_off2_inb i 0))) (View.ld (Val := Elt Ideal) (e' := .f32) q (Rect.unit (s := S8x128x256) (k0_off2 i 0#32) S1x1x256.size (k0_off2_inb i 0))) (View.ld (Val := Elt Ideal) (e' := .bf16) r (Rect.unit (s := S8x128x256) ![1, 0, 0] S1x128x256.size inb_S8x128x256_S1x128x256_1_0_0)) (View.ld (Val := Elt Ideal) (e' := .bf16) p (Rect.unit (s := S8x128x256) ![1, 0, 0] S1x128x256.size inb_S8x128x256_S1x128x256_1_0_0))) (k0_pay8 (F := Ideal) (View.ld (Val := Elt Ideal) (e' := .f32) q (Rect.unit (s := S8x128x256) (k0_off3 i 0#32) S1x1x256.size (k0_off3_inb i 0)))) (k0_pay9 (F := Ideal) (View.ld (Val := Elt Ideal) (e' := .f32) c (Rect.unit (s := S8x128x256) (k0_off3 i 0#32) S1x1x256.size (k0_off3_inb i 0))) (View.ld (Val := Elt Ideal) (e' := .bf16) r (Rect.unit (s := S8x128x256) ![2, 0, 0] S1x128x256.size inb_S8x128x256_S1x128x256_2_0_0))) (View.ld (Val := Elt Ideal) (e' := .bf16) p (Rect.unit (s := S8x128x256) ![2, 0, 0] S1x128x256.size inb_S8x128x256_S1x128x256_2_0_0)) (View.ld (Val := Elt Ideal) (e' := .f32) c (Rect.unit (s := S8x128x256) (k0_off4 i 0#32) S1x1x256.size (k0_off4_inb i 0))) (View.ld (Val := Elt Ideal) (e' := .f32) q (Rect.unit (s := S8x128x256) (k0_off4 i 0#32) S1x1x256.size (k0_off4_inb i 0))) (View.ld (Val := Elt Ideal) (e' := .bf16) r (Rect.unit (s := S8x128x256) ![3, 0, 0] S1x128x256.size inb_S8x128x256_S1x128x256_3_0_0)) (View.ld (Val := Elt Ideal) (e' := .bf16) p (Rect.unit (s := S8x128x256) ![3, 0, 0] S1x128x256.size inb_S8x128x256_S1x128x256_3_0_0))) (k0_pay11 (F := Ideal) (View.ld (Val := Elt Ideal) (e' := .f32) q (Rect.unit (s := S8x128x256) (k0_off5 i 0#32) S1x1x256.size (k0_off5_inb i 0)))) (k0_pay12 (F := Ideal) (View.ld (Val := Elt Ideal) (e' := .f32) c (Rect.unit (s := S8x128x256) (k0_off5 i 0#32) S1x1x256.size (k0_off5_inb i 0))) (View.ld (Val := Elt Ideal) (e' := .bf16) r (Rect.unit (s := S8x128x256) ![4, 0, 0] S1x128x256.size inb_S8x128x256_S1x128x256_4_0_0))) (View.ld (Val := Elt Ideal) (e' := .bf16) p (Rect.unit (s := S8x128x256) ![4, 0, 0] S1x128x256.size inb_S8x128x256_S1x128x256_4_0_0)) (View.ld (Val := Elt Ideal) (e' := .f32) c (Rect.unit (s := S8x128x256) (k0_off6 i 0#32) S1x1x256.size (k0_off6_inb i 0))) (View.ld (Val := Elt Ideal) (e' := .f32) q (Rect.unit (s := S8x128x256) (k0_off6 i 0#32) S1x1x256.size (k0_off6_inb i 0))) (View.ld (Val := Elt Ideal) (e' := .bf16) r (Rect.unit (s := S8x128x256) ![5, 0, 0] S1x128x256.size inb_S8x128x256_S1x128x256_5_0_0)) (View.ld (Val := Elt Ideal) (e' := .bf16) p (Rect.unit (s := S8x128x256) ![5, 0, 0] S1x128x256.size inb_S8x128x256_S1x128x256_5_0_0))) (k0_pay14 (F := Ideal) (View.ld (Val := Elt Ideal) (e' := .f32) q (Rect.unit (s := S8x128x256) (k0_off7 i 0#32) S1x1x256.size (k0_off7_inb i 0)))) (k0_pay15 (F := Ideal) (View.ld (Val := Elt Ideal) (e' := .f32) c (Rect.unit (s := S8x128x256) (k0_off7 i 0#32) S1x1x256.size (k0_off7_inb i 0))) (View.ld (Val := Elt Ideal) (e' := .bf16) r (Rect.unit (s := S8x128x256) ![6, 0, 0] S1x128x256.size inb_S8x128x256_S1x128x256_6_0_0))) (View.ld (Val := Elt Ideal) (e' := .bf16) p (Rect.unit (s := S8x128x256) ![6, 0, 0] S1x128x256.size inb_S8x128x256_S1x128x256_6_0_0)) (View.ld (Val := Elt Ideal) (e' := .f32) c (Rect.unit (s := S8x128x256) (k0_off8 i 0#32) S1x1x256.size (k0_off8_inb i 0))) (View.ld (Val := Elt Ideal) (e' := .f32) q (Rect.unit (s := S8x128x256) (k0_off8 i 0#32) S1x1x256.size (k0_off8_inb i 0))) (View.ld (Val := Elt Ideal) (e' := .bf16) r (Rect.unit (s := S8x128x256) ![7, 0, 0] S1x128x256.size inb_S8x128x256_S1x128x256_7_0_0)) (View.ld (Val := Elt Ideal) (e' := .bf16) p (Rect.unit (s := S8x128x256) ![7, 0, 0] S1x128x256.size inb_S8x128x256_S1x128x256_7_0_0)) (ix2 b t)
      = tileBlk A r p c q (i 1).val (ix2 ⟨0 + b.val, by omega⟩ t) := by
  have hi : (i 1).val < 32 := (i 1).isLt
  rw [tileBlk_at A r p c q (i 1).val ⟨0 + b.val, by omega⟩ b ⟨4 * (i 1).val + 0, by omega⟩ t (by show (0 + b.val) % 128 = b.val; omega)
    (by show (4 * (i 1).val + (0 + b.val) / 128) % 128 = 4 * (i 1).val + 0; omega)]
  refine (group0_at A _ _ _ _ _ _ _ _ _ _ _ _ _ _ _ _ _ _ _ _ _ _ _ _ _ _ _ _ _ _ _ _ b t).trans (congrArg (fun x : EReal => A (ix2 ⟨0 + b.val, by omega⟩ t) * x) (gate8_congr ?_ ?_ ?_ ?_))
  · intro h; fin_cases h
    · exact ld_slab r _ _ 0 rfl b t
    · exact ld_slab r _ _ 1 rfl b t
    · exact ld_slab r _ _ 2 rfl b t
    · exact ld_slab r _ _ 3 rfl b t
    · exact ld_slab r _ _ 4 rfl b t
    · exact ld_slab r _ _ 5 rfl b t
    · exact ld_slab r _ _ 6 rfl b t
    · exact ld_slab r _ _ 7 rfl b t
  · intro h; fin_cases h
    · exact ld_slab p _ _ 0 rfl b t
    · exact ld_slab p _ _ 1 rfl b t
    · exact ld_slab p _ _ 2 rfl b t
    · exact ld_slab p _ _ 3 rfl b t
    · exact ld_slab p _ _ 4 rfl b t
    · exact ld_slab p _ _ 5 rfl b t
    · exact ld_slab p _ _ 6 rfl b t
    · exact ld_slab p _ _ 7 rfl b t
  · intro h; fin_cases h
    · exact ld_row c _ _ 0 ⟨4 * (i 1).val + 0, by omega⟩ (k0_off1_eq i 0) t
    · exact ld_row c _ _ 1 ⟨4 * (i 1).val + 0, by omega⟩ (k0_off2_eq i 0) t
    · exact ld_row c _ _ 2 ⟨4 * (i 1).val + 0, by omega⟩ (k0_off3_eq i 0) t
    · exact ld_row c _ _ 3 ⟨4 * (i 1).val + 0, by omega⟩ (k0_off4_eq i 0) t
    · exact ld_row c _ _ 4 ⟨4 * (i 1).val + 0, by omega⟩ (k0_off5_eq i 0) t
    · exact ld_row c _ _ 5 ⟨4 * (i 1).val + 0, by omega⟩ (k0_off6_eq i 0) t
    · exact ld_row c _ _ 6 ⟨4 * (i 1).val + 0, by omega⟩ (k0_off7_eq i 0) t
    · exact ld_row c _ _ 7 ⟨4 * (i 1).val + 0, by omega⟩ (k0_off8_eq i 0) t
  · intro h; fin_cases h
    · exact ld_row q _ _ 0 ⟨4 * (i 1).val + 0, by omega⟩ (k0_off1_eq i 0) t
    · exact ld_row q _ _ 1 ⟨4 * (i 1).val + 0, by omega⟩ (k0_off2_eq i 0) t
    · exact ld_row q _ _ 2 ⟨4 * (i 1).val + 0, by omega⟩ (k0_off3_eq i 0) t
    · exact ld_row q _ _ 3 ⟨4 * (i 1).val + 0, by omega⟩ (k0_off4_eq i 0) t
    · exact ld_row q _ _ 4 ⟨4 * (i 1).val + 0, by omega⟩ (k0_off5_eq i 0) t
    · exact ld_row q _ _ 5 ⟨4 * (i 1).val + 0, by omega⟩ (k0_off6_eq i 0) t
    · exact ld_row q _ _ 6 ⟨4 * (i 1).val + 0, by omega⟩ (k0_off7_eq i 0) t
    · exact ld_row q _ _ 7 ⟨4 * (i 1).val + 0, by omega⟩ (k0_off8_eq i 0) t

/-- The second 128 experts of the tile. -/
theorem piece1 (A : FVec Ideal S512x256 .f32) (r p : FVec Ideal S8x128x256 .bf16) (c q : FVec Ideal S8x128x256 .f32) (i : grid0.Coords) (b : Fin 128) (t : Fin 256) :
    k0_pay24 (F := Ideal) A (k0_pay22 (F := Ideal) (k0_pay20 (F := Ideal) (k0_pay18 (F := Ideal) (k0_pay17 (F := Ideal) (View.ld (Val := Elt Ideal) (e' := .f32) c (Rect.unit (s := S8x128x256) (k0_off1 i 1#32) S1x1x256.size (k0_off1_inb i 1)))) (View.ld (Val := Elt Ideal) (e' := .f32) q (Rect.unit (s := S8x128x256) (k0_off1 i 1#32) S1x1x256.size (k0_off1_inb i 1))) (View.ld (Val := Elt Ideal) (e' := .bf16) r (Rect.unit (s := S8x128x256) ![0, 0, 0] S1x128x256.size inb_S8x128x256_S1x128x256_0_0_0)) (View.ld (Val := Elt Ideal) (e' := .bf16) p (Rect.unit (s := S8x128x256) ![0, 0, 0] S1x128x256.size inb_S8x128x256_S1x128x256_0_0_0)) (View.ld (Val := Elt Ideal) (e' := .f32) c (Rect.unit (s := S8x128x256) (k0_off2 i 1#32) S1x1x256.size (k0_off2_inb i 1))) (View.ld (Val := Elt Ideal) (e' := .f32) q (Rect.unit (s := S8x128x256) (k0_off2 i 1#32) S1x1x256.size (k0_off2_inb i 1))) (View.ld (Val := Elt Ideal) (e' := .bf16) r (Rect.unit (s := S8x128x256) ![1, 0, 0] S1x128x256.size inb_S8x128x256_S1x128x256_1_0_0)) (View.ld (Val := Elt Ideal) (e' := .bf16) p (Rect.unit (s := S8x128x256) ![1, 0, 0] S1x128x256.size inb_S8x128x256_S1x128x256_1_0_0))) (k0_pay19 (F := Ideal) (View.ld (Val := Elt Ideal) (e' := .f32) c (Rect.unit (s := S8x128x256) (k0_off3 i 1#32) S1x1x256.size (k0_off3_inb i 1)))) (View.ld (Val := Elt Ideal) (e' := .f32) q (Rect.unit (s := S8x128x256) (k0_off3 i 1#32) S1x1x256.size (k0_off3_inb i 1))) (View.ld (Val := Elt Ideal) (e' := .bf16) r (Rect.unit (s := S8x128x256) ![2, 0, 0] S1x128x256.size inb_S8x128x256_S1x128x256_2_0_0)) (View.ld (Val := Elt Ideal) (e' := .bf16) p (Rect.unit (s := S8x128x256) ![2, 0, 0] S1x128x256.size inb_S8x128x256_S1x128x256_2_0_0)) (View.ld (Val := Elt Ideal) (e' := .f32) c (Rect.unit (s := S8x128x256) (k0_off4 i 1#32) S1x1x256.size (k0_off4_inb i 1))) (View.ld (Val := Elt Ideal) (e' := .f32) q (Rect.unit (s := S8x128x256) (k0_off4 i 1#32) S1x1x256.size (k0_off4_inb i 1))) (View.ld (Val := Elt Ideal) (e' := .bf16) r (Rect.unit (s := S8x128x256) ![3, 0, 0] S1x128x256.size inb_S8x128x256_S1x128x256_3_0_0)) (View.ld (Val := Elt Ideal) (e' := .bf16) p (Rect.unit (s := S8x128x256) ![3, 0, 0] S1x128x256.size inb_S8x128x256_S1x128x256_3_0_0))) (k0_pay21 (F := Ideal) (View.ld (Val := Elt Ideal) (e' := .f32) c (Rect.unit (s := S8x128x256) (k0_off5 i 1#32) S1x1x256.size (k0_off5_inb i 1)))) (View.ld (Val := Elt Ideal) (e' := .f32) q (Rect.unit (s := S8x128x256) (k0_off5 i 1#32) S1x1x256.size (k0_off5_inb i 1))) (View.ld (Val := Elt Ideal) (e' := .bf16) r (Rect.unit (s := S8x128x256) ![4, 0, 0] S1x128x256.size inb_S8x128x256_S1x128x256_4_0_0)) (View.ld (Val := Elt Ideal) (e' := .bf16) p (Rect.unit (s := S8x128x256) ![4, 0, 0] S1x128x256.size inb_S8x128x256_S1x128x256_4_0_0)) (View.ld (Val := Elt Ideal) (e' := .f32) c (Rect.unit (s := S8x128x256) (k0_off6 i 1#32) S1x1x256.size (k0_off6_inb i 1))) (View.ld (Val := Elt Ideal) (e' := .f32) q (Rect.unit (s := S8x128x256) (k0_off6 i 1#32) S1x1x256.size (k0_off6_inb i 1))) (View.ld (Val := Elt Ideal) (e' := .bf16) r (Rect.unit (s := S8x128x256) ![5, 0, 0] S1x128x256.size inb_S8x128x256_S1x128x256_5_0_0)) (View.ld (Val := Elt Ideal) (e' := .bf16) p (Rect.unit (s := S8x128x256) ![5, 0, 0] S1x128x256.size inb_S8x128x256_S1x128x256_5_0_0))) (k0_pay23 (F := Ideal) (View.ld (Val := Elt Ideal) (e' := .f32) c (Rect.unit (s := S8x128x256) (k0_off7 i 1#32) S1x1x256.size (k0_off7_inb i 1)))) (View.ld (Val := Elt Ideal) (e' := .f32) q (Rect.unit (s := S8x128x256) (k0_off7 i 1#32) S1x1x256.size (k0_off7_inb i 1))) (View.ld (Val := Elt Ideal) (e' := .bf16) r (Rect.unit (s := S8x128x256) ![6, 0, 0] S1x128x256.size inb_S8x128x256_S1x128x256_6_0_0)) (View.ld (Val := Elt Ideal) (e' := .bf16) p (Rect.unit (s := S8x128x256) ![6, 0, 0] S1x128x256.size inb_S8x128x256_S1x128x256_6_0_0)) (View.ld (Val := Elt Ideal) (e' := .f32) c (Rect.unit (s := S8x128x256) (k0_off8 i 1#32) S1x1x256.size (k0_off8_inb i 1))) (View.ld (Val := Elt Ideal) (e' := .f32) q (Rect.unit (s := S8x128x256) (k0_off8 i 1#32) S1x1x256.size (k0_off8_inb i 1))) (View.ld (Val := Elt Ideal) (e' := .bf16) r (Rect.unit (s := S8x128x256) ![7, 0, 0] S1x128x256.size inb_S8x128x256_S1x128x256_7_0_0)) (View.ld (Val := Elt Ideal) (e' := .bf16) p (Rect.unit (s := S8x128x256) ![7, 0, 0] S1x128x256.size inb_S8x128x256_S1x128x256_7_0_0)) (ix2 b t)
      = tileBlk A r p c q (i 1).val (ix2 ⟨128 + b.val, by omega⟩ t) := by
  have hi : (i 1).val < 32 := (i 1).isLt
  rw [tileBlk_at A r p c q (i 1).val ⟨128 + b.val, by omega⟩ b ⟨4 * (i 1).val + 1, by omega⟩ t (by show (128 + b.val) % 128 = b.val; omega)
    (by show (4 * (i 1).val + (128 + b.val) / 128) % 128 = 4 * (i 1).val + 1; omega)]
  refine (group1_at A _ _ _ _ _ _ _ _ _ _ _ _ _ _ _ _ _ _ _ _ _ _ _ _ _ _ _ _ _ _ _ _ b t).trans (congrArg (fun x : EReal => A (ix2 ⟨128 + b.val, by omega⟩ t) * x) (gate8_congr ?_ ?_ ?_ ?_))
  · intro h; fin_cases h
    · exact ld_slab r _ _ 0 rfl b t
    · exact ld_slab r _ _ 1 rfl b t
    · exact ld_slab r _ _ 2 rfl b t
    · exact ld_slab r _ _ 3 rfl b t
    · exact ld_slab r _ _ 4 rfl b t
    · exact ld_slab r _ _ 5 rfl b t
    · exact ld_slab r _ _ 6 rfl b t
    · exact ld_slab r _ _ 7 rfl b t
  · intro h; fin_cases h
    · exact ld_slab p _ _ 0 rfl b t
    · exact ld_slab p _ _ 1 rfl b t
    · exact ld_slab p _ _ 2 rfl b t
    · exact ld_slab p _ _ 3 rfl b t
    · exact ld_slab p _ _ 4 rfl b t
    · exact ld_slab p _ _ 5 rfl b t
    · exact ld_slab p _ _ 6 rfl b t
    · exact ld_slab p _ _ 7 rfl b t
  · intro h; fin_cases h
    · exact ld_row c _ _ 0 ⟨4 * (i 1).val + 1, by omega⟩ (k0_off1_eq i 1) t
    · exact ld_row c _ _ 1 ⟨4 * (i 1).val + 1, by omega⟩ (k0_off2_eq i 1) t
    · exact ld_row c _ _ 2 ⟨4 * (i 1).val + 1, by omega⟩ (k0_off3_eq i 1) t
    · exact ld_row c _ _ 3 ⟨4 * (i 1).val + 1, by omega⟩ (k0_off4_eq i 1) t
    · exact ld_row c _ _ 4 ⟨4 * (i 1).val + 1, by omega⟩ (k0_off5_eq i 1) t
    · exact ld_row c _ _ 5 ⟨4 * (i 1).val + 1, by omega⟩ (k0_off6_eq i 1) t
    · exact ld_row c _ _ 6 ⟨4 * (i 1).val + 1, by omega⟩ (k0_off7_eq i 1) t
    · exact ld_row c _ _ 7 ⟨4 * (i 1).val + 1, by omega⟩ (k0_off8_eq i 1) t
  · intro h; fin_cases h
    · exact ld_row q _ _ 0 ⟨4 * (i 1).val + 1, by omega⟩ (k0_off1_eq i 1) t
    · exact ld_row q _ _ 1 ⟨4 * (i 1).val + 1, by omega⟩ (k0_off2_eq i 1) t
    · exact ld_row q _ _ 2 ⟨4 * (i 1).val + 1, by omega⟩ (k0_off3_eq i 1) t
    · exact ld_row q _ _ 3 ⟨4 * (i 1).val + 1, by omega⟩ (k0_off4_eq i 1) t
    · exact ld_row q _ _ 4 ⟨4 * (i 1).val + 1, by omega⟩ (k0_off5_eq i 1) t
    · exact ld_row q _ _ 5 ⟨4 * (i 1).val + 1, by omega⟩ (k0_off6_eq i 1) t
    · exact ld_row q _ _ 6 ⟨4 * (i 1).val + 1, by omega⟩ (k0_off7_eq i 1) t
    · exact ld_row q _ _ 7 ⟨4 * (i 1).val + 1, by omega⟩ (k0_off8_eq i 1) t

/-- The third 128 experts of the tile. -/
theorem piece2 (A : FVec Ideal S512x256 .f32) (r p : FVec Ideal S8x128x256 .bf16) (c q : FVec Ideal S8x128x256 .f32) (i : grid0.Coords) (b : Fin 128) (t : Fin 256) :
    k0_pay37 (F := Ideal) A (k0_pay34 (F := Ideal) (k0_pay31 (F := Ideal) (k0_pay28 (F := Ideal) (k0_pay25 (F := Ideal) (View.ld (Val := Elt Ideal) (e' := .f32) c (Rect.unit (s := S8x128x256) (k0_off1 i 2#32) S1x1x256.size (k0_off1_inb i 2))) (View.ld (Val := Elt Ideal) (e' := .f32) q (Rect.unit (s := S8x128x256) (k0_off1 i 2#32) S1x1x256.size (k0_off1_inb i 2))) (View.ld (Val := Elt Ideal) (e' := .bf16) r (Rect.unit (s := S8x128x256) ![0, 0, 0] S1x128x256.size inb_S8x128x256_S1x128x256_0_0_0)) (View.ld (Val := Elt Ideal) (e' := .bf16) p (Rect.unit (s := S8x128x256) ![0, 0, 0] S1x128x256.size inb_S8x128x256_S1x128x256_0_0_0))) (k0_pay26 (F := Ideal) (View.ld (Val := Elt Ideal) (e' := .f32) q (Rect.unit (s := S8x128x256) (k0_off2 i 2#32) S1x1x256.size (k0_off2_inb i 2)))) (k0_pay27 (F := Ideal) (View.ld (Val := Elt Ideal) (e' := .f32) c (Rect.unit (s := S8x128x256) (k0_off2 i 2#32) S1x1x256.size (k0_off2_inb i 2))) (View.ld (Val := Elt Ideal) (e' := .bf16) r (Rect.unit (s := S8x128x256) ![1, 0, 0] S1x128x256.size inb_S8x128x256_S1x128x256_1_0_0)) (View.ld (Val := Elt Ideal) (e' := .bf16) p (Rect.unit (s := S8x128x256) ![1, 0, 0] S1x128x256.size inb_S8x128x256_S1x128x256_1_0_0))) (View.ld (Val := Elt Ideal) (e' := .f32) c (Rect.unit (s := S8x128x256) (k0_off3 i 2#32) S1x1x256.size (k0_off3_inb i 2))) (View.ld (Val := Elt Ideal) (e' := .f32) q (Rect.unit (s := S8x128x256) (k0_off3 i 2#32) S1x1x256.size (k0_off3_inb i 2))) (View.ld (Val := Elt Ideal) (e' := .bf16) r (Rect.unit (s := S8x128x256) ![2, 0, 0] S1x128x256.size inb_S8x128x256_S1x128x256_2_0_0)) (View.ld (Val := Elt Ideal) (e' := .bf16) p (Rect.unit (s := S8x128x256) ![2, 0, 0] S1x128x256.size inb_S8x128x256_S1x128x256_2_0_0))) (k0_pay29 (F := Ideal) (View.ld (Val := Elt Ideal) (e' := .f32) q (Rect.unit (s := S8x128x256) (k0_off4 i 2#32) S1x1x256.size (k0_off4_inb i 2)))) (k0_pay30 (F := Ideal) (View.ld (Val := Elt Ideal) (e' := .f32) c (Rect.unit (s := S8x128x256) (k0_off4 i 2#32) S1x1x256.size (k0_off4_inb i 2))) (View.ld (Val := Elt Ideal) (e' := .bf16) r (Rect.unit (s := S8x128x256) ![3, 0, 0] S1x128x256.size inb_S8x128x256_S1x128x256_3_0_0)) (View.ld (Val := Elt Ideal) (e' := .bf16) p (Rect.unit (s := S8x128x256) ![3, 0, 0] S1x128x256.size inb_S8x128x256_S1x128x256_3_0_0))) (View.ld (Val := Elt Ideal) (e' := .f32) c (Rect.unit (s := S8x128x256) (k0_off5 i 2#32) S1x1x256.size (k0_off5_inb i 2))) (View.ld (Val := Elt Ideal) (e' := .f32) q (Rect.unit (s := S8x128x256) (k0_off5 i 2#32) S1x1x256.size (k0_off5_inb i 2))) (View.ld (Val := Elt Ideal) (e' := .bf16) r (Rect.unit (s := S8x128x256) ![4, 0, 0] S1x128x256.size inb_S8x128x256_S1x128x256_4_0_0)) (View.ld (Val := Elt Ideal) (e' := .bf16) p (Rect.unit (s := S8x128x256) ![4, 0, 0] S1x128x256.size inb_S8x128x256_S1x128x256_4_0_0))) (k0_pay32 (F := Ideal) (View.ld (Val := Elt Ideal) (e' := .f32) q (Rect.unit (s := S8x128x256) (k0_off6 i 2#32) S1x1x256.size (k0_off6_inb i 2)))) (k0_pay33 (F := Ideal) (View.ld (Val := Elt Ideal) (e' := .f32) c (Rect.unit (s := S8x128x256) (k0_off6 i 2#32) S1x1x256.size (k0_off6_inb i 2))) (View.ld (Val := Elt Ideal) (e' := .bf16) r (Rect.unit (s := S8x128x256) ![5, 0, 0] S1x128x256.size inb_S8x128x256_S1x128x256_5_0_0)) (View.ld (Val := Elt Ideal) (e' := .bf16) p (Rect.unit (s := S8x128x256) ![5, 0, 0] S1x128x256.size inb_S8x128x256_S1x128x256_5_0_0))) (View.ld (Val := Elt Ideal) (e' := .f32) c (Rect.unit (s := S8x128x256) (k0_off7 i 2#32) S1x1x256.size (k0_off7_inb i 2))) (View.ld (Val := Elt Ideal) (e' := .f32) q (Rect.unit (s := S8x128x256) (k0_off7 i 2#32) S1x1x256.size (k0_off7_inb i 2))) (View.ld (Val := Elt Ideal) (e' := .bf16) r (Rect.unit (s := S8x128x256) ![6, 0, 0] S1x128x256.size inb_S8x128x256_S1x128x256_6_0_0)) (View.ld (Val := Elt Ideal) (e' := .bf16) p (Rect.unit (s := S8x128x256) ![6, 0, 0] S1x128x256.size inb_S8x128x256_S1x128x256_6_0_0))) (k0_pay35 (F := Ideal) (View.ld (Val := Elt Ideal) (e' := .f32) q (Rect.unit (s := S8x128x256) (k0_off8 i 2#32) S1x1x256.size (k0_off8_inb i 2)))) (k0_pay36 (F := Ideal) (View.ld (Val := Elt Ideal) (e' := .f32) c (Rect.unit (s := S8x128x256) (k0_off8 i 2#32) S1x1x256.size (k0_off8_inb i 2))) (View.ld (Val := Elt Ideal) (e' := .bf16) r (Rect.unit (s := S8x128x256) ![7, 0, 0] S1x128x256.size inb_S8x128x256_S1x128x256_7_0_0)) (View.ld (Val := Elt Ideal) (e' := .bf16) p (Rect.unit (s := S8x128x256) ![7, 0, 0] S1x128x256.size inb_S8x128x256_S1x128x256_7_0_0))) (ix2 b t)
      = tileBlk A r p c q (i 1).val (ix2 ⟨256 + b.val, by omega⟩ t) := by
  have hi : (i 1).val < 32 := (i 1).isLt
  rw [tileBlk_at A r p c q (i 1).val ⟨256 + b.val, by omega⟩ b ⟨4 * (i 1).val + 2, by omega⟩ t (by show (256 + b.val) % 128 = b.val; omega)
    (by show (4 * (i 1).val + (256 + b.val) / 128) % 128 = 4 * (i 1).val + 2; omega)]
  refine (group2_at A _ _ _ _ _ _ _ _ _ _ _ _ _ _ _ _ _ _ _ _ _ _ _ _ _ _ _ _ _ _ _ _ b t).trans (congrArg (fun x : EReal => A (ix2 ⟨256 + b.val, by omega⟩ t) * x) (gate8_congr ?_ ?_ ?_ ?_))
  · intro h; fin_cases h
    · exact ld_slab r _ _ 0 rfl b t
    · exact ld_slab r _ _ 1 rfl b t
    · exact ld_slab r _ _ 2 rfl b t
    · exact ld_slab r _ _ 3 rfl b t
    · exact ld_slab r _ _ 4 rfl b t
    · exact ld_slab r _ _ 5 rfl b t
    · exact ld_slab r _ _ 6 rfl b t
    · exact ld_slab r _ _ 7 rfl b t
  · intro h; fin_cases h
    · exact ld_slab p _ _ 0 rfl b t
    · exact ld_slab p _ _ 1 rfl b t
    · exact ld_slab p _ _ 2 rfl b t
    · exact ld_slab p _ _ 3 rfl b t
    · exact ld_slab p _ _ 4 rfl b t
    · exact ld_slab p _ _ 5 rfl b t
    · exact ld_slab p _ _ 6 rfl b t
    · exact ld_slab p _ _ 7 rfl b t
  · intro h; fin_cases h
    · exact ld_row c _ _ 0 ⟨4 * (i 1).val + 2, by omega⟩ (k0_off1_eq i 2) t
    · exact ld_row c _ _ 1 ⟨4 * (i 1).val + 2, by omega⟩ (k0_off2_eq i 2) t
    · exact ld_row c _ _ 2 ⟨4 * (i 1).val + 2, by omega⟩ (k0_off3_eq i 2) t
    · exact ld_row c _ _ 3 ⟨4 * (i 1).val + 2, by omega⟩ (k0_off4_eq i 2) t
    · exact ld_row c _ _ 4 ⟨4 * (i 1).val + 2, by omega⟩ (k0_off5_eq i 2) t
    · exact ld_row c _ _ 5 ⟨4 * (i 1).val + 2, by omega⟩ (k0_off6_eq i 2) t
    · exact ld_row c _ _ 6 ⟨4 * (i 1).val + 2, by omega⟩ (k0_off7_eq i 2) t
    · exact ld_row c _ _ 7 ⟨4 * (i 1).val + 2, by omega⟩ (k0_off8_eq i 2) t
  · intro h; fin_cases h
    · exact ld_row q _ _ 0 ⟨4 * (i 1).val + 2, by omega⟩ (k0_off1_eq i 2) t
    · exact ld_row q _ _ 1 ⟨4 * (i 1).val + 2, by omega⟩ (k0_off2_eq i 2) t
    · exact ld_row q _ _ 2 ⟨4 * (i 1).val + 2, by omega⟩ (k0_off3_eq i 2) t
    · exact ld_row q _ _ 3 ⟨4 * (i 1).val + 2, by omega⟩ (k0_off4_eq i 2) t
    · exact ld_row q _ _ 4 ⟨4 * (i 1).val + 2, by omega⟩ (k0_off5_eq i 2) t
    · exact ld_row q _ _ 5 ⟨4 * (i 1).val + 2, by omega⟩ (k0_off6_eq i 2) t
    · exact ld_row q _ _ 6 ⟨4 * (i 1).val + 2, by omega⟩ (k0_off7_eq i 2) t
    · exact ld_row q _ _ 7 ⟨4 * (i 1).val + 2, by omega⟩ (k0_off8_eq i 2) t

/-- The fourth 128 experts of the tile. -/
theorem piece3 (A : FVec Ideal S512x256 .f32) (r p : FVec Ideal S8x128x256 .bf16) (c q : FVec Ideal S8x128x256 .f32) (i : grid0.Coords) (b : Fin 128) (t : Fin 256) :
    k0_pay50 (F := Ideal) A (k0_pay47 (F := Ideal) (k0_pay44 (F := Ideal) (k0_pay41 (F := Ideal) (k0_pay38 (F := Ideal) (View.ld (Val := Elt Ideal) (e' := .f32) c (Rect.unit (s := S8x128x256) (k0_off1 i 3#32) S1x1x256.size (k0_off1_inb i 3))) (View.ld (Val := Elt Ideal) (e' := .f32) q (Rect.unit (s := S8x128x256) (k0_off1 i 3#32) S1x1x256.size (k0_off1_inb i 3))) (View.ld (Val := Elt Ideal) (e' := .bf16) r (Rect.unit (s := S8x128x256) ![0, 0, 0] S1x128x256.size inb_S8x128x256_S1x128x256_0_0_0)) (View.ld (Val := Elt Ideal) (e' := .bf16) p (Rect.unit (s := S8x128x256) ![0, 0, 0] S1x128x256.size inb_S8x128x256_S1x128x256_0_0_0))) (k0_pay39 (F := Ideal) (View.ld (Val := Elt Ideal) (e' := .f32) c (Rect.unit (s := S8x128x256) (k0_off2 i 3#32) S1x1x256.size (k0_off2_inb i 3)))) (k0_pay40 (F := Ideal) (View.ld (Val := Elt Ideal) (e' := .f32) q (Rect.unit (s := S8x128x256) (k0_off2 i 3#32) S1x1x256.size (k0_off2_inb i 3)))) (View.ld (Val := Elt Ideal) (e' := .bf16) r (Rect.unit (s := S8x128x256) ![1, 0, 0] S1x128x256.size inb_S8x128x256_S1x128x256_1_0_0)) (View.ld (Val := Elt Ideal) (e' := .bf16) p (Rect.unit (s := S8x128x256) ![1, 0, 0] S1x128x256.size inb_S8x128x256_S1x128x256_1_0_0)) (View.ld (Val := Elt Ideal) (e' := .f32) c (Rect.unit (s := S8x128x256) (k0_off3 i 3#32) S1x1x256.size (k0_off3_inb i 3))) (View.ld (Val := Elt Ideal) (e' := .f32) q (Rect.unit (s := S8x128x256) (k0_off3 i 3#32) S1x1x256.size (k0_off3_inb i 3))) (View.ld (Val := Elt Ideal) (e' := .bf16) r (Rect.unit (s := S8x128x256) ![2, 0, 0] S1x128x256.size inb_S8x128x256_S1x128x256_2_0_0)) (View.ld (Val := Elt Ideal) (e' := .bf16) p (Rect.unit (s := S8x128x256) ![2, 0, 0] S1x128x256.size inb_S8x128x256_S1x128x256_2_0_0))) (k0_pay42 (F := Ideal) (View.ld (Val := Elt Ideal) (e' := .f32) c (Rect.unit (s := S8x128x256) (k0_off4 i 3#32) S1x1x256.size (k0_off4_inb i 3)))) (k0_pay43 (F := Ideal) (View.ld (Val := Elt Ideal) (e' := .f32) q (Rect.unit (s := S8x128x256) (k0_off4 i 3#32) S1x1x256.size (k0_off4_inb i 3)))) (View.ld (Val := Elt Ideal) (e' := .bf16) r (Rect.unit (s := S8x128x256) ![3, 0, 0] S1x128x256.size inb_S8x128x256_S1x128x256_3_0_0)) (View.ld (Val := Elt Ideal) (e' := .bf16) p (Rect.unit (s := S8x128x256) ![3, 0, 0] S1x128x256.size inb_S8x128x256_S1x128x256_3_0_0)) (View.ld (Val := Elt Ideal) (e' := .f32) c (Rect.unit (s := S8x128x256) (k0_off5 i 3#32) S1x1x256.size (k0_off5_inb i 3))) (View.ld (Val := Elt Ideal) (e' := .f32) q (Rect.unit (s := S8x128x256) (k0_off5 i 3#32) S1x1x256.size (k0_off5_inb i 3))) (View.ld (Val := Elt Ideal) (e' := .bf16) r (Rect.unit (s := S8x128x256) ![4, 0, 0] S1x128x256.size inb_S8x128x256_S1x128x256_4_0_0)) (View.ld (Val := Elt Ideal) (e' := .bf16) p (Rect.unit (s := S8x128x256) ![4, 0, 0] S1x128x256.size inb_S8x128x256_S1x128x256_4_0_0))) (k0_pay45 (F := Ideal) (View.ld (Val := Elt Ideal) (e' := .f32) c (Rect.unit (s := S8x128x256) (k0_off6 i 3#32) S1x1x256.size (k0_off6_inb i 3)))) (k0_pay46 (F := Ideal) (View.ld (Val := Elt Ideal) (e' := .f32) q (Rect.unit (s := S8x128x256) (k0_off6 i 3#32) S1x1x256.size (k0_off6_inb i 3)))) (View.ld (Val := Elt Ideal) (e' := .bf16) r (Rect.unit (s := S8x128x256) ![5, 0, 0] S1x128x256.size inb_S8x128x256_S1x128x256_5_0_0)) (View.ld (Val := Elt Ideal) (e' := .bf16) p (Rect.unit (s := S8x128x256) ![5, 0, 0] S1x128x256.size inb_S8x128x256_S1x128x256_5_0_0)) (View.ld (Val := Elt Ideal) (e' := .f32) c (Rect.unit (s := S8x128x256) (k0_off7 i 3#32) S1x1x256.size (k0_off7_inb i 3))) (View.ld (Val := Elt Ideal) (e' := .f32) q (Rect.unit (s := S8x128x256) (k0_off7 i 3#32) S1x1x256.size (k0_off7_inb i 3))) (View.ld (Val := Elt Ideal) (e' := .bf16) r (Rect.unit (s := S8x128x256) ![6, 0, 0] S1x128x256.size inb_S8x128x256_S1x128x256_6_0_0)) (View.ld (Val := Elt Ideal) (e' := .bf16) p (Rect.unit (s := S8x128x256) ![6, 0, 0] S1x128x256.size inb_S8x128x256_S1x128x256_6_0_0))) (k0_pay48 (F := Ideal) (View.ld (Val := Elt Ideal) (e' := .f32) c (Rect.unit (s := S8x128x256) (k0_off8 i 3#32) S1x1x256.size (k0_off8_inb i 3)))) (k0_pay49 (F := Ideal) (View.ld (Val := Elt Ideal) (e' := .f32) q (Rect.unit (s := S8x128x256) (k0_off8 i 3#32) S1x1x256.size (k0_off8_inb i 3)))) (View.ld (Val := Elt Ideal) (e' := .bf16) r (Rect.unit (s := S8x128x256) ![7, 0, 0] S1x128x256.size inb_S8x128x256_S1x128x256_7_0_0)) (View.ld (Val := Elt Ideal) (e' := .bf16) p (Rect.unit (s := S8x128x256) ![7, 0, 0] S1x128x256.size inb_S8x128x256_S1x128x256_7_0_0)) (ix2 b t)
      = tileBlk A r p c q (i 1).val (ix2 ⟨384 + b.val, by omega⟩ t) := by
  have hi : (i 1).val < 32 := (i 1).isLt
  rw [tileBlk_at A r p c q (i 1).val ⟨384 + b.val, by omega⟩ b ⟨4 * (i 1).val + 3, by omega⟩ t (by show (384 + b.val) % 128 = b.val; omega)
    (by show (4 * (i 1).val + (384 + b.val) / 128) % 128 = 4 * (i 1).val + 3; omega)]
  refine (group3_at A _ _ _ _ _ _ _ _ _ _ _ _ _ _ _ _ _ _ _ _ _ _ _ _ _ _ _ _ _ _ _ _ b t).trans (congrArg (fun x : EReal => A (ix2 ⟨384 + b.val, by omega⟩ t) * x) (gate8_congr ?_ ?_ ?_ ?_))
  · intro h; fin_cases h
    · exact ld_slab r _ _ 0 rfl b t
    · exact ld_slab r _ _ 1 rfl b t
    · exact ld_slab r _ _ 2 rfl b t
    · exact ld_slab r _ _ 3 rfl b t
    · exact ld_slab r _ _ 4 rfl b t
    · exact ld_slab r _ _ 5 rfl b t
    · exact ld_slab r _ _ 6 rfl b t
    · exact ld_slab r _ _ 7 rfl b t
  · intro h; fin_cases h
    · exact ld_slab p _ _ 0 rfl b t
    · exact ld_slab p _ _ 1 rfl b t
    · exact ld_slab p _ _ 2 rfl b t
    · exact ld_slab p _ _ 3 rfl b t
    · exact ld_slab p _ _ 4 rfl b t
    · exact ld_slab p _ _ 5 rfl b t
    · exact ld_slab p _ _ 6 rfl b t
    · exact ld_slab p _ _ 7 rfl b t
  · intro h; fin_cases h
    · exact ld_row c _ _ 0 ⟨4 * (i 1).val + 3, by omega⟩ (k0_off1_eq i 3) t
    · exact ld_row c _ _ 1 ⟨4 * (i 1).val + 3, by omega⟩ (k0_off2_eq i 3) t
    · exact ld_row c _ _ 2 ⟨4 * (i 1).val + 3, by omega⟩ (k0_off3_eq i 3) t
    · exact ld_row c _ _ 3 ⟨4 * (i 1).val + 3, by omega⟩ (k0_off4_eq i 3) t
    · exact ld_row c _ _ 4 ⟨4 * (i 1).val + 3, by omega⟩ (k0_off5_eq i 3) t
    · exact ld_row c _ _ 5 ⟨4 * (i 1).val + 3, by omega⟩ (k0_off6_eq i 3) t
    · exact ld_row c _ _ 6 ⟨4 * (i 1).val + 3, by omega⟩ (k0_off7_eq i 3) t
    · exact ld_row c _ _ 7 ⟨4 * (i 1).val + 3, by omega⟩ (k0_off8_eq i 3) t
  · intro h; fin_cases h
    · exact ld_row q _ _ 0 ⟨4 * (i 1).val + 3, by omega⟩ (k0_off1_eq i 3) t
    · exact ld_row q _ _ 1 ⟨4 * (i 1).val + 3, by omega⟩ (k0_off2_eq i 3) t
    · exact ld_row q _ _ 2 ⟨4 * (i 1).val + 3, by omega⟩ (k0_off3_eq i 3) t
    · exact ld_row q _ _ 3 ⟨4 * (i 1).val + 3, by omega⟩ (k0_off4_eq i 3) t
    · exact ld_row q _ _ 4 ⟨4 * (i 1).val + 3, by omega⟩ (k0_off5_eq i 3) t
    · exact ld_row q _ _ 5 ⟨4 * (i 1).val + 3, by omega⟩ (k0_off6_eq i 3) t
    · exact ld_row q _ _ 6 ⟨4 * (i 1).val + 3, by omega⟩ (k0_off7_eq i 3) t
    · exact ld_row q _ _ 7 ⟨4 * (i 1).val + 3, by omega⟩ (k0_off8_eq i 3) t

/-- Four stores of 128 rows each, read back whole: each entry is the entry of the store that holds it. -/
theorem stored_at (w3 w2 w1 w0 : FVec Ideal S128x256 .bf16) (G : FVec Ideal S512x256 .bf16)
    (h3 : ∀ (b : Fin 128) (t : Fin 256), w3 (ix2 b t) = G (ix2 ⟨384 + b.val, by omega⟩ t))
    (h2 : ∀ (b : Fin 128) (t : Fin 256), w2 (ix2 b t) = G (ix2 ⟨256 + b.val, by omega⟩ t))
    (h1 : ∀ (b : Fin 128) (t : Fin 256), w1 (ix2 b t) = G (ix2 ⟨128 + b.val, by omega⟩ t))
    (h0 : ∀ (b : Fin 128) (t : Fin 256), w0 (ix2 b t) = G (ix2 ⟨0 + b.val, by omega⟩ t))
    (E : Fin 512) (t : Fin 256) :
    (View.whole cc0_scratch1).readCov (Val := Elt Ideal) [⟨Rect.unit (s := S512x256) ![384, 0] S128x256.size inb_S512x256_S128x256_384_0, w3⟩, ⟨Rect.unit (s := S512x256) ![256, 0] S128x256.size inb_S512x256_S128x256_256_0, w2⟩, ⟨Rect.unit (s := S512x256) ![128, 0] S128x256.size inb_S512x256_S128x256_128_0, w1⟩, ⟨Rect.unit (s := S512x256) ![0, 0] S128x256.size inb_S512x256_S128x256_0_0, w0⟩]
      (Rect.unit (s := S512x256) ![0, 0] S512x256.size inb_S512x256_S512x256_0_0).toLoadRect (ix2 E t) = G (ix2 E t) := by
  rw [View.readCov_eq_canon']
  have he : (Rect.unit (s := S512x256) ![0, 0] S512x256.size inb_S512x256_S512x256_0_0).toLoadRect.idx (ix2 E t) = ix2 E t :=
    funext fun a => Fin.ext (by fin_cases a <;> simp [LoadRect.idx, Rect.toLoadRect, Rect.unit, ix2])
  show View.canon _ ((Rect.unit (s := S512x256) ![0, 0] S512x256.size inb_S512x256_S512x256_0_0).toLoadRect.idx (ix2 E t)) = _
  rw [he]
  have h := View.canon_append_of_piecesOf (Val := Elt Ideal) (e := .bf16) G [] [⟨Rect.unit (s := S512x256) ![384, 0] S128x256.size inb_S512x256_S128x256_384_0, w3⟩, ⟨Rect.unit (s := S512x256) ![256, 0] S128x256.size inb_S512x256_S128x256_256_0, w2⟩, ⟨Rect.unit (s := S512x256) ![128, 0] S128x256.size inb_S512x256_S128x256_128_0, w1⟩, ⟨Rect.unit (s := S512x256) ![0, 0] S128x256.size inb_S512x256_S128x256_0_0, w0⟩]
    ⟨fun x => ?_, fun x => ?_, fun x => ?_, fun x => ?_, trivial⟩ (ix2 E t)
    (View.cover_of_tiledL (s := S512x256) _ S128x256.size (by sl_kernel_rfl) (ix2 E t))
  · exact h
  · obtain ⟨b, s, rfl⟩ : ∃ (b : Fin 128) (s : Fin 256), x = ix2 b s := ⟨x 0, x 1, funext fun a => by fin_cases a <;> rfl⟩
    exact (h3 b s).trans (congrArg G (funext fun a => Fin.ext (by fin_cases a <;> simp [Rect.emb, LoadRect.idx, Rect.unit, ix2])))
  · obtain ⟨b, s, rfl⟩ : ∃ (b : Fin 128) (s : Fin 256), x = ix2 b s := ⟨x 0, x 1, funext fun a => by fin_cases a <;> rfl⟩
    exact (h2 b s).trans (congrArg G (funext fun a => Fin.ext (by fin_cases a <;> simp [Rect.emb, LoadRect.idx, Rect.unit, ix2])))
  · obtain ⟨b, s, rfl⟩ : ∃ (b : Fin 128) (s : Fin 256), x = ix2 b s := ⟨x 0, x 1, funext fun a => by fin_cases a <;> rfl⟩
    exact (h1 b s).trans (congrArg G (funext fun a => Fin.ext (by fin_cases a <;> simp [Rect.emb, LoadRect.idx, Rect.unit, ix2])))
  · obtain ⟨b, s, rfl⟩ : ∃ (b : Fin 128) (s : Fin 256), x = ix2 b s := ⟨x 0, x 1, funext fun a => by fin_cases a <;> rfl⟩
    exact (h0 b s).trans (congrArg G (funext fun a => Fin.ext (by fin_cases a <;> simp [Rect.emb, LoadRect.idx, Rect.unit, ix2])))

end Cert.MisIdeal.Val

end
-- ==== Proof.Mis.Arr.lean ====
/- The array the expert mixing leaves, entry by entry, from the arrays it finds. -/
module

public import proofs.«01_k».proof.Proof.Mis.Tile

@[expose] public section

set_option maxRecDepth 16384

noncomputable section

namespace Cert.MisIdeal.Val

open Idealize.ShloMosaic Idealize.ShloMosaic.TcCoe Idealize.SL.Sem
open Cert.MisIdeal Cert.MisIdeal.Gen Cert.LayerMath

variable (m : (ℓ : Loc nD τ sig) → Buf (Elt Ideal) ℓ)

theorem pay2_at (x : FVec Ideal S256x2048 .f32) (g : FVec Ideal S1x256x2048 .f32) (a : FVec Ideal S2048x256 .f32) (n : FVec Ideal S1x2048 .f32)
    (r : Fin 256) (k : Fin 2048) :
    k0_pay2 (F := Ideal) x g a n (ix2 r k) = normed (fun j => x (ix2 r j) + g (ix3 0 r j) * a (ix2 j r)) (fun j => n (ix2 0 j)) k := by
  unfold normed
  pointwise [k0_pay2]

/-- Which block of each window a point meets. -/
theorem idxs : ∀ t : Fin cfg0.N, win0_0.index t = ![0, t.val / 32] ∧ win0_1.index t = ![t.val % 32, 0] ∧ win0_2.index t = ![0, t.val % 32]
    ∧ win0_3.index t = ![0, 0, t.val / 32] ∧ win0_4.index t = ![0, 0, t.val / 32] ∧ win0_5.index t = ![0, 0, t.val / 32]
    ∧ win0_6.index t = ![0, 0, t.val / 32] ∧ win0_7.index t = ![t.val / 32, 0] ∧ win0_8.index t = ![t.val / 32, 0, 0]
    ∧ win0_9.index t = ![0, 0] ∧ win0_10.index t = ![t.val / 32, 0] ∧ (grid0.coords t 1).val = t.val % 32 ∧ t.val < 32 :=
  (by decide +kernel : ∀ t : Fin grid0.N, _)

theorem iblk_h (c : Dev nD) (t : Fin cfg0.N) (j : Fin 2048) (s : Fin 256) (T : Fin 256) (hT : T.val = 256 * (t.val / 32) + s.val) :
    iblk m c 0 t (ix2 j s) = V m c main_arg0 (ix2 j T) := by
  obtain ⟨i, -⟩ := idxs t
  blk_ext [iblk, i, hT]

theorem iblk_u (c : Dev nD) (t : Fin cfg0.N) (e : Fin 512) (j : Fin 2048) (E : Fin 16384) (hE : E.val = 512 * (t.val % 32) + e.val) :
    iblk m c 1 t (ix2 e j) = V m c main_v1 (ix2 E j) := by
  obtain ⟨-, i, -⟩ := idxs t
  blk_ext [iblk, i, hE]

theorem iblk_v (c : Dev nD) (t : Fin cfg0.N) (k : Fin 2048) (e : Fin 512) (E : Fin 16384) (hE : E.val = 512 * (t.val % 32) + e.val) :
    iblk m c 2 t (ix2 k e) = V m c main_v4 (ix2 k E) := by
  obtain ⟨-, -, i, -⟩ := idxs t
  blk_ext [iblk, i, hE]

theorem iblk_r (c : Dev nD) (t : Fin cfg0.N) (a : Fin 8) (b : Fin 128) (s : Fin 256) (T : Fin 256) (hT : T.val = 256 * (t.val / 32) + s.val) :
    iblk m c 3 t (ix3 a b s) = V m c main_arg3 (ix3 a b T) := by
  obtain ⟨-, -, -, i, -⟩ := idxs t
  blk_ext [iblk, i, hT]

theorem iblk_p (c : Dev nD) (t : Fin cfg0.N) (a : Fin 8) (b : Fin 128) (s : Fin 256) (T : Fin 256) (hT : T.val = 256 * (t.val / 32) + s.val) :
    iblk m c 4 t (ix3 a b s) = V m c main_arg4 (ix3 a b T) := by
  obtain ⟨-, -, -, -, i, -⟩ := idxs t
  blk_ext [iblk, i, hT]

theorem iblk_c (c : Dev nD) (t : Fin cfg0.N) (a : Fin 8) (b : Fin 128) (s : Fin 256) (T : Fin 256) (hT : T.val = 256 * (t.val / 32) + s.val) :
    iblk m c 5 t (ix3 a b s) = V m c main_arg5 (ix3 a b T) := by
  obtain ⟨-, -, -, -, -, i, -⟩ := idxs t
  blk_ext [iblk, i, hT]

theorem iblk_q (c : Dev nD) (t : Fin cfg0.N) (a : Fin 8) (b : Fin 128) (s : Fin 256) (T : Fin 256) (hT : T.val = 256 * (t.val / 32) + s.val) :
    iblk m c 6 t (ix3 a b s) = V m c main_arg6 (ix3 a b T) := by
  obtain ⟨-, -, -, -, -, -, i, -⟩ := idxs t
  blk_ext [iblk, i, hT]

theorem iblk_x (c : Dev nD) (t : Fin cfg0.N) (s : Fin 256) (k : Fin 2048) (T : Fin 256) (hT : T.val = 256 * (t.val / 32) + s.val) :
    iblk m c 7 t (ix2 s k) = V m c main_arg7 (ix2 T k) := by
  obtain ⟨-, -, -, -, -, -, -, i, -⟩ := idxs t
  blk_ext [iblk, i, hT]

theorem iblk_g (c : Dev nD) (t : Fin cfg0.N) (s : Fin 256) (k : Fin 2048) (T : Fin 256) (hT : T.val = 256 * (t.val / 32) + s.val) :
    iblk m c 8 t (ix3 0 s k) = V m c main_v7 (ix3 0 T k) := by
  obtain ⟨-, -, -, -, -, -, -, -, i, -⟩ := idxs t
  have := T.isLt
  have ht : t.val / 32 = 0 := by omega
  blk_ext [iblk, i, hT, ht]

theorem iblk_n (c : Dev nD) (t : Fin cfg0.N) (k : Fin 2048)  :
    iblk m c 9 t (ix2 0 k) = V m c main_v8 (ix2 0 k) := by
  obtain ⟨-, -, -, -, -, -, -, -, -, i, -⟩ := idxs t
  blk_ext [iblk, i]

/-- What expert `E` gives to token `t`. -/
def shareV (H : FVec Ideal S2048x256 .bf16) (U : FVec Ideal S16384x2048 .bf16) (R P : FVec Ideal S8x128x256 .bf16) (C Q : FVec Ideal S8x128x256 .f32)
    (t : Fin 256) (E : Fin 16384) : EReal :=
  share (fun j => H (ix2 j t)) (fun E j => U (ix2 E j)) (fun a b => R (ix3 a b t)) (fun a b => P (ix3 a b t))
    (fun a b => C (ix3 a b t)) (fun a b => Q (ix3 a b t)) E

/-- That, times expert `E`'s value in column `k`. -/
def termV (H : FVec Ideal S2048x256 .bf16) (U : FVec Ideal S16384x2048 .bf16) (R P : FVec Ideal S8x128x256 .bf16) (C Q : FVec Ideal S8x128x256 .f32)
    (W : FVec Ideal S2048x16384 .bf16) (k : Fin 2048) (t : Fin 256) (E : Fin 16384) : EReal :=
  W (ix2 k E) * shareV H U R P C Q t E

/-- What the experts of a tile give to a token, as the tile's block holds it. -/
theorem tile_share (c : Dev nD) (t : Fin cfg0.N) (e : Fin 512) (s : Fin 256) (T : Fin 256) (hT : T.val = 256 * (t.val / 32) + s.val) (E : Fin 16384)
    (hE : E.val = 512 * (t.val % 32) + e.val) :
    (tileBlk (k0_pay4 (F := Ideal) (iblk m c 1 t) (iblk m c 0 t)) (iblk m c 3 t) (iblk m c 4 t) (iblk m c 5 t) (iblk m c 6 t) (grid0.coords t 1).val) (ix2 e s)
      = shareV (V m c main_arg0) (V m c main_v1) (V m c main_arg3) (V m c main_arg4) (V m c main_arg5) (V m c main_arg6) T E := by
  obtain ⟨-, -, -, -, -, -, -, -, -, -, -, hc, -⟩ := idxs t
  rw [tileBlk_at _ _ _ _ _ _ e ⟨E.val % 128, by omega⟩ ⟨E.val / 128, by omega⟩ s (by show e.val % 128 = E.val % 128; omega)
    (by rw [hc]; show (4 * (t.val % 32) + e.val / 128) % 128 = E.val / 128; omega), act_at]
  unfold shareV share
  refine congrArg₂ (fun a b : EReal => a * b) (congrArg gelu (dot_congr (fun j => ?_) (fun j => ?_)))
    (gate8_congr (fun a => ?_) (fun a => ?_) (fun a => ?_) (fun a => ?_))
  · exact iblk_u m c t e j E hE
  · exact iblk_h m c t j s T hT
  · exact iblk_r m c t a _ s T hT
  · exact iblk_p m c t a _ s T hT
  · exact iblk_c m c t a _ s T hT
  · exact iblk_q m c t a _ s T hT

/-- The product of the values with a tile's block. -/
theorem term_share (c : Dev nD) (t : Fin cfg0.N) (k : Fin 2048) (e : Fin 512) (s : Fin 256) (T : Fin 256) (hT : T.val = 256 * (t.val / 32) + s.val) (w : EReal)
    (hw : w = (tileBlk (k0_pay4 (F := Ideal) (iblk m c 1 t) (iblk m c 0 t)) (iblk m c 3 t) (iblk m c 4 t) (iblk m c 5 t) (iblk m c 6 t) (grid0.coords t 1).val) (ix2 e s)) (E : Fin 16384) (hE : E.val = 512 * (t.val % 32) + e.val) :
    (fun a b : EReal => a * b) (iblk m c 2 t (ix2 k e)) w = termV (V m c main_arg0) (V m c main_v1) (V m c main_arg3) (V m c main_arg4) (V m c main_arg5) (V m c main_arg6) (V m c main_v4) k T E :=
  congrArg₂ (fun a b : EReal => a * b) (iblk_v m c t k e E hE) (hw.trans (tile_share m c t e s T hT E hE))

/-- What the accumulator holds after a point: the sum over the experts of the tiles met so far. -/
def sumTo (c : Dev nD) (k : Fin 2048) (T : Fin 256) (n : ℕ) : EReal :=
  upTo (termV (V m c main_arg0) (V m c main_v1) (V m c main_arg3) (V m c main_arg4) (V m c main_arg5) (V m c main_arg6) (V m c main_v4) k T) n

theorem first_point (c : Dev nD) (t : Fin cfg0.N) (h0 : t.val % 32 = 0) (k : Fin 2048) (s : Fin 256) (T : Fin 256) (hT : T.val = 256 * (t.val / 32) + s.val) :
    (outsAt0 m c t.val t.isLt).2 (ix2 k s) = sumTo m c k T (t.val % 32) := by
  rw [outsAt0_A m c t h0 (by omega)]
  frame_out
  refine (acc_at _ _ _ k s).trans ?_
  unfold sumTo
  rw [h0, upTo_zero]
  refine (congrArg₂ (fun a b : EReal => a + b) (zero_at k s) (Finset.sum_congr rfl fun e _ => ?_)).trans (zero_add _)
  exact term_share m c t k e s T hT _ (stored_at _ _ _ _ _ (piece3 _ _ _ _ _ (grid0.coords t)) (piece2 _ _ _ _ _ (grid0.coords t))
    (piece1 _ _ _ _ _ (grid0.coords t)) (piece0 _ _ _ _ _ (grid0.coords t)) e s) ⟨e.val, by omega⟩ (by show e.val = _; omega)

theorem middle_point (c : Dev nD) (t : Fin cfg0.N) (h0 : ¬t.val % 32 = 0) (h1 : ¬t.val % 32 = 31) (k : Fin 2048) (s : Fin 256) (T : Fin 256) (hT : T.val = 256 * (t.val / 32) + s.val)
    (ih : (outsAt0 m c (t.val - 1) (by omega)).2 (ix2 k s) = sumTo m c k T (t.val % 32 - 1)) :
    (outsAt0 m c t.val t.isLt).2 (ix2 k s) = sumTo m c k T (t.val % 32) := by
  rw [outsAt0_B m c t h0 h1]
  frame_out
  refine (acc_at _ _ _ k s).trans ?_
  have hn : t.val % 32 = t.val % 32 - 1 + 1 := by omega
  have hs := upTo_succ (termV (V m c main_arg0) (V m c main_v1) (V m c main_arg3) (V m c main_arg4) (V m c main_arg5) (V m c main_arg6) (V m c main_v4) k T) (t.val % 32 - 1) (by omega)
  unfold sumTo at ih ⊢
  rw [hn, hs]
  refine congrArg₂ (fun a b : EReal => a + b) ?_ (Finset.sum_congr rfl fun e _ => ?_)
  · exact (congrFun (Memref.IsWhole.read_unread (Val := Elt Ideal) _ _) _).trans ih
  exact term_share m c t k e s T hT _ (stored_at _ _ _ _ _ (piece3 _ _ _ _ _ (grid0.coords t)) (piece2 _ _ _ _ _ (grid0.coords t))
    (piece1 _ _ _ _ _ (grid0.coords t)) (piece0 _ _ _ _ _ (grid0.coords t)) e s) ⟨512 * (t.val % 32 - 1 + 1) + e.val, by omega⟩
    (by show 512 * (t.val % 32 - 1 + 1) + e.val = _; omega)

theorem last_point (c : Dev nD) (t : Fin cfg0.N) (h0 : ¬t.val % 32 = 0) (h1 : t.val % 32 = 31) (k : Fin 2048) (s : Fin 256) (T : Fin 256) (hT : T.val = 256 * (t.val / 32) + s.val)
    (ih : (outsAt0 m c (t.val - 1) (by omega)).2 (ix2 k s) = sumTo m c k T (t.val % 32 - 1)) :
    (outsAt0 m c t.val t.isLt).2 (ix2 k s) = sumTo m c k T (t.val % 32) := by
  rw [outsAt0_C m c t h0 h1]
  frame_out
  refine (acc_at _ _ _ k s).trans ?_
  have hn : t.val % 32 = t.val % 32 - 1 + 1 := by omega
  have hs := upTo_succ (termV (V m c main_arg0) (V m c main_v1) (V m c main_arg3) (V m c main_arg4) (V m c main_arg5) (V m c main_arg6) (V m c main_v4) k T) (t.val % 32 - 1) (by omega)
  unfold sumTo at ih ⊢
  rw [hn, hs]
  refine congrArg₂ (fun a b : EReal => a + b) ?_ (Finset.sum_congr rfl fun e _ => ?_)
  · exact (congrFun (Memref.IsWhole.read_unread (Val := Elt Ideal) _ _) _).trans ih
  exact term_share m c t k e s T hT _ (stored_at _ _ _ _ _ (piece3 _ _ _ _ _ (grid0.coords t)) (piece2 _ _ _ _ _ (grid0.coords t))
    (piece1 _ _ _ _ _ (grid0.coords t)) (piece0 _ _ _ _ _ (grid0.coords t)) e s) ⟨512 * (t.val % 32 - 1 + 1) + e.val, by omega⟩
    (by show 512 * (t.val % 32 - 1 + 1) + e.val = _; omega)

theorem carried (c : Dev nD) : ∀ (n : ℕ) (hn : n < cfg0.N) (k : Fin 2048) (s : Fin 256) (T : Fin 256) (_ : T.val = 256 * (n / 32) + s.val),
    (outsAt0 m c n hn).2 (ix2 k s) = sumTo m c k T (n % 32) := by
  intro n
  induction n with
  | zero =>
    intro hn k s T hT
    exact first_point m c ⟨0, hn⟩ rfl k s T hT
  | succ n ih =>
    intro hn k s T hT
    by_cases h0 : (n + 1) % 32 = 0
    · exact first_point m c ⟨n + 1, hn⟩ h0 k s T hT
    · have hp : (outsAt0 m c (n + 1 - 1) (by omega)).2 (ix2 k s) = sumTo m c k T ((n + 1) % 32 - 1) := by
        rw [show (n + 1) % 32 - 1 = n % 32 by omega]
        exact ih (Nat.lt_of_succ_lt hn) k s T (by omega)
      by_cases h1 : (n + 1) % 32 = 31
      · exact last_point m c ⟨n + 1, hn⟩ h0 h1 k s T hT hp
      · exact middle_point m c ⟨n + 1, hn⟩ h0 h1 k s T hT hp

/-- The result from the arrays the call finds. -/
def outArr (H : FVec Ideal S2048x256 .bf16) (U : FVec Ideal S16384x2048 .bf16) (R P : FVec Ideal S8x128x256 .bf16) (C Q : FVec Ideal S8x128x256 .f32) (W : FVec Ideal S2048x16384 .bf16) (X : FVec Ideal S256x2048 .f32)
    (G : FVec Ideal S1x256x2048 .f32) (N : FVec Ideal S1x2048 .f32) : FVec Ideal S256x2048 .f32 := fun i =>
  normed (fun j => X (ix2 (i 0) j) + G (ix3 0 (i 0) j) * ∑ E, W (ix2 j E) * shareV H U R P C Q (i 0) E) (fun j => N (ix2 0 j)) (i 1)

theorem out_pt (c : Dev nD) (t : Fin cfg0.N) (h1 : t.val % 32 = 31) (s : Fin 256) (k : Fin 2048) (T : Fin 256) (hT : T.val = 256 * (t.val / 32) + s.val) :
    (outsAt0 m c t.val t.isLt).1 (ix2 s k)
      = outArr (V m c main_arg0) (V m c main_v1) (V m c main_arg3) (V m c main_arg4) (V m c main_arg5) (V m c main_arg6) (V m c main_v4) (V m c main_arg7) (V m c main_v7) (V m c main_v8) (ix2 T k) := by
  have h2 : ∀ j : Fin 2048, (outsAt0 m c t.val t.isLt).2 (ix2 j s) = sumTo m c j T 31 := fun j => (carried m c t.val t.isLt j s T hT).trans (by rw [h1])
  unfold outArr
  rw [outsAt0_C m c t (by omega) h1] at h2 ⊢
  unfold sumTo at h2
  simp only [upTo_last] at h2
  revert h2
  frame_out
  intro h2
  refine (pay2_at _ _ _ _ s k).trans (normed_congr (fun j => ?_) (fun j => iblk_n m c t j) k)
  exact congrArg₂ (fun a b : EReal => a + b) (iblk_x m c t s j T hT)
    (congrArg₂ (fun a b : EReal => a * b) (iblk_g m c t s j T hT) (h2 j))

theorem out_final (c : Dev nD) : (dats m 0 c).arrAt 10 cfg0.N
    = outArr (V m c main_arg0) (V m c main_v1) (V m c main_arg3) (V m c main_arg4) (V m c main_arg5) (V m c main_arg6) (V m c main_v4) (V m c main_arg7) (V m c main_v7) (V m c main_v8) := by
  refine (dats m 0 c).arrAt_eq_of_covers 10 _ (by decide +kernel) fun t hw y => ?_
  have h1 : t.val % 32 = 31 := (by decide +kernel : ∀ t : Fin grid0.N, win0_10.flush t = true → t.val % 32 = 31) t hw
  blk_simp
  rw [after0_10]
  obtain ⟨-, -, -, -, -, -, -, -, -, -, i10, -, hN⟩ := idxs t
  idx_vars y
  have he : ((View.whole main_v9).slice (win0_10.rect t)).emb (ix2 y0 y1) = ix2 ⟨256 * (t.val / 32) + y0.val, by omega⟩ y1 := by
    blk_ext [i10]
  rw [he]
  exact out_pt m c t h1 y0 y1 ⟨256 * (t.val / 32) + y0.val, by omega⟩ rfl

end Cert.MisIdeal.Val

end
-- ==== Proof.Mis.Ref.lean ====
/- The reference's expert mixing, read at an entry. -/
module

public import proofs.«01_k».proof.Proof.Gen.MisRefIdeal.Read
public import proofs.«01_k».proof.Proof.Layer.Peer

@[expose] public section

set_option maxRecDepth 16384

noncomputable section

namespace Cert.MisRefIdeal.Val

open Idealize.ShloMosaic Idealize.ShloMosaic.TcCoe Idealize.SL.Sem
open Cert.MisRefIdeal Cert.MisRefIdeal.Gen Cert.MisRefIdeal.Value Cert.MisRefIdeal.Read Cert.LayerMath

variable (x0 : FVec Ideal S2048x256 .bf16) (x1 x2 : FVec Ideal S1x16384x2048 .f32) (x3 x4 : FVec Ideal S8x128x256 .bf16)
  (x5 x6 : FVec Ideal S8x128x256 .f32) (x7 : FVec Ideal S256x2048 .f32) (x8 : FVec Ideal S16x2048 .f32) (x9 : FVec Ideal S2048 .f32)

/-- What expert `E` gives to token `t`. -/
def shareAt (t : Fin 256) (E : Fin 16384) : EReal :=
  share (fun j => x0 (ix2 j t)) (fun E j => x1 (ix3 0 E j)) (fun a b => x3 (ix3 a b t)) (fun a b => x4 (ix3 a b t))
    (fun a b => x5 (ix3 a b t)) (fun a b => x6 (ix3 a b t)) E

theorem v12_at (a b : Fin 128) (t : Fin 256) :
    val_main_v12 (F := Ideal) x3 x4 x5 x6 (ix3 a b t)
      = gate8 (fun h => x3 (ix3 h b t)) (fun h => x4 (ix3 h b t)) (fun h => x5 (ix3 h a t)) (fun h => x6 (ix3 h a t)) := by
  unfold gate8
  pointwise [val_main_v12, val_main_v11, val_main_v10, val_main_v9, val_main_v8, val_main_v7, val_main_v6, val_main_v5, val_main_v4, val_main_v3,
    val_main_v2, val_main_v1, val_main_v0, val_main_cst, val_main_cst_0, val_main_call0_v0, val_main_call0_v1, val_main_call0_v2]
  simp only [id_eq]
  pointwise []

theorem v13_at (E : Fin 16384) (t : Fin 256) :
    val_main_v13 (F := Ideal) x3 x4 x5 x6 (ix2 E t) = val_main_v12 (F := Ideal) x3 x4 x5 x6 (ix3 ⟨E.val / 128, by omega⟩ ⟨E.val % 128, by omega⟩ t) := by
  unfold val_main_v13
  generalize val_main_v12 (F := Ideal) x3 x4 x5 x6 = y
  pointwise []

theorem v16_at (E : Fin 16384) (t : Fin 256) :
    val_main_v16 (F := Ideal) x0 x1 (ix2 E t) = dot (fun j => x1 (ix3 0 E j)) (fun j => x0 (ix2 j t)) := by
  unfold dot
  pointwise [val_main_v16, val_main_v15, val_main_v14]

theorem v29_at (E : Fin 16384) (t : Fin 256) :
    val_main_v29 (F := Ideal) x0 x1 (ix2 E t) = gelu (val_main_v16 (F := Ideal) x0 x1 (ix2 E t)) := by
  have e : val_main_v29 (F := Ideal) x0 x1 (ix2 E t) = (fun x : EReal => x * (Ideal.ofBits FTy.f32 1056964608#32 * (1 + Ideal.tanh (Ideal.ofBits FTy.f32 1061962282#32 * (x + Ideal.ofBits FTy.f32 1027024659#32 * (x * x * x))))))
      (val_main_v16 (F := Ideal) x0 x1 (ix2 E t)) := by
    unfold val_main_v29 val_main_v28 val_main_v26 val_main_v24 val_main_v23 val_main_v21 val_main_v20 val_main_v18 val_main_v17
    generalize val_main_v16 (F := Ideal) x0 x1 = X
    pointwise [val_main_v27, val_main_v25, val_main_v22, val_main_v19, val_main_cst_1, val_main_cst_2, val_main_cst_3, val_main_cst_4]
  rw [e]
  unfold gelu
  generalize val_main_v16 (F := Ideal) x0 x1 (ix2 E t) = x
  show x * (_ * _) = _ * x * _
  rw [← mul_assoc, mul_comm x]

theorem v30_at (E : Fin 16384) (t : Fin 256) :
    val_main_v30 (F := Ideal) x0 x1 x3 x4 x5 x6 (ix2 E t) = shareAt x0 x1 x3 x4 x5 x6 t E := by
  have e : val_main_v30 (F := Ideal) x0 x1 x3 x4 x5 x6 (ix2 E t) = val_main_v13 (F := Ideal) x3 x4 x5 x6 (ix2 E t) * val_main_v29 (F := Ideal) x0 x1 (ix2 E t) := rfl
  rw [e, v29_at, v16_at, v13_at, v12_at, mul_comm]
  rfl

theorem v33_at (t : Fin 256) (k : Fin 2048) :
    val_main_v33 (F := Ideal) x0 x1 x2 x3 x4 x5 x6 (ix2 t k) = ∑ E, x2 (ix3 0 E k) * shareAt x0 x1 x3 x4 x5 x6 t E := by
  have e : val_main_v33 (F := Ideal) x0 x1 x2 x3 x4 x5 x6 (ix2 t k) = ∑ E : Fin 16384, val_main_v30 (F := Ideal) x0 x1 x3 x4 x5 x6 (ix2 E t) * x2 (ix3 0 E k) := by
    unfold val_main_v33 val_main_v31
    generalize val_main_v30 (F := Ideal) x0 x1 x3 x4 x5 x6 = X
    pointwise [val_main_v32]
  rw [e]
  exact Finset.sum_congr rfl fun E _ => by rw [v30_at, mul_comm]

theorem v39_at (b : Fin 16) (r : Fin 16) (k : Fin 2048) (t : Fin 256) (ht : t.val = b.val * 16 + r.val) :
    val_main_v39 (F := Ideal) x0 x1 x2 x3 x4 x5 x6 x7 x8 (ix3 b r k)
      = x7 (ix2 t k) + x8 (ix2 b k) * ∑ E, x2 (ix3 0 E k) * shareAt x0 x1 x3 x4 x5 x6 t E := by
  have ht' : t = ⟨b.val * 16 + r.val, by omega⟩ := Fin.ext ht
  rw [← v33_at, ht']
  unfold val_main_v39 val_main_v38 val_main_v36
  generalize val_main_v33 (F := Ideal) x0 x1 x2 x3 x4 x5 x6 = X
  pointwise [val_main_v34, val_main_v35, val_main_v37]

theorem v52_at (b : Fin 16) (r : Fin 16) (k : Fin 2048) :
    val_main_v52 (F := Ideal) x0 x1 x2 x3 x4 x5 x6 x7 x8 x9 (ix3 b r k)
      = normed (fun j => val_main_v39 (F := Ideal) x0 x1 x2 x3 x4 x5 x6 x7 x8 (ix3 b r j)) (fun j => x9 (ix1 j)) k := by
  unfold normed
  unfold val_main_v52 val_main_v49 val_main_v48 val_main_v47 val_main_v46 val_main_v44 val_main_v42 val_main_v41 val_main_v40
  generalize val_main_v39 (F := Ideal) x0 x1 x2 x3 x4 x5 x6 x7 x8 = X
  pointwise [val_main_v51, val_main_v50, val_main_v45, val_main_v43, val_main_cst_5, val_main_cst_6, val_main_cst_7]

theorem v53_at (t : Fin 256) (k : Fin 2048) :
    val_main_v53 (F := Ideal) x0 x1 x2 x3 x4 x5 x6 x7 x8 x9 (ix2 t k)
      = normed (fun j => x7 (ix2 t j) + x8 (ix2 ⟨t.val / 16, by omega⟩ j) * ∑ E, x2 (ix3 0 E j) * shareAt x0 x1 x3 x4 x5 x6 t E) (fun j => x9 (ix1 j)) k := by
  have e : val_main_v53 (F := Ideal) x0 x1 x2 x3 x4 x5 x6 x7 x8 x9 (ix2 t k)
      = val_main_v52 (F := Ideal) x0 x1 x2 x3 x4 x5 x6 x7 x8 x9 (ix3 ⟨t.val / 16, by omega⟩ ⟨t.val % 16, by omega⟩ k) := by
    unfold val_main_v53
    generalize val_main_v52 (F := Ideal) x0 x1 x2 x3 x4 x5 x6 x7 x8 x9 = X
    pointwise []
  rw [e, v52_at]
  exact normed_congr (fun j => v39_at x0 x1 x2 x3 x4 x5 x6 x7 x8 _ _ j t (by show t.val = t.val / 16 * 16 + t.val % 16; omega)) (fun _ => rfl) k

end Cert.MisRefIdeal.Val

end
-- ==== Proof.Mis.Host.lean ====
/- What the host lines before the expert mixing compute, and the call's result as the program returns it. -/
module

public import proofs.«01_k».proof.Proof.Mis.Arr
public import proofs.«01_k».proof.Proof.Mis.Ref

@[expose] public section

set_option maxRecDepth 16384

noncomputable section

namespace Cert.MisIdeal.Val

open Idealize.ShloMosaic Idealize.ShloMosaic.TcCoe Idealize.SL.Sem
open Cert.MisIdeal Cert.MisIdeal.Gen Cert.LayerMath

variable (m : (ℓ : Loc nD τ sig) → Buf (Elt Ideal) ℓ)

/-- The arguments. -/
abbrev a0 (c : Dev nD) : FVec Ideal S2048x256 .bf16 := m ((c.tc : Thread nD τ).loc main_arg0)
abbrev a1 (c : Dev nD) : FVec Ideal S1x16384x2048 .f32 := m ((c.tc : Thread nD τ).loc main_arg1)
abbrev a2 (c : Dev nD) : FVec Ideal S1x16384x2048 .f32 := m ((c.tc : Thread nD τ).loc main_arg2)
abbrev a3 (c : Dev nD) : FVec Ideal S8x128x256 .bf16 := m ((c.tc : Thread nD τ).loc main_arg3)
abbrev a4 (c : Dev nD) : FVec Ideal S8x128x256 .bf16 := m ((c.tc : Thread nD τ).loc main_arg4)
abbrev a5 (c : Dev nD) : FVec Ideal S8x128x256 .f32 := m ((c.tc : Thread nD τ).loc main_arg5)
abbrev a6 (c : Dev nD) : FVec Ideal S8x128x256 .f32 := m ((c.tc : Thread nD τ).loc main_arg6)
abbrev a7 (c : Dev nD) : FVec Ideal S256x2048 .f32 := m ((c.tc : Thread nD τ).loc main_arg7)
abbrev a8 (c : Dev nD) : FVec Ideal S16x2048 .f32 := m ((c.tc : Thread nD τ).loc main_arg8)
abbrev a9 (c : Dev nD) : FVec Ideal S2048 .f32 := m ((c.tc : Thread nD τ).loc main_arg9)

theorem V_v1 (c : Dev nD) : V m c main_v1 = truncf .bf16 (shapeCast S16384x2048 (a1 m c) shapeCasts_S1x16384x2048_S16384x2048) bitsLt_bf16_f32 := by
  show StableHlo.after hostOps0 (fun b => m (c, b)) (Proc.devRef .tc main_v1) = _
  after_results
  rfl

theorem V_v4 (c : Dev nD) : V m c main_v4 = truncf .bf16 (transpose S2048x16384 [1, 0] (shapeCast S16384x2048 (a2 m c) shapeCasts_S1x16384x2048_S16384x2048) transposes_S16384x2048_S2048x16384_1_0) bitsLt_bf16_f32 := by
  show StableHlo.after hostOps0 (fun b => m (c, b)) (Proc.devRef .tc main_v4) = _
  after_results
  rfl

theorem V_v7 (c : Dev nD) : V m c main_v7 = shapeCast S1x256x2048 (shapeCast S256x2048 (broadcastInDim S16x16x2048 ![0, 2] bcast_S16x2048_S16x16x2048_0_2 (a8 m c)) shapeCasts_S16x16x2048_S256x2048) shapeCasts_S256x2048_S1x256x2048 := by
  show StableHlo.after hostOps0 (fun b => m (c, b)) (Proc.devRef .tc main_v7) = _
  after_results
  rfl

theorem V_v8 (c : Dev nD) : V m c main_v8 = shapeCast S1x2048 (a9 m c) shapeCasts_S2048_S1x2048 := by
  show StableHlo.after hostOps0 (fun b => m (c, b)) (Proc.devRef .tc main_v8) = _
  after_results
  rfl

theorem u_at (c : Dev nD) (E : Fin 16384) (j : Fin 2048) : V m c main_v1 (ix2 E j) = a1 m c (ix3 0 E j) := by
  rw [V_v1]
  generalize a1 m c = x
  pointwise []

theorem v_at (c : Dev nD) (k : Fin 2048) (E : Fin 16384) : V m c main_v4 (ix2 k E) = a2 m c (ix3 0 E k) := by
  rw [V_v4]
  generalize a2 m c = x
  pointwise []

theorem g_at (c : Dev nD) (t : Fin 256) (j : Fin 2048) : V m c main_v7 (ix3 0 t j) = a8 m c (ix2 ⟨t.val / 16, by omega⟩ j) := by
  rw [V_v7]
  generalize a8 m c = x
  pointwise []

theorem n_at (c : Dev nD) (j : Fin 2048) : V m c main_v8 (ix2 0 j) = a9 m c (ix1 j) := by
  rw [V_v8]
  generalize a9 m c = x
  pointwise []

theorem share_eq (c : Dev nD) (t : Fin 256) (E : Fin 16384) :
    shareV (V m c main_arg0) (V m c main_v1) (V m c main_arg3) (V m c main_arg4) (V m c main_arg5) (V m c main_arg6) t E
      = Cert.MisRefIdeal.Val.shareAt (a0 m c) (a1 m c) (a3 m c) (a4 m c) (a5 m c) (a6 m c) t E := by
  rw [V_main_arg0, V_main_arg3, V_main_arg4, V_main_arg5, V_main_arg6]
  unfold shareV Cert.MisRefIdeal.Val.shareAt share
  refine congrArg₂ (fun a b : EReal => a * b) (congrArg gelu (dot_congr (fun j => ?_) (fun _ => rfl))) rfl
  exact u_at m c E j

theorem T_v9 (c : Dev nD) : (dats m 0 c).arrAt 10 cfg0.N
    = Cert.MisRefIdeal.Read.val_main_v53 (F := Ideal) (a0 m c) (a1 m c) (a2 m c) (a3 m c) (a4 m c) (a5 m c) (a6 m c) (a7 m c) (a8 m c) (a9 m c) := by
  rw [out_final]
  funext y
  idx_vars y
  refine Eq.trans ?_ (Cert.MisRefIdeal.Val.v53_at (a0 m c) (a1 m c) (a2 m c) (a3 m c) (a4 m c) (a5 m c) (a6 m c) (a7 m c) (a8 m c) (a9 m c) y0 y1).symm
  unfold outArr
  refine normed_congr (fun j => ?_) (fun j => n_at m c j) y1
  refine congrArg₂ (fun a b : EReal => a + b) (congrFun (V_main_arg7 m c) _) (congrArg₂ (fun a b : EReal => a * b) (g_at m c _ j)
    (Finset.sum_congr rfl fun E _ => ?_))
  exact congrArg₂ (fun a b : EReal => a * b) (v_at m c j E) (share_eq m c y0 E)

/-- The program runs; its result ends at what the call leaves in its output window, and the arguments as they were. -/
theorem run_all (ρ : Dev nD → PrngReg) :
    θ_run (defs (F := Ideal)) (onTc (τ := τ) (main (F := Ideal))) ⟨m, fun _ => 0, ρ⟩ (fun r => ∀ c : Dev nD,
      r.2.mem ((c.tc : Thread nD τ).loc main_v9) = (dats m 0 c).arrAt 10 cfg0.N
      ∧ (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9))) :=
  (θ_run defs _ _).mono (fun r h c => ⟨(h c).1 10, ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) (run_main m ρ)

end Cert.MisIdeal.Val

end
-- ==== Proof.Mis.Claim.lean ====
/- The claims on the expert mixing of the sample: the reference's frame, and the equation of kernel and reference over the reals. -/
module

public import proofs.«01_k».proof.Defs
public import proofs.«01_k».proof.Proof.Mis.Host
public import proofs.«01_k».proof.Proof.Gen.MisRefIdeal.Run
public import Idealize.ShloMosaic.Lib.Quiescent

@[expose] public section

set_option maxRecDepth 16384

noncomputable section

namespace Cert.MisTie

open Idealize.ShloMosaic Idealize.ShloMosaic.TcCoe Idealize.SL.Sem

/-- The reference runs, keeps its arguments, and has no counter to leave standing. -/
theorem ref_frame (m : (ℓ : Loc Cert.MisRefIdeal.nD Cert.MisRefIdeal.τ Cert.MisRefIdeal.sig) → Buf (Elt Ideal) ℓ)
    (ρ : Dev Cert.MisRefIdeal.nD → PrngReg) :
    θ_run (Cert.MisRefIdeal.defs (F := Ideal)) (onTc (τ := Cert.MisRefIdeal.τ) (Cert.MisRefIdeal.main (F := Ideal))) ⟨m, fun _ => 0, ρ⟩
      (fun r => (∀ c : Dev Cert.MisRefIdeal.nD,
        r.2.mem ((c.tc : Thread Cert.MisRefIdeal.nD Cert.MisRefIdeal.τ).loc Cert.MisRefIdeal.main_arg0) = m ((c.tc : Thread Cert.MisRefIdeal.nD Cert.MisRefIdeal.τ).loc Cert.MisRefIdeal.main_arg0)
        ∧ r.2.mem ((c.tc : Thread Cert.MisRefIdeal.nD Cert.MisRefIdeal.τ).loc Cert.MisRefIdeal.main_arg1) = m ((c.tc : Thread Cert.MisRefIdeal.nD Cert.MisRefIdeal.τ).loc Cert.MisRefIdeal.main_arg1)
        ∧ r.2.mem ((c.tc : Thread Cert.MisRefIdeal.nD Cert.MisRefIdeal.τ).loc Cert.MisRefIdeal.main_arg2) = m ((c.tc : Thread Cert.MisRefIdeal.nD Cert.MisRefIdeal.τ).loc Cert.MisRefIdeal.main_arg2)
        ∧ r.2.mem ((c.tc : Thread Cert.MisRefIdeal.nD Cert.MisRefIdeal.τ).loc Cert.MisRefIdeal.main_arg3) = m ((c.tc : Thread Cert.MisRefIdeal.nD Cert.MisRefIdeal.τ).loc Cert.MisRefIdeal.main_arg3)
        ∧ r.2.mem ((c.tc : Thread Cert.MisRefIdeal.nD Cert.MisRefIdeal.τ).loc Cert.MisRefIdeal.main_arg4) = m ((c.tc : Thread Cert.MisRefIdeal.nD Cert.MisRefIdeal.τ).loc Cert.MisRefIdeal.main_arg4)
        ∧ r.2.mem ((c.tc : Thread Cert.MisRefIdeal.nD Cert.MisRefIdeal.τ).loc Cert.MisRefIdeal.main_arg5) = m ((c.tc : Thread Cert.MisRefIdeal.nD Cert.MisRefIdeal.τ).loc Cert.MisRefIdeal.main_arg5)
        ∧ r.2.mem ((c.tc : Thread Cert.MisRefIdeal.nD Cert.MisRefIdeal.τ).loc Cert.MisRefIdeal.main_arg6) = m ((c.tc : Thread Cert.MisRefIdeal.nD Cert.MisRefIdeal.τ).loc Cert.MisRefIdeal.main_arg6)
        ∧ r.2.mem ((c.tc : Thread Cert.MisRefIdeal.nD Cert.MisRefIdeal.τ).loc Cert.MisRefIdeal.main_arg7) = m ((c.tc : Thread Cert.MisRefIdeal.nD Cert.MisRefIdeal.τ).loc Cert.MisRefIdeal.main_arg7)
        ∧ r.2.mem ((c.tc : Thread Cert.MisRefIdeal.nD Cert.MisRefIdeal.τ).loc Cert.MisRefIdeal.main_arg8) = m ((c.tc : Thread Cert.MisRefIdeal.nD Cert.MisRefIdeal.τ).loc Cert.MisRefIdeal.main_arg8)
        ∧ r.2.mem ((c.tc : Thread Cert.MisRefIdeal.nD Cert.MisRefIdeal.τ).loc Cert.MisRefIdeal.main_arg9) = m ((c.tc : Thread Cert.MisRefIdeal.nD Cert.MisRefIdeal.τ).loc Cert.MisRefIdeal.main_arg9))
        ∧ r.2.sem = fun _ => 0) :=
  (θ_run _ _ _).mono (fun r h => ⟨fun c => (h c).2, sem_eq_zero_of_no_sems rfl r.2⟩) (Cert.MisRefIdeal.Value.run m ρ)

/-- From memories that agree on the arguments: kernel and reference end with the same results. -/
theorem equation : Cert.algebraic_MisIdeal_MisRefIdeal := by
  intro m g m' g' hpre hag
  refine ⟨fun c => Cert.MisRefIdeal.Read.val_main_v53 (F := Ideal) (m ((c.tc : Thread _ _).loc Cert.MisIdeal.main_arg0)) (m ((c.tc : Thread _ _).loc Cert.MisIdeal.main_arg1)) (m ((c.tc : Thread _ _).loc Cert.MisIdeal.main_arg2)) (m ((c.tc : Thread _ _).loc Cert.MisIdeal.main_arg3)) (m ((c.tc : Thread _ _).loc Cert.MisIdeal.main_arg4)) (m ((c.tc : Thread _ _).loc Cert.MisIdeal.main_arg5)) (m ((c.tc : Thread _ _).loc Cert.MisIdeal.main_arg6)) (m ((c.tc : Thread _ _).loc Cert.MisIdeal.main_arg7)) (m ((c.tc : Thread _ _).loc Cert.MisIdeal.main_arg8)) (m ((c.tc : Thread _ _).loc Cert.MisIdeal.main_arg9)), ?_, ?_⟩
  · refine (θ_run _ _ _).mono (fun r h c => ⟨?_, ?_⟩) (Cert.MisIdeal.Val.run_all m g)
    · exact (h c).1.trans (Cert.MisIdeal.Val.T_v9 m c)
    · exact (h c).2
  · refine (θ_run _ _ _).mono (fun r h c => ⟨?_, (h c).2⟩) (Cert.MisRefIdeal.Value.run m' g')
    · obtain ⟨e0, e1, e2, e3, e4, e5, e6, e7, e8, e9⟩ := hag c
      refine (h c).1.trans ((Cert.MisRefIdeal.Read.val_main_v53_eq m' c).trans ?_)
      rw [e0, e1, e2, e3, e4, e5, e6, e7, e8, e9]

end Cert.MisTie

end
-- ==== Proof.lean ====
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Pre_finite_scores
public import proofs.«01_k».proof.Proof.Gen.AttnRefIdeal.Run
public import proofs.«01_k».proof.Proof.Gen.AttnRefIdeal.Read
public import proofs.«01_k».proof.Proof.Attn.Claim
public import proofs.«01_k».proof.Proof.Inp.Claim
public import proofs.«01_k».proof.Proof.Ins.Claim
public import proofs.«01_k».proof.Proof.Mod.Claim
public import proofs.«01_k».proof.Proof.Mid.Claim
public import proofs.«01_k».proof.Proof.Prep.Claim
public import proofs.«01_k».proof.Proof.Mix.Claim
public import proofs.«01_k».proof.Proof.Mis.Claim
public import proofs.«01_k».proof.Proof.Gen.InpRefIdeal.Run
public import proofs.«01_k».proof.Proof.Gen.InpRefIdeal.Read
public import proofs.«01_k».proof.Proof.Gen.InsRefIdeal.Run
public import proofs.«01_k».proof.Proof.Gen.InsRefIdeal.Read
public import proofs.«01_k».proof.Proof.Gen.ModRefIdeal.Run
public import proofs.«01_k».proof.Proof.Gen.ModRefIdeal.Read
public import proofs.«01_k».proof.Proof.Gen.MidRefIdeal.Run
public import proofs.«01_k».proof.Proof.Gen.MidRefIdeal.Read
public import proofs.«01_k».proof.Proof.Gen.Inp
public import proofs.«01_k».proof.Proof.Gen.Inp.Skeleton
public import proofs.«01_k».proof.Proof.Gen.Inp.Launch
public import proofs.«01_k».proof.Proof.Gen.Inp.Points
public import proofs.«01_k».proof.Proof.Gen.Inp.Frame
public import proofs.«01_k».proof.Proof.Gen.InpIdeal
public import proofs.«01_k».proof.Proof.Gen.InpIdeal.Skeleton
public import proofs.«01_k».proof.Proof.Gen.InpIdeal.Launch
public import proofs.«01_k».proof.Proof.Gen.InpIdeal.Points
public import proofs.«01_k».proof.Proof.Gen.InpIdeal.Frame
public import proofs.«01_k».proof.Proof.Gen.Ins
public import proofs.«01_k».proof.Proof.Gen.Ins.Skeleton
public import proofs.«01_k».proof.Proof.Gen.Ins.Launch
public import proofs.«01_k».proof.Proof.Gen.Ins.Points
public import proofs.«01_k».proof.Proof.Gen.Ins.Frame
public import proofs.«01_k».proof.Proof.Gen.InsIdeal
public import proofs.«01_k».proof.Proof.Gen.InsIdeal.Skeleton
public import proofs.«01_k».proof.Proof.Gen.InsIdeal.Launch
public import proofs.«01_k».proof.Proof.Gen.InsIdeal.Points
public import proofs.«01_k».proof.Proof.Gen.InsIdeal.Frame
public import proofs.«01_k».proof.Proof.Gen.Mod
public import proofs.«01_k».proof.Proof.Gen.Mod.Skeleton
public import proofs.«01_k».proof.Proof.Gen.Mod.Launch
public import proofs.«01_k».proof.Proof.Gen.Mod.Points
public import proofs.«01_k».proof.Proof.Gen.Mod.Frame
public import proofs.«01_k».proof.Proof.Gen.ModIdeal
public import proofs.«01_k».proof.Proof.Gen.ModIdeal.Skeleton
public import proofs.«01_k».proof.Proof.Gen.ModIdeal.Launch
public import proofs.«01_k».proof.Proof.Gen.ModIdeal.Points
public import proofs.«01_k».proof.Proof.Gen.ModIdeal.Frame
public import proofs.«01_k».proof.Proof.Gen.Mid
public import proofs.«01_k».proof.Proof.Gen.Mid.Skeleton
public import proofs.«01_k».proof.Proof.Gen.Mid.Launch
public import proofs.«01_k».proof.Proof.Gen.Mid.Points
public import proofs.«01_k».proof.Proof.Gen.Mid.Frame
public import proofs.«01_k».proof.Proof.Gen.MidIdeal
public import proofs.«01_k».proof.Proof.Gen.MidIdeal.Skeleton
public import proofs.«01_k».proof.Proof.Gen.MidIdeal.Launch
public import proofs.«01_k».proof.Proof.Gen.MidIdeal.Points
public import proofs.«01_k».proof.Proof.Gen.MidIdeal.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import Idealize.ShloMosaic.Adequacy
public import Idealize.ShloMosaic.Init
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.Pre_finite_route
public import proofs.«01_k».proof.Proof.Gen.PrepRefIdeal
public import proofs.«01_k».proof.Proof.Gen.PrepRefIdeal.Run
public import proofs.«01_k».proof.Proof.Gen.PrepRefIdeal.Read
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixRefIdeal
public import proofs.«01_k».proof.Proof.Gen.MixRefIdeal.Run
public import proofs.«01_k».proof.Proof.Gen.MixRefIdeal.Read
public import proofs.«01_k».proof.Proof.Gen.Mis
public import proofs.«01_k».proof.Proof.Gen.Mis.Skeleton
public import proofs.«01_k».proof.Proof.Gen.Mis.Launch
public import proofs.«01_k».proof.Proof.Gen.Mis.Points
public import proofs.«01_k».proof.Proof.Gen.Mis.Frame
public import proofs.«01_k».proof.Proof.Gen.MisIdeal
public import proofs.«01_k».proof.Proof.Gen.MisIdeal.Skeleton
public import proofs.«01_k».proof.Proof.Gen.MisIdeal.Launch
public import proofs.«01_k».proof.Proof.Gen.MisIdeal.Points
public import proofs.«01_k».proof.Proof.Gen.MisIdeal.Frame
public import proofs.«01_k».proof.Proof.Gen.MisRefIdeal
public import proofs.«01_k».proof.Proof.Gen.MisRefIdeal.Run
public import proofs.«01_k».proof.Proof.Gen.MisRefIdeal.Read

@[expose] public section

noncomputable section

namespace Cert.Proof

open Idealize.ShloMosaic Idealize.SL.Sem Cert.Attn

/-- The certificate: the frames, the named mask constant, and the equations of the attention, of the projections of prompt and
    sample, of the modulation, of the output projection, of the routing, and of the
    expert mixing of prompt and sample. -/
theorem claim : Cert.Claim := ⟨
  Cert.Attn.Gen.facts, Cert.AttnIdeal.Gen.facts, Cert.AttnRefIdeal.Gen.facts,
  Cert.Inp.Gen.facts, Cert.InpIdeal.Gen.facts, Cert.InpRefIdeal.Gen.facts,
  Cert.Ins.Gen.facts, Cert.InsIdeal.Gen.facts, Cert.InsRefIdeal.Gen.facts,
  Cert.Mod.Gen.facts, Cert.ModIdeal.Gen.facts, Cert.ModRefIdeal.Gen.facts,
  Cert.Mid.Gen.facts, Cert.MidIdeal.Gen.facts, Cert.MidRefIdeal.Gen.facts,
  Cert.Prep.Gen.facts, Cert.PrepIdeal.Gen.facts, Cert.PrepRefIdeal.Gen.facts,
  Cert.Mix.Gen.facts, Cert.MixIdeal.Gen.facts, Cert.MixRefIdeal.Gen.facts,
  Cert.Mis.Gen.facts, Cert.MisIdeal.Gen.facts, Cert.MisRefIdeal.Gen.facts,
  Cert.Pre_finite_scores.Gen.facts, Cert.Pre_finite_route.Gen.facts,
  fun m ρ _ => Cert.Attn.Gen.frame m ρ, fun m ρ _ => Cert.AttnIdeal.Gen.frame m ρ, fun m ρ _ => Cert.AttnIdeal.Gen.frame m ρ,
  fun m ρ _ => Cert.AttnTie.ref_frame m ρ, fun m ρ _ => Cert.AttnTie.ref_frame m ρ,
  fun m ρ _ => Cert.Inp.Gen.frame m ρ, fun m ρ _ => Cert.InpIdeal.Gen.frame m ρ, fun m ρ _ => Cert.InpTie.ref_frame m ρ,
  fun m ρ _ => Cert.Ins.Gen.frame m ρ, fun m ρ _ => Cert.InsIdeal.Gen.frame m ρ, fun m ρ _ => Cert.InsTie.ref_frame m ρ,
  fun m ρ _ => Cert.Mod.Gen.frame m ρ, fun m ρ _ => Cert.ModIdeal.Gen.frame m ρ, fun m ρ _ => Cert.ModTie.ref_frame m ρ,
  fun m ρ _ => Cert.Mid.Gen.frame m ρ, fun m ρ _ => Cert.MidIdeal.Gen.frame m ρ, fun m ρ _ => Cert.MidTie.ref_frame m ρ,
  fun m ρ _ => Cert.Prep.Gen.frame m ρ, fun m ρ _ => Cert.PrepIdeal.Gen.frame m ρ, fun m ρ _ => Cert.PrepIdeal.Gen.frame m ρ,
  fun m ρ _ => Cert.PrepTie.ref_frame m ρ, fun m ρ _ => Cert.PrepTie.ref_frame m ρ,
  fun m ρ _ => Cert.Mix.Gen.frame m ρ, fun m ρ _ => Cert.MixIdeal.Gen.frame m ρ, fun m ρ _ => Cert.MixTie.ref_frame m ρ,
  fun m ρ _ => Cert.Mis.Gen.frame m ρ, fun m ρ _ => Cert.MisIdeal.Gen.frame m ρ, fun m ρ _ => Cert.MisTie.ref_frame m ρ,
  IdealRules.named_const.statement Cert.AttnIdeal.κ "mask" .f32 0xF149F2CA#32 ⊥ rfl, Cert.AttnTie.equation,
  trivial, Cert.InpTie.equation,
  trivial, Cert.InsTie.equation,
  trivial, Cert.ModTie.equation,
  trivial, Cert.MidTie.equation,
  trivial, Cert.PrepTie.equation,
  trivial, Cert.MixTie.equation,
  trivial, Cert.MisTie.equation⟩

end Cert.Proof

end
